-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.BufferStatement Cert.KernelIdeal.S1280x2x128 Cert.KernelIdeal.S1280x1x128
  ∧ IdealRules.bf16_pair.Statement Cert.KernelIdeal.S1280x2x128 Cert.KernelIdeal.S1280x1x128
  ∧ IdealRules.bf16_pair.SelectZeroStatement Cert.KernelIdeal.S1280x128
  ∧ IdealRules.bf16_pair.Statement Cert.KernelIdeal.S28x96 Cert.KernelIdeal.S14x96
  ∧ IdealRules.bf16_pair.Statement Cert.KernelIdeal.S14x2x96 Cert.KernelIdeal.S14x1x96
  ∧ IdealRules.bf16_pair.Statement Cert.KernelIdeal.S28x128 Cert.KernelIdeal.S14x128
  ∧ IdealRules.bf16_pair.Statement Cert.KernelIdeal.S14x2x128 Cert.KernelIdeal.S14x1x128
  ∧ IdealRules.bf16_pair.Statement Cert.KernelIdeal.S64x2x128 Cert.KernelIdeal.S64x1x128
  ∧ IdealRules.bf16_pair.Statement Cert.KernelIdeal.S128x128 Cert.KernelIdeal.S64x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_v201) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x256x28x96 : Shape := ⟨4, ![8, 256, 28, 96]⟩
abbrev S8x4x28 : Shape := ⟨3, ![8, 4, 28]⟩
abbrev S8x256x28x128 : Shape := ⟨4, ![8, 256, 28, 128]⟩
abbrev S8x256x28 : Shape := ⟨3, ![8, 256, 28]⟩
abbrev S8x28x96x128 : Shape := ⟨4, ![8, 28, 96, 128]⟩
abbrev S_ : Shape := ⟨0, ![]⟩

class Facts : Prop where
  reducesTo_S8x256x28x96_S_d0_1_2_3 : S8x256x28x96.ReducesTo [0, 1, 2, 3] S_
  h_S_ : 0 < S_.numel
  reducesTo_S8x4x28_S_d0_1_2 : S8x4x28.ReducesTo [0, 1, 2] S_
  reducesTo_S8x256x28x128_S_d0_1_2_3 : S8x256x28x128.ReducesTo [0, 1, 2, 3] S_
  reducesTo_S8x256x28_S_d0_1_2 : S8x256x28.ReducesTo [0, 1, 2] S_
  reducesTo_S8x28x96x128_S_d0_1_2_3 : S8x28x96x128.ReducesTo [0, 1, 2, 3] S_

variable [Facts]

def fn_part2 {F : FTy → Type} [FloatOps F] (main_arg7 : FVec F S8x28x96x128 .f32) (main_v40 : IVec S_ 1) : IVec S_ 1 :=
  let main_v41 : FVec F S8x28x96x128 .f32 := subf main_arg7 main_arg7
  let main_v42 : FVec F S8x28x96x128 .f32 := subf main_arg7 main_arg7
  let main_v43 : FVec F S8x28x96x128 .f32 := Host.negf main_v42
  let main_v44 : IVec S8x28x96x128 1 := cmpf .oeq main_v41 main_v43
  let main_c_6 : IVec S_ 1 := constantI S_ 1 1#1
  let main_v45 : IVec S_ 1 := (fun x v => Host.reduce IntOp.andi x v reducesTo_S8x28x96x128_S_d0_1_2_3 h_S_) main_v44 main_c_6
  let main_v46 : IVec S_ 1 := andi main_v40 main_v45
  main_v46

def fn_part1 {F : FTy → Type} [FloatOps F] (main_arg4 : FVec F S8x256x28x128 .bf16) (main_arg5 : FVec F S8x256x28x96 .f32) (main_arg6 : FVec F S8x256x28 .f32) (main_arg7 : FVec F S8x28x96x128 .f32) (main_v16 : IVec S_ 1) (main_v20 : IVec S8x4x28 1) : IVec S_ 1 :=
  let main_c_2 : IVec S_ 1 := constantI S_ 1 1#1
  let main_v21 : IVec S_ 1 := (fun x v => Host.reduce IntOp.andi x v reducesTo_S8x4x28_S_d0_1_2 h_S_) main_v20 main_c_2
  let main_v22 : IVec S_ 1 := andi main_v16 main_v21
  let main_v23 : FVec F S8x256x28x128 .bf16 := subf main_arg4 main_arg4
  let main_v24 : FVec F S8x256x28x128 .bf16 := subf main_arg4 main_arg4
  let main_v25 : FVec F S8x256x28x128 .bf16 := Host.negf main_v24
  let main_v26 : IVec S8x256x28x128 1 := cmpf .oeq main_v23 main_v25
  let main_c_3 : IVec S_ 1 := constantI S_ 1 1#1
  let main_v27 : IVec S_ 1 := (fun x v => Host.reduce IntOp.andi x v reducesTo_S8x256x28x128_S_d0_1_2_3 h_S_) main_v26 main_c_3
  let main_v28 : IVec S_ 1 := andi main_v22 main_v27
  let main_v29 : FVec F S8x256x28x96 .f32 := subf main_arg5 main_arg5
  let main_v30 : FVec F S8x256x28x96 .f32 := subf main_arg5 main_arg5
  let main_v31 : FVec F S8x256x28x96 .f32 := Host.negf main_v30
  let main_v32 : IVec S8x256x28x96 1 := cmpf .oeq main_v29 main_v31
  let main_c_4 : IVec S_ 1 := constantI S_ 1 1#1
  let main_v33 : IVec S_ 1 := (fun x v => Host.reduce IntOp.andi x v reducesTo_S8x256x28x96_S_d0_1_2_3 h_S_) main_v32 main_c_4
  let main_v34 : IVec S_ 1 := andi main_v28 main_v33
  let main_v35 : FVec F S8x256x28 .f32 := subf main_arg6 main_arg6
  let main_v36 : FVec F S8x256x28 .f32 := subf main_arg6 main_arg6
  let main_v37 : FVec F S8x256x28 .f32 := Host.negf main_v36
  let main_v38 : IVec S8x256x28 1 := cmpf .oeq main_v35 main_v37
  let main_c_5 : IVec S_ 1 := constantI S_ 1 1#1
  let main_v39 : IVec S_ 1 := (fun x v => Host.reduce IntOp.andi x v reducesTo_S8x256x28_S_d0_1_2 h_S_) main_v38 main_c_5
  let main_v40 : IVec S_ 1 := andi main_v34 main_v39
  fn_part2 (F := F) main_arg7 main_v40

def fn {F : FTy → Type} [FloatOps F] (main_arg0 : FVec F S8x256x28x96 .f32) (main_arg1 : FVec F S8x4x28 .f32) (main_arg2 : FVec F S8x256x28x96 .f32) (main_arg3 : FVec F S8x4x28 .f32) (main_arg4 : FVec F S8x256x28x128 .bf16) (main_arg5 : FVec F S8x256x28x96 .f32) (main_arg6 : FVec F S8x256x28 .f32) (main_arg7 : FVec F S8x28x96x128 .f32) : IVec S_ 1 :=
  let main_v0 : FVec F S8x256x28x96 .f32 := subf main_arg0 main_arg0
  let main_v1 : FVec F S8x256x28x96 .f32 := subf main_arg0 main_arg0
  let main_v2 : FVec F S8x256x28x96 .f32 := Host.negf main_v1
  let main_v3 : IVec S8x256x28x96 1 := cmpf .oeq main_v0 main_v2
  let main_c : IVec S_ 1 := constantI S_ 1 1#1
  let main_v4 : IVec S_ 1 := (fun x v => Host.reduce IntOp.andi x v reducesTo_S8x256x28x96_S_d0_1_2_3 h_S_) main_v3 main_c
  let main_v5 : FVec F S8x4x28 .f32 := subf main_arg1 main_arg1
  let main_v6 : FVec F S8x4x28 .f32 := subf main_arg1 main_arg1
  let main_v7 : FVec F S8x4x28 .f32 := Host.negf main_v6
  let main_v8 : IVec S8x4x28 1 := cmpf .oeq main_v5 main_v7
  let main_c_0 : IVec S_ 1 := constantI S_ 1 1#1
  let main_v9 : IVec S_ 1 := (fun x v => Host.reduce IntOp.andi x v reducesTo_S8x4x28_S_d0_1_2 h_S_) main_v8 main_c_0
  let main_v10 : IVec S_ 1 := andi main_v4 main_v9
  let main_v11 : FVec F S8x256x28x96 .f32 := subf main_arg2 main_arg2
  let main_v12 : FVec F S8x256x28x96 .f32 := subf main_arg2 main_arg2
  let main_v13 : FVec F S8x256x28x96 .f32 := Host.negf main_v12
  let main_v14 : IVec S8x256x28x96 1 := cmpf .oeq main_v11 main_v13
  let main_c_1 : IVec S_ 1 := constantI S_ 1 1#1
  let main_v15 : IVec S_ 1 := (fun x v => Host.reduce IntOp.andi x v reducesTo_S8x256x28x96_S_d0_1_2_3 h_S_) main_v14 main_c_1
  let main_v16 : IVec S_ 1 := andi main_v10 main_v15
  let main_v17 : FVec F S8x4x28 .f32 := subf main_arg3 main_arg3
  let main_v18 : FVec F S8x4x28 .f32 := subf main_arg3 main_arg3
  let main_v19 : FVec F S8x4x28 .f32 := Host.negf main_v18
  let main_v20 : IVec S8x4x28 1 := cmpf .oeq main_v17 main_v19
  fn_part1 (F := F) main_arg4 main_arg5 main_arg6 main_arg7 main_v16 main_v20
-- ==== Kernel.lean ====
abbrev S8x256x28x96 : Shape := ⟨4, ![8, 256, 28, 96]⟩
abbrev S8x4x28 : Shape := ⟨3, ![8, 4, 28]⟩
abbrev S8x256x28x128 : Shape := ⟨4, ![8, 256, 28, 128]⟩
abbrev S8x256x28 : Shape := ⟨3, ![8, 256, 28]⟩
abbrev S8x28x96x128 : Shape := ⟨4, ![8, 28, 96, 128]⟩
abbrev S896 : Shape := ⟨1, ![896]⟩
abbrev S8x256x3584 : Shape := ⟨3, ![8, 256, 3584]⟩
abbrev S1x64x28x96 : Shape := ⟨4, ![1, 64, 28, 96]⟩
abbrev S1x64x28x128 : Shape := ⟨4, ![1, 64, 28, 128]⟩
abbrev S1x64x28 : Shape := ⟨3, ![1, 64, 28]⟩
abbrev S1x28x96x128 : Shape := ⟨4, ![1, 28, 96, 128]⟩
abbrev S1x64x3584 : Shape := ⟨3, ![1, 64, 3584]⟩
abbrev S2304x128 : Shape := ⟨2, ![2304, 128]⟩
abbrev S1280x128 : Shape := ⟨2, ![1280, 128]⟩
abbrev S64x128 : Shape := ⟨2, ![64, 128]⟩
abbrev S28x96x128 : Shape := ⟨3, ![28, 96, 128]⟩
abbrev S64x28 : Shape := ⟨2, ![64, 28]⟩
abbrev S28x96 : Shape := ⟨2, ![28, 96]⟩
abbrev S1x1x28x96 : Shape := ⟨4, ![1, 1, 28, 96]⟩
abbrev S14x96 : Shape := ⟨2, ![14, 96]⟩
abbrev S1x1x28x128 : Shape := ⟨4, ![1, 1, 28, 128]⟩
abbrev S28x128 : Shape := ⟨2, ![28, 128]⟩
abbrev S14x128 : Shape := ⟨2, ![14, 128]⟩
abbrev S8x128 : Shape := ⟨2, ![8, 128]⟩
abbrev S1x128 : Shape := ⟨2, ![1, 128]⟩
abbrev S128x128 : Shape := ⟨2, ![128, 128]⟩
abbrev S96x128 : Shape := ⟨2, ![96, 128]⟩
abbrev S1 : Shape := ⟨1, ![1]⟩
abbrev S64x128x1 : Shape := ⟨3, ![64, 128, 1]⟩
abbrev S128x64 : Shape := ⟨2, ![128, 64]⟩
abbrev S32x128 : Shape := ⟨2, ![32, 128]⟩
abbrev S8x128x1 : Shape := ⟨3, ![8, 128, 1]⟩
abbrev S1x96x128 : Shape := ⟨3, ![1, 96, 128]⟩
abbrev S256x128 : Shape := ⟨2, ![256, 128]⟩
abbrev S256x256 : Shape := ⟨2, ![256, 256]⟩
abbrev S128x256 : Shape := ⟨2, ![128, 256]⟩
abbrev S64x256 : Shape := ⟨2, ![64, 256]⟩
abbrev S32x32 : Shape := ⟨2, ![32, 32]⟩
abbrev S32x256 : Shape := ⟨2, ![32, 256]⟩
abbrev S64x64 : Shape := ⟨2, ![64, 64]⟩
abbrev S96x256 : Shape := ⟨2, ![96, 256]⟩
abbrev S1x64x128 : Shape := ⟨3, ![1, 64, 128]⟩

abbrev nBuf : Space → Nat
  | .hbm => 14
  | .vmem => 22
  | .smem => 2
  | _ => 0

abbrev bufTy : (tb : Table) → Fin (tcTables nBuf tb) → BufTy
  | .hbm, ⟨0, _⟩ => ⟨S8x256x28x96, .f32⟩
  | .hbm, ⟨1, _⟩ => ⟨S8x4x28, .f32⟩
  | .hbm, ⟨2, _⟩ => ⟨S8x256x28x96, .f32⟩
  | .hbm, ⟨3, _⟩ => ⟨S8x4x28, .f32⟩
  | .hbm, ⟨4, _⟩ => ⟨S8x256x28x128, .bf16⟩
  | .hbm, ⟨5, _⟩ => ⟨S8x256x28x96, .f32⟩
  | .hbm, ⟨6, _⟩ => ⟨S8x256x28, .f32⟩
  | .hbm, ⟨7, _⟩ => ⟨S8x28x96x128, .f32⟩
  | .hbm, ⟨8, _⟩ => ⟨S8x256x28x96, .fp8e4m3⟩
  | .hbm, ⟨9, _⟩ => ⟨S8x256x28x96, .fp8e4m3⟩
  | .hbm, ⟨10, _⟩ => ⟨S896, .f32⟩
  | .hbm, ⟨11, _⟩ => ⟨S896, .f32⟩
  | .hbm, ⟨12, _⟩ => ⟨S8x256x3584, .bf16⟩
  | .hbm, ⟨13, _⟩ => ⟨S8x28x96x128, .f32⟩
  | .local _ .vmem, ⟨0, _⟩ => ⟨S1x64x28x96, .fp8e4m3⟩
  | .local _ .vmem, ⟨1, _⟩ => ⟨S1x64x28x96, .fp8e4m3⟩
  | .local _ .vmem, ⟨2, _⟩ => ⟨S1x64x28x96, .fp8e4m3⟩
  | .local _ .vmem, ⟨3, _⟩ => ⟨S1x64x28x96, .fp8e4m3⟩
  | .local _ .vmem, ⟨4, _⟩ => ⟨S1x64x28x128, .bf16⟩
  | .local _ .vmem, ⟨5, _⟩ => ⟨S1x64x28x128, .bf16⟩
  | .local _ .vmem, ⟨6, _⟩ => ⟨S1x64x28x96, .f32⟩
  | .local _ .vmem, ⟨7, _⟩ => ⟨S1x64x28x96, .f32⟩
  | .local _ .vmem, ⟨8, _⟩ => ⟨S1x64x28, .f32⟩
  | .local _ .vmem, ⟨9, _⟩ => ⟨S1x64x28, .f32⟩
  | .local _ .vmem, ⟨10, _⟩ => ⟨S1x28x96x128, .f32⟩
  | .local _ .vmem, ⟨11, _⟩ => ⟨S1x28x96x128, .f32⟩
  | .local _ .vmem, ⟨12, _⟩ => ⟨S1x64x3584, .bf16⟩
  | .local _ .vmem, ⟨13, _⟩ => ⟨S1x64x3584, .bf16⟩
  | .local _ .vmem, ⟨14, _⟩ => ⟨S1x28x96x128, .f32⟩
  | .local _ .vmem, ⟨15, _⟩ => ⟨S1x28x96x128, .f32⟩
  | .local _ .vmem, ⟨16, _⟩ => ⟨S2304x128, .f32⟩
  | .local _ .vmem, ⟨17, _⟩ => ⟨S1280x128, .i32⟩
  | .local _ .vmem, ⟨18, _⟩ => ⟨S1280x128, .i32⟩
  | .local _ .vmem, ⟨19, _⟩ => ⟨S1280x128, .i32⟩
  | .local _ .vmem, ⟨20, _⟩ => ⟨S64x128, .f32⟩
  | .local _ .vmem, ⟨21, _⟩ => ⟨S28x96x128, .f32⟩
  | .local _ .smem, ⟨0, _⟩ => ⟨S896, .f32⟩
  | .local _ .smem, ⟨1, _⟩ => ⟨S896, .f32⟩
  | _, _ => ⟨S8x256x28x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [BitOps F]

abbrev grid0 : Pipeline.Grid := ⟨2, ![8, 4], ![false, false]⟩

@[reducible] def k0_t1_loop : Scf.Loop 32 :=
  let c0_i32_8 : BitVec 32 := 0#32
  let c64_i32 : BitVec 32 := 64#32
  let v14 : BitVec 32 := Scalar.addi c0_i32_8 c64_i32
  let c1_i32 : BitVec 32 := 1#32
  ⟨c0_i32_8, v14, c1_i32⟩
def k0_off1 (k0_t1 : Fin k0_t1_loop.trips) : Fin 4 → Nat :=
  let c0_15 : Index := 0#32
  let c0_i32_8 : BitVec 32 := 0#32
  let c1_i32 : BitVec 32 := 1#32
  let arg18 : BitVec 32 := Scf.iv c0_i32_8 c1_i32 k0_t1
  let v30 : Index := Scalar.indexCast arg18
  let c0_16 : Index := 0#32
  let c0_17 : Index := 0#32
  ![0, v30.toNat, 0, 0]
def k0_off2 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let c36_i32 : BitVec 32 := 36#32
  let v34 : BitVec 32 := Scalar.muli arg18 c36_i32
  let v35 : Index := Scalar.indexCast v34
  let c0_18 : Index := 0#32
  ![v35.toNat, 0]
def k0_off3 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let c20_i32 : BitVec 32 := 20#32
  let v44 : BitVec 32 := Scalar.muli arg18 c20_i32
  let v45 : Index := Scalar.indexCast v44
  let c0_22 : Index := 0#32
  ![v45.toNat, 0]
def k0_off4 (k0_t1 : Fin k0_t1_loop.trips) : Fin 4 → Nat :=
  let c0_28 : Index := 0#32
  let c0_i32_8 : BitVec 32 := 0#32
  let c1_i32 : BitVec 32 := 1#32
  let arg18 : BitVec 32 := Scf.iv c0_i32_8 c1_i32 k0_t1
  let v59 : Index := Scalar.indexCast arg18
  let c0_29 : Index := 0#32
  let c0_30 : Index := 0#32
  ![0, v59.toNat, 0, 0]
def k0_off5 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let c20_i32_31 : BitVec 32 := 20#32
  let v63 : BitVec 32 := Scalar.muli arg18 c20_i32_31
  let v64 : Index := Scalar.indexCast v63
  let c0_32 : Index := 0#32
  ![v64.toNat, 0]
@[reducible] def k0_t2_loop : Scf.Loop 32 :=
  let c0_i32_11 : BitVec 32 := 0#32
  let c14_i32 : BitVec 32 := 14#32
  let v26 : BitVec 32 := Scalar.addi c0_i32_11 c14_i32
  let c1_i32_12 : BitVec 32 := 1#32
  ⟨c0_i32_11, v26, c1_i32_12⟩
def k0_off6 (k0_t2 : Fin k0_t2_loop.trips) : Fin 2 → Nat :=
  let c0_i32_11 : BitVec 32 := 0#32
  let c1_i32_12 : BitVec 32 := 1#32
  let arg18 : BitVec 32 := Scf.iv c0_i32_11 c1_i32_12 k0_t2
  let v30 : Index := Scalar.indexCast arg18
  let c0_15 : Index := 0#32
  ![v30.toNat, 0]
def k0_off7 (k0_t2 : Fin k0_t2_loop.trips) (c0_i32_22 : BitVec 32) : Fin 2 → Nat :=
  let c2_i32 : BitVec 32 := 2#32
  let c0_i32_11 : BitVec 32 := 0#32
  let c1_i32_12 : BitVec 32 := 1#32
  let arg18 : BitVec 32 := Scf.iv c0_i32_11 c1_i32_12 k0_t2
  let v60 : BitVec 32 := Scalar.muli c2_i32 arg18
  let v61 : BitVec 32 := Scalar.addi v60 c0_i32_22
  let v62 : Index := Scalar.indexCast v61
  let c0_23 : Index := 0#32
  ![v62.toNat, 0]
def k0_off8 (i : grid0.Coords) (k0_t2 : Fin k0_t2_loop.trips) (c0_i32_22 : BitVec 32) : Fin 1 → Nat :=
  let arg0 : BitVec 32 := BitVec.ofNat 32 (i 0).val
  let c4_i32 : BitVec 32 := 4#32
  let v85 : BitVec 32 := Scalar.muli arg0 c4_i32
  let arg1 : BitVec 32 := BitVec.ofNat 32 (i 1).val
  let v86 : BitVec 32 := Scalar.addi v85 arg1
  let c28_i32 : BitVec 32 := 28#32
  let v87 : BitVec 32 := Scalar.muli v86 c28_i32
  let c2_i32 : BitVec 32 := 2#32
  let c0_i32_11 : BitVec 32 := 0#32
  let c1_i32_12 : BitVec 32 := 1#32
  let arg18 : BitVec 32 := Scf.iv c0_i32_11 c1_i32_12 k0_t2
  let v60 : BitVec 32 := Scalar.muli c2_i32 arg18
  let v61 : BitVec 32 := Scalar.addi v60 c0_i32_22
  let v88 : BitVec 32 := Scalar.addi v87 v61
  let v89 : Index := Scalar.indexCast v88
  ![v89.toNat]
def k0_off9 (k0_t2 : Fin k0_t2_loop.trips) (c0_i32_259 : BitVec 32) : Fin 3 → Nat :=
  let c2_i32_258 : BitVec 32 := 2#32
  let c0_i32_11 : BitVec 32 := 0#32
  let c1_i32_12 : BitVec 32 := 1#32
  let arg18 : BitVec 32 := Scf.iv c0_i32_11 c1_i32_12 k0_t2
  let v1225 : BitVec 32 := Scalar.muli c2_i32_258 arg18
  let v1226 : BitVec 32 := Scalar.addi v1225 c0_i32_259
  let v1227 : Index := Scalar.indexCast v1226
  let c0_260 : Index := 0#32
  let c0_261 : Index := 0#32
  ![v1227.toNat, 0, 0]
def k0_mult1 (k0_t2 : Fin k0_t2_loop.trips) : BitVec 32 :=
  let c2_i32_258 : BitVec 32 := 2#32
  let c0_i32_11 : BitVec 32 := 0#32
  let c1_i32_12 : BitVec 32 := 1#32
  let arg18 : BitVec 32 := Scf.iv c0_i32_11 c1_i32_12 k0_t2
  let v1225 : BitVec 32 := Scalar.muli c2_i32_258 arg18
  let c0_i32_259 : BitVec 32 := 0#32
  let v1226 : BitVec 32 := Scalar.addi v1225 c0_i32_259
  let c128_i32_276 : BitVec 32 := 128#32
  let v1365 : BitVec 32 := Scalar.muli v1226 c128_i32_276
  v1365
def k0_off10 (k0_t2 : Fin k0_t2_loop.trips) (c0_i32_259 : BitVec 32) : Fin 3 → Nat :=
  let c0_277 : Index := 0#32
  let c0_278 : Index := 0#32
  let c2_i32_258 : BitVec 32 := 2#32
  let c0_i32_11 : BitVec 32 := 0#32
  let c1_i32_12 : BitVec 32 := 1#32
  let arg18 : BitVec 32 := Scf.iv c0_i32_11 c1_i32_12 k0_t2
  let v1225 : BitVec 32 := Scalar.muli c2_i32_258 arg18
  let v1226 : BitVec 32 := Scalar.addi v1225 c0_i32_259
  let c128_i32_276 : BitVec 32 := 128#32
  let v1365 : BitVec 32 := Scalar.muli v1226 c128_i32_276
  let v1366 : BitVec 32 := v1365
  let v1367 : Index := Scalar.indexCast v1366
  ![0, 0, v1367.toNat]
def k0_mult2 (k0_t2 : Fin k0_t2_loop.trips) : BitVec 32 :=
  let c2_i32_281 : BitVec 32 := 2#32
  let c0_i32_11 : BitVec 32 := 0#32
  let c1_i32_12 : BitVec 32 := 1#32
  let arg18 : BitVec 32 := Scf.iv c0_i32_11 c1_i32_12 k0_t2
  let v1380 : BitVec 32 := Scalar.muli c2_i32_281 arg18
  let c1_i32_282 : BitVec 32 := 1#32
  let v1381 : BitVec 32 := Scalar.addi v1380 c1_i32_282
  let c128_i32_299 : BitVec 32 := 128#32
  let v1520 : BitVec 32 := Scalar.muli v1381 c128_i32_299
  v1520
def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_14 : BitVec 32 := 0#32
  let v29 : BitVec 1 := Scalar.cmpi .ne v28 c0_i32_14
  v29

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x28x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x28x96 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x28x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x28x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x28x96x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x28x96x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
abbrev S8x256x28x96 : Shape := ⟨4, ![8, 256, 28, 96]⟩
abbrev S8x4x28 : Shape := ⟨3, ![8, 4, 28]⟩
abbrev S8x256x28x128 : Shape := ⟨4, ![8, 256, 28, 128]⟩
abbrev S8x256x28 : Shape := ⟨3, ![8, 256, 28]⟩
abbrev S8x28x96x128 : Shape := ⟨4, ![8, 28, 96, 128]⟩
abbrev S896 : Shape := ⟨1, ![896]⟩
abbrev S8x256x3584 : Shape := ⟨3, ![8, 256, 3584]⟩
abbrev S1x64x28x96 : Shape := ⟨4, ![1, 64, 28, 96]⟩
abbrev S1x64x28x128 : Shape := ⟨4, ![1, 64, 28, 128]⟩
abbrev S1x64x28 : Shape := ⟨3, ![1, 64, 28]⟩
abbrev S1x28x96x128 : Shape := ⟨4, ![1, 28, 96, 128]⟩
abbrev S1x64x3584 : Shape := ⟨3, ![1, 64, 3584]⟩
abbrev S2304x128 : Shape := ⟨2, ![2304, 128]⟩
abbrev S1280x128 : Shape := ⟨2, ![1280, 128]⟩
abbrev S1280x2x128 : Shape := ⟨3, ![1280, 2, 128]⟩
abbrev S1280x1x128 : Shape := ⟨3, ![1280, 1, 128]⟩
abbrev S64x128 : Shape := ⟨2, ![64, 128]⟩
abbrev S28x96x128 : Shape := ⟨3, ![28, 96, 128]⟩
abbrev S64x28 : Shape := ⟨2, ![64, 28]⟩
abbrev S28x96 : Shape := ⟨2, ![28, 96]⟩
abbrev S1x1x28x96 : Shape := ⟨4, ![1, 1, 28, 96]⟩
abbrev S14x96 : Shape := ⟨2, ![14, 96]⟩
abbrev S14x2x96 : Shape := ⟨3, ![14, 2, 96]⟩
abbrev S14x1x96 : Shape := ⟨3, ![14, 1, 96]⟩
abbrev S1x1x28x128 : Shape := ⟨4, ![1, 1, 28, 128]⟩
abbrev S28x128 : Shape := ⟨2, ![28, 128]⟩
abbrev S14x128 : Shape := ⟨2, ![14, 128]⟩
abbrev S14x2x128 : Shape := ⟨3, ![14, 2, 128]⟩
abbrev S14x1x128 : Shape := ⟨3, ![14, 1, 128]⟩
abbrev S8x128 : Shape := ⟨2, ![8, 128]⟩
abbrev S64x2x128 : Shape := ⟨3, ![64, 2, 128]⟩
abbrev S64x1x128 : Shape := ⟨3, ![64, 1, 128]⟩
abbrev S128x128 : Shape := ⟨2, ![128, 128]⟩
abbrev S1x128 : Shape := ⟨2, ![1, 128]⟩
abbrev S96x128 : Shape := ⟨2, ![96, 128]⟩
abbrev S1 : Shape := ⟨1, ![1]⟩
abbrev S64x128x1 : Shape := ⟨3, ![64, 128, 1]⟩
abbrev S128x64 : Shape := ⟨2, ![128, 64]⟩
abbrev S32x128 : Shape := ⟨2, ![32, 128]⟩
abbrev S8x128x1 : Shape := ⟨3, ![8, 128, 1]⟩
abbrev S1x96x128 : Shape := ⟨3, ![1, 96, 128]⟩
abbrev S256x128 : Shape := ⟨2, ![256, 128]⟩
abbrev S256x256 : Shape := ⟨2, ![256, 256]⟩
abbrev S128x256 : Shape := ⟨2, ![128, 256]⟩
abbrev S64x256 : Shape := ⟨2, ![64, 256]⟩
abbrev S32x32 : Shape := ⟨2, ![32, 32]⟩
abbrev S32x256 : Shape := ⟨2, ![32, 256]⟩
abbrev S64x64 : Shape := ⟨2, ![64, 64]⟩
abbrev S96x256 : Shape := ⟨2, ![96, 256]⟩
abbrev S1x64x128 : Shape := ⟨3, ![1, 64, 128]⟩

abbrev nBuf : Space → Nat
  | .hbm => 14
  | .vmem => 22
  | .smem => 2
  | _ => 0

abbrev bufTy : (tb : Table) → Fin (tcTables nBuf tb) → BufTy
  | .hbm, ⟨0, _⟩ => ⟨S8x256x28x96, .f32⟩
  | .hbm, ⟨1, _⟩ => ⟨S8x4x28, .f32⟩
  | .hbm, ⟨2, _⟩ => ⟨S8x256x28x96, .f32⟩
  | .hbm, ⟨3, _⟩ => ⟨S8x4x28, .f32⟩
  | .hbm, ⟨4, _⟩ => ⟨S8x256x28x128, .bf16⟩
  | .hbm, ⟨5, _⟩ => ⟨S8x256x28x96, .f32⟩
  | .hbm, ⟨6, _⟩ => ⟨S8x256x28, .f32⟩
  | .hbm, ⟨7, _⟩ => ⟨S8x28x96x128, .f32⟩
  | .hbm, ⟨8, _⟩ => ⟨S8x256x28x96, .fp8e4m3⟩
  | .hbm, ⟨9, _⟩ => ⟨S8x256x28x96, .fp8e4m3⟩
  | .hbm, ⟨10, _⟩ => ⟨S896, .f32⟩
  | .hbm, ⟨11, _⟩ => ⟨S896, .f32⟩
  | .hbm, ⟨12, _⟩ => ⟨S8x256x3584, .bf16⟩
  | .hbm, ⟨13, _⟩ => ⟨S8x28x96x128, .f32⟩
  | .local _ .vmem, ⟨0, _⟩ => ⟨S1x64x28x96, .fp8e4m3⟩
  | .local _ .vmem, ⟨1, _⟩ => ⟨S1x64x28x96, .fp8e4m3⟩
  | .local _ .vmem, ⟨2, _⟩ => ⟨S1x64x28x96, .fp8e4m3⟩
  | .local _ .vmem, ⟨3, _⟩ => ⟨S1x64x28x96, .fp8e4m3⟩
  | .local _ .vmem, ⟨4, _⟩ => ⟨S1x64x28x128, .bf16⟩
  | .local _ .vmem, ⟨5, _⟩ => ⟨S1x64x28x128, .bf16⟩
  | .local _ .vmem, ⟨6, _⟩ => ⟨S1x64x28x96, .f32⟩
  | .local _ .vmem, ⟨7, _⟩ => ⟨S1x64x28x96, .f32⟩
  | .local _ .vmem, ⟨8, _⟩ => ⟨S1x64x28, .f32⟩
  | .local _ .vmem, ⟨9, _⟩ => ⟨S1x64x28, .f32⟩
  | .local _ .vmem, ⟨10, _⟩ => ⟨S1x28x96x128, .f32⟩
  | .local _ .vmem, ⟨11, _⟩ => ⟨S1x28x96x128, .f32⟩
  | .local _ .vmem, ⟨12, _⟩ => ⟨S1x64x3584, .bf16⟩
  | .local _ .vmem, ⟨13, _⟩ => ⟨S1x64x3584, .bf16⟩
  | .local _ .vmem, ⟨14, _⟩ => ⟨S1x28x96x128, .f32⟩
  | .local _ .vmem, ⟨15, _⟩ => ⟨S1x28x96x128, .f32⟩
  | .local _ .vmem, ⟨16, _⟩ => ⟨S2304x128, .f32⟩
  | .local _ .vmem, ⟨17, _⟩ => ⟨S1280x2x128, .bf16⟩
  | .local _ .vmem, ⟨18, _⟩ => ⟨S1280x2x128, .bf16⟩
  | .local _ .vmem, ⟨19, _⟩ => ⟨S1280x2x128, .bf16⟩
  | .local _ .vmem, ⟨20, _⟩ => ⟨S64x128, .f32⟩
  | .local _ .vmem, ⟨21, _⟩ => ⟨S28x96x128, .f32⟩
  | .local _ .smem, ⟨0, _⟩ => ⟨S896, .f32⟩
  | .local _ .smem, ⟨1, _⟩ => ⟨S896, .f32⟩
  | _, _ => ⟨S8x256x28x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32_8 : BitVec 32 := 0#32
  let c64_i32 : BitVec 32 := 64#32
  let v14 : BitVec 32 := Scalar.addi c0_i32_8 c64_i32
  let c1_i32 : BitVec 32 := 1#32
  ⟨c0_i32_8, v14, c1_i32⟩
def k0_off1 (k0_t1 : Fin k0_t1_loop.trips) : Fin 4 → Nat :=
  let c0_15 : Index := 0#32
  let c0_i32_8 : BitVec 32 := 0#32
  let c1_i32 : BitVec 32 := 1#32
  let arg18 : BitVec 32 := Scf.iv c0_i32_8 c1_i32 k0_t1
  let v30 : Index := Scalar.indexCast arg18
  let c0_16 : Index := 0#32
  let c0_17 : Index := 0#32
  ![0, v30.toNat, 0, 0]
def k0_off2 (k0_t1 : Fin k0_t1_loop.trips) : Fin 2 → Nat :=
  let c0_i32_8 : BitVec 32 := 0#32
  let c1_i32 : BitVec 32 := 1#32
  let arg18 : BitVec 32 := Scf.iv c0_i32_8 c1_i32 k0_t1
  let c36_i32 : BitVec 32 := 36#32
  let v34 : BitVec 32 := Scalar.muli arg18 c36_i32
  let v35 : Index := Scalar.indexCast v34
  let c0_18 : Index := 0#32
  ![v35.toNat, 0]
def k0_off3 (k0_t1 : Fin k0_t1_loop.trips) : Fin 3 → Nat :=
  let c0_i32_8 : BitVec 32 := 0#32
  let c1_i32 : BitVec 32 := 1#32
  let arg18 : BitVec 32 := Scf.iv c0_i32_8 c1_i32 k0_t1
  let c20_i32 : BitVec 32 := 20#32
  let v44 : BitVec 32 := Scalar.muli arg18 c20_i32
  let v45 : Index := Scalar.indexCast v44
  let c0_22 : Index := 0#32
  ![v45.toNat, 0, 0]
def k0_off4 (k0_t1 : Fin k0_t1_loop.trips) : Fin 4 → Nat :=
  let c0_28 : Index := 0#32
  let c0_i32_8 : BitVec 32 := 0#32
  let c1_i32 : BitVec 32 := 1#32
  let arg18 : BitVec 32 := Scf.iv c0_i32_8 c1_i32 k0_t1
  let v59 : Index := Scalar.indexCast arg18
  let c0_29 : Index := 0#32
  let c0_30 : Index := 0#32
  ![0, v59.toNat, 0, 0]
def k0_off5 (k0_t1 : Fin k0_t1_loop.trips) : Fin 3 → Nat :=
  let c0_i32_8 : BitVec 32 := 0#32
  let c1_i32 : BitVec 32 := 1#32
  let arg18 : BitVec 32 := Scf.iv c0_i32_8 c1_i32 k0_t1
  let c20_i32_31 : BitVec 32 := 20#32
  let v63 : BitVec 32 := Scalar.muli arg18 c20_i32_31
  let v64 : Index := Scalar.indexCast v63
  let c0_32 : Index := 0#32
  ![v64.toNat, 0, 0]
@[reducible] def k0_t2_loop : Scf.Loop 32 :=
  let c0_i32_11 : BitVec 32 := 0#32
  let c14_i32 : BitVec 32 := 14#32
  let v26 : BitVec 32 := Scalar.addi c0_i32_11 c14_i32
  let c1_i32_12 : BitVec 32 := 1#32
  ⟨c0_i32_11, v26, c1_i32_12⟩
def k0_off6 (k0_t2 : Fin k0_t2_loop.trips) : Fin 3 → Nat :=
  let c0_i32_11 : BitVec 32 := 0#32
  let c1_i32_12 : BitVec 32 := 1#32
  let arg18 : BitVec 32 := Scf.iv c0_i32_11 c1_i32_12 k0_t2
  let v30 : Index := Scalar.indexCast arg18
  let c0_15 : Index := 0#32
  ![v30.toNat, 0, 0]
def k0_off7 (k0_t2 : Fin k0_t2_loop.trips) (c0_i32_22 : BitVec 32) : Fin 2 → Nat :=
  let c2_i32 : BitVec 32 := 2#32
  let c0_i32_11 : BitVec 32 := 0#32
  let c1_i32_12 : BitVec 32 := 1#32
  let arg18 : BitVec 32 := Scf.iv c0_i32_11 c1_i32_12 k0_t2
  let v60 : BitVec 32 := Scalar.muli c2_i32 arg18
  let v61 : BitVec 32 := Scalar.addi v60 c0_i32_22
  let v62 : Index := Scalar.indexCast v61
  let c0_23 : Index := 0#32
  ![v62.toNat, 0]
def k0_off8 (i : grid0.Coords) (k0_t2 : Fin k0_t2_loop.trips) (c0_i32_22 : BitVec 32) : Fin 1 → Nat :=
  let arg0 : BitVec 32 := BitVec.ofNat 32 (i 0).val
  let c4_i32 : BitVec 32 := 4#32
  let v85 : BitVec 32 := Scalar.muli arg0 c4_i32
  let arg1 : BitVec 32 := BitVec.ofNat 32 (i 1).val
  let v86 : BitVec 32 := Scalar.addi v85 arg1
  let c28_i32 : BitVec 32 := 28#32
  let v87 : BitVec 32 := Scalar.muli v86 c28_i32
  let c2_i32 : BitVec 32 := 2#32
  let c0_i32_11 : BitVec 32 := 0#32
  let c1_i32_12 : BitVec 32 := 1#32
  let arg18 : BitVec 32 := Scf.iv c0_i32_11 c1_i32_12 k0_t2
  let v60 : BitVec 32 := Scalar.muli c2_i32 arg18
  let v61 : BitVec 32 := Scalar.addi v60 c0_i32_22
  let v88 : BitVec 32 := Scalar.addi v87 v61
  let v89 : Index := Scalar.indexCast v88
  ![v89.toNat]
def k0_off9 (k0_t2 : Fin k0_t2_loop.trips) (c0_i32_259 : BitVec 32) : Fin 3 → Nat :=
  let c2_i32_258 : BitVec 32 := 2#32
  let c0_i32_11 : BitVec 32 := 0#32
  let c1_i32_12 : BitVec 32 := 1#32
  let arg18 : BitVec 32 := Scf.iv c0_i32_11 c1_i32_12 k0_t2
  let v1225 : BitVec 32 := Scalar.muli c2_i32_258 arg18
  let v1226 : BitVec 32 := Scalar.addi v1225 c0_i32_259
  let v1227 : Index := Scalar.indexCast v1226
  let c0_260 : Index := 0#32
  let c0_261 : Index := 0#32
  ![v1227.toNat, 0, 0]
def k0_mult1 (k0_t2 : Fin k0_t2_loop.trips) : BitVec 32 :=
  let c2_i32_258 : BitVec 32 := 2#32
  let c0_i32_11 : BitVec 32 := 0#32
  let c1_i32_12 : BitVec 32 := 1#32
  let arg18 : BitVec 32 := Scf.iv c0_i32_11 c1_i32_12 k0_t2
  let v1225 : BitVec 32 := Scalar.muli c2_i32_258 arg18
  let c0_i32_259 : BitVec 32 := 0#32
  let v1226 : BitVec 32 := Scalar.addi v1225 c0_i32_259
  let c128_i32_276 : BitVec 32 := 128#32
  let v1365 : BitVec 32 := Scalar.muli v1226 c128_i32_276
  v1365
def k0_off10 (k0_t2 : Fin k0_t2_loop.trips) (c0_i32_259 : BitVec 32) : Fin 3 → Nat :=
  let c0_277 : Index := 0#32
  let c0_278 : Index := 0#32
  let c2_i32_258 : BitVec 32 := 2#32
  let c0_i32_11 : BitVec 32 := 0#32
  let c1_i32_12 : BitVec 32 := 1#32
  let arg18 : BitVec 32 := Scf.iv c0_i32_11 c1_i32_12 k0_t2
  let v1225 : BitVec 32 := Scalar.muli c2_i32_258 arg18
  let v1226 : BitVec 32 := Scalar.addi v1225 c0_i32_259
  let c128_i32_276 : BitVec 32 := 128#32
  let v1365 : BitVec 32 := Scalar.muli v1226 c128_i32_276
  let v1366 : BitVec 32 := v1365
  let v1367 : Index := Scalar.indexCast v1366
  ![0, 0, v1367.toNat]
def k0_mult2 (k0_t2 : Fin k0_t2_loop.trips) : BitVec 32 :=
  let c2_i32_281 : BitVec 32 := 2#32
  let c0_i32_11 : BitVec 32 := 0#32
  let c1_i32_12 : BitVec 32 := 1#32
  let arg18 : BitVec 32 := Scf.iv c0_i32_11 c1_i32_12 k0_t2
  let v1380 : BitVec 32 := Scalar.muli c2_i32_281 arg18
  let c1_i32_282 : BitVec 32 := 1#32
  let v1381 : BitVec 32 := Scalar.addi v1380 c1_i32_282
  let c128_i32_299 : BitVec 32 := 128#32
  let v1520 : BitVec 32 := Scalar.muli v1381 c128_i32_299
  v1520
def k0_cond3 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_14 : BitVec 32 := 0#32
  let v29 : BitVec 1 := Scalar.cmpi .ne v28 c0_i32_14
  v29

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S896 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x28x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x28x96 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x28x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x28x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x28 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x28x96x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x3584 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x28x96x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S8x256x28x96 : Shape := ⟨4, ![8, 256, 28, 96]⟩
abbrev S8x4x28 : Shape := ⟨3, ![8, 4, 28]⟩
abbrev S8x256x28x128 : Shape := ⟨4, ![8, 256, 28, 128]⟩
abbrev S8x256x28 : Shape := ⟨3, ![8, 256, 28]⟩
abbrev S8x28x96x128 : Shape := ⟨4, ![8, 28, 96, 128]⟩
abbrev S8x4x64x28x96 : Shape := ⟨5, ![8, 4, 64, 28, 96]⟩
abbrev S_ : Shape := ⟨0, ![]⟩
abbrev S8x4x1x28x96 : Shape := ⟨5, ![8, 4, 1, 28, 96]⟩
abbrev S8x4x28x96 : Shape := ⟨4, ![8, 4, 28, 96]⟩
abbrev S8x4x64x28 : Shape := ⟨4, ![8, 4, 64, 28]⟩
abbrev S4x8x28x64 : Shape := ⟨4, ![4, 8, 28, 64]⟩
abbrev S4x8x28x64x1 : Shape := ⟨5, ![4, 8, 28, 64, 1]⟩
abbrev S4x8x28 : Shape := ⟨3, ![4, 8, 28]⟩
abbrev S4x8x28x1x1 : Shape := ⟨5, ![4, 8, 28, 1, 1]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x8x28x64x64 : Shape := ⟨5, ![4, 8, 28, 64, 64]⟩
abbrev S1x1x1x64x64 : Shape := ⟨5, ![1, 1, 1, 64, 64]⟩
abbrev S8x4x64x28x1 : Shape := ⟨5, ![8, 4, 64, 28, 1]⟩
abbrev S4x8x28x64x96 : Shape := ⟨5, ![4, 8, 28, 64, 96]⟩
abbrev S8x4x64x28x128 : Shape := ⟨5, ![8, 4, 64, 28, 128]⟩
abbrev S4x8x28x64x128 : Shape := ⟨5, ![4, 8, 28, 64, 128]⟩
abbrev S8x4x1x28x1 : Shape := ⟨5, ![8, 4, 1, 28, 1]⟩
abbrev S4x8x64x28x96 : Shape := ⟨5, ![4, 8, 64, 28, 96]⟩
abbrev S4x8x28x96 : Shape := ⟨4, ![4, 8, 28, 96]⟩
abbrev S1x8x28x64x96 : Shape := ⟨5, ![1, 8, 28, 64, 96]⟩
abbrev S8x28x64x96 : Shape := ⟨4, ![8, 28, 64, 96]⟩
abbrev S1x8x28x64x128 : Shape := ⟨5, ![1, 8, 28, 64, 128]⟩
abbrev S8x28x64x128 : Shape := ⟨4, ![8, 28, 64, 128]⟩
abbrev S1x8x28x64x64 : Shape := ⟨5, ![1, 8, 28, 64, 64]⟩
abbrev S8x28x64x64 : Shape := ⟨4, ![8, 28, 64, 64]⟩
abbrev S1x8x64x28x96 : Shape := ⟨5, ![1, 8, 64, 28, 96]⟩
abbrev S8x64x28x96 : Shape := ⟨4, ![8, 64, 28, 96]⟩
abbrev S1x8x28x96 : Shape := ⟨4, ![1, 8, 28, 96]⟩
abbrev S8x28x96 : Shape := ⟨3, ![8, 28, 96]⟩
abbrev S8x28x128x64 : Shape := ⟨4, ![8, 28, 128, 64]⟩
abbrev S8x64x28x128 : Shape := ⟨4, ![8, 64, 28, 128]⟩
abbrev S8x28x96x1 : Shape := ⟨4, ![8, 28, 96, 1]⟩
abbrev S1x8x64x28x128 : Shape := ⟨5, ![1, 8, 64, 28, 128]⟩
abbrev S4x8x64x28x128 : Shape := ⟨5, ![4, 8, 64, 28, 128]⟩
abbrev S8x256x3584 : Shape := ⟨3, ![8, 256, 3584]⟩

abbrev nBuf : Space → Nat
  | .hbm => 231
  | .vmem => 0
  | .smem => 0
  | _ => 0

abbrev hbmTy0_0 (i : Nat) : BufTy := match i % 128 with
  | 0 => ⟨S8x256x28x96, .f32⟩
  | 1 => ⟨S8x4x28, .f32⟩
  | 2 => ⟨S8x256x28x96, .f32⟩
  | 3 => ⟨S8x4x28, .f32⟩
  | 4 => ⟨S8x256x28x128, .bf16⟩
  | 5 => ⟨S8x256x28x96, .f32⟩
  | 6 => ⟨S8x256x28, .f32⟩
  | 7 => ⟨S8x28x96x128, .f32⟩
  | 8 => ⟨S8x4x64x28x96, .f32⟩
  | 9 => ⟨S_, .f32⟩
  | 10 => ⟨S_, .f32⟩
  | 11 => ⟨S8x4x64x28x96, .f32⟩
  | 12 => ⟨S8x4x1x28x96, .f32⟩
  | 13 => ⟨S8x4x28x96, .f32⟩
  | 14 => ⟨S8x4x64x28x96, .f32⟩
  | 15 => ⟨S8x4x64x28x96, .bf16⟩
  | 16 => ⟨S8x4x64x28x96, .f32⟩
  | 17 => ⟨S8x4x64x28x96, .bf16⟩
  | 18 => ⟨S8x4x64x28x96, .f32⟩
  | 19 => ⟨S8x4x64x28x96, .bf16⟩
  | 20 => ⟨S8x4x64x28x96, .bf16⟩
  | 21 => ⟨S8x4x64x28x96, .bf16⟩
  | 22 => ⟨S8x4x64x28x96, .f32⟩
  | 23 => ⟨S8x4x64x28x96, .f32⟩
  | 24 => ⟨S8x4x64x28x96, .bf16⟩
  | 25 => ⟨S8x4x64x28x96, .bf16⟩
  | 26 => ⟨S8x4x1x28x96, .f32⟩
  | 27 => ⟨S8x4x64x28x96, .f32⟩
  | 28 => ⟨S8x4x64x28x96, .f32⟩
  | 29 => ⟨S8x4x64x28x96, .f32⟩
  | 30 => ⟨S8x4x64x28x96, .bf16⟩
  | 31 => ⟨S8x4x64x28x96, .bf16⟩
  | 32 => ⟨S8x4x64x28, .f32⟩
  | 33 => ⟨S4x8x28x64, .f32⟩
  | 34 => ⟨S4x8x28x64x1, .f32⟩
  | 35 => ⟨S4x8x28, .f32⟩
  | 36 => ⟨S4x8x28x1x1, .f32⟩
  | 37 => ⟨S4x8x28, .f32⟩
  | 38 => ⟨S4x8x28x1x1, .f32⟩
  | 39 => ⟨S64, .i32⟩
  | 40 => ⟨S64x1, .i32⟩
  | 41 => ⟨S1x64, .i32⟩
  | 42 => ⟨S64x64, .i32⟩
  | 43 => ⟨S64x64, .i32⟩
  | 44 => ⟨S64x64, .i1⟩
  | 45 => ⟨S64x1, .i32⟩
  | 46 => ⟨S1x64, .i32⟩
  | 47 => ⟨S64x64, .i32⟩
  | 48 => ⟨S64x64, .i32⟩
  | 49 => ⟨S64x64, .i1⟩
  | 50 => ⟨S4x8x28x64x64, .f32⟩
  | 51 => ⟨S4x8x28x64x1, .f32⟩
  | 52 => ⟨S4x8x28x64x1, .f32⟩
  | 53 => ⟨S4x8x28x64x1, .f32⟩
  | 54 => ⟨S4x8x28x64x1, .f32⟩
  | 55 => ⟨S4x8x28x64x64, .f32⟩
  | 56 => ⟨S4x8x28x64x64, .f32⟩
  | 57 => ⟨S_, .f32⟩
  | 58 => ⟨S_, .f32⟩
  | 59 => ⟨S4x8x28x64x64, .i1⟩
  | 60 => ⟨S4x8x28x64x64, .f32⟩
  | 61 => ⟨S4x8x28x64x64, .f32⟩
  | 62 => ⟨S4x8x28x64x64, .f32⟩
  | 63 => ⟨S_, .f32⟩
  | 64 => ⟨S4x8x28x1x1, .f32⟩
  | 65 => ⟨S4x8x28x1x1, .f32⟩
  | 66 => ⟨S4x8x28x1x1, .f32⟩
  | 67 => ⟨S4x8x28x64x64, .f32⟩
  | 68 => ⟨S4x8x28x64x64, .f32⟩
  | 69 => ⟨S_, .f32⟩
  | 70 => ⟨S_, .f32⟩
  | 71 => ⟨S4x8x28x64x64, .i1⟩
  | 72 => ⟨S4x8x28x64x64, .f32⟩
  | 73 => ⟨S4x8x28x64x64, .f32⟩
  | 74 => ⟨S64x64, .i32⟩
  | 75 => ⟨S64x64, .i32⟩
  | 76 => ⟨S_, .i32⟩
  | 77 => ⟨S64x64, .i32⟩
  | 78 => ⟨S64x64, .i32⟩
  | 79 => ⟨S64x64, .i1⟩
  | 80 => ⟨S64x64, .f32⟩
  | 81 => ⟨S1x1x1x64x64, .f32⟩
  | 82 => ⟨S4x8x28x64x64, .f32⟩
  | 83 => ⟨S4x8x28x64x64, .f32⟩
  | 84 => ⟨S4x8x28x64x64, .f32⟩
  | 85 => ⟨S4x8x28x64x64, .f32⟩
  | 86 => ⟨S4x8x28x64x64, .f32⟩
  | 87 => ⟨S4x8x28x64x64, .f32⟩
  | 88 => ⟨S4x8x28x64x64, .f32⟩
  | 89 => ⟨S4x8x28x64x64, .f32⟩
  | 90 => ⟨S4x8x28x64x64, .f32⟩
  | 91 => ⟨S4x8x28x64x64, .f32⟩
  | 92 => ⟨S4x8x28x64x64, .f32⟩
  | 93 => ⟨S4x8x28x64x64, .f32⟩
  | 94 => ⟨S4x8x28x64x64, .f32⟩
  | 95 => ⟨S4x8x28x64x64, .f32⟩
  | 96 => ⟨S4x8x28x64x64, .f32⟩
  | 97 => ⟨S4x8x28x64x64, .f32⟩
  | 98 => ⟨S4x8x28x64x64, .f32⟩
  | 99 => ⟨S8x4x64x28x1, .f32⟩
  | 100 => ⟨S8x4x64x28x96, .f32⟩
  | 101 => ⟨S8x4x64x28x96, .f32⟩
  | 102 => ⟨S8x4x64x28x96, .f32⟩
  | 103 => ⟨S4x8x28x64x96, .f32⟩
  | 104 => ⟨S4x8x28x64x96, .f32⟩
  | 105 => ⟨S4x8x28x64x96, .f32⟩
  | 106 => ⟨S8x4x64x28x1, .f32⟩
  | 107 => ⟨S8x4x64x28x128, .bf16⟩
  | 108 => ⟨S8x4x64x28x128, .f32⟩
  | 109 => ⟨S8x4x64x28x128, .f32⟩
  | 110 => ⟨S8x4x64x28x128, .f32⟩
  | 111 => ⟨S4x8x28x64x128, .f32⟩
  | 112 => ⟨S_, .f32⟩
  | 113 => ⟨S8x4x28, .f32⟩
  | 114 => ⟨S8x4x28, .f32⟩
  | 115 => ⟨S8x4x1x28x1, .f32⟩
  | 116 => ⟨S8x4x64x28x96, .f32⟩
  | 117 => ⟨S8x4x64x28x96, .f32⟩
  | 118 => ⟨S8x4x64x28x96, .f32⟩
  | 119 => ⟨S4x8x64x28x96, .f32⟩
  | 120 => ⟨S8x4x1x28x1, .f32⟩
  | 121 => ⟨S8x4x64x28x96, .f32⟩
  | 122 => ⟨S8x4x64x28x96, .f32⟩
  | 123 => ⟨S8x4x64x28x96, .f32⟩
  | 124 => ⟨S4x8x64x28x96, .f32⟩
  | 125 => ⟨S8x4x28x96, .f32⟩
  | 126 => ⟨S4x8x28x96, .f32⟩
  | 127 => ⟨S1x8x28x64x96, .f32⟩
  | _ => ⟨S8x256x28x96, .f32⟩

abbrev hbmTy0_1 (i : Nat) : BufTy := match i % 128 with
  | 0 => ⟨S8x28x64x96, .f32⟩
  | 1 => ⟨S1x8x28x64x128, .f32⟩
  | 2 => ⟨S8x28x64x128, .f32⟩
  | 3 => ⟨S1x8x28x64x64, .f32⟩
  | 4 => ⟨S8x28x64x64, .f32⟩
  | 5 => ⟨S1x8x64x28x96, .f32⟩
  | 6 => ⟨S8x64x28x96, .f32⟩
  | 7 => ⟨S1x8x64x28x96, .f32⟩
  | 8 => ⟨S8x64x28x96, .f32⟩
  | 9 => ⟨S1x8x28x96, .f32⟩
  | 10 => ⟨S8x28x96, .f32⟩
  | 11 => ⟨S8x28x64x128, .f32⟩
  | 12 => ⟨S8x28x64x128, .f32⟩
  | 13 => ⟨S8x28x128x64, .f32⟩
  | 14 => ⟨S8x64x28x128, .f32⟩
  | 15 => ⟨S8x28x128x64, .f32⟩
  | 16 => ⟨S8x64x28x128, .f32⟩
  | 17 => ⟨S8x64x28x128, .f32⟩
  | 18 => ⟨S8x28x96x1, .f32⟩
  | 19 => ⟨S8x28x96x128, .f32⟩
  | 20 => ⟨S8x28x96x128, .f32⟩
  | 21 => ⟨S8x28x96x128, .f32⟩
  | 22 => ⟨S8x28x96x128, .f32⟩
  | 23 => ⟨S1x8x28x64x96, .f32⟩
  | 24 => ⟨S8x28x64x96, .f32⟩
  | 25 => ⟨S1x8x28x64x128, .f32⟩
  | 26 => ⟨S8x28x64x128, .f32⟩
  | 27 => ⟨S1x8x28x64x64, .f32⟩
  | 28 => ⟨S8x28x64x64, .f32⟩
  | 29 => ⟨S1x8x64x28x96, .f32⟩
  | 30 => ⟨S8x64x28x96, .f32⟩
  | 31 => ⟨S1x8x64x28x96, .f32⟩
  | 32 => ⟨S8x64x28x96, .f32⟩
  | 33 => ⟨S1x8x28x96, .f32⟩
  | 34 => ⟨S8x28x96, .f32⟩
  | 35 => ⟨S8x28x64x128, .f32⟩
  | 36 => ⟨S8x28x64x128, .f32⟩
  | 37 => ⟨S8x28x128x64, .f32⟩
  | 38 => ⟨S8x64x28x128, .f32⟩
  | 39 => ⟨S8x28x128x64, .f32⟩
  | 40 => ⟨S8x64x28x128, .f32⟩
  | 41 => ⟨S8x64x28x128, .f32⟩
  | 42 => ⟨S8x28x96x1, .f32⟩
  | 43 => ⟨S8x28x96x128, .f32⟩
  | 44 => ⟨S8x28x96x128, .f32⟩
  | 45 => ⟨S8x28x96x128, .f32⟩
  | 46 => ⟨S8x28x96x128, .f32⟩
  | 47 => ⟨S1x8x28x64x96, .f32⟩
  | 48 => ⟨S8x28x64x96, .f32⟩
  | 49 => ⟨S1x8x28x64x128, .f32⟩
  | 50 => ⟨S8x28x64x128, .f32⟩
  | 51 => ⟨S1x8x28x64x64, .f32⟩
  | 52 => ⟨S8x28x64x64, .f32⟩
  | 53 => ⟨S1x8x64x28x96, .f32⟩
  | 54 => ⟨S8x64x28x96, .f32⟩
  | 55 => ⟨S1x8x64x28x96, .f32⟩
  | 56 => ⟨S8x64x28x96, .f32⟩
  | 57 => ⟨S1x8x28x96, .f32⟩
  | 58 => ⟨S8x28x96, .f32⟩
  | 59 => ⟨S8x28x64x128, .f32⟩
  | 60 => ⟨S8x28x64x128, .f32⟩
  | 61 => ⟨S8x28x128x64, .f32⟩
  | 62 => ⟨S8x64x28x128, .f32⟩
  | 63 => ⟨S8x28x128x64, .f32⟩
  | 64 => ⟨S8x64x28x128, .f32⟩
  | 65 => ⟨S8x64x28x128, .f32⟩
  | 66 => ⟨S8x28x96x1, .f32⟩
  | 67 => ⟨S8x28x96x128, .f32⟩
  | 68 => ⟨S8x28x96x128, .f32⟩
  | 69 => ⟨S8x28x96x128, .f32⟩
  | 70 => ⟨S8x28x96x128, .f32⟩
  | 71 => ⟨S1x8x28x64x96, .f32⟩
  | 72 => ⟨S8x28x64x96, .f32⟩
  | 73 => ⟨S1x8x28x64x128, .f32⟩
  | 74 => ⟨S8x28x64x128, .f32⟩
  | 75 => ⟨S1x8x28x64x64, .f32⟩
  | 76 => ⟨S8x28x64x64, .f32⟩
  | 77 => ⟨S1x8x64x28x96, .f32⟩
  | 78 => ⟨S8x64x28x96, .f32⟩
  | 79 => ⟨S1x8x64x28x96, .f32⟩
  | 80 => ⟨S8x64x28x96, .f32⟩
  | 81 => ⟨S1x8x28x96, .f32⟩
  | 82 => ⟨S8x28x96, .f32⟩
  | 83 => ⟨S8x28x64x128, .f32⟩
  | 84 => ⟨S8x28x64x128, .f32⟩
  | 85 => ⟨S8x28x128x64, .f32⟩
  | 86 => ⟨S8x64x28x128, .f32⟩
  | 87 => ⟨S8x28x128x64, .f32⟩
  | 88 => ⟨S8x64x28x128, .f32⟩
  | 89 => ⟨S8x64x28x128, .f32⟩
  | 90 => ⟨S8x28x96x1, .f32⟩
  | 91 => ⟨S8x28x96x128, .f32⟩
  | 92 => ⟨S8x28x96x128, .f32⟩
  | 93 => ⟨S8x28x96x128, .f32⟩
  | 94 => ⟨S8x28x96x128, .f32⟩
  | 95 => ⟨S1x8x64x28x128, .f32⟩
  | 96 => ⟨S1x8x64x28x128, .f32⟩
  | 97 => ⟨S1x8x64x28x128, .f32⟩
  | 98 => ⟨S1x8x64x28x128, .f32⟩
  | 99 => ⟨S4x8x64x28x128, .f32⟩
  | 100 => ⟨S8x4x64x28x128, .f32⟩
  | 101 => ⟨S8x256x3584, .f32⟩
  | 102 => ⟨S8x256x3584, .bf16⟩
  | _ => ⟨S8x256x28x96, .f32⟩

abbrev hbmTy (i : Nat) : BufTy := match i / 128 with
  | 0 => hbmTy0_0 i
  | 1 => hbmTy0_1 i
  | _ => ⟨S8x256x28x96, .f32⟩

abbrev bufTy : (tb : Table) → Fin (tcTables nBuf tb) → BufTy
  | .hbm, ⟨i, _⟩ => hbmTy i
  | _, _ => ⟨S8x256x28x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_cst : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v47 : Ref sig .tc := ⟨.hbm, 61, rfl⟩
abbrev main_v48 : Ref sig .tc := ⟨.hbm, 62, rfl⟩
abbrev main_cst_0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_1 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_2 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩

abbrev nD : Nat := 1
abbrev τ : Topo := Topo.v7x

variable {F : FTy → Type} [FloatOps F]
-- ==== Proof.K.Base.lean ====
/-
What the four runs of the body share: its three conditions in closed form over the grid points, the
staging and scratch memrefs, and the invariant with every scratch buffer at some contents.
-/
module

public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.Kernel.Skeleton
public import proofs.«01_k».proof.Proof.Gen.Kernel.Loops
public import proofs.«01_k».proof.Proof.Gen.Kernel.Points
public import proofs.«01_k».proof.Proof.Gen.Kernel.Launch

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F] [BitOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S896 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S896 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x28x96 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x28x96 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x28x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x28x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x28 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x28x96x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x3584 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x28x96x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2304x128 .f32 := Memref.whole cc0_scratch0
abbrev scM0_1 : Memref sig .tc .vmem S1280x128 .i32 := Memref.whole cc0_scratch1
abbrev scM0_2 : Memref sig .tc .vmem S1280x128 .i32 := Memref.whole cc0_scratch2
abbrev scM0_3 : Memref sig .tc .vmem S1280x128 .i32 := Memref.whole cc0_scratch3
abbrev scM0_4 : Memref sig .tc .vmem S64x128 .f32 := Memref.whole cc0_scratch4
abbrev scM0_5 : Memref sig .tc .vmem S28x96x128 .f32 := Memref.whole cc0_scratch5
/-- The scratch `arg12` the kernel carries between points, as a view: what it holds is stated through it. -/
abbrev VS0_0 : View sig .tc .vmem S2304x128 .f32 := scM0_0.view
/-- The scratch `arg13` the kernel carries between points, as a view: what it holds is stated through it. -/
abbrev VS0_1 : View sig .tc .vmem S1280x128 .i32 := scM0_1.view
/-- The scratch `arg14` the kernel carries between points, as a view: what it holds is stated through it. -/
abbrev VS0_2 : View sig .tc .vmem S1280x128 .i32 := scM0_2.view
/-- The scratch `arg15` the kernel carries between points, as a view: what it holds is stated through it. -/
abbrev VS0_3 : View sig .tc .vmem S1280x128 .i32 := scM0_3.view
/-- The scratch `arg16` the kernel carries between points, as a view: what it holds is stated through it. -/
abbrev VS0_4 : View sig .tc .vmem S64x128 .f32 := scM0_4.view
/-- The scratch `arg17` the kernel carries between points, as a view: what it holds is stated through it. -/
abbrev VS0_5 : View sig .tc .vmem S28x96x128 .f32 := scM0_5.view

/-- The invariant of the frame with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Hand

end
-- ==== Proof.K.RunA.lean ====
/-
The run of the body at the first point of the grid: the word buffers are zero-filled and the state is loaded.
-/
module

public import proofs.«01_k».proof.Proof.K.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F] [BitOps F]

local notation "𝕄" => MT nD τ sig Unit (Elt F) ℕ (UR sig nD τ) ℕ

set_option maxHeartbeats 3200000 in
/-- The body at the first point of the grid: the word buffers are zero-filled and the state is loaded: on whole memrefs, the outputs and the scratch buffers at any contents, it
    ends with the inputs as they were and the outputs and scratch buffers at some contents. -/
theorem runA (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x128 .i32) (harg13 : arg13.IsWhole) (arg14 : Memref sig .tc .vmem S1280x128 .i32) (harg14 : arg14.IsWhole) (arg15 : Memref sig .tc .vmem S1280x128 .i32) (harg15 : arg15.IsWhole) (arg16 : Memref sig .tc .vmem S64x128 .f32) (harg16 : arg16.IsWhole) (arg17 : Memref sig .tc .vmem S28x96x128 .f32) (harg17 : arg17.IsWhole) (hc0 : cond0_0 i) (hc1 : cond0_1 i) (hc2 : ¬cond0_2 i)
    (x0 : Vec F S896 .f32) (x1 : Vec F S896 .f32) (x2 : Vec F S1x64x28x96 .fp8e4m3) (x3 : Vec F S1x64x28x96 .fp8e4m3) (x4 : Vec F S1x64x28x128 .bf16) (x5 : Vec F S1x64x28x96 .f32) (x6 : Vec F S1x64x28 .f32) (x7 : Vec F S1x28x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0 | sl_exact hc1 | sl_exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel.Hand

end
-- ==== Proof.K.RunB.lean ====
/-
The run of the body at a point that is neither the first nor the last chunk of a batch.
-/
module

public import proofs.«01_k».proof.Proof.K.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F] [BitOps F]

local notation "𝕄" => MT nD τ sig Unit (Elt F) ℕ (UR sig nD τ) ℕ

set_option maxHeartbeats 3200000 in
/-- The body at a point that is neither the first nor the last chunk of a batch: on whole memrefs, the outputs and the scratch buffers at any contents, it
    ends with the inputs as they were and the outputs and scratch buffers at some contents. -/
theorem runB (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x128 .i32) (harg13 : arg13.IsWhole) (arg14 : Memref sig .tc .vmem S1280x128 .i32) (harg14 : arg14.IsWhole) (arg15 : Memref sig .tc .vmem S1280x128 .i32) (harg15 : arg15.IsWhole) (arg16 : Memref sig .tc .vmem S64x128 .f32) (harg16 : arg16.IsWhole) (arg17 : Memref sig .tc .vmem S28x96x128 .f32) (harg17 : arg17.IsWhole) (hc0 : ¬cond0_0 i) (hc1 : ¬cond0_1 i) (hc2 : ¬cond0_2 i)
    (x0 : Vec F S896 .f32) (x1 : Vec F S896 .f32) (x2 : Vec F S1x64x28x96 .fp8e4m3) (x3 : Vec F S1x64x28x96 .fp8e4m3) (x4 : Vec F S1x64x28x128 .bf16) (x5 : Vec F S1x64x28x96 .f32) (x6 : Vec F S1x64x28 .f32) (x7 : Vec F S1x28x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0 | sl_exact hc1 | sl_exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel.Hand

end
-- ==== Proof.K.RunC.lean ====
/-
The run of the body at a last chunk of a batch: the final state is stored.
-/
module

public import proofs.«01_k».proof.Proof.K.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F] [BitOps F]

local notation "𝕄" => MT nD τ sig Unit (Elt F) ℕ (UR sig nD τ) ℕ

set_option maxHeartbeats 3200000 in
/-- The body at a last chunk of a batch: the final state is stored: on whole memrefs, the outputs and the scratch buffers at any contents, it
    ends with the inputs as they were and the outputs and scratch buffers at some contents. -/
theorem runC (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x128 .i32) (harg13 : arg13.IsWhole) (arg14 : Memref sig .tc .vmem S1280x128 .i32) (harg14 : arg14.IsWhole) (arg15 : Memref sig .tc .vmem S1280x128 .i32) (harg15 : arg15.IsWhole) (arg16 : Memref sig .tc .vmem S64x128 .f32) (harg16 : arg16.IsWhole) (arg17 : Memref sig .tc .vmem S28x96x128 .f32) (harg17 : arg17.IsWhole) (hc0 : ¬cond0_0 i) (hc1 : ¬cond0_1 i) (hc2 : cond0_2 i)
    (x0 : Vec F S896 .f32) (x1 : Vec F S896 .f32) (x2 : Vec F S1x64x28x96 .fp8e4m3) (x3 : Vec F S1x64x28x96 .fp8e4m3) (x4 : Vec F S1x64x28x128 .bf16) (x5 : Vec F S1x64x28x96 .f32) (x6 : Vec F S1x64x28 .f32) (x7 : Vec F S1x28x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0 | sl_exact hc1 | sl_exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel.Hand

end
-- ==== Proof.K.RunD.lean ====
/-
The run of the body at a first chunk of a batch other than the first: the state is loaded.
-/
module

public import proofs.«01_k».proof.Proof.K.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F] [BitOps F]

local notation "𝕄" => MT nD τ sig Unit (Elt F) ℕ (UR sig nD τ) ℕ

set_option maxHeartbeats 3200000 in
/-- The body at a first chunk of a batch other than the first: the state is loaded: on whole memrefs, the outputs and the scratch buffers at any contents, it
    ends with the inputs as they were and the outputs and scratch buffers at some contents. -/
theorem runD (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x128 .i32) (harg13 : arg13.IsWhole) (arg14 : Memref sig .tc .vmem S1280x128 .i32) (harg14 : arg14.IsWhole) (arg15 : Memref sig .tc .vmem S1280x128 .i32) (harg15 : arg15.IsWhole) (arg16 : Memref sig .tc .vmem S64x128 .f32) (harg16 : arg16.IsWhole) (arg17 : Memref sig .tc .vmem S28x96x128 .f32) (harg17 : arg17.IsWhole) (hc0 : ¬cond0_0 i) (hc1 : cond0_1 i) (hc2 : ¬cond0_2 i)
    (x0 : Vec F S896 .f32) (x1 : Vec F S896 .f32) (x2 : Vec F S1x64x28x96 .fp8e4m3) (x3 : Vec F S1x64x28x96 .fp8e4m3) (x4 : Vec F S1x64x28x128 .bf16) (x5 : Vec F S1x64x28x96 .f32) (x6 : Vec F S1x64x28 .f32) (x7 : Vec F S1x28x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0 | sl_exact hc1 | sl_exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.Kernel.Hand

end
-- ==== Proof.K.Frame.lean ====
/-
The frame of the program: at every grid point the body runs from the input blocks, with the outputs and the scratch
buffers at any contents, and leaves the inputs as they were; so the launch terminates, leaves every argument array
unchanged and ends with every semaphore counter at zero. Nothing is stated of the outputs here.
-/
module

public import proofs.«01_k».proof.Proof.K.RunA
public import proofs.«01_k».proof.Proof.K.RunB
public import proofs.«01_k».proof.Proof.K.RunC
public import proofs.«01_k».proof.Proof.K.RunD
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F] [BitOps F]

local notation "𝕄" => MT nD τ sig Unit (Elt F) ℕ (UR sig nD τ) ℕ

variable (m : (ℓ : Loc nD τ sig) → Buf (Elt F) ℓ) (ρ : Dev nD → PrngReg)

/-- The two output windows, of whose contents the frame states nothing. -/
def forgets0 : Fin 10 → Bool := fun w => w.val == 8 || w.val == 9

/-- The proof data of the pipeline: inputs at their blocks, outputs unnamed, scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d))

set_option maxHeartbeats 3200000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 32 := lt_of_lt_of_eq t.isLt (show cfg0.N = 32 from N_0)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  by_cases h0 : t.val % 32 = 0
  · have h1 : t.val % 4 = 0 := by omega
    have h2 : ¬ t.val % 4 = 3 := by omega
    iapply (runA c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h1 : t.val % 4 = 0
    · have h2 : ¬ t.val % 4 = 3 := by omega
      iapply (runD c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · by_cases h2 : t.val % 4 = 3
      · iapply (runC c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, HS0, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · iapply (runB c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, HS0, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-- The post of the frame read at the argument arrays. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_forgotten m ρ (fun c => (dats m 0 c).toRForget forgets0) (A_eq m) (run_main m ρ)

/-- The frame, at any carrier: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.KI.Base.lean ====
/-
What the four runs of the body share: its three conditions in closed form over the grid points, the
staging and scratch memrefs, and the invariant with every scratch buffer at some contents.
-/
module

public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Launch

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 32 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_1 : ∀ t : Fin cfg0.N, cond0_1 (grid0.coords t) ↔ t.val % 4 = 0 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_1, e0, e1]
    word_cmp
   : ∀ t : Fin grid0.N, cond0_1 (grid0.coords t) ↔ t.val % 4 = 0)

/-- The condition of the body's `scf.if` 2 (`k0_h3`), from the grid coordinates (the skeleton's scalar
    chain substituted). -/
abbrev cond0_2 (i : grid0.Coords) : Prop := k0_cond3 i = 1#1
/-- It holds at the points ≡ 3 (mod 4) — by arithmetic of the point. -/
theorem hcond0_2 : ∀ t : Fin cfg0.N, cond0_2 (grid0.coords t) ↔ t.val % 4 = 3 :=
  (fun t => by
    have ht : t.val < 32 := Nat.lt_of_lt_of_eq t.isLt N_0
    have e0 : (grid0.coords t 0).val = t.val / 4 % 8 := Pipeline.Grid.coords_val t 0 (by decide) rfl
    have e1 : (grid0.coords t 1).val = t.val / 1 % 4 := Pipeline.Grid.coords_val t 1 (by decide) rfl
    simp only [cond0_2, k0_cond3, e0, e1]
    word_cmp
   : ∀ t : Fin grid0.N, cond0_2 (grid0.coords t) ↔ t.val % 4 = 3)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S896 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S896 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x28x96 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64x28x96 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64x28x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64x28x96 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x28 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x28x96x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64x3584 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x28x96x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2304x128 .f32 := Memref.whole cc0_scratch0
abbrev scM0_1 : Memref sig .tc .vmem S1280x2x128 .bf16 := Memref.whole cc0_scratch1
abbrev scM0_2 : Memref sig .tc .vmem S1280x2x128 .bf16 := Memref.whole cc0_scratch2
abbrev scM0_3 : Memref sig .tc .vmem S1280x2x128 .bf16 := Memref.whole cc0_scratch3
abbrev scM0_4 : Memref sig .tc .vmem S64x128 .f32 := Memref.whole cc0_scratch4
abbrev scM0_5 : Memref sig .tc .vmem S28x96x128 .f32 := Memref.whole cc0_scratch5
/-- The scratch `arg12` the kernel carries between points, as a view: what it holds is stated through it. -/
abbrev VS0_0 : View sig .tc .vmem S2304x128 .f32 := scM0_0.view
/-- The scratch `arg13` the kernel carries between points, as a view: what it holds is stated through it. -/
abbrev VS0_1 : View sig .tc .vmem S1280x2x128 .bf16 := scM0_1.view
/-- The scratch `arg14` the kernel carries between points, as a view: what it holds is stated through it. -/
abbrev VS0_2 : View sig .tc .vmem S1280x2x128 .bf16 := scM0_2.view
/-- The scratch `arg15` the kernel carries between points, as a view: what it holds is stated through it. -/
abbrev VS0_3 : View sig .tc .vmem S1280x2x128 .bf16 := scM0_3.view
/-- The scratch `arg16` the kernel carries between points, as a view: what it holds is stated through it. -/
abbrev VS0_4 : View sig .tc .vmem S64x128 .f32 := scM0_4.view
/-- The scratch `arg17` the kernel carries between points, as a view: what it holds is stated through it. -/
abbrev VS0_5 : View sig .tc .vmem S28x96x128 .f32 := scM0_5.view

/-- The invariant of the frame with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.KI.RunA.lean ====
/-
The run of the body at the first point of the grid: the word buffers are zero-filled and the state is loaded.
-/
module

public import proofs.«01_k».proof.Proof.KI.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 3200000 in
/-- The body at the first point of the grid: the word buffers are zero-filled and the state is loaded: on whole memrefs, the outputs and the scratch buffers at any contents, it
    ends with the inputs as they were and the outputs and scratch buffers at some contents. -/
theorem runA (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole) (hc0 : cond0_0 i) (hc1 : cond0_1 i) (hc2 : ¬cond0_2 i)
    (x0 : Vec F S896 .f32) (x1 : Vec F S896 .f32) (x2 : Vec F S1x64x28x96 .fp8e4m3) (x3 : Vec F S1x64x28x96 .fp8e4m3) (x4 : Vec F S1x64x28x128 .bf16) (x5 : Vec F S1x64x28x96 .f32) (x6 : Vec F S1x64x28 .f32) (x7 : Vec F S1x28x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0 | sl_exact hc1 | sl_exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.KernelIdeal.Hand

end
-- ==== Proof.KI.RunB.lean ====
/-
The run of the body at a point that is neither the first nor the last chunk of a batch.
-/
module

public import proofs.«01_k».proof.Proof.KI.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 3200000 in
/-- The body at a point that is neither the first nor the last chunk of a batch: on whole memrefs, the outputs and the scratch buffers at any contents, it
    ends with the inputs as they were and the outputs and scratch buffers at some contents. -/
theorem runB (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole) (hc0 : ¬cond0_0 i) (hc1 : ¬cond0_1 i) (hc2 : ¬cond0_2 i)
    (x0 : Vec F S896 .f32) (x1 : Vec F S896 .f32) (x2 : Vec F S1x64x28x96 .fp8e4m3) (x3 : Vec F S1x64x28x96 .fp8e4m3) (x4 : Vec F S1x64x28x128 .bf16) (x5 : Vec F S1x64x28x96 .f32) (x6 : Vec F S1x64x28 .f32) (x7 : Vec F S1x28x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0 | sl_exact hc1 | sl_exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.KernelIdeal.Hand

end
-- ==== Proof.KI.RunC.lean ====
/-
The run of the body at a last chunk of a batch: the final state is stored.
-/
module

public import proofs.«01_k».proof.Proof.KI.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 3200000 in
/-- The body at a last chunk of a batch: the final state is stored: on whole memrefs, the outputs and the scratch buffers at any contents, it
    ends with the inputs as they were and the outputs and scratch buffers at some contents. -/
theorem runC (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole) (hc0 : ¬cond0_0 i) (hc1 : ¬cond0_1 i) (hc2 : cond0_2 i)
    (x0 : Vec F S896 .f32) (x1 : Vec F S896 .f32) (x2 : Vec F S1x64x28x96 .fp8e4m3) (x3 : Vec F S1x64x28x96 .fp8e4m3) (x4 : Vec F S1x64x28x128 .bf16) (x5 : Vec F S1x64x28x96 .f32) (x6 : Vec F S1x64x28 .f32) (x7 : Vec F S1x28x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0 | sl_exact hc1 | sl_exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.KernelIdeal.Hand

end
-- ==== Proof.KI.RunD.lean ====
/-
The run of the body at a first chunk of a batch other than the first: the state is loaded.
-/
module

public import proofs.«01_k».proof.Proof.KI.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

set_option maxHeartbeats 3200000 in
/-- The body at a first chunk of a batch other than the first: the state is loaded: on whole memrefs, the outputs and the scratch buffers at any contents, it
    ends with the inputs as they were and the outputs and scratch buffers at some contents. -/
theorem runD (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole) (hc0 : ¬cond0_0 i) (hc1 : cond0_1 i) (hc2 : ¬cond0_2 i)
    (x0 : Vec F S896 .f32) (x1 : Vec F S896 .f32) (x2 : Vec F S1x64x28x96 .fp8e4m3) (x3 : Vec F S1x64x28x96 .fp8e4m3) (x4 : Vec F S1x64x28x128 .bf16) (x5 : Vec F S1x64x28x96 .f32) (x6 : Vec F S1x64x28 .f32) (x7 : Vec F S1x28x96x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
      ⊢ wp frame (wpE (defs₀ (F := F)) Variants.none c none) E (cc0_kda i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
  sl_exec (disch := first | sl_exact hc0 | sl_exact hc1 | sl_exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  iexists _, _; isplitr; swap; · iexact H17
  ipureintro; rfl

end Cert.KernelIdeal.Hand

end
-- ==== Proof.KI.Frame.lean ====
/-
The frame of the program: at every grid point the body runs from the input blocks, with the outputs and the scratch
buffers at any contents, and leaves the inputs as they were; so the launch terminates, leaves every argument array
unchanged and ends with every semaphore counter at zero. Nothing is stated of the outputs here.
-/
module

public import proofs.«01_k».proof.Proof.KI.RunA
public import proofs.«01_k».proof.Proof.KI.RunB
public import proofs.«01_k».proof.Proof.KI.RunC
public import proofs.«01_k».proof.Proof.KI.RunD
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two output windows, of whose contents the frame states nothing. -/
def forgets0 : Fin 10 → Bool := fun w => w.val == 8 || w.val == 9

/-- The proof data of the pipeline: inputs at their blocks, outputs unnamed, scratch at any contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (∃ d, owns (c : Thread nD τ) (ms0_8 t) fullShare d)
    ∗ (∃ d, owns (c : Thread nD τ) (ms0_9 t) fullShare d))

set_option maxHeartbeats 3200000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  have hN : t.val < 32 := lt_of_lt_of_eq t.isLt (show cfg0.N = 32 from N_0)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9⟩
  by_cases h0 : t.val % 32 = 0
  · have h1 : t.val % 4 = 0 := by omega
    have h2 : ¬ t.val % 4 = 3 := by omega
    iapply (runA c (grid0.coords t) _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · by_cases h1 : t.val % 4 = 0
    · have h2 : ¬ t.val % 4 = 3 := by omega
      iapply (runD c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · by_cases h2 : t.val % 4 = 3
      · iapply (runC c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, HS0, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9
      · iapply (runB c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        iintro ⟨H0, H1, H2, H3, H4, H5, H6, H7, H8, H9, HS0, HS1, HS2, HS3, HS4, HS5⟩
        isplitl [HS0 HS1 HS2 HS3 HS4 HS5 Hg]
        · isplitl [HS0 HS1 HS2 HS3 HS4 HS5]
          · isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-- The post of the frame read at the argument arrays. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c))⟩) h

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of_forgotten m ρ (fun c => (dats m 0 c).toRForget forgets0) (A_eq m) (run_main m ρ)

/-- The frame, at any carrier: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.Lift.lean ====
/-
Reading the operations of a program at an index, over the reals: `At x f` says that the vector `x` has at each index the
value that `f` gives for the index's coordinates, as natural numbers. One lemma for each operation.
-/
module

public import Idealize.ShloMosaic.Lib.ValueIdx
public import Idealize.ShloMosaic.Lib.Pointwise.Tactic
public import Idealize.ShloMosaic.Lib.Pointwise.Contract
public import Idealize.ShloMosaic.Lib.Pointwise.SelectCore

@[expose] public section

noncomputable section

namespace Cert.Lift

open Idealize.ShloMosaic Idealize.ShloMosaic.ValueIdx

/-- The coordinates of an index, as natural numbers; zero past the rank. -/
def co {s : Shape} (i : s.Idx) (d : ℕ) : ℕ := if h : d < s.rank then (i ⟨d, h⟩).val else 0

/-- At each index `x` has the value of `f` at the coordinates. -/
def At {s : Shape} {α : Type} (x : s.Idx → α) (f : (ℕ → ℕ) → α) : Prop := ∀ i, x i = f (co i)

theorem co_of_lt {s : Shape} (i : s.Idx) (d : ℕ) (h : d < s.rank) : co i d = (i ⟨d, h⟩).val := dif_pos h
theorem co_of_ge {s : Shape} (i : s.Idx) (d : ℕ) (h : ¬ d < s.rank) : co i d = 0 := dif_neg h

theorem co_lt {s : Shape} (i : s.Idx) (d : ℕ) (h : d < s.rank) : co i d < s.size ⟨d, h⟩ := by
  rw [co_of_lt i d h]; exact (i _).isLt

theorem At.congr {s : Shape} {α : Type} {x : s.Idx → α} {f g : (ℕ → ℕ) → α} (h : At x f) (hg : ∀ i : s.Idx, f (co i) = g (co i)) :
    At x g := fun i => (h i).trans (hg i)

/-- Two vectors with one reading are equal. -/
theorem At.eq {s : Shape} {α : Type} {x y : s.Idx → α} {f : (ℕ → ℕ) → α} (h : At x f) (h' : At y f) : x = y :=
  funext fun i => (h i).trans (h' i).symm

/-- A re-indexing, by the map of the coordinates. -/
theorem At.re {s t : Shape} {α : Type} {x : s.Idx → α} {f : (ℕ → ℕ) → α} (hx : At x f) {m : t.Idx → s.Idx} {g : (ℕ → ℕ) → α}
    (h : ∀ i, f (co (m i)) = g (co i)) : At (fun j => x (m j)) g := fun i => (hx (m i)).trans (h i)

theorem At.reMap {s t : Shape} {α : Type} {x : s.Idx → α} {f : (ℕ → ℕ) → α} (hx : At x f) {m : t.Idx → s.Idx}
    {mm : (ℕ → ℕ) → ℕ → ℕ} (h : ∀ i d, (hd : d < s.rank) → ((m i) ⟨d, hd⟩).val = mm (co i) d) (h0 : ∀ c d, ¬ d < s.rank → mm c d = 0) :
    At (fun j => x (m j)) (fun c => f (mm c)) :=
  hx.re fun i => by
    congr 1; funext d
    by_cases hd : d < s.rank
    · rw [co_of_lt _ _ hd]; exact h i d hd
    · rw [co_of_ge _ _ hd]; exact (h0 _ d hd).symm

section Float
variable {s : Shape} {φ ψ : FTy}

theorem At.addf {x y : FVec Ideal s φ} {f g : (ℕ → ℕ) → ℝ} (hx : At x fun c => ((f c : ℝ) : EReal)) (hy : At y fun c => ((g c : ℝ) : EReal)) :
    At (addf x y) fun c => ((f c + g c : ℝ) : EReal) := fun i => by
  rw [addf_apply, hx i, hy i]; exact (EReal.coe_add _ _).symm

theorem At.subf {x y : FVec Ideal s φ} {f g : (ℕ → ℕ) → ℝ} (hx : At x fun c => ((f c : ℝ) : EReal)) (hy : At y fun c => ((g c : ℝ) : EReal)) :
    At (subf x y) fun c => ((f c - g c : ℝ) : EReal) := fun i => by
  rw [subf_apply, hx i, hy i]; exact (EReal.coe_sub _ _).symm

/-- A real less itself at another format is zero. -/
theorem At.rest {x : FVec Ideal s φ} {f : (ℕ → ℕ) → ℝ} (hx : At x fun c => ((f c : ℝ) : EReal)) (h : ψ.bits < φ.bits) (h' : ψ.bits < φ.bits) :
    At (Idealize.ShloMosaic.subf x (Idealize.ShloMosaic.extf φ (Idealize.ShloMosaic.truncf ψ x h) h')) fun _ => ((0 : ℝ) : EReal) := fun i => by
  rw [subf_apply, extf_apply, truncf_apply, hx i]
  exact (EReal.coe_sub _ _).symm.trans (congrArg _ (sub_self _))

theorem At.mulf {x y : FVec Ideal s φ} {f g : (ℕ → ℕ) → ℝ} (hx : At x fun c => ((f c : ℝ) : EReal)) (hy : At y fun c => ((g c : ℝ) : EReal)) :
    At (mulf x y) fun c => ((f c * g c : ℝ) : EReal) := fun i => by
  rw [mulf_apply, hx i, hy i]; exact (EReal.coe_mul _ _).symm

theorem At.truncf {x : FVec Ideal s φ} {f : (ℕ → ℕ) → EReal} (hx : At x f) (h : ψ.bits < φ.bits) : At (truncf ψ x h : FVec Ideal s ψ) f :=
  fun i => hx i
theorem At.extf {x : FVec Ideal s φ} {f : (ℕ → ℕ) → EReal} (hx : At x f) (h : φ.bits < ψ.bits) : At (extf ψ x h : FVec Ideal s ψ) f :=
  fun i => hx i

theorem At.exp {x : FVec Ideal s φ} {f : (ℕ → ℕ) → ℝ} (hx : At x fun c => ((f c : ℝ) : EReal)) :
    At (exp x) fun c => ((Real.exp (f c) : ℝ) : EReal) := fun i => by
  show Ideal.exp (x i) = _; rw [hx i]; exact Ideal.exp_coe _
theorem At.hexp {x : FVec Ideal s φ} {f : (ℕ → ℕ) → ℝ} (hx : At x fun c => ((f c : ℝ) : EReal)) :
    At (Host.exp x) fun c => ((Real.exp (f c) : ℝ) : EReal) := fun i => by
  show Ideal.exp (x i) = _; rw [hx i]; exact Ideal.exp_coe _
theorem At.hnegf {x : FVec Ideal s φ} {f : (ℕ → ℕ) → ℝ} (hx : At x fun c => ((f c : ℝ) : EReal)) :
    At (Host.negf x) fun c => ((-(f c) : ℝ) : EReal) := fun i => by
  show -(x i) = _; rw [hx i]; exact (EReal.coe_neg _).symm

theorem At.splat {α : Type} {v : α} : At (broadcast s v) fun _ => v := fun _ => rfl
theorem At.splatR {v : EReal} {r : ℝ} (h : v = ((r : ℝ) : EReal)) : At (broadcast s v) fun _ => ((r : ℝ) : EReal) := fun _ => h
theorem At.constR {b : BitVec φ.bits} {r : ℝ} (h : Ideal.ofBits φ b = ((r : ℝ) : EReal)) :
    At (constant (F := Ideal) s φ b) fun _ => ((r : ℝ) : EReal) := fun _ => h
theorem zero_f32 : Ideal.ofBits .f32 0x00000000#32 = ((0 : ℝ) : EReal) := Ideal.ofBits_zero_f32.trans EReal.coe_zero.symm
theorem zero_bf16 : Ideal.ofBits .bf16 0x0000#16 = ((0 : ℝ) : EReal) := Ideal.ofBits_zero_bf16.trans EReal.coe_zero.symm
theorem one_f32 : Ideal.ofBits .f32 0x3F800000#32 = ((1 : ℝ) : EReal) := Ideal.ofBits_one_f32.trans EReal.coe_one.symm

theorem At.select {m : IVec s 1} {x y : s.Idx → EReal} {p : (ℕ → ℕ) → BitVec 1} {f g : (ℕ → ℕ) → ℝ} (hm : At m p)
    (hx : At x fun c => ((f c : ℝ) : EReal)) (hy : At y fun c => ((g c : ℝ) : EReal)) :
    At (select m x y) fun c => ((if p c = 1#1 then f c else g c : ℝ) : EReal) := fun i => by
  show (if m i = 1#1 then x i else y i) = (((if p (co i) = 1#1 then f (co i) else g (co i)) : ℝ) : EReal)
  rw [hm i, hx i, hy i]
  by_cases h : p (co i) = 1#1
  · rw [if_pos h, if_pos h]
  · rw [if_neg h, if_neg h]

/-- A selection whose mask is a decided condition. -/
theorem At.selectP {m : IVec s 1} {x y : s.Idx → EReal} {p : (ℕ → ℕ) → Prop} [∀ c, Decidable (p c)] {f g : (ℕ → ℕ) → ℝ}
    (hm : At m fun c => if p c then 1#1 else 0#1)
    (hx : At x fun c => ((f c : ℝ) : EReal)) (hy : At y fun c => ((g c : ℝ) : EReal)) :
    At (Idealize.ShloMosaic.select m x y) fun c => ((if p c then f c else g c : ℝ) : EReal) :=
  (At.select hm hx hy).congr fun i => by by_cases h : p (co i) <;> simp [h]

theorem At.cmpi {w : ℕ} {p : CmpIPredicate} {x y : IVec s w} {f g : (ℕ → ℕ) → BitVec w} (hx : At x f) (hy : At y g) :
    At (cmpi p x y) fun c => IntOp.cmpi p (f c) (g c) := fun i => by show IntOp.cmpi p (x i) (y i) = _; rw [hx i, hy i]
theorem At.addi {w : ℕ} {x y : IVec s w} {f g : (ℕ → ℕ) → BitVec w} (hx : At x f) (hy : At y g) :
    At (addi x y) fun c => f c + g c := fun i => by show x i + y i = _; rw [hx i, hy i]
theorem At.andi {w : ℕ} {x y : IVec s w} {f g : (ℕ → ℕ) → BitVec w} (hx : At x f) (hy : At y g) :
    At (andi x y) fun c => f c &&& g c := fun i => by show x i &&& y i = _; rw [hx i, hy i]
theorem At.selectI {w : ℕ} {m : IVec s 1} {x y : IVec s w} {p : (ℕ → ℕ) → BitVec 1} {f g : (ℕ → ℕ) → BitVec w} (hm : At m p)
    (hx : At x f) (hy : At y g) : At (Idealize.ShloMosaic.select m x y) fun c => if p c = 1#1 then f c else g c := fun i => by
  show Scalar.select (m i) (x i) (y i) = _
  rw [hm i, hx i, hy i]; rfl

end Float

section Shapes
variable {s t : Shape} {α : Type} {x : s.Idx → α} {f : (ℕ → ℕ) → α}

theorem At.broadcastTo {h : s.Broadcasts t} (hx : At x f) : At (broadcastTo t x h)
    (fun c => f (fun d => if hd : d < s.rank then (if s.size ⟨d, hd⟩ = 1 then 0 else c (d + (t.rank - s.rank))) else 0)) := by
  refine hx.reMap (fun i d hd => ?_) (fun c d hd => dif_neg hd)
  rw [dif_pos hd]
  by_cases h1 : s.size ⟨d, hd⟩ = 1
  · rw [dif_pos h1, if_pos h1]
  · rw [dif_neg h1, if_neg h1]
    have hlt : d + (t.rank - s.rank) < t.rank := by have := h.1; omega
    rw [co_of_lt _ _ hlt]

theorem At.broadcastInDim {dims : Fin s.rank → Fin t.rank} {h : s.BroadcastsInDim t dims} (hx : At x f) :
    At (broadcastInDim t dims h x)
    (fun c => f (fun d => if hd : d < s.rank then (if s.size ⟨d, hd⟩ = 1 then 0 else c (dims ⟨d, hd⟩).val) else 0)) := by
  refine hx.reMap (fun i d hd => ?_) (fun c d hd => dif_neg hd)
  rw [dif_pos hd]
  by_cases h1 : s.size ⟨d, hd⟩ = 1
  · rw [dif_pos h1, if_pos h1]
  · rw [dif_neg h1, if_neg h1, co_of_lt _ _ (dims ⟨d, hd⟩).isLt]

theorem At.slice {off : Fin s.rank → ℕ} {h : s.Slices off t} (hx : At x f) : At (extractStridedSlice t off x h)
    (fun c => f (fun d => if hd : d < s.rank then off ⟨d, hd⟩ + c d else 0)) := by
  refine hx.reMap (fun i d hd => ?_) (fun c d hd => dif_neg hd)
  rw [dif_pos hd]
  have ht : d < t.rank := by have := h.1; omega
  rw [co_of_lt _ _ ht]; rfl

theorem At.transpose {perm : List (Fin s.rank)} {h : s.Transposes perm t} (hx : At x f) : At (transpose t perm x h)
    (fun c => f (fun d => if hd : d < s.rank then c (perm.idxOf ⟨d, hd⟩) else 0)) := by
  refine hx.reMap (fun i d hd => ?_) (fun c d hd => dif_neg hd)
  rw [dif_pos hd]
  have ha : perm.idxOf (⟨d, hd⟩ : Fin s.rank) < perm.length := List.idxOf_lt_length_iff.2 (h.1.mem_iff.2 (List.mem_finRange _))
  have ht : perm.idxOf (⟨d, hd⟩ : Fin s.rank) < t.rank := by rw [h.2.1]; exact ha
  rw [co_of_lt _ _ ht]; rfl

theorem At.rowsOfParity {p : Fin 2} {h : s.Bitcasts 16 t 32} (hx : At x f) : At (rowsOfParity p t x h)
    (fun c => f (fun d => if d < s.rank then (if d + 2 = s.rank then 2 * c d + p.val else c d) else 0)) := by
  refine hx.reMap (fun i d hd => ?_) (fun c d hd => if_neg hd)
  rw [if_pos hd]
  have ht : d < t.rank := by have := h.1; omega
  by_cases h2 : d + 2 = s.rank
  · rw [dif_pos h2, if_pos h2, co_of_lt _ _ ht]; rfl
  · rw [dif_neg h2, if_neg h2, co_of_lt _ _ ht]; rfl

theorem At.iota {κ : Kind} {w : ℕ} {d : Fin s.rank} {h : s.Iotas κ w [d]} : At (iota κ s w [d] h) (fun c => BitVec.ofNat w (c d.val)) := fun i => by
  show BitVec.ofNat w (0 * s.size d + (i d).val) = BitVec.ofNat w (co i d.val)
  rw [co_of_lt _ _ d.isLt, Nat.zero_mul, Nat.zero_add]
theorem At.iotaInDim {w : ℕ} {d : Fin s.rank} : At (iotaInDim s w d) (fun c => BitVec.ofNat w (c d.val)) := fun i => by
  show _ = BitVec.ofNat w (co i d.val)
  rw [co_of_lt _ _ d.isLt]; rfl

/-- A reshape, by a map of the coordinates that keeps the row-major number. -/
theorem At.shapeCast {h : s.ShapeCasts t} (hx : At x f) {g : (ℕ → ℕ) → α}
    (hg : ∀ (i : s.Idx) (j : t.Idx), (s.rowMajor i).val = (t.rowMajor j).val → f (co i) = g (co j)) : At (shapeCast t x h) g := fun j => by
  show x (Shape.reshapeEquiv h j) = _
  rw [hx]; exact hg _ _ (by rw [Shape.rowMajor_reshapeEquiv h j])

theorem At.shapeCast_self {h : s.ShapeCasts s} (hx : At x f) : At (Idealize.ShloMosaic.shapeCast s x h) f :=
  hx.shapeCast fun i j e => by rw [s.rowMajor.injective (Fin.ext e)]

theorem At.dynamicGather {a : Fin s.rank} {idx : IVec s 32} {n : (ℕ → ℕ) → BitVec 32} (hx : At x f) (hi : At idx n) :
    At (dynamicGather a x idx) (fun c => f (fun d => if d = a.val then (n c).toNat % s.size a else c d)) := by
  intro i
  show x _ = _
  rw [hx]
  congr 1; funext d
  by_cases hd : d < s.rank
  · rw [co_of_lt _ _ hd]
    by_cases h : d = a.val
    · subst h; rw [if_pos rfl, if_pos rfl, ← hi i]
    · rw [if_neg (fun e => h (congrArg Fin.val e)), if_neg h, co_of_lt _ _ hd]
  · rw [co_of_ge _ _ hd, if_neg (fun e => hd (by have := a.isLt; omega)), co_of_ge _ _ hd]

end Shapes

section Concat
variable {t : Shape}

/-- The coordinates less `n` along one axis. -/
def back (a n : ℕ) (c : ℕ → ℕ) : ℕ → ℕ := fun d => if d = a then c a - n else c d

theorem At.interleaveRows {s t : Shape} {α : Type} {lo hi : t.Idx → α} {f g : (ℕ → ℕ) → α} {h : s.Bitcasts 16 t 32}
    (hlo : At lo f) (hhi : At hi g) (h2 : 2 ≤ s.rank) : At (interleaveRows s lo hi h)
    (fun c => if c (s.rank - 2) % 2 = 0 then f (fun d => if d < s.rank then (if d + 2 = s.rank then c d / 2 else c d) else 0)
      else g (fun d => if d < s.rank then (if d + 2 = s.rank then c d / 2 else c d) else 0)) := by
  intro i
  have hr : s.row i = co i (s.rank - 2) := by
    unfold Shape.row; rw [dif_pos h2, co_of_lt _ _ (by omega)]; rfl
  show (if s.row i % 2 = 0 then lo _ else hi _) = _
  rw [hr, hlo, hhi]
  have : ∀ j : t.Idx, (∀ d (hd : d < t.rank), (j ⟨d, hd⟩).val = if d + 2 = s.rank then co i d / 2 else co i d) →
      co j = (fun d => if d < s.rank then (if d + 2 = s.rank then co i d / 2 else co i d) else 0) := by
    intro j hj
    funext d
    have hst := h.1
    by_cases hd : d < t.rank
    · have hs : d < s.rank := by omega
      rw [co_of_lt _ _ hd, hj d hd, if_pos hs]
    · have hs : ¬ d < s.rank := by omega
      rw [co_of_ge _ _ hd, if_neg hs]
  rw [this]
  intro d hd
  have hst := h.1
  have hs : d < s.rank := by omega
  by_cases hb : d + 2 = s.rank
  · rw [if_pos hb, co_of_lt _ _ hs]; rw [dif_pos (show (Fin.cast h.1 ⟨d, hd⟩).val + 2 = s.rank from hb)]; rfl
  · rw [if_neg hb, co_of_lt _ _ hs]; rw [dif_neg (show ¬ (Fin.cast h.1 ⟨d, hd⟩).val + 2 = s.rank from hb)]; rfl

/-- The pieces of a concatenation read one after another. -/
theorem concatAt_one {s : Shape} {α : Type} {a : Fin t.rank} {x : s.Idx → α} {f : (ℕ → ℕ) → α} (hx : At x f) (j : t.Idx)
    (hs : ∀ s' ∈ ([⟨s, x⟩] : List ((s : Shape) × (s.Idx → α))).map (·.1), s'.FitsOff t a) (c : ℕ)
    (hc : c < (axisSizes t a [⟨s, x⟩]).sum) :
    concatenateAt t a j [⟨s, x⟩] hs c hc = f (fun d => if d = a.val then c else co j d) := by
  have hr : s.rank = t.rank := (hs s List.mem_cons_self).rank_eq
  rw [concatenateAt_singleton, hx]
  congr 1; funext d
  rw [show ∀ (k : s.Idx), Shape.Idx.norm k = k from fun k => rfl]
  by_cases hd : d < s.rank
  · rw [co_of_lt _ _ hd]
    show (if d = a.val then c else _) = _
    by_cases h : d = a.val
    · rw [if_pos h, if_pos h]
    · rw [if_neg h, if_neg h, co_of_lt _ _ (hr ▸ hd)]; rfl
  · rw [co_of_ge _ _ hd, if_neg (by have := a.isLt; omega), co_of_ge _ _ (hr ▸ hd)]

theorem concatAt_cons {s : Shape} {α : Type} {a : Fin t.rank} {x : s.Idx → α} {f : (ℕ → ℕ) → α} (hx : At x f) (j : t.Idx)
    (q : (s : Shape) × (s.Idx → α)) (xs : List ((s : Shape) × (s.Idx → α)))
    (hs : ∀ s' ∈ (⟨s, x⟩ :: q :: xs : List ((s : Shape) × (s.Idx → α))).map (·.1), s'.FitsOff t a) (c : ℕ)
    (hc : c < (axisSizes t a (⟨s, x⟩ :: q :: xs)).sum) {n : ℕ} (hn : ∀ h, s.size ⟨a.val, h⟩ = n) {r : α}
    (hrest : ∀ hs' hc', concatenateAt t a j (q :: xs) hs' (c - n) hc' = r) :
    concatenateAt t a j (⟨s, x⟩ :: q :: xs) hs c hc = if c < n then f (fun d => if d = a.val then c else co j d) else r := by
  have hr : s.rank = t.rank := (hs s List.mem_cons_self).rank_eq
  rw [concatenateAt_cons]
  have hsz : s.size (a.cast (hs s List.mem_cons_self).rank_eq.symm) = n := hn _
  by_cases hlt : c < n
  · rw [dif_pos (hsz.symm ▸ hlt), if_pos hlt, hx]
    congr 1; funext d
    rw [show ∀ (k : s.Idx), Shape.Idx.norm k = k from fun k => rfl]
    by_cases hd : d < s.rank
    · rw [co_of_lt _ _ hd]
      show (if d = a.val then c else _) = _
      by_cases h : d = a.val
      · rw [if_pos h, if_pos h]
      · rw [if_neg h, if_neg h, co_of_lt _ _ (hr ▸ hd)]; rfl
    · rw [co_of_ge _ _ hd, if_neg (by have := a.isLt; omega), co_of_ge _ _ (hr ▸ hd)]
  · rw [dif_neg (hsz.symm ▸ hlt), if_neg hlt]
    subst hsz
    exact hrest _ _

variable {α : Type} {a : Fin t.rank} {s₁ s₂ s₃ s₄ : Shape} {x₁ : s₁.Idx → α} {x₂ : s₂.Idx → α} {x₃ : s₃.Idx → α} {x₄ : s₄.Idx → α}

theorem At.concat2 {f₁ f₂ : (ℕ → ℕ) → α} {h : Shape.Concatenates (([⟨s₁, x₁⟩, ⟨s₂, x₂⟩] : List ((s : Shape) × (s.Idx → α))).map (·.1)) t a} {n₁ : ℕ}
    (h₁ : At x₁ f₁) (h₂ : At x₂ f₂) (e₁ : ∀ h, s₁.size ⟨a.val, h⟩ = n₁) : At (concatenate t a [⟨s₁, x₁⟩, ⟨s₂, x₂⟩] h)
    (fun c => if c a.val < n₁ then f₁ c else f₂ (back a.val n₁ c)) := fun j => by
  rw [concatenate_cons_apply, concatAt_cons h₁ j _ _ _ _ _ e₁ (fun hs' hc' => concatAt_one h₂ j hs' _ hc')]
  have e : co j a.val = (j a).val := co_of_lt _ _ a.isLt
  dsimp only
  rw [e]
  congr 1
  · congr 1; funext d; by_cases hd : d = a.val <;> simp [hd, e]
  · congr 1; funext d; by_cases hd : d = a.val <;> simp [back, hd, e]

theorem At.concat3 {f₁ f₂ f₃ : (ℕ → ℕ) → α} {h : Shape.Concatenates (([⟨s₁, x₁⟩, ⟨s₂, x₂⟩, ⟨s₃, x₃⟩] : List ((s : Shape) × (s.Idx → α))).map (·.1)) t a} {n₁ n₂ : ℕ}
    (h₁ : At x₁ f₁) (h₂ : At x₂ f₂) (h₃ : At x₃ f₃) (e₁ : ∀ h, s₁.size ⟨a.val, h⟩ = n₁) (e₂ : ∀ h, s₂.size ⟨a.val, h⟩ = n₂) :
    At (concatenate t a [⟨s₁, x₁⟩, ⟨s₂, x₂⟩, ⟨s₃, x₃⟩] h)
    (fun c => if c a.val < n₁ then f₁ c else if c a.val - n₁ < n₂ then f₂ (back a.val n₁ c) else f₃ (back a.val n₂ (back a.val n₁ c))) := fun j => by
  rw [concatenate_cons_apply, concatAt_cons h₁ j _ _ _ _ _ e₁ (fun hs' hc' => concatAt_cons h₂ j _ _ hs' _ hc' e₂
    (fun hs' hc' => concatAt_one h₃ j hs' _ hc'))]
  have e : co j a.val = (j a).val := co_of_lt _ _ a.isLt
  dsimp only
  rw [e]
  congr 1
  · congr 1; funext d; by_cases hd : d = a.val <;> simp [hd, e]
  · congr 1
    · congr 1; funext d; by_cases hd : d = a.val <;> simp [back, hd, e]
    · congr 1; funext d; by_cases hd : d = a.val <;> simp [back, hd, e]

theorem At.concat4 {f₁ f₂ f₃ f₄ : (ℕ → ℕ) → α} {h : Shape.Concatenates (([⟨s₁, x₁⟩, ⟨s₂, x₂⟩, ⟨s₃, x₃⟩, ⟨s₄, x₄⟩] : List ((s : Shape) × (s.Idx → α))).map (·.1)) t a} {n₁ n₂ n₃ : ℕ}
    (h₁ : At x₁ f₁) (h₂ : At x₂ f₂) (h₃ : At x₃ f₃) (h₄ : At x₄ f₄) (e₁ : ∀ h, s₁.size ⟨a.val, h⟩ = n₁) (e₂ : ∀ h, s₂.size ⟨a.val, h⟩ = n₂)
    (e₃ : ∀ h, s₃.size ⟨a.val, h⟩ = n₃) :
    At (concatenate t a [⟨s₁, x₁⟩, ⟨s₂, x₂⟩, ⟨s₃, x₃⟩, ⟨s₄, x₄⟩] h)
    (fun c => if c a.val < n₁ then f₁ c else if c a.val - n₁ < n₂ then f₂ (back a.val n₁ c) else
      if c a.val - n₁ - n₂ < n₃ then f₃ (back a.val n₂ (back a.val n₁ c)) else f₄ (back a.val n₃ (back a.val n₂ (back a.val n₁ c)))) := fun j => by
  rw [concatenate_cons_apply, concatAt_cons h₁ j _ _ _ _ _ e₁ (fun hs' hc' => concatAt_cons h₂ j _ _ hs' _ hc' e₂
    (fun hs' hc' => concatAt_cons h₃ j _ _ hs' _ hc' e₃ (fun hs' hc' => concatAt_one h₄ j hs' _ hc')))]
  have e : co j a.val = (j a).val := co_of_lt _ _ a.isLt
  dsimp only
  rw [e]
  congr 1
  · congr 1; funext d; by_cases hd : d = a.val <;> simp [hd, e]
  · congr 1
    · congr 1; funext d; by_cases hd : d = a.val <;> simp [back, hd, e]
    · congr 1
      · congr 1; funext d; by_cases hd : d = a.val <;> simp [back, hd, e]
      · congr 1; funext d; by_cases hd : d = a.val <;> simp [back, hd, e]

end Concat

section Dot

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product with a contracted coordinate, from its reading as a sum over that coordinate. -/
theorem At.dot {sl sr so : Shape} {K : ℕ} {z : so.Idx → EReal} {acc : so.Idx → EReal} {x : sl.Idx → EReal} {y : sr.Idx → EReal}
    {l : so.Idx → Fin K → sl.Idx} {r : so.Idx → Fin K → sr.Idx}
    {f g : (ℕ → ℕ) → ℝ} (hx : At x fun c => ((f c : ℝ) : EReal)) (hy : At y fun c => ((g c : ℝ) : EReal))
    {F G : (ℕ → ℕ) → ℕ → ℝ} (hz : ∀ j, z j = acc j + ∑ k : Fin K, x (l j k) * y (r j k)) (hacc : ∀ j, acc j = 0)
    (hF : ∀ j (k : Fin K), f (co (l j k)) = F (co j) k.val) (hG : ∀ j (k : Fin K), g (co (r j k)) = G (co j) k.val) :
    At z fun c => ((∑ k ∈ Finset.range K, F c k * G c k : ℝ) : EReal) := fun j => by
  show z j = ((∑ k ∈ Finset.range K, F (co j) k * G (co j) k : ℝ) : EReal)
  rw [hz j, hacc, zero_add, Finset.sum_range]
  have : ∀ k : Fin K, x (l j k) * y (r j k) = ((F (co j) k.val * G (co j) k.val : ℝ) : EReal) := fun k => by
    rw [hx, hy]; dsimp only; rw [hF, hG, EReal.coe_mul]
  rw [Finset.sum_congr rfl fun k _ => this k]
  exact (coe_sum _ _).symm

end Dot

end Cert.Lift

end
-- ==== Proof.KI.Elim0.lean ====
/-
Forward elimination in four 32-row blocks side by side: one step of it, as the kernel computes it on groups of eight rows.
-/
module

public import proofs.«01_k».proof.Proof.Lift

@[expose] public section

noncomputable section

namespace Cert.Lift

open Idealize.ShloMosaic Idealize.ShloMosaic.ValueIdx

/-- The rows after `J` steps, from the identity: step `J` subtracts row `J`, times the entry of column `J` of the lane's block. -/
def el (A : ℕ → ℕ → ℝ) : ℕ → ℕ → ℕ → ℝ
  | 0, r, l => if l % 32 = r then 1 else 0
  | J + 1, r, l => el A J r l - A r (l / 32 * 32 + J) * el A J J l

variable (A : ℕ → ℕ → ℝ)

/-- Group `ρ` of the rows after `J` steps. -/
def GD (J ρ : ℕ) (c : ℕ → ℕ) : EReal := ((el A J (8 * ρ + c 0) (c 1) : ℝ) : EReal)
/-- Group `ρ` of the coefficients. -/
def GA (ρ : ℕ) (c : ℕ → ℕ) : EReal := ((A (8 * ρ + c 0) (c 1) : ℝ) : EReal)
/-- Group `ρ` of the coefficients of step `J`. -/
def GC (J ρ : ℕ) (c : ℕ → ℕ) : EReal := ((A (8 * ρ + c 0) (c 1 / 32 * 32 + J) : ℝ) : EReal)
/-- Row `J` after `J` steps. -/
def GR (J : ℕ) (c : ℕ → ℕ) : EReal := ((el A J J (c 1) : ℝ) : EReal)
/-- What step `J` subtracts from group `ρ`. -/
def GP (J ρ : ℕ) (c : ℕ → ℕ) : EReal := ((A (8 * ρ + c 0) (c 1 / 32 * 32 + J) * el A J J (c 1) : ℝ) : EReal)
/-- The lane. -/
def GN (c : ℕ → ℕ) : BitVec 32 := BitVec.ofNat 32 (c 1)
/-- The first lane of the lane's block. -/
def GB (c : ℕ → ℕ) : BitVec 32 := BitVec.ofNat 32 (c 1 / 32 * 32)
/-- Lane `J` of the lane's block. -/
def GI (J : ℕ) (c : ℕ → ℕ) : BitVec 32 := BitVec.ofNat 32 (c 1 / 32 * 32 + J)
/-- The same, with the lanes' number added. -/
def GW (J : ℕ) (c : ℕ → ℕ) : BitVec 32 := BitVec.ofNat 32 (c 1 / 32 * 32 + J + 128)
/-- No lane. -/
def GZ (_ : ℕ → ℕ) : BitVec 1 := 0#1

/-- The shapes of a group, of a row and of a group with a unit axis. -/
abbrev T8 : Shape := ⟨2, ![8, 128]⟩
abbrev T1 : Shape := ⟨2, ![1, 128]⟩
abbrev T81 : Shape := ⟨3, ![8, 128, 1]⟩

variable {A}

theorem el_step {J ρ : ℕ} {D p : FVec Ideal T8 .f32} (hD : At D (GD A J ρ)) (hp : At p (GP A J ρ)) :
    At (subf D p) (GD A (J + 1) ρ) := hD.subf hp
theorem el_prod {J ρ : ℕ} {q w : FVec Ideal T8 .f32} (hq : At q (GC A J ρ)) (hw : At w (GR A J)) : At (mulf q w) (GP A J ρ) := hq.mulf hw

theorem lane_lt {c : T8.Idx} : co c 1 < 128 := by
  have h := co_lt c 1 (by decide); change _ < 128 at h; exact h

theorem el_coef {J ρ : ℕ} {a : FVec Ideal T8 .f32} {n : IVec T8 32} (ha : At a (GA A ρ)) (hn : At n (GI J)) (hJ : J < 32) :
    At (dynamicGather 1 a n) (GC A J ρ) := (ha.dynamicGather hn).congr fun i => by
  have h := @lane_lt i
  have e : (GI J (co i)).toNat % 128 = co i 1 / 32 * 32 + J := by
    unfold GI; rw [BitVec.toNat_ofNat]; omega
  show ((A (8 * ρ + co i 0) ((GI J (co i)).toNat % 128) : ℝ) : EReal) = _
  rw [e]; rfl

theorem el_pick {J : ℕ} {m : IVec T8 1} {w n : IVec T8 32} (hm : At m GZ) (hn : At n (GI J)) : At (select m w n) (GI J) := fun i => by
  show Scalar.select (m i) (w i) (n i) = _
  rw [hm i, hn i]; rfl
theorem el_neg {J : ℕ} {n : IVec T8 32} (hn : At n (GI J)) (hJ : J < 32) : At (cmpi .slt n (broadcast T8 0#32)) GZ := fun i => by
  have h := @lane_lt i
  show IntOp.cmpi .slt (n i) 0#32 = 0#1
  rw [hn i]
  have : ∀ a : ℕ, a < 128 → IntOp.cmpi .slt (BitVec.ofNat 32 a) 0#32 = 0#1 := by decide
  exact this _ (by omega)
theorem el_wrap {J : ℕ} {n : IVec T8 32} (hn : At n (GI J)) : At (addi n (broadcast T8 128#32)) (GW J) := fun i => by
  show n i + 128#32 = _
  rw [hn i]; exact (BitVec.ofNat_add _ 128).symm
theorem el_idx {J : ℕ} {n : IVec T8 32} (hn : At n GB) : At (addi n (broadcast T8 (BitVec.ofNat 32 J))) (GI J) := fun i => by
  show n i + BitVec.ofNat 32 J = _
  rw [hn i]; exact (BitVec.ofNat_add _ J).symm
theorem el_block {n : IVec T8 32} (hn : At n GN) : At (andi n (broadcast T8 4294967264#32)) GB := fun i => by
  have h := @lane_lt i
  show n i &&& 4294967264#32 = BitVec.ofNat 32 (co i 1 / 32 * 32)
  rw [hn i]
  have : ∀ a : ℕ, a < 128 → BitVec.ofNat 32 a &&& 4294967264#32 = BitVec.ofNat 32 (a / 32 * 32) := by decide
  exact this _ h

theorem el_cast1 {J : ℕ} {n : IVec T8 32} {h : T8.ShapeCasts T81} (hn : At n (GI J)) : At (shapeCast T81 n h) (GI J) :=
  hn.shapeCast fun i j e => by
    rw [Shape.rowMajor_val_two, Shape.rowMajor_val_three] at e
    have e1 : co i 1 = co j 1 := by
      have a1 := (i 1).isLt; have a2 := (j 1).isLt; have a3 := (j 2).isLt
      rw [co_of_lt i 1 (by decide), co_of_lt j 1 (by decide)]
      change (i 0).val * 128 + (i 1).val = ((j 0).val * 128 + (j 1).val) * 1 + (j 2).val at e
      change (i 1).val < 128 at a1; change (j 1).val < 128 at a2; change (j 2).val < 1 at a3
      change (i 1).val = (j 1).val
      omega
    unfold GI; rw [e1]
theorem el_cast2 {J : ℕ} {n : IVec T81 32} {h : T81.ShapeCasts T8} (hn : At n (GI J)) : At (shapeCast T8 n h) (GI J) :=
  hn.shapeCast fun j i e => by
    rw [Shape.rowMajor_val_two, Shape.rowMajor_val_three] at e
    have e1 : co j 1 = co i 1 := by
      have a1 := (i 1).isLt; have a2 := (j 1).isLt; have a3 := (j 2).isLt
      rw [co_of_lt i 1 (by decide), co_of_lt j 1 (by decide)]
      change ((j 0).val * 128 + (j 1).val) * 1 + (j 2).val = (i 0).val * 128 + (i 1).val at e
      change (i 1).val < 128 at a1; change (j 1).val < 128 at a2; change (j 2).val < 1 at a3
      change (j 1).val = (i 1).val
      omega
    unfold GI; rw [e1]

theorem el_row {J ρ r : ℕ} {D : FVec Ideal T8 .f32} {h : T8.Slices ![r, 0] T1} (hD : At D (GD A J ρ)) (hJ : J = 8 * ρ + r) :
    At (extractStridedSlice T1 ![r, 0] D h) (GR A J) := hD.slice.congr fun i => by
  have : co i 0 = 0 := by have := co_lt i 0 (by decide); change _ < 1 at this; omega
  show ((el A J (8 * ρ + (r + co i 0)) (0 + co i 1) : ℝ) : EReal) = _
  rw [this, hJ, Nat.zero_add]; rfl
theorem el_rowCast {J : ℕ} {D : FVec Ideal T1 .f32} {h : T1.ShapeCasts T1} (hD : At D (GR A J)) : At (shapeCast T1 D h) (GR A J) := hD.shapeCast_self
theorem el_spread {J : ℕ} {D : FVec Ideal T1 .f32} {h : T1.Broadcasts T8} (hD : At D (GR A J)) : At (broadcastTo T8 D h) (GR A J) :=
  hD.broadcastTo.congr fun i => rfl

/-- A strictly lower block: what is left after more steps than the row's number does not change. -/
theorem el_stable (hA : ∀ r l j, r ≤ j → j < 32 → A r (l / 32 * 32 + j) = 0) (r l : ℕ) (J : ℕ) (hr : r ≤ J) : ∀ n, J + n ≤ 32 →
    el A (J + n) r l = el A J r l
  | 0, _ => rfl
  | n + 1, h => by
    show el A (J + n) r l - A r (l / 32 * 32 + (J + n)) * el A (J + n) (J + n) l = _
    rw [hA r l (J + n) (by omega) (by omega), zero_mul, sub_zero]
    exact el_stable hA r l J hr n (by omega)

/-- The rows after `J` steps, from the rows at the end. -/
theorem el_eq (hA : ∀ r l j, r ≤ j → j < 32 → A r (l / 32 * 32 + j) = 0) (r l : ℕ) : ∀ J, J ≤ 31 →
    el A J r l = (if l % 32 = r then 1 else 0) - ∑ j ∈ Finset.range J, A r (l / 32 * 32 + j) * el A 31 j l
  | 0, _ => by simp [el]
  | J + 1, h => by
    show el A J r l - _ = _
    rw [el_eq hA r l J (by omega), Finset.sum_range_succ]
    have : el A 31 J l = el A J J l := by
      have := el_stable hA J l J le_rfl (31 - J) (by omega)
      rwa [show J + (31 - J) = 31 by omega] at this
    rw [this]; ring

end Cert.Lift

end
-- ==== Proof.KI.Elim.lean ====
/-
The forward elimination, payload by payload.
-/
module

public import proofs.«01_k».proof.Proof.KI.Elim0
public import proofs.«01_k».proof.Proof.KI.Base

@[expose] public section

set_option maxRecDepth 16384

noncomputable section

namespace Cert.KernelIdeal.Hand

open Idealize.ShloMosaic Idealize.ShloMosaic.ValueIdx Cert.KernelIdeal.Gen Cert.Lift

variable {A : ℕ → ℕ → ℝ}

theorem pay46_at {v192 : FVec Ideal S8x128 .f32} (hv192 : At v192 (GD A 0 0)) : At (k0_pay46 v192) (GR A 0) := by
  unfold k0_pay46; exact (el_spread (el_rowCast (el_row hv192 (by rfl))))
theorem pay47_at {v16 : IVec S8x128 32} (hv16 : At v16 GN) : At (k0_pay47 v16) (GI 0) := by
  unfold k0_pay47; exact (el_idx (el_block hv16))
theorem pay48_at {v16 : IVec S8x128 32} {v181 : FVec Ideal S8x128 .f32} {v192 : FVec Ideal S8x128 .f32} (hv16 : At v16 GN) (hv181 : At v181 (GA A 0)) (hv192 : At v192 (GD A 0 0)) : At (k0_pay48 v16 v181 v192) (GD A 1 0) := by
  unfold k0_pay48; exact (el_step hv192 (el_prod (el_coef hv181 (el_cast2 (el_cast1 (el_pick (el_neg (pay47_at hv16) (by decide)) (pay47_at hv16)))) (by decide)) (pay46_at hv192)))
theorem pay49_at {v16 : IVec S8x128 32} {v182 : FVec Ideal S8x128 .f32} {v192 : FVec Ideal S8x128 .f32} {v200 : FVec Ideal S8x128 .f32} (hv16 : At v16 GN) (hv182 : At v182 (GA A 1)) (hv192 : At v192 (GD A 0 0)) (hv200 : At v200 (GD A 0 1)) : At (k0_pay49 v16 v182 v192 v200) (GD A 1 1) := by
  unfold k0_pay49; exact (el_step hv200 (el_prod (el_coef hv182 (el_cast2 (el_cast1 (el_pick (el_neg (pay47_at hv16) (by decide)) (pay47_at hv16)))) (by decide)) (pay46_at hv192)))
theorem pay50_at {v16 : IVec S8x128 32} {v183 : FVec Ideal S8x128 .f32} {v192 : FVec Ideal S8x128 .f32} {v208 : FVec Ideal S8x128 .f32} (hv16 : At v16 GN) (hv183 : At v183 (GA A 2)) (hv192 : At v192 (GD A 0 0)) (hv208 : At v208 (GD A 0 2)) : At (k0_pay50 v16 v183 v192 v208) (GD A 1 2) := by
  unfold k0_pay50; exact (el_step hv208 (el_prod (el_coef hv183 (el_cast2 (el_cast1 (el_pick (el_neg (pay47_at hv16) (by decide)) (pay47_at hv16)))) (by decide)) (pay46_at hv192)))
theorem pay51_at {v16 : IVec S8x128 32} {v184 : FVec Ideal S8x128 .f32} {v192 : FVec Ideal S8x128 .f32} {v213 : IVec S8x128 1} {cst_58 : Ideal .f32} {cst_59 : Ideal .f32} (hv16 : At v16 GN) (hv184 : At v184 (GA A 3)) (hv192 : At v192 (GD A 0 0)) (hv216 : At (select v213 (broadcast S8x128 cst_58) (broadcast S8x128 cst_59)) (GD A 0 3)) : At (k0_pay51 v16 v184 v192 v213 cst_58 cst_59) (GD A 1 3) := by
  unfold k0_pay51; exact (el_step hv216 (el_prod (el_coef hv184 (el_cast2 (el_cast1 (el_pick (el_neg (pay47_at hv16) (by decide)) (pay47_at hv16)))) (by decide)) (pay46_at hv192)))
theorem pay52_at {v233 : FVec Ideal S8x128 .f32} (hv233 : At v233 (GD A 1 0)) : At (k0_pay52 v233) (GR A 1) := by
  unfold k0_pay52; exact (el_spread (el_rowCast (el_row hv233 (by rfl))))
theorem pay53_at {v16 : IVec S8x128 32} (hv16 : At v16 GN) : At (k0_pay53 v16) (GI 1) := by
  unfold k0_pay53; exact (el_idx (el_block hv16))
theorem pay54_at {v16 : IVec S8x128 32} {v181 : FVec Ideal S8x128 .f32} {v233 : FVec Ideal S8x128 .f32} (hv16 : At v16 GN) (hv181 : At v181 (GA A 0)) (hv233 : At v233 (GD A 1 0)) : At (k0_pay54 v16 v181 v233) (GD A 2 0) := by
  unfold k0_pay54; exact (el_step hv233 (el_prod (el_coef hv181 (el_cast2 (el_cast1 (el_pick (el_neg (pay53_at hv16) (by decide)) (pay53_at hv16)))) (by decide)) (pay52_at hv233)))
theorem pay55_at {v16 : IVec S8x128 32} {v182 : FVec Ideal S8x128 .f32} {v233 : FVec Ideal S8x128 .f32} {v243 : FVec Ideal S8x128 .f32} (hv16 : At v16 GN) (hv182 : At v182 (GA A 1)) (hv233 : At v233 (GD A 1 0)) (hv243 : At v243 (GD A 1 1)) : At (k0_pay55 v16 v182 v233 v243) (GD A 2 1) := by
  unfold k0_pay55; exact (el_step hv243 (el_prod (el_coef hv182 (el_cast2 (el_cast1 (el_pick (el_neg (pay53_at hv16) (by decide)) (pay53_at hv16)))) (by decide)) (pay52_at hv233)))
theorem pay56_at {v16 : IVec S8x128 32} {v183 : FVec Ideal S8x128 .f32} {v233 : FVec Ideal S8x128 .f32} {v253 : FVec Ideal S8x128 .f32} (hv16 : At v16 GN) (hv183 : At v183 (GA A 2)) (hv233 : At v233 (GD A 1 0)) (hv253 : At v253 (GD A 1 2)) : At (k0_pay56 v16 v183 v233 v253) (GD A 2 2) := by
  unfold k0_pay56; exact (el_step hv253 (el_prod (el_coef hv183 (el_cast2 (el_cast1 (el_pick (el_neg (pay53_at hv16) (by decide)) (pay53_at hv16)))) (by decide)) (pay52_at hv233)))
theorem pay57_at {v16 : IVec S8x128 32} {v184 : FVec Ideal S8x128 .f32} {v233 : FVec Ideal S8x128 .f32} {v263 : FVec Ideal S8x128 .f32} (hv16 : At v16 GN) (hv184 : At v184 (GA A 3)) (hv233 : At v233 (GD A 1 0)) (hv263 : At v263 (GD A 1 3)) : At (k0_pay57 v16 v184 v233 v263) (GD A 2 3) := by
  unfold k0_pay57; exact (el_step hv263 (el_prod (el_coef hv184 (el_cast2 (el_cast1 (el_pick (el_neg (pay53_at hv16) (by decide)) (pay53_at hv16)))) (by decide)) (pay52_at hv233)))
theorem pay58_at {v16 : IVec S8x128 32} {v181 : FVec Ideal S8x128 .f32} {v233 : FVec Ideal S8x128 .f32} (hv16 : At v16 GN) (hv181 : At v181 (GA A 0)) (hv233 : At v233 (GD A 1 0)) : At (k0_pay58 v16 v181 v233) (GR A 2) := by
  unfold k0_pay58; exact (el_spread (el_rowCast (el_row (pay54_at hv16 hv181 hv233) (by rfl))))
theorem pay59_at {v16 : IVec S8x128 32} (hv16 : At v16 GN) : At (k0_pay59 v16) (GI 2) := by
  unfold k0_pay59; exact (el_idx (el_block hv16))
theorem pay60_at {v16 : IVec S8x128 32} {v181 : FVec Ideal S8x128 .f32} {v280 : FVec Ideal S8x128 .f32} {v313 : FVec Ideal S8x128 .f32} (hv16 : At v16 GN) (hv181 : At v181 (GA A 0)) (hv280 : At v280 (GD A 2 0)) (hv313 : At v313 (GR A 2)) : At (k0_pay60 v16 v181 v280 v313) (GD A 3 0) := by
  unfold k0_pay60; exact (el_step hv280 (el_prod (el_coef hv181 (el_cast2 (el_cast1 (el_pick (el_neg (pay59_at hv16) (by decide)) (pay59_at hv16)))) (by decide)) hv313))
theorem pay61_at {v16 : IVec S8x128 32} {v182 : FVec Ideal S8x128 .f32} {v290 : FVec Ideal S8x128 .f32} {v313 : FVec Ideal S8x128 .f32} (hv16 : At v16 GN) (hv182 : At v182 (GA A 1)) (hv290 : At v290 (GD A 2 1)) (hv313 : At v313 (GR A 2)) : At (k0_pay61 v16 v182 v290 v313) (GD A 3 1) := by
  unfold k0_pay61; exact (el_step hv290 (el_prod (el_coef hv182 (el_cast2 (el_cast1 (el_pick (el_neg (pay59_at hv16) (by decide)) (pay59_at hv16)))) (by decide)) hv313))
theorem pay62_at {v16 : IVec S8x128 32} {v183 : FVec Ideal S8x128 .f32} {v300 : FVec Ideal S8x128 .f32} {v313 : FVec Ideal S8x128 .f32} (hv16 : At v16 GN) (hv183 : At v183 (GA A 2)) (hv300 : At v300 (GD A 2 2)) (hv313 : At v313 (GR A 2)) : At (k0_pay62 v16 v183 v300 v313) (GD A 3 2) := by
  unfold k0_pay62; exact (el_step hv300 (el_prod (el_coef hv183 (el_cast2 (el_cast1 (el_pick (el_neg (pay59_at hv16) (by decide)) (pay59_at hv16)))) (by decide)) hv313))
theorem pay63_at {v16 : IVec S8x128 32} {v184 : FVec Ideal S8x128 .f32} {v310 : FVec Ideal S8x128 .f32} {v313 : FVec Ideal S8x128 .f32} (hv16 : At v16 GN) (hv184 : At v184 (GA A 3)) (hv310 : At v310 (GD A 2 3)) (hv313 : At v313 (GR A 2)) : At (k0_pay63 v16 v184 v310 v313) (GD A 3 3) := by
  unfold k0_pay63; exact (el_step hv310 (el_prod (el_coef hv184 (el_cast2 (el_cast1 (el_pick (el_neg (pay59_at hv16) (by decide)) (pay59_at hv16)))) (by decide)) hv313))
theorem pay64_at {v16 : IVec S8x128 32} {v181 : FVec Ideal S8x128 .f32} {v280 : FVec Ideal S8x128 .f32} {v313 : FVec Ideal S8x128 .f32} (hv16 : At v16 GN) (hv181 : At v181 (GA A 0)) (hv280 : At v280 (GD A 2 0)) (hv313 : At v313 (GR A 2)) : At (k0_pay64 v16 v181 v280 v313) (GR A 3) := by
  unfold k0_pay64; exact (el_spread (el_rowCast (el_row (pay60_at hv16 hv181 hv280 hv313) (by rfl))))
theorem pay65_at {v16 : IVec S8x128 32} (hv16 : At v16 GN) : At (k0_pay65 v16) GB := by
  unfold k0_pay65; exact (el_block hv16)
theorem pay66_at {v362 : IVec S8x128 32} (hv362 : At v362 GB) : At (k0_pay66 v362) (GI 3) := by
  unfold k0_pay66; exact (el_idx hv362)
theorem pay67_at {v181 : FVec Ideal S8x128 .f32} {v327 : FVec Ideal S8x128 .f32} {v360 : FVec Ideal S8x128 .f32} {v362 : IVec S8x128 32} (hv181 : At v181 (GA A 0)) (hv327 : At v327 (GD A 3 0)) (hv360 : At v360 (GR A 3)) (hv362 : At v362 GB) : At (k0_pay67 v181 v327 v360 v362) (GD A 4 0) := by
  unfold k0_pay67; exact (el_step hv327 (el_prod (el_coef hv181 (el_cast2 (el_cast1 (el_pick (el_neg (pay66_at hv362) (by decide)) (pay66_at hv362)))) (by decide)) hv360))
theorem pay68_at {v182 : FVec Ideal S8x128 .f32} {v337 : FVec Ideal S8x128 .f32} {v360 : FVec Ideal S8x128 .f32} {v362 : IVec S8x128 32} (hv182 : At v182 (GA A 1)) (hv337 : At v337 (GD A 3 1)) (hv360 : At v360 (GR A 3)) (hv362 : At v362 GB) : At (k0_pay68 v182 v337 v360 v362) (GD A 4 1) := by
  unfold k0_pay68; exact (el_step hv337 (el_prod (el_coef hv182 (el_cast2 (el_cast1 (el_pick (el_neg (pay66_at hv362) (by decide)) (pay66_at hv362)))) (by decide)) hv360))
theorem pay69_at {v183 : FVec Ideal S8x128 .f32} {v347 : FVec Ideal S8x128 .f32} {v360 : FVec Ideal S8x128 .f32} {v362 : IVec S8x128 32} (hv183 : At v183 (GA A 2)) (hv347 : At v347 (GD A 3 2)) (hv360 : At v360 (GR A 3)) (hv362 : At v362 GB) : At (k0_pay69 v183 v347 v360 v362) (GD A 4 2) := by
  unfold k0_pay69; exact (el_step hv347 (el_prod (el_coef hv183 (el_cast2 (el_cast1 (el_pick (el_neg (pay66_at hv362) (by decide)) (pay66_at hv362)))) (by decide)) hv360))
theorem pay70_at {v184 : FVec Ideal S8x128 .f32} {v357 : FVec Ideal S8x128 .f32} {v360 : FVec Ideal S8x128 .f32} {v362 : IVec S8x128 32} (hv184 : At v184 (GA A 3)) (hv357 : At v357 (GD A 3 3)) (hv360 : At v360 (GR A 3)) (hv362 : At v362 GB) : At (k0_pay70 v184 v357 v360 v362) (GD A 4 3) := by
  unfold k0_pay70; exact (el_step hv357 (el_prod (el_coef hv184 (el_cast2 (el_cast1 (el_pick (el_neg (pay66_at hv362) (by decide)) (pay66_at hv362)))) (by decide)) hv360))
theorem pay71_at {v181 : FVec Ideal S8x128 .f32} {v327 : FVec Ideal S8x128 .f32} {v360 : FVec Ideal S8x128 .f32} {v362 : IVec S8x128 32} (hv181 : At v181 (GA A 0)) (hv327 : At v327 (GD A 3 0)) (hv360 : At v360 (GR A 3)) (hv362 : At v362 GB) : At (k0_pay71 v181 v327 v360 v362) (GR A 4) := by
  unfold k0_pay71; exact (el_spread (el_rowCast (el_row (pay67_at hv181 hv327 hv360 hv362) (by rfl))))
theorem pay72_at {v16 : IVec S8x128 32} (hv16 : At v16 GN) : At (k0_pay72 v16) (GI 4) := by
  unfold k0_pay72; exact (el_idx (el_block hv16))
theorem pay73_at {v181 : FVec Ideal S8x128 .f32} {v374 : FVec Ideal S8x128 .f32} {v407 : FVec Ideal S8x128 .f32} {v411 : IVec S8x128 32} (hv181 : At v181 (GA A 0)) (hv374 : At v374 (GD A 4 0)) (hv407 : At v407 (GR A 4)) (hv411 : At v411 (GI 4)) : At (k0_pay73 v181 v374 v407 v411) (GD A 5 0) := by
  unfold k0_pay73; exact (el_step hv374 (el_prod (el_coef hv181 (el_cast2 (el_cast1 (el_pick (el_neg hv411 (by decide)) hv411))) (by decide)) hv407))
theorem pay74_at {v182 : FVec Ideal S8x128 .f32} {v384 : FVec Ideal S8x128 .f32} {v407 : FVec Ideal S8x128 .f32} {v411 : IVec S8x128 32} (hv182 : At v182 (GA A 1)) (hv384 : At v384 (GD A 4 1)) (hv407 : At v407 (GR A 4)) (hv411 : At v411 (GI 4)) : At (k0_pay74 v182 v384 v407 v411) (GD A 5 1) := by
  unfold k0_pay74; exact (el_step hv384 (el_prod (el_coef hv182 (el_cast2 (el_cast1 (el_pick (el_neg hv411 (by decide)) hv411))) (by decide)) hv407))
theorem pay75_at {v183 : FVec Ideal S8x128 .f32} {v394 : FVec Ideal S8x128 .f32} {v407 : FVec Ideal S8x128 .f32} {v411 : IVec S8x128 32} (hv183 : At v183 (GA A 2)) (hv394 : At v394 (GD A 4 2)) (hv407 : At v407 (GR A 4)) (hv411 : At v411 (GI 4)) : At (k0_pay75 v183 v394 v407 v411) (GD A 5 2) := by
  unfold k0_pay75; exact (el_step hv394 (el_prod (el_coef hv183 (el_cast2 (el_cast1 (el_pick (el_neg hv411 (by decide)) hv411))) (by decide)) hv407))
theorem pay76_at {v184 : FVec Ideal S8x128 .f32} {v404 : FVec Ideal S8x128 .f32} {v407 : FVec Ideal S8x128 .f32} {v411 : IVec S8x128 32} (hv184 : At v184 (GA A 3)) (hv404 : At v404 (GD A 4 3)) (hv407 : At v407 (GR A 4)) (hv411 : At v411 (GI 4)) : At (k0_pay76 v184 v404 v407 v411) (GD A 5 3) := by
  unfold k0_pay76; exact (el_step hv404 (el_prod (el_coef hv184 (el_cast2 (el_cast1 (el_pick (el_neg hv411 (by decide)) hv411))) (by decide)) hv407))
theorem pay77_at {v181 : FVec Ideal S8x128 .f32} {v374 : FVec Ideal S8x128 .f32} {v407 : FVec Ideal S8x128 .f32} {v411 : IVec S8x128 32} (hv181 : At v181 (GA A 0)) (hv374 : At v374 (GD A 4 0)) (hv407 : At v407 (GR A 4)) (hv411 : At v411 (GI 4)) : At (k0_pay77 v181 v374 v407 v411) (GR A 5) := by
  unfold k0_pay77; exact (el_spread (el_rowCast (el_row (pay73_at hv181 hv374 hv407 hv411) (by rfl))))
theorem pay78_at {v16 : IVec S8x128 32} (hv16 : At v16 GN) : At (k0_pay78 v16) (GI 5) := by
  unfold k0_pay78; exact (el_idx (el_block hv16))
theorem pay79_at {v16 : IVec S8x128 32} (hv16 : At v16 GN) : At (k0_pay79 v16) GZ := by
  unfold k0_pay79; exact (el_neg (pay78_at hv16) (by decide))
theorem pay80_at {v181 : FVec Ideal S8x128 .f32} {v421 : FVec Ideal S8x128 .f32} {v454 : FVec Ideal S8x128 .f32} {v458 : IVec S8x128 32} {v460 : IVec S8x128 1} (hv181 : At v181 (GA A 0)) (hv421 : At v421 (GD A 5 0)) (hv454 : At v454 (GR A 5)) (hv458 : At v458 (GI 5)) (hv460 : At v460 GZ) : At (k0_pay80 v181 v421 v454 v458 v460) (GD A 6 0) := by
  unfold k0_pay80; exact (el_step hv421 (el_prod (el_coef hv181 (el_cast2 (el_cast1 (el_pick hv460 hv458))) (by decide)) hv454))
theorem pay81_at {v182 : FVec Ideal S8x128 .f32} {v431 : FVec Ideal S8x128 .f32} {v454 : FVec Ideal S8x128 .f32} {v458 : IVec S8x128 32} (hv182 : At v182 (GA A 1)) (hv431 : At v431 (GD A 5 1)) (hv454 : At v454 (GR A 5)) (hv458 : At v458 (GI 5)) : At (k0_pay81 v182 v431 v454 v458) (GD A 6 1) := by
  unfold k0_pay81; exact (el_step hv431 (el_prod (el_coef hv182 (el_cast2 (el_cast1 (el_pick (el_neg hv458 (by decide)) hv458))) (by decide)) hv454))
theorem pay82_at {v183 : FVec Ideal S8x128 .f32} {v441 : FVec Ideal S8x128 .f32} {v454 : FVec Ideal S8x128 .f32} {v458 : IVec S8x128 32} (hv183 : At v183 (GA A 2)) (hv441 : At v441 (GD A 5 2)) (hv454 : At v454 (GR A 5)) (hv458 : At v458 (GI 5)) : At (k0_pay82 v183 v441 v454 v458) (GD A 6 2) := by
  unfold k0_pay82; exact (el_step hv441 (el_prod (el_coef hv183 (el_cast2 (el_cast1 (el_pick (el_neg hv458 (by decide)) hv458))) (by decide)) hv454))
theorem pay83_at {v184 : FVec Ideal S8x128 .f32} {v451 : FVec Ideal S8x128 .f32} {v454 : FVec Ideal S8x128 .f32} {v458 : IVec S8x128 32} (hv184 : At v184 (GA A 3)) (hv451 : At v451 (GD A 5 3)) (hv454 : At v454 (GR A 5)) (hv458 : At v458 (GI 5)) : At (k0_pay83 v184 v451 v454 v458) (GD A 6 3) := by
  unfold k0_pay83; exact (el_step hv451 (el_prod (el_coef hv184 (el_cast2 (el_cast1 (el_pick (el_neg hv458 (by decide)) hv458))) (by decide)) hv454))
theorem pay84_at {v181 : FVec Ideal S8x128 .f32} {v421 : FVec Ideal S8x128 .f32} {v454 : FVec Ideal S8x128 .f32} {v458 : IVec S8x128 32} {v460 : IVec S8x128 1} (hv181 : At v181 (GA A 0)) (hv421 : At v421 (GD A 5 0)) (hv454 : At v454 (GR A 5)) (hv458 : At v458 (GI 5)) (hv460 : At v460 GZ) : At (k0_pay84 v181 v421 v454 v458 v460) (GR A 6) := by
  unfold k0_pay84; exact (el_spread (el_rowCast (el_row (pay80_at hv181 hv421 hv454 hv458 hv460) (by rfl))))
theorem pay85_at {v16 : IVec S8x128 32} (hv16 : At v16 GN) : At (k0_pay85 v16) (GI 6) := by
  unfold k0_pay85; exact (el_idx (el_block hv16))
theorem pay86_at {v16 : IVec S8x128 32} (hv16 : At v16 GN) : At (k0_pay86 v16) GZ := by
  unfold k0_pay86; exact (el_neg (pay85_at hv16) (by decide))
theorem pay87_at {v16 : IVec S8x128 32} (hv16 : At v16 GN) : At (k0_pay87 v16) (GW 6) := by
  unfold k0_pay87; exact (el_wrap (pay85_at hv16))
theorem pay88_at {v181 : FVec Ideal S8x128 .f32} {v468 : FVec Ideal S8x128 .f32} {v501 : FVec Ideal S8x128 .f32} {v505 : IVec S8x128 32} {v507 : IVec S8x128 1} {v509 : IVec S8x128 32} (hv181 : At v181 (GA A 0)) (hv468 : At v468 (GD A 6 0)) (hv501 : At v501 (GR A 6)) (hv505 : At v505 (GI 6)) (hv507 : At v507 GZ) (hv509 : At v509 (GW 6)) : At (k0_pay88 v181 v468 v501 v505 v507 v509) (GD A 7 0) := by
  unfold k0_pay88; exact (el_step hv468 (el_prod (el_coef hv181 (el_cast2 (el_cast1 (el_pick hv507 hv505))) (by decide)) hv501))
theorem pay89_at {v182 : FVec Ideal S8x128 .f32} {v478 : FVec Ideal S8x128 .f32} {v501 : FVec Ideal S8x128 .f32} {v505 : IVec S8x128 32} (hv182 : At v182 (GA A 1)) (hv478 : At v478 (GD A 6 1)) (hv501 : At v501 (GR A 6)) (hv505 : At v505 (GI 6)) : At (k0_pay89 v182 v478 v501 v505) (GD A 7 1) := by
  unfold k0_pay89; exact (el_step hv478 (el_prod (el_coef hv182 (el_cast2 (el_cast1 (el_pick (el_neg hv505 (by decide)) hv505))) (by decide)) hv501))
theorem pay90_at {v183 : FVec Ideal S8x128 .f32} {v488 : FVec Ideal S8x128 .f32} {v501 : FVec Ideal S8x128 .f32} {v505 : IVec S8x128 32} (hv183 : At v183 (GA A 2)) (hv488 : At v488 (GD A 6 2)) (hv501 : At v501 (GR A 6)) (hv505 : At v505 (GI 6)) : At (k0_pay90 v183 v488 v501 v505) (GD A 7 2) := by
  unfold k0_pay90; exact (el_step hv488 (el_prod (el_coef hv183 (el_cast2 (el_cast1 (el_pick (el_neg hv505 (by decide)) hv505))) (by decide)) hv501))
theorem pay91_at {v184 : FVec Ideal S8x128 .f32} {v498 : FVec Ideal S8x128 .f32} {v501 : FVec Ideal S8x128 .f32} {v505 : IVec S8x128 32} (hv184 : At v184 (GA A 3)) (hv498 : At v498 (GD A 6 3)) (hv501 : At v501 (GR A 6)) (hv505 : At v505 (GI 6)) : At (k0_pay91 v184 v498 v501 v505) (GD A 7 3) := by
  unfold k0_pay91; exact (el_step hv498 (el_prod (el_coef hv184 (el_cast2 (el_cast1 (el_pick (el_neg hv505 (by decide)) hv505))) (by decide)) hv501))
theorem pay92_at {v181 : FVec Ideal S8x128 .f32} {v468 : FVec Ideal S8x128 .f32} {v501 : FVec Ideal S8x128 .f32} {v505 : IVec S8x128 32} {v507 : IVec S8x128 1} {v509 : IVec S8x128 32} (hv181 : At v181 (GA A 0)) (hv468 : At v468 (GD A 6 0)) (hv501 : At v501 (GR A 6)) (hv505 : At v505 (GI 6)) (hv507 : At v507 GZ) (hv509 : At v509 (GW 6)) : At (k0_pay92 v181 v468 v501 v505 v507 v509) (GR A 7) := by
  unfold k0_pay92; exact (el_spread (el_rowCast (el_row (pay88_at hv181 hv468 hv501 hv505 hv507 hv509) (by rfl))))
theorem pay93_at {v16 : IVec S8x128 32} (hv16 : At v16 GN) : At (k0_pay93 v16) (GI 7) := by
  unfold k0_pay93; exact (el_idx (el_block hv16))
theorem pay94_at {v16 : IVec S8x128 32} (hv16 : At v16 GN) : At (k0_pay94 v16) (GI 7) := by
  unfold k0_pay94; exact (el_cast2 (el_cast1 (el_pick (el_neg (pay93_at hv16) (by decide)) (pay93_at hv16))))
theorem pay95_at {v181 : FVec Ideal S8x128 .f32} {v515 : FVec Ideal S8x128 .f32} {v548 : FVec Ideal S8x128 .f32} {v559 : IVec S8x128 32} (hv181 : At v181 (GA A 0)) (hv515 : At v515 (GD A 7 0)) (hv548 : At v548 (GR A 7)) (hv559 : At v559 (GI 7)) : At (k0_pay95 v181 v515 v548 v559) (GD A 8 0) := by
  unfold k0_pay95; exact (el_step hv515 (el_prod (el_coef hv181 hv559 (by decide)) hv548))
theorem pay96_at {v182 : FVec Ideal S8x128 .f32} {v525 : FVec Ideal S8x128 .f32} {v548 : FVec Ideal S8x128 .f32} {v552 : IVec S8x128 32} (hv182 : At v182 (GA A 1)) (hv525 : At v525 (GD A 7 1)) (hv548 : At v548 (GR A 7)) (hv552 : At v552 (GI 7)) : At (k0_pay96 v182 v525 v548 v552) (GD A 8 1) := by
  unfold k0_pay96; exact (el_step hv525 (el_prod (el_coef hv182 (el_cast2 (el_cast1 (el_pick (el_neg hv552 (by decide)) hv552))) (by decide)) hv548))
theorem pay97_at {v183 : FVec Ideal S8x128 .f32} {v535 : FVec Ideal S8x128 .f32} {v548 : FVec Ideal S8x128 .f32} {v552 : IVec S8x128 32} (hv183 : At v183 (GA A 2)) (hv535 : At v535 (GD A 7 2)) (hv548 : At v548 (GR A 7)) (hv552 : At v552 (GI 7)) : At (k0_pay97 v183 v535 v548 v552) (GD A 8 2) := by
  unfold k0_pay97; exact (el_step hv535 (el_prod (el_coef hv183 (el_cast2 (el_cast1 (el_pick (el_neg hv552 (by decide)) hv552))) (by decide)) hv548))
theorem pay98_at {v184 : FVec Ideal S8x128 .f32} {v545 : FVec Ideal S8x128 .f32} {v548 : FVec Ideal S8x128 .f32} {v552 : IVec S8x128 32} (hv184 : At v184 (GA A 3)) (hv545 : At v545 (GD A 7 3)) (hv548 : At v548 (GR A 7)) (hv552 : At v552 (GI 7)) : At (k0_pay98 v184 v545 v548 v552) (GD A 8 3) := by
  unfold k0_pay98; exact (el_step hv545 (el_prod (el_coef hv184 (el_cast2 (el_cast1 (el_pick (el_neg hv552 (by decide)) hv552))) (by decide)) hv548))
theorem pay99_at {v182 : FVec Ideal S8x128 .f32} {v525 : FVec Ideal S8x128 .f32} {v548 : FVec Ideal S8x128 .f32} {v552 : IVec S8x128 32} (hv182 : At v182 (GA A 1)) (hv525 : At v525 (GD A 7 1)) (hv548 : At v548 (GR A 7)) (hv552 : At v552 (GI 7)) : At (k0_pay99 v182 v525 v548 v552) (GR A 8) := by
  unfold k0_pay99; exact (el_spread (el_rowCast (el_row (pay96_at hv182 hv525 hv548 hv552) (by rfl))))
theorem pay100_at {v16 : IVec S8x128 32} (hv16 : At v16 GN) : At (k0_pay100 v16) (GI 8) := by
  unfold k0_pay100; exact (el_idx (el_block hv16))
theorem pay101_at {v16 : IVec S8x128 32} {v182 : FVec Ideal S8x128 .f32} {v525 : FVec Ideal S8x128 .f32} {v548 : FVec Ideal S8x128 .f32} {v552 : IVec S8x128 32} (hv16 : At v16 GN) (hv182 : At v182 (GA A 1)) (hv525 : At v525 (GD A 7 1)) (hv548 : At v548 (GR A 7)) (hv552 : At v552 (GI 7)) : At (k0_pay101 v16 v182 v525 v548 v552) (GD A 9 1) := by
  unfold k0_pay101; exact (el_step (pay96_at hv182 hv525 hv548 hv552) (el_prod (el_coef hv182 (el_cast2 (el_cast1 (el_pick (el_neg (pay100_at hv16) (by decide)) (pay100_at hv16)))) (by decide)) (pay99_at hv182 hv525 hv548 hv552)))
theorem pay102_at {v184 : FVec Ideal S8x128 .f32} {v592 : FVec Ideal S8x128 .f32} {v595 : FVec Ideal S8x128 .f32} {v599 : IVec S8x128 32} (hv184 : At v184 (GA A 3)) (hv592 : At v592 (GD A 8 3)) (hv595 : At v595 (GR A 8)) (hv599 : At v599 (GI 8)) : At (k0_pay102 v184 v592 v595 v599) (GD A 9 3) := by
  unfold k0_pay102; exact (el_step hv592 (el_prod (el_coef hv184 (el_cast2 (el_cast1 (el_pick (el_neg hv599 (by decide)) hv599))) (by decide)) hv595))
theorem pay103_at {v609 : FVec Ideal S8x128 .f32} (hv609 : At v609 (GD A 9 1)) : At (k0_pay103 v609) (GR A 9) := by
  unfold k0_pay103; exact (el_spread (el_rowCast (el_row hv609 (by rfl))))
theorem pay104_at {v16 : IVec S8x128 32} (hv16 : At v16 GN) : At (k0_pay104 v16) (GI 9) := by
  unfold k0_pay104; exact (el_idx (el_block hv16))
theorem pay105_at {v16 : IVec S8x128 32} {v182 : FVec Ideal S8x128 .f32} {v609 : FVec Ideal S8x128 .f32} (hv16 : At v16 GN) (hv182 : At v182 (GA A 1)) (hv609 : At v609 (GD A 9 1)) : At (k0_pay105 v16 v182 v609) (GD A 10 1) := by
  unfold k0_pay105; exact (el_step hv609 (el_prod (el_coef hv182 (el_cast2 (el_cast1 (el_pick (el_neg (pay104_at hv16) (by decide)) (pay104_at hv16)))) (by decide)) (pay103_at hv609)))
theorem pay106_at {v16 : IVec S8x128 32} {v183 : FVec Ideal S8x128 .f32} {v582 : FVec Ideal S8x128 .f32} {v595 : FVec Ideal S8x128 .f32} {v599 : IVec S8x128 32} {v609 : FVec Ideal S8x128 .f32} (hv16 : At v16 GN) (hv183 : At v183 (GA A 2)) (hv582 : At v582 (GD A 8 2)) (hv595 : At v595 (GR A 8)) (hv599 : At v599 (GI 8)) (hv609 : At v609 (GD A 9 1)) : At (k0_pay106 v16 v183 v582 v595 v599 v609) (GD A 10 2) := by
  unfold k0_pay106; exact (el_step (el_step hv582 (el_prod (el_coef hv183 (el_cast2 (el_cast1 (el_pick (el_neg hv599 (by decide)) hv599))) (by decide)) hv595)) (el_prod (el_coef hv183 (el_cast2 (el_cast1 (el_pick (el_neg (pay104_at hv16) (by decide)) (pay104_at hv16)))) (by decide)) (pay103_at hv609)))
theorem pay107_at {v16 : IVec S8x128 32} (hv16 : At v16 GN) : At (k0_pay107 v16) GZ := by
  unfold k0_pay107; exact (el_neg (pay104_at hv16) (by decide))
theorem pay108_at {v646 : FVec Ideal S8x128 .f32} (hv646 : At v646 (GD A 10 1)) : At (k0_pay108 v646) (GR A 10) := by
  unfold k0_pay108; exact (el_spread (el_rowCast (el_row hv646 (by rfl))))
theorem pay109_at {v16 : IVec S8x128 32} (hv16 : At v16 GN) : At (k0_pay109 v16) (GI 10) := by
  unfold k0_pay109; exact (el_idx (el_block hv16))
theorem pay110_at {v16 : IVec S8x128 32} {v182 : FVec Ideal S8x128 .f32} {v646 : FVec Ideal S8x128 .f32} (hv16 : At v16 GN) (hv182 : At v182 (GA A 1)) (hv646 : At v646 (GD A 10 1)) : At (k0_pay110 v16 v182 v646) (GD A 11 1) := by
  unfold k0_pay110; exact (el_step hv646 (el_prod (el_coef hv182 (el_cast2 (el_cast1 (el_pick (el_neg (pay109_at hv16) (by decide)) (pay109_at hv16)))) (by decide)) (pay108_at hv646)))
theorem pay111_at {v16 : IVec S8x128 32} {v183 : FVec Ideal S8x128 .f32} {v646 : FVec Ideal S8x128 .f32} {v656 : FVec Ideal S8x128 .f32} (hv16 : At v16 GN) (hv183 : At v183 (GA A 2)) (hv646 : At v646 (GD A 10 1)) (hv656 : At v656 (GD A 10 2)) : At (k0_pay111 v16 v183 v646 v656) (GD A 11 2) := by
  unfold k0_pay111; exact (el_step hv656 (el_prod (el_coef hv183 (el_cast2 (el_cast1 (el_pick (el_neg (pay109_at hv16) (by decide)) (pay109_at hv16)))) (by decide)) (pay108_at hv646)))
theorem pay112_at {v16 : IVec S8x128 32} {v184 : FVec Ideal S8x128 .f32} {v629 : FVec Ideal S8x128 .f32} {v632 : FVec Ideal S8x128 .f32} {v636 : IVec S8x128 32} {v646 : FVec Ideal S8x128 .f32} {v658 : IVec S8x128 1} (hv16 : At v16 GN) (hv184 : At v184 (GA A 3)) (hv629 : At v629 (GD A 9 3)) (hv632 : At v632 (GR A 9)) (hv636 : At v636 (GI 9)) (hv646 : At v646 (GD A 10 1)) (hv658 : At v658 GZ) : At (k0_pay112 v16 v184 v629 v632 v636 v646 v658) (GD A 11 3) := by
  unfold k0_pay112; exact (el_step (el_step hv629 (el_prod (el_coef hv184 (el_cast2 (el_cast1 (el_pick hv658 hv636))) (by decide)) hv632)) (el_prod (el_coef hv184 (el_cast2 (el_cast1 (el_pick (el_neg (pay109_at hv16) (by decide)) (pay109_at hv16)))) (by decide)) (pay108_at hv646)))
theorem pay113_at {v16 : IVec S8x128 32} {v182 : FVec Ideal S8x128 .f32} {v646 : FVec Ideal S8x128 .f32} (hv16 : At v16 GN) (hv182 : At v182 (GA A 1)) (hv646 : At v646 (GD A 10 1)) : At (k0_pay113 v16 v182 v646) (GR A 11) := by
  unfold k0_pay113; exact (el_spread (el_rowCast (el_row (pay110_at hv16 hv182 hv646) (by rfl))))
theorem pay114_at {v16 : IVec S8x128 32} (hv16 : At v16 GN) : At (k0_pay114 v16) GB := by
  unfold k0_pay114; exact (el_block hv16)
theorem pay115_at {v708 : IVec S8x128 32} (hv708 : At v708 GB) : At (k0_pay115 v708) (GI 11) := by
  unfold k0_pay115; exact (el_idx hv708)
theorem pay116_at {v182 : FVec Ideal S8x128 .f32} {v683 : FVec Ideal S8x128 .f32} {v706 : FVec Ideal S8x128 .f32} {v708 : IVec S8x128 32} (hv182 : At v182 (GA A 1)) (hv683 : At v683 (GD A 11 1)) (hv706 : At v706 (GR A 11)) (hv708 : At v708 GB) : At (k0_pay116 v182 v683 v706 v708) (GD A 12 1) := by
  unfold k0_pay116; exact (el_step hv683 (el_prod (el_coef hv182 (el_cast2 (el_cast1 (el_pick (el_neg (pay115_at hv708) (by decide)) (pay115_at hv708)))) (by decide)) hv706))
theorem pay117_at {v183 : FVec Ideal S8x128 .f32} {v693 : FVec Ideal S8x128 .f32} {v706 : FVec Ideal S8x128 .f32} {v708 : IVec S8x128 32} (hv183 : At v183 (GA A 2)) (hv693 : At v693 (GD A 11 2)) (hv706 : At v706 (GR A 11)) (hv708 : At v708 GB) : At (k0_pay117 v183 v693 v706 v708) (GD A 12 2) := by
  unfold k0_pay117; exact (el_step hv693 (el_prod (el_coef hv183 (el_cast2 (el_cast1 (el_pick (el_neg (pay115_at hv708) (by decide)) (pay115_at hv708)))) (by decide)) hv706))
theorem pay118_at {v184 : FVec Ideal S8x128 .f32} {v703 : FVec Ideal S8x128 .f32} {v706 : FVec Ideal S8x128 .f32} {v708 : IVec S8x128 32} (hv184 : At v184 (GA A 3)) (hv703 : At v703 (GD A 11 3)) (hv706 : At v706 (GR A 11)) (hv708 : At v708 GB) : At (k0_pay118 v184 v703 v706 v708) (GD A 12 3) := by
  unfold k0_pay118; exact (el_step hv703 (el_prod (el_coef hv184 (el_cast2 (el_cast1 (el_pick (el_neg (pay115_at hv708) (by decide)) (pay115_at hv708)))) (by decide)) hv706))
theorem pay119_at {v182 : FVec Ideal S8x128 .f32} {v683 : FVec Ideal S8x128 .f32} {v706 : FVec Ideal S8x128 .f32} {v708 : IVec S8x128 32} (hv182 : At v182 (GA A 1)) (hv683 : At v683 (GD A 11 1)) (hv706 : At v706 (GR A 11)) (hv708 : At v708 GB) : At (k0_pay119 v182 v683 v706 v708) (GR A 12) := by
  unfold k0_pay119; exact (el_spread (el_rowCast (el_row (pay116_at hv182 hv683 hv706 hv708) (by rfl))))
theorem pay120_at {v16 : IVec S8x128 32} (hv16 : At v16 GN) : At (k0_pay120 v16) (GI 12) := by
  unfold k0_pay120; exact (el_idx (el_block hv16))
theorem pay121_at {v16 : IVec S8x128 32} {v182 : FVec Ideal S8x128 .f32} {v683 : FVec Ideal S8x128 .f32} {v706 : FVec Ideal S8x128 .f32} {v708 : IVec S8x128 32} (hv16 : At v16 GN) (hv182 : At v182 (GA A 1)) (hv683 : At v683 (GD A 11 1)) (hv706 : At v706 (GR A 11)) (hv708 : At v708 GB) : At (k0_pay121 v16 v182 v683 v706 v708) (GD A 13 1) := by
  unfold k0_pay121; exact (el_step (pay116_at hv182 hv683 hv706 hv708) (el_prod (el_coef hv182 (el_cast2 (el_cast1 (el_pick (el_neg (pay120_at hv16) (by decide)) (pay120_at hv16)))) (by decide)) (pay119_at hv182 hv683 hv706 hv708)))
theorem pay122_at {v184 : FVec Ideal S8x128 .f32} {v740 : FVec Ideal S8x128 .f32} {v743 : FVec Ideal S8x128 .f32} {v747 : IVec S8x128 32} (hv184 : At v184 (GA A 3)) (hv740 : At v740 (GD A 12 3)) (hv743 : At v743 (GR A 12)) (hv747 : At v747 (GI 12)) : At (k0_pay122 v184 v740 v743 v747) (GD A 13 3) := by
  unfold k0_pay122; exact (el_step hv740 (el_prod (el_coef hv184 (el_cast2 (el_cast1 (el_pick (el_neg hv747 (by decide)) hv747))) (by decide)) hv743))
theorem pay123_at {v757 : FVec Ideal S8x128 .f32} (hv757 : At v757 (GD A 13 1)) : At (k0_pay123 v757) (GR A 13) := by
  unfold k0_pay123; exact (el_spread (el_rowCast (el_row hv757 (by rfl))))
theorem pay124_at {v16 : IVec S8x128 32} (hv16 : At v16 GN) : At (k0_pay124 v16) (GI 13) := by
  unfold k0_pay124; exact (el_idx (el_block hv16))
theorem pay125_at {v16 : IVec S8x128 32} {v182 : FVec Ideal S8x128 .f32} {v757 : FVec Ideal S8x128 .f32} (hv16 : At v16 GN) (hv182 : At v182 (GA A 1)) (hv757 : At v757 (GD A 13 1)) : At (k0_pay125 v16 v182 v757) (GD A 14 1) := by
  unfold k0_pay125; exact (el_step hv757 (el_prod (el_coef hv182 (el_cast2 (el_cast1 (el_pick (el_neg (pay124_at hv16) (by decide)) (pay124_at hv16)))) (by decide)) (pay123_at hv757)))
theorem pay126_at {v16 : IVec S8x128 32} {v183 : FVec Ideal S8x128 .f32} {v730 : FVec Ideal S8x128 .f32} {v743 : FVec Ideal S8x128 .f32} {v747 : IVec S8x128 32} {v757 : FVec Ideal S8x128 .f32} (hv16 : At v16 GN) (hv183 : At v183 (GA A 2)) (hv730 : At v730 (GD A 12 2)) (hv743 : At v743 (GR A 12)) (hv747 : At v747 (GI 12)) (hv757 : At v757 (GD A 13 1)) : At (k0_pay126 v16 v183 v730 v743 v747 v757) (GD A 14 2) := by
  unfold k0_pay126; exact (el_step (el_step hv730 (el_prod (el_coef hv183 (el_cast2 (el_cast1 (el_pick (el_neg hv747 (by decide)) hv747))) (by decide)) hv743)) (el_prod (el_coef hv183 (el_cast2 (el_cast1 (el_pick (el_neg (pay124_at hv16) (by decide)) (pay124_at hv16)))) (by decide)) (pay123_at hv757)))
theorem pay127_at {v16 : IVec S8x128 32} (hv16 : At v16 GN) : At (k0_pay127 v16) GZ := by
  unfold k0_pay127; exact (el_neg (pay124_at hv16) (by decide))
theorem pay128_at {v794 : FVec Ideal S8x128 .f32} (hv794 : At v794 (GD A 14 1)) : At (k0_pay128 v794) (GR A 14) := by
  unfold k0_pay128; exact (el_spread (el_rowCast (el_row hv794 (by rfl))))
theorem pay129_at {v16 : IVec S8x128 32} (hv16 : At v16 GN) : At (k0_pay129 v16) (GI 14) := by
  unfold k0_pay129; exact (el_idx (el_block hv16))
theorem pay130_at {v16 : IVec S8x128 32} {v182 : FVec Ideal S8x128 .f32} {v794 : FVec Ideal S8x128 .f32} (hv16 : At v16 GN) (hv182 : At v182 (GA A 1)) (hv794 : At v794 (GD A 14 1)) : At (k0_pay130 v16 v182 v794) (GD A 15 1) := by
  unfold k0_pay130; exact (el_step hv794 (el_prod (el_coef hv182 (el_cast2 (el_cast1 (el_pick (el_neg (pay129_at hv16) (by decide)) (pay129_at hv16)))) (by decide)) (pay128_at hv794)))
theorem pay131_at {v16 : IVec S8x128 32} {v183 : FVec Ideal S8x128 .f32} {v794 : FVec Ideal S8x128 .f32} {v804 : FVec Ideal S8x128 .f32} (hv16 : At v16 GN) (hv183 : At v183 (GA A 2)) (hv794 : At v794 (GD A 14 1)) (hv804 : At v804 (GD A 14 2)) : At (k0_pay131 v16 v183 v794 v804) (GD A 15 2) := by
  unfold k0_pay131; exact (el_step hv804 (el_prod (el_coef hv183 (el_cast2 (el_cast1 (el_pick (el_neg (pay129_at hv16) (by decide)) (pay129_at hv16)))) (by decide)) (pay128_at hv794)))
theorem pay132_at {v16 : IVec S8x128 32} {v184 : FVec Ideal S8x128 .f32} {v777 : FVec Ideal S8x128 .f32} {v780 : FVec Ideal S8x128 .f32} {v784 : IVec S8x128 32} {v794 : FVec Ideal S8x128 .f32} {v806 : IVec S8x128 1} (hv16 : At v16 GN) (hv184 : At v184 (GA A 3)) (hv777 : At v777 (GD A 13 3)) (hv780 : At v780 (GR A 13)) (hv784 : At v784 (GI 13)) (hv794 : At v794 (GD A 14 1)) (hv806 : At v806 GZ) : At (k0_pay132 v16 v184 v777 v780 v784 v794 v806) (GD A 15 3) := by
  unfold k0_pay132; exact (el_step (el_step hv777 (el_prod (el_coef hv184 (el_cast2 (el_cast1 (el_pick hv806 hv784))) (by decide)) hv780)) (el_prod (el_coef hv184 (el_cast2 (el_cast1 (el_pick (el_neg (pay129_at hv16) (by decide)) (pay129_at hv16)))) (by decide)) (pay128_at hv794)))
theorem pay133_at {v16 : IVec S8x128 32} {v182 : FVec Ideal S8x128 .f32} {v794 : FVec Ideal S8x128 .f32} (hv16 : At v16 GN) (hv182 : At v182 (GA A 1)) (hv794 : At v794 (GD A 14 1)) : At (k0_pay133 v16 v182 v794) (GR A 15) := by
  unfold k0_pay133; exact (el_spread (el_rowCast (el_row (pay130_at hv16 hv182 hv794) (by rfl))))
theorem pay134_at {v16 : IVec S8x128 32} (hv16 : At v16 GN) : At (k0_pay134 v16) GB := by
  unfold k0_pay134; exact (el_block hv16)
theorem pay135_at {v856 : IVec S8x128 32} (hv856 : At v856 GB) : At (k0_pay135 v856) (GI 15) := by
  unfold k0_pay135; exact (el_idx hv856)
theorem pay136_at {v182 : FVec Ideal S8x128 .f32} {v831 : FVec Ideal S8x128 .f32} {v854 : FVec Ideal S8x128 .f32} {v856 : IVec S8x128 32} (hv182 : At v182 (GA A 1)) (hv831 : At v831 (GD A 15 1)) (hv854 : At v854 (GR A 15)) (hv856 : At v856 GB) : At (k0_pay136 v182 v831 v854 v856) (GD A 16 1) := by
  unfold k0_pay136; exact (el_step hv831 (el_prod (el_coef hv182 (el_cast2 (el_cast1 (el_pick (el_neg (pay135_at hv856) (by decide)) (pay135_at hv856)))) (by decide)) hv854))
theorem pay137_at {v183 : FVec Ideal S8x128 .f32} {v841 : FVec Ideal S8x128 .f32} {v854 : FVec Ideal S8x128 .f32} {v856 : IVec S8x128 32} (hv183 : At v183 (GA A 2)) (hv841 : At v841 (GD A 15 2)) (hv854 : At v854 (GR A 15)) (hv856 : At v856 GB) : At (k0_pay137 v183 v841 v854 v856) (GD A 16 2) := by
  unfold k0_pay137; exact (el_step hv841 (el_prod (el_coef hv183 (el_cast2 (el_cast1 (el_pick (el_neg (pay135_at hv856) (by decide)) (pay135_at hv856)))) (by decide)) hv854))
theorem pay138_at {v184 : FVec Ideal S8x128 .f32} {v851 : FVec Ideal S8x128 .f32} {v854 : FVec Ideal S8x128 .f32} {v856 : IVec S8x128 32} (hv184 : At v184 (GA A 3)) (hv851 : At v851 (GD A 15 3)) (hv854 : At v854 (GR A 15)) (hv856 : At v856 GB) : At (k0_pay138 v184 v851 v854 v856) (GD A 16 3) := by
  unfold k0_pay138; exact (el_step hv851 (el_prod (el_coef hv184 (el_cast2 (el_cast1 (el_pick (el_neg (pay135_at hv856) (by decide)) (pay135_at hv856)))) (by decide)) hv854))
theorem pay139_at {v183 : FVec Ideal S8x128 .f32} {v841 : FVec Ideal S8x128 .f32} {v854 : FVec Ideal S8x128 .f32} {v856 : IVec S8x128 32} (hv183 : At v183 (GA A 2)) (hv841 : At v841 (GD A 15 2)) (hv854 : At v854 (GR A 15)) (hv856 : At v856 GB) : At (k0_pay139 v183 v841 v854 v856) (GR A 16) := by
  unfold k0_pay139; exact (el_spread (el_rowCast (el_row (pay137_at hv183 hv841 hv854 hv856) (by rfl))))
theorem pay140_at {v16 : IVec S8x128 32} (hv16 : At v16 GN) : At (k0_pay140 v16) (GI 16) := by
  unfold k0_pay140; exact (el_idx (el_block hv16))
theorem pay141_at {v16 : IVec S8x128 32} {v183 : FVec Ideal S8x128 .f32} {v841 : FVec Ideal S8x128 .f32} {v854 : FVec Ideal S8x128 .f32} {v856 : IVec S8x128 32} (hv16 : At v16 GN) (hv183 : At v183 (GA A 2)) (hv841 : At v841 (GD A 15 2)) (hv854 : At v854 (GR A 15)) (hv856 : At v856 GB) : At (k0_pay141 v16 v183 v841 v854 v856) (GD A 17 2) := by
  unfold k0_pay141; exact (el_step (pay137_at hv183 hv841 hv854 hv856) (el_prod (el_coef hv183 (el_cast2 (el_cast1 (el_pick (el_neg (pay140_at hv16) (by decide)) (pay140_at hv16)))) (by decide)) (pay139_at hv183 hv841 hv854 hv856)))
theorem pay142_at {v905 : FVec Ideal S8x128 .f32} (hv905 : At v905 (GD A 17 2)) : At (k0_pay142 v905) (GR A 17) := by
  unfold k0_pay142; exact (el_spread (el_rowCast (el_row hv905 (by rfl))))
theorem pay143_at {v16 : IVec S8x128 32} (hv16 : At v16 GN) : At (k0_pay143 v16) (GI 17) := by
  unfold k0_pay143; exact (el_idx (el_block hv16))
theorem pay144_at {v16 : IVec S8x128 32} {v183 : FVec Ideal S8x128 .f32} {v905 : FVec Ideal S8x128 .f32} (hv16 : At v16 GN) (hv183 : At v183 (GA A 2)) (hv905 : At v905 (GD A 17 2)) : At (k0_pay144 v16 v183 v905) (GD A 18 2) := by
  unfold k0_pay144; exact (el_step hv905 (el_prod (el_coef hv183 (el_cast2 (el_cast1 (el_pick (el_neg (pay143_at hv16) (by decide)) (pay143_at hv16)))) (by decide)) (pay142_at hv905)))
theorem pay145_at {v16 : IVec S8x128 32} {v184 : FVec Ideal S8x128 .f32} {v888 : FVec Ideal S8x128 .f32} {v891 : FVec Ideal S8x128 .f32} {v895 : IVec S8x128 32} {v905 : FVec Ideal S8x128 .f32} (hv16 : At v16 GN) (hv184 : At v184 (GA A 3)) (hv888 : At v888 (GD A 16 3)) (hv891 : At v891 (GR A 16)) (hv895 : At v895 (GI 16)) (hv905 : At v905 (GD A 17 2)) : At (k0_pay145 v16 v184 v888 v891 v895 v905) (GD A 18 3) := by
  unfold k0_pay145; exact (el_step (el_step hv888 (el_prod (el_coef hv184 (el_cast2 (el_cast1 (el_pick (el_neg hv895 (by decide)) hv895))) (by decide)) hv891)) (el_prod (el_coef hv184 (el_cast2 (el_cast1 (el_pick (el_neg (pay143_at hv16) (by decide)) (pay143_at hv16)))) (by decide)) (pay142_at hv905)))
theorem pay146_at {v16 : IVec S8x128 32} {v183 : FVec Ideal S8x128 .f32} {v905 : FVec Ideal S8x128 .f32} (hv16 : At v16 GN) (hv183 : At v183 (GA A 2)) (hv905 : At v905 (GD A 17 2)) : At (k0_pay146 v16 v183 v905) (GR A 18) := by
  unfold k0_pay146; exact (el_spread (el_rowCast (el_row (pay144_at hv16 hv183 hv905) (by rfl))))
theorem pay147_at {v16 : IVec S8x128 32} (hv16 : At v16 GN) : At (k0_pay147 v16) (GI 18) := by
  unfold k0_pay147; exact (el_idx (el_block hv16))
theorem pay148_at {v16 : IVec S8x128 32} (hv16 : At v16 GN) : At (k0_pay148 v16) GZ := by
  unfold k0_pay148; exact (el_neg (pay147_at hv16) (by decide))
theorem pay149_at {v16 : IVec S8x128 32} (hv16 : At v16 GN) : At (k0_pay149 v16) (GW 18) := by
  unfold k0_pay149; exact (el_wrap (pay147_at hv16))
theorem pay150_at {v183 : FVec Ideal S8x128 .f32} {v932 : FVec Ideal S8x128 .f32} {v945 : FVec Ideal S8x128 .f32} {v949 : IVec S8x128 32} {v951 : IVec S8x128 1} {v953 : IVec S8x128 32} (hv183 : At v183 (GA A 2)) (hv932 : At v932 (GD A 18 2)) (hv945 : At v945 (GR A 18)) (hv949 : At v949 (GI 18)) (hv951 : At v951 GZ) (hv953 : At v953 (GW 18)) : At (k0_pay150 v183 v932 v945 v949 v951 v953) (GD A 19 2) := by
  unfold k0_pay150; exact (el_step hv932 (el_prod (el_coef hv183 (el_cast2 (el_cast1 (el_pick hv951 hv949))) (by decide)) hv945))
theorem pay151_at {v183 : FVec Ideal S8x128 .f32} {v932 : FVec Ideal S8x128 .f32} {v945 : FVec Ideal S8x128 .f32} {v949 : IVec S8x128 32} {v951 : IVec S8x128 1} {v953 : IVec S8x128 32} (hv183 : At v183 (GA A 2)) (hv932 : At v932 (GD A 18 2)) (hv945 : At v945 (GR A 18)) (hv949 : At v949 (GI 18)) (hv951 : At v951 GZ) (hv953 : At v953 (GW 18)) : At (k0_pay151 v183 v932 v945 v949 v951 v953) (GR A 19) := by
  unfold k0_pay151; exact (el_spread (el_rowCast (el_row (pay150_at hv183 hv932 hv945 hv949 hv951 hv953) (by rfl))))
theorem pay152_at {v16 : IVec S8x128 32} (hv16 : At v16 GN) : At (k0_pay152 v16) (GI 19) := by
  unfold k0_pay152; exact (el_idx (el_block hv16))
theorem pay153_at {v16 : IVec S8x128 32} {v183 : FVec Ideal S8x128 .f32} {v932 : FVec Ideal S8x128 .f32} {v945 : FVec Ideal S8x128 .f32} {v949 : IVec S8x128 32} {v951 : IVec S8x128 1} {v953 : IVec S8x128 32} (hv16 : At v16 GN) (hv183 : At v183 (GA A 2)) (hv932 : At v932 (GD A 18 2)) (hv945 : At v945 (GR A 18)) (hv949 : At v949 (GI 18)) (hv951 : At v951 GZ) (hv953 : At v953 (GW 18)) : At (k0_pay153 v16 v183 v932 v945 v949 v951 v953) (GD A 20 2) := by
  unfold k0_pay153; exact (el_step (pay150_at hv183 hv932 hv945 hv949 hv951 hv953) (el_prod (el_coef hv183 (el_cast2 (el_cast1 (el_pick (el_neg (pay152_at hv16) (by decide)) (pay152_at hv16)))) (by decide)) (pay151_at hv183 hv932 hv945 hv949 hv951 hv953)))
theorem pay154_at {v16 : IVec S8x128 32} {v183 : FVec Ideal S8x128 .f32} {v184 : FVec Ideal S8x128 .f32} {v932 : FVec Ideal S8x128 .f32} {v942 : FVec Ideal S8x128 .f32} {v945 : FVec Ideal S8x128 .f32} {v949 : IVec S8x128 32} {v951 : IVec S8x128 1} {v953 : IVec S8x128 32} (hv16 : At v16 GN) (hv183 : At v183 (GA A 2)) (hv184 : At v184 (GA A 3)) (hv932 : At v932 (GD A 18 2)) (hv942 : At v942 (GD A 18 3)) (hv945 : At v945 (GR A 18)) (hv949 : At v949 (GI 18)) (hv951 : At v951 GZ) (hv953 : At v953 (GW 18)) : At (k0_pay154 v16 v183 v184 v932 v942 v945 v949 v951 v953) (GD A 20 3) := by
  unfold k0_pay154; exact (el_step (el_step hv942 (el_prod (el_coef hv184 (el_cast2 (el_cast1 (el_pick (el_neg hv949 (by decide)) hv949))) (by decide)) hv945)) (el_prod (el_coef hv184 (el_cast2 (el_cast1 (el_pick (el_neg (pay152_at hv16) (by decide)) (pay152_at hv16)))) (by decide)) (pay151_at hv183 hv932 hv945 hv949 hv951 hv953)))
theorem pay155_at {v16 : IVec S8x128 32} {v183 : FVec Ideal S8x128 .f32} {v932 : FVec Ideal S8x128 .f32} {v945 : FVec Ideal S8x128 .f32} {v949 : IVec S8x128 32} {v951 : IVec S8x128 1} {v953 : IVec S8x128 32} (hv16 : At v16 GN) (hv183 : At v183 (GA A 2)) (hv932 : At v932 (GD A 18 2)) (hv945 : At v945 (GR A 18)) (hv949 : At v949 (GI 18)) (hv951 : At v951 GZ) (hv953 : At v953 (GW 18)) : At (k0_pay155 v16 v183 v932 v945 v949 v951 v953) (GR A 20) := by
  unfold k0_pay155; exact (el_spread (el_rowCast (el_row (pay153_at hv16 hv183 hv932 hv945 hv949 hv951 hv953) (by rfl))))
theorem pay156_at {v16 : IVec S8x128 32} (hv16 : At v16 GN) : At (k0_pay156 v16) (GI 20) := by
  unfold k0_pay156; exact (el_idx (el_block hv16))
theorem pay157_at {v183 : FVec Ideal S8x128 .f32} {v986 : FVec Ideal S8x128 .f32} {v999 : FVec Ideal S8x128 .f32} {v1003 : IVec S8x128 32} (hv183 : At v183 (GA A 2)) (hv986 : At v986 (GD A 20 2)) (hv999 : At v999 (GR A 20)) (hv1003 : At v1003 (GI 20)) : At (k0_pay157 v183 v986 v999 v1003) (GD A 21 2) := by
  unfold k0_pay157; exact (el_step hv986 (el_prod (el_coef hv183 (el_cast2 (el_cast1 (el_pick (el_neg hv1003 (by decide)) hv1003))) (by decide)) hv999))
theorem pay158_at {v183 : FVec Ideal S8x128 .f32} {v986 : FVec Ideal S8x128 .f32} {v999 : FVec Ideal S8x128 .f32} {v1003 : IVec S8x128 32} (hv183 : At v183 (GA A 2)) (hv986 : At v986 (GD A 20 2)) (hv999 : At v999 (GR A 20)) (hv1003 : At v1003 (GI 20)) : At (k0_pay158 v183 v986 v999 v1003) (GR A 21) := by
  unfold k0_pay158; exact (el_spread (el_rowCast (el_row (pay157_at hv183 hv986 hv999 hv1003) (by rfl))))
theorem pay159_at {v16 : IVec S8x128 32} (hv16 : At v16 GN) : At (k0_pay159 v16) (GI 21) := by
  unfold k0_pay159; exact (el_idx (el_block hv16))
theorem pay160_at {v16 : IVec S8x128 32} {v183 : FVec Ideal S8x128 .f32} {v986 : FVec Ideal S8x128 .f32} {v999 : FVec Ideal S8x128 .f32} {v1003 : IVec S8x128 32} (hv16 : At v16 GN) (hv183 : At v183 (GA A 2)) (hv986 : At v986 (GD A 20 2)) (hv999 : At v999 (GR A 20)) (hv1003 : At v1003 (GI 20)) : At (k0_pay160 v16 v183 v986 v999 v1003) (GD A 22 2) := by
  unfold k0_pay160; exact (el_step (pay157_at hv183 hv986 hv999 hv1003) (el_prod (el_coef hv183 (el_cast2 (el_cast1 (el_pick (el_neg (pay159_at hv16) (by decide)) (pay159_at hv16)))) (by decide)) (pay158_at hv183 hv986 hv999 hv1003)))
theorem pay161_at {v16 : IVec S8x128 32} {v183 : FVec Ideal S8x128 .f32} {v184 : FVec Ideal S8x128 .f32} {v986 : FVec Ideal S8x128 .f32} {v996 : FVec Ideal S8x128 .f32} {v999 : FVec Ideal S8x128 .f32} {v1003 : IVec S8x128 32} (hv16 : At v16 GN) (hv183 : At v183 (GA A 2)) (hv184 : At v184 (GA A 3)) (hv986 : At v986 (GD A 20 2)) (hv996 : At v996 (GD A 20 3)) (hv999 : At v999 (GR A 20)) (hv1003 : At v1003 (GI 20)) : At (k0_pay161 v16 v183 v184 v986 v996 v999 v1003) (GD A 22 3) := by
  unfold k0_pay161; exact (el_step (el_step hv996 (el_prod (el_coef hv184 (el_cast2 (el_cast1 (el_pick (el_neg hv1003 (by decide)) hv1003))) (by decide)) hv999)) (el_prod (el_coef hv184 (el_cast2 (el_cast1 (el_pick (el_neg (pay159_at hv16) (by decide)) (pay159_at hv16)))) (by decide)) (pay158_at hv183 hv986 hv999 hv1003)))
theorem pay162_at {v16 : IVec S8x128 32} {v183 : FVec Ideal S8x128 .f32} {v986 : FVec Ideal S8x128 .f32} {v999 : FVec Ideal S8x128 .f32} {v1003 : IVec S8x128 32} (hv16 : At v16 GN) (hv183 : At v183 (GA A 2)) (hv986 : At v986 (GD A 20 2)) (hv999 : At v999 (GR A 20)) (hv1003 : At v1003 (GI 20)) : At (k0_pay162 v16 v183 v986 v999 v1003) (GR A 22) := by
  unfold k0_pay162; exact (el_spread (el_rowCast (el_row (pay160_at hv16 hv183 hv986 hv999 hv1003) (by rfl))))
theorem pay163_at {v16 : IVec S8x128 32} (hv16 : At v16 GN) : At (k0_pay163 v16) (GI 22) := by
  unfold k0_pay163; exact (el_idx (el_block hv16))
theorem pay164_at {v16 : IVec S8x128 32} {v183 : FVec Ideal S8x128 .f32} {v1040 : FVec Ideal S8x128 .f32} {v1053 : FVec Ideal S8x128 .f32} (hv16 : At v16 GN) (hv183 : At v183 (GA A 2)) (hv1040 : At v1040 (GD A 22 2)) (hv1053 : At v1053 (GR A 22)) : At (k0_pay164 v16 v183 v1040 v1053) (GD A 23 2) := by
  unfold k0_pay164; exact (el_step hv1040 (el_prod (el_coef hv183 (el_cast2 (el_cast1 (el_pick (el_neg (pay163_at hv16) (by decide)) (pay163_at hv16)))) (by decide)) hv1053))
theorem pay165_at {v16 : IVec S8x128 32} {v184 : FVec Ideal S8x128 .f32} {v1050 : FVec Ideal S8x128 .f32} {v1053 : FVec Ideal S8x128 .f32} (hv16 : At v16 GN) (hv184 : At v184 (GA A 3)) (hv1050 : At v1050 (GD A 22 3)) (hv1053 : At v1053 (GR A 22)) : At (k0_pay165 v16 v184 v1050 v1053) (GD A 23 3) := by
  unfold k0_pay165; exact (el_step hv1050 (el_prod (el_coef hv184 (el_cast2 (el_cast1 (el_pick (el_neg (pay163_at hv16) (by decide)) (pay163_at hv16)))) (by decide)) hv1053))
theorem pay166_at {v16 : IVec S8x128 32} {v183 : FVec Ideal S8x128 .f32} {v1040 : FVec Ideal S8x128 .f32} {v1053 : FVec Ideal S8x128 .f32} (hv16 : At v16 GN) (hv183 : At v183 (GA A 2)) (hv1040 : At v1040 (GD A 22 2)) (hv1053 : At v1053 (GR A 22)) : At (k0_pay166 v16 v183 v1040 v1053) (GR A 23) := by
  unfold k0_pay166; exact (el_spread (el_rowCast (el_row (pay164_at hv16 hv183 hv1040 hv1053) (by rfl))))
theorem pay167_at {v16 : IVec S8x128 32} (hv16 : At v16 GN) : At (k0_pay167 v16) (GI 23) := by
  unfold k0_pay167; exact (el_idx (el_block hv16))
theorem pay168_at {v16 : IVec S8x128 32} {v183 : FVec Ideal S8x128 .f32} {v1040 : FVec Ideal S8x128 .f32} {v1053 : FVec Ideal S8x128 .f32} (hv16 : At v16 GN) (hv183 : At v183 (GA A 2)) (hv1040 : At v1040 (GD A 22 2)) (hv1053 : At v1053 (GR A 22)) : At (k0_pay168 v16 v183 v1040 v1053) (GD A 24 2) := by
  unfold k0_pay168; exact (el_step (pay164_at hv16 hv183 hv1040 hv1053) (el_prod (el_coef hv183 (el_cast2 (el_cast1 (el_pick (el_neg (pay167_at hv16) (by decide)) (pay167_at hv16)))) (by decide)) (pay166_at hv16 hv183 hv1040 hv1053)))
theorem pay169_at {v16 : IVec S8x128 32} (hv16 : At v16 GN) : At (k0_pay169 v16) (GI 23) := by
  unfold k0_pay169; exact (el_cast2 (el_cast1 (el_pick (el_neg (pay167_at hv16) (by decide)) (pay167_at hv16))))
theorem pay170_at {v16 : IVec S8x128 32} {v184 : FVec Ideal S8x128 .f32} {v1077 : FVec Ideal S8x128 .f32} {v1080 : FVec Ideal S8x128 .f32} {v1101 : IVec S8x128 32} (hv16 : At v16 GN) (hv184 : At v184 (GA A 3)) (hv1077 : At v1077 (GD A 23 3)) (hv1080 : At v1080 (GR A 23)) (hv1101 : At v1101 (GI 23)) : At (k0_pay170 v16 v184 v1077 v1080 v1101) (GD A 26 3) := by
  unfold k0_pay170; exact (el_step (el_step (el_step hv1077 (el_prod (el_coef hv184 hv1101 (by decide)) hv1080)) (el_prod (el_coef hv184 (el_cast2 (el_cast1 (el_pick (el_neg (el_idx (el_block hv16)) (by decide)) (el_idx (el_block hv16))))) (by decide)) (el_spread (el_rowCast (el_row (el_step hv1077 (el_prod (el_coef hv184 hv1101 (by decide)) hv1080)) (by rfl)))))) (el_prod (el_coef hv184 (el_cast2 (el_cast1 (el_pick (el_neg (el_idx (el_block hv16)) (by decide)) (el_idx (el_block hv16))))) (by decide)) (el_spread (el_rowCast (el_row (el_step (el_step hv1077 (el_prod (el_coef hv184 hv1101 (by decide)) hv1080)) (el_prod (el_coef hv184 (el_cast2 (el_cast1 (el_pick (el_neg (el_idx (el_block hv16)) (by decide)) (el_idx (el_block hv16))))) (by decide)) (el_spread (el_rowCast (el_row (el_step hv1077 (el_prod (el_coef hv184 hv1101 (by decide)) hv1080)) (by rfl)))))) (by rfl))))))
theorem pay171_at {v16 : IVec S8x128 32} {v184 : FVec Ideal S8x128 .f32} {v1077 : FVec Ideal S8x128 .f32} {v1080 : FVec Ideal S8x128 .f32} {v1101 : IVec S8x128 32} (hv16 : At v16 GN) (hv184 : At v184 (GA A 3)) (hv1077 : At v1077 (GD A 23 3)) (hv1080 : At v1080 (GR A 23)) (hv1101 : At v1101 (GI 23)) : At (k0_pay171 v16 v184 v1077 v1080 v1101) (GR A 26) := by
  unfold k0_pay171; exact (el_spread (el_rowCast (el_row (pay170_at hv16 hv184 hv1077 hv1080 hv1101) (by rfl))))
theorem pay172_at {v16 : IVec S8x128 32} (hv16 : At v16 GN) : At (k0_pay172 v16) (GI 26) := by
  unfold k0_pay172; exact (el_idx (el_block hv16))
theorem pay173_at {v16 : IVec S8x128 32} (hv16 : At v16 GN) : At (k0_pay173 v16) GZ := by
  unfold k0_pay173; exact (el_neg (pay172_at hv16) (by decide))
theorem pay174_at {v16 : IVec S8x128 32} (hv16 : At v16 GN) : At (k0_pay174 v16) (GW 26) := by
  unfold k0_pay174; exact (el_wrap (pay172_at hv16))
theorem pay175_at {v16 : IVec S8x128 32} {v184 : FVec Ideal S8x128 .f32} {v1138 : FVec Ideal S8x128 .f32} {v1141 : FVec Ideal S8x128 .f32} {v1145 : IVec S8x128 32} {v1147 : IVec S8x128 1} {v1149 : IVec S8x128 32} (hv16 : At v16 GN) (hv184 : At v184 (GA A 3)) (hv1138 : At v1138 (GD A 26 3)) (hv1141 : At v1141 (GR A 26)) (hv1145 : At v1145 (GI 26)) (hv1147 : At v1147 GZ) (hv1149 : At v1149 (GW 26)) : At (k0_pay175 v16 v184 v1138 v1141 v1145 v1147 v1149) (GD A 29 3) := by
  unfold k0_pay175; exact (el_step (el_step (el_step hv1138 (el_prod (el_coef hv184 (el_cast2 (el_cast1 (el_pick hv1147 hv1145))) (by decide)) hv1141)) (el_prod (el_coef hv184 (el_cast2 (el_cast1 (el_pick (el_neg (el_idx (el_block hv16)) (by decide)) (el_idx (el_block hv16))))) (by decide)) (el_spread (el_rowCast (el_row (el_step hv1138 (el_prod (el_coef hv184 (el_cast2 (el_cast1 (el_pick hv1147 hv1145))) (by decide)) hv1141)) (by rfl)))))) (el_prod (el_coef hv184 (el_cast2 (el_cast1 (el_pick (el_neg (el_idx (el_block hv16)) (by decide)) (el_idx (el_block hv16))))) (by decide)) (el_spread (el_rowCast (el_row (el_step (el_step hv1138 (el_prod (el_coef hv184 (el_cast2 (el_cast1 (el_pick hv1147 hv1145))) (by decide)) hv1141)) (el_prod (el_coef hv184 (el_cast2 (el_cast1 (el_pick (el_neg (el_idx (el_block hv16)) (by decide)) (el_idx (el_block hv16))))) (by decide)) (el_spread (el_rowCast (el_row (el_step hv1138 (el_prod (el_coef hv184 (el_cast2 (el_cast1 (el_pick hv1147 hv1145))) (by decide)) hv1141)) (by rfl)))))) (by rfl))))))
theorem pay176_at {v16 : IVec S8x128 32} {v184 : FVec Ideal S8x128 .f32} {v1138 : FVec Ideal S8x128 .f32} {v1141 : FVec Ideal S8x128 .f32} {v1145 : IVec S8x128 32} {v1147 : IVec S8x128 1} {v1149 : IVec S8x128 32} (hv16 : At v16 GN) (hv184 : At v184 (GA A 3)) (hv1138 : At v1138 (GD A 26 3)) (hv1141 : At v1141 (GR A 26)) (hv1145 : At v1145 (GI 26)) (hv1147 : At v1147 GZ) (hv1149 : At v1149 (GW 26)) : At (k0_pay176 v16 v184 v1138 v1141 v1145 v1147 v1149) (GR A 29) := by
  unfold k0_pay176; exact (el_spread (el_rowCast (el_row (pay175_at hv16 hv184 hv1138 hv1141 hv1145 hv1147 hv1149) (by rfl))))
theorem pay177_at {v16 : IVec S8x128 32} (hv16 : At v16 GN) : At (k0_pay177 v16) (GI 29) := by
  unfold k0_pay177; exact (el_idx (el_block hv16))
theorem pay178_at {v16 : IVec S8x128 32} (hv16 : At v16 GN) : At (k0_pay178 v16) GZ := by
  unfold k0_pay178; exact (el_neg (pay177_at hv16) (by decide))

end Cert.KernelIdeal.Hand

end
-- ==== Proof.KI.Parts.lean ====
/-
The forward elimination, part by part: what a part returns is what its payloads hold.
-/
module

public import proofs.«01_k».proof.Proof.KI.Elim

@[expose] public section

set_option maxRecDepth 16384

noncomputable section

namespace Cert.KernelIdeal.Hand

open Idealize.ShloMosaic Idealize.ShloMosaic.ValueIdx Cert.KernelIdeal.Gen Cert.Lift

variable {A : ℕ → ℕ → ℝ} (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole)

theorem part6_val {v16 : IVec S8x128 32} {v181 : FVec Ideal S8x128 .f32} {v182 : FVec Ideal S8x128 .f32} {v183 : FVec Ideal S8x128 .f32} {v184 : FVec Ideal S8x128 .f32} {v192 : FVec Ideal S8x128 .f32} {v200 : FVec Ideal S8x128 .f32} {v208 : FVec Ideal S8x128 .f32} {v213 : IVec S8x128 1} {cst_58 : Ideal .f32} {cst_59 : Ideal .f32} (hv16 : At v16 GN) (hv181 : At v181 (GA A 0)) (hv182 : At v182 (GA A 1)) (hv183 : At v183 (GA A 2)) (hv184 : At v184 (GA A 3)) (hv192 : At v192 (GD A 0 0)) (hv200 : At v200 (GD A 0 1)) (hv208 : At v208 (GD A 0 2)) (hv216 : At (select v213 (broadcast S8x128 cst_58) (broadcast S8x128 cst_59)) (GD A 0 3)) :
    ∃ (v233 : FVec Ideal S8x128 .f32) (v243 : FVec Ideal S8x128 .f32) (v253 : FVec Ideal S8x128 .f32) (v263 : FVec Ideal S8x128 .f32), At v233 (GD A 1 0) ∧ At v243 (GD A 1 1) ∧ At v253 (GD A 1 2) ∧ At v263 (GD A 1 3) ∧ k0_part6 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v181 v182 v183 v184 v192 v200 v208 v213 cst_58 cst_59 = pure ⟨v233, v243, v253, v263⟩ :=
  ⟨_, _, _, _, (pay48_at hv16 hv181 hv192), (pay49_at hv16 hv182 hv192 hv200), (pay50_at hv16 hv183 hv192 hv208), (pay51_at hv16 hv184 hv192 hv216), by rw [k0_part6_eq_skeleton]; rfl⟩

theorem part7_val {v16 : IVec S8x128 32} {v181 : FVec Ideal S8x128 .f32} {v182 : FVec Ideal S8x128 .f32} {v183 : FVec Ideal S8x128 .f32} {v184 : FVec Ideal S8x128 .f32} {v233 : FVec Ideal S8x128 .f32} {v243 : FVec Ideal S8x128 .f32} {v253 : FVec Ideal S8x128 .f32} {v263 : FVec Ideal S8x128 .f32} (hv16 : At v16 GN) (hv181 : At v181 (GA A 0)) (hv182 : At v182 (GA A 1)) (hv183 : At v183 (GA A 2)) (hv184 : At v184 (GA A 3)) (hv233 : At v233 (GD A 1 0)) (hv243 : At v243 (GD A 1 1)) (hv253 : At v253 (GD A 1 2)) (hv263 : At v263 (GD A 1 3)) :
    ∃ (v280 : FVec Ideal S8x128 .f32) (v290 : FVec Ideal S8x128 .f32) (v300 : FVec Ideal S8x128 .f32) (v310 : FVec Ideal S8x128 .f32) (v313 : FVec Ideal S8x128 .f32), At v280 (GD A 2 0) ∧ At v290 (GD A 2 1) ∧ At v300 (GD A 2 2) ∧ At v310 (GD A 2 3) ∧ At v313 (GR A 2) ∧ k0_part7 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v181 v182 v183 v184 v233 v243 v253 v263 = pure ⟨v280, v290, v300, v310, v313⟩ :=
  ⟨_, _, _, _, _, (pay54_at hv16 hv181 hv233), (pay55_at hv16 hv182 hv233 hv243), (pay56_at hv16 hv183 hv233 hv253), (pay57_at hv16 hv184 hv233 hv263), (pay58_at hv16 hv181 hv233), by rw [k0_part7_eq_skeleton]; rfl⟩

theorem part8_val {v16 : IVec S8x128 32} {v181 : FVec Ideal S8x128 .f32} {v182 : FVec Ideal S8x128 .f32} {v183 : FVec Ideal S8x128 .f32} {v184 : FVec Ideal S8x128 .f32} {v280 : FVec Ideal S8x128 .f32} {v290 : FVec Ideal S8x128 .f32} {v300 : FVec Ideal S8x128 .f32} {v310 : FVec Ideal S8x128 .f32} {v313 : FVec Ideal S8x128 .f32} (hv16 : At v16 GN) (hv181 : At v181 (GA A 0)) (hv182 : At v182 (GA A 1)) (hv183 : At v183 (GA A 2)) (hv184 : At v184 (GA A 3)) (hv280 : At v280 (GD A 2 0)) (hv290 : At v290 (GD A 2 1)) (hv300 : At v300 (GD A 2 2)) (hv310 : At v310 (GD A 2 3)) (hv313 : At v313 (GR A 2)) :
    ∃ (v327 : FVec Ideal S8x128 .f32) (v337 : FVec Ideal S8x128 .f32) (v347 : FVec Ideal S8x128 .f32) (v357 : FVec Ideal S8x128 .f32) (v360 : FVec Ideal S8x128 .f32) (v362 : IVec S8x128 32), At v327 (GD A 3 0) ∧ At v337 (GD A 3 1) ∧ At v347 (GD A 3 2) ∧ At v357 (GD A 3 3) ∧ At v360 (GR A 3) ∧ At v362 GB ∧ k0_part8 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v181 v182 v183 v184 v280 v290 v300 v310 v313 = pure ⟨v327, v337, v347, v357, v360, v362⟩ :=
  ⟨_, _, _, _, _, _, (pay60_at hv16 hv181 hv280 hv313), (pay61_at hv16 hv182 hv290 hv313), (pay62_at hv16 hv183 hv300 hv313), (pay63_at hv16 hv184 hv310 hv313), (pay64_at hv16 hv181 hv280 hv313), (pay65_at hv16), by rw [k0_part8_eq_skeleton]; rfl⟩

theorem part9_val {v16 : IVec S8x128 32} {v181 : FVec Ideal S8x128 .f32} {v182 : FVec Ideal S8x128 .f32} {v183 : FVec Ideal S8x128 .f32} {v184 : FVec Ideal S8x128 .f32} {v327 : FVec Ideal S8x128 .f32} {v337 : FVec Ideal S8x128 .f32} {v347 : FVec Ideal S8x128 .f32} {v357 : FVec Ideal S8x128 .f32} {v360 : FVec Ideal S8x128 .f32} {v362 : IVec S8x128 32} (hv16 : At v16 GN) (hv181 : At v181 (GA A 0)) (hv182 : At v182 (GA A 1)) (hv183 : At v183 (GA A 2)) (hv184 : At v184 (GA A 3)) (hv327 : At v327 (GD A 3 0)) (hv337 : At v337 (GD A 3 1)) (hv347 : At v347 (GD A 3 2)) (hv357 : At v357 (GD A 3 3)) (hv360 : At v360 (GR A 3)) (hv362 : At v362 GB) :
    ∃ (v374 : FVec Ideal S8x128 .f32) (v384 : FVec Ideal S8x128 .f32) (v394 : FVec Ideal S8x128 .f32) (v404 : FVec Ideal S8x128 .f32) (v407 : FVec Ideal S8x128 .f32) (v411 : IVec S8x128 32), At v374 (GD A 4 0) ∧ At v384 (GD A 4 1) ∧ At v394 (GD A 4 2) ∧ At v404 (GD A 4 3) ∧ At v407 (GR A 4) ∧ At v411 (GI 4) ∧ k0_part9 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v181 v182 v183 v184 v327 v337 v347 v357 v360 v362 = pure ⟨v374, v384, v394, v404, v407, v411⟩ :=
  ⟨_, _, _, _, _, _, (pay67_at hv181 hv327 hv360 hv362), (pay68_at hv182 hv337 hv360 hv362), (pay69_at hv183 hv347 hv360 hv362), (pay70_at hv184 hv357 hv360 hv362), (pay71_at hv181 hv327 hv360 hv362), (pay72_at hv16), by rw [k0_part9_eq_skeleton]; rfl⟩

theorem part10_val {v16 : IVec S8x128 32} {v181 : FVec Ideal S8x128 .f32} {v182 : FVec Ideal S8x128 .f32} {v183 : FVec Ideal S8x128 .f32} {v184 : FVec Ideal S8x128 .f32} {v374 : FVec Ideal S8x128 .f32} {v384 : FVec Ideal S8x128 .f32} {v394 : FVec Ideal S8x128 .f32} {v404 : FVec Ideal S8x128 .f32} {v407 : FVec Ideal S8x128 .f32} {v411 : IVec S8x128 32} (hv16 : At v16 GN) (hv181 : At v181 (GA A 0)) (hv182 : At v182 (GA A 1)) (hv183 : At v183 (GA A 2)) (hv184 : At v184 (GA A 3)) (hv374 : At v374 (GD A 4 0)) (hv384 : At v384 (GD A 4 1)) (hv394 : At v394 (GD A 4 2)) (hv404 : At v404 (GD A 4 3)) (hv407 : At v407 (GR A 4)) (hv411 : At v411 (GI 4)) :
    ∃ (v421 : FVec Ideal S8x128 .f32) (v431 : FVec Ideal S8x128 .f32) (v441 : FVec Ideal S8x128 .f32) (v451 : FVec Ideal S8x128 .f32) (v454 : FVec Ideal S8x128 .f32) (v458 : IVec S8x128 32) (v460 : IVec S8x128 1), At v421 (GD A 5 0) ∧ At v431 (GD A 5 1) ∧ At v441 (GD A 5 2) ∧ At v451 (GD A 5 3) ∧ At v454 (GR A 5) ∧ At v458 (GI 5) ∧ At v460 GZ ∧ k0_part10 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v181 v182 v183 v184 v374 v384 v394 v404 v407 v411 = pure ⟨v421, v431, v441, v451, v454, v458, v460⟩ :=
  ⟨_, _, _, _, _, _, _, (pay73_at hv181 hv374 hv407 hv411), (pay74_at hv182 hv384 hv407 hv411), (pay75_at hv183 hv394 hv407 hv411), (pay76_at hv184 hv404 hv407 hv411), (pay77_at hv181 hv374 hv407 hv411), (pay78_at hv16), (pay79_at hv16), by rw [k0_part10_eq_skeleton]; rfl⟩

theorem part11_val {v16 : IVec S8x128 32} {v181 : FVec Ideal S8x128 .f32} {v182 : FVec Ideal S8x128 .f32} {v183 : FVec Ideal S8x128 .f32} {v184 : FVec Ideal S8x128 .f32} {v421 : FVec Ideal S8x128 .f32} {v431 : FVec Ideal S8x128 .f32} {v441 : FVec Ideal S8x128 .f32} {v451 : FVec Ideal S8x128 .f32} {v454 : FVec Ideal S8x128 .f32} {v458 : IVec S8x128 32} {v460 : IVec S8x128 1} (hv16 : At v16 GN) (hv181 : At v181 (GA A 0)) (hv182 : At v182 (GA A 1)) (hv183 : At v183 (GA A 2)) (hv184 : At v184 (GA A 3)) (hv421 : At v421 (GD A 5 0)) (hv431 : At v431 (GD A 5 1)) (hv441 : At v441 (GD A 5 2)) (hv451 : At v451 (GD A 5 3)) (hv454 : At v454 (GR A 5)) (hv458 : At v458 (GI 5)) (hv460 : At v460 GZ) :
    ∃ (v468 : FVec Ideal S8x128 .f32) (v478 : FVec Ideal S8x128 .f32) (v488 : FVec Ideal S8x128 .f32) (v498 : FVec Ideal S8x128 .f32) (v501 : FVec Ideal S8x128 .f32) (v505 : IVec S8x128 32) (v507 : IVec S8x128 1) (v509 : IVec S8x128 32), At v468 (GD A 6 0) ∧ At v478 (GD A 6 1) ∧ At v488 (GD A 6 2) ∧ At v498 (GD A 6 3) ∧ At v501 (GR A 6) ∧ At v505 (GI 6) ∧ At v507 GZ ∧ At v509 (GW 6) ∧ k0_part11 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v181 v182 v183 v184 v421 v431 v441 v451 v454 v458 v460 = pure ⟨v468, v478, v488, v498, v501, v505, v507, v509⟩ :=
  ⟨_, _, _, _, _, _, _, _, (pay80_at hv181 hv421 hv454 hv458 hv460), (pay81_at hv182 hv431 hv454 hv458), (pay82_at hv183 hv441 hv454 hv458), (pay83_at hv184 hv451 hv454 hv458), (pay84_at hv181 hv421 hv454 hv458 hv460), (pay85_at hv16), (pay86_at hv16), (pay87_at hv16), by rw [k0_part11_eq_skeleton]; rfl⟩

theorem part12_val {v16 : IVec S8x128 32} {v181 : FVec Ideal S8x128 .f32} {v182 : FVec Ideal S8x128 .f32} {v183 : FVec Ideal S8x128 .f32} {v184 : FVec Ideal S8x128 .f32} {v468 : FVec Ideal S8x128 .f32} {v478 : FVec Ideal S8x128 .f32} {v488 : FVec Ideal S8x128 .f32} {v498 : FVec Ideal S8x128 .f32} {v501 : FVec Ideal S8x128 .f32} {v505 : IVec S8x128 32} {v507 : IVec S8x128 1} {v509 : IVec S8x128 32} (hv16 : At v16 GN) (hv181 : At v181 (GA A 0)) (hv182 : At v182 (GA A 1)) (hv183 : At v183 (GA A 2)) (hv184 : At v184 (GA A 3)) (hv468 : At v468 (GD A 6 0)) (hv478 : At v478 (GD A 6 1)) (hv488 : At v488 (GD A 6 2)) (hv498 : At v498 (GD A 6 3)) (hv501 : At v501 (GR A 6)) (hv505 : At v505 (GI 6)) (hv507 : At v507 GZ) (hv509 : At v509 (GW 6)) :
    ∃ (v515 : FVec Ideal S8x128 .f32) (v525 : FVec Ideal S8x128 .f32) (v535 : FVec Ideal S8x128 .f32) (v545 : FVec Ideal S8x128 .f32) (v548 : FVec Ideal S8x128 .f32) (v552 : IVec S8x128 32) (v559 : IVec S8x128 32), At v515 (GD A 7 0) ∧ At v525 (GD A 7 1) ∧ At v535 (GD A 7 2) ∧ At v545 (GD A 7 3) ∧ At v548 (GR A 7) ∧ At v552 (GI 7) ∧ At v559 (GI 7) ∧ k0_part12 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v181 v182 v183 v184 v468 v478 v488 v498 v501 v505 v507 v509 = pure ⟨v515, v525, v535, v545, v548, v552, v559⟩ :=
  ⟨_, _, _, _, _, _, _, (pay88_at hv181 hv468 hv501 hv505 hv507 hv509), (pay89_at hv182 hv478 hv501 hv505), (pay90_at hv183 hv488 hv501 hv505), (pay91_at hv184 hv498 hv501 hv505), (pay92_at hv181 hv468 hv501 hv505 hv507 hv509), (pay93_at hv16), (pay94_at hv16), by rw [k0_part12_eq_skeleton]; rfl⟩

theorem part13_val {v16 : IVec S8x128 32} {v181 : FVec Ideal S8x128 .f32} {v182 : FVec Ideal S8x128 .f32} {v183 : FVec Ideal S8x128 .f32} {v184 : FVec Ideal S8x128 .f32} {v515 : FVec Ideal S8x128 .f32} {v525 : FVec Ideal S8x128 .f32} {v535 : FVec Ideal S8x128 .f32} {v545 : FVec Ideal S8x128 .f32} {v548 : FVec Ideal S8x128 .f32} {v552 : IVec S8x128 32} {v559 : IVec S8x128 32} (hv16 : At v16 GN) (hv181 : At v181 (GA A 0)) (hv182 : At v182 (GA A 1)) (hv183 : At v183 (GA A 2)) (hv184 : At v184 (GA A 3)) (hv515 : At v515 (GD A 7 0)) (hv525 : At v525 (GD A 7 1)) (hv535 : At v535 (GD A 7 2)) (hv545 : At v545 (GD A 7 3)) (hv548 : At v548 (GR A 7)) (hv552 : At v552 (GI 7)) (hv559 : At v559 (GI 7)) :
    ∃ (v562 : FVec Ideal S8x128 .f32) (v582 : FVec Ideal S8x128 .f32) (v592 : FVec Ideal S8x128 .f32) (v595 : FVec Ideal S8x128 .f32) (v599 : IVec S8x128 32) (v609 : FVec Ideal S8x128 .f32), At v562 (GD A 8 0) ∧ At v582 (GD A 8 2) ∧ At v592 (GD A 8 3) ∧ At v595 (GR A 8) ∧ At v599 (GI 8) ∧ At v609 (GD A 9 1) ∧ k0_part13 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v181 v182 v183 v184 v515 v525 v535 v545 v548 v552 v559 = pure ⟨v562, v582, v592, v595, v599, v609⟩ :=
  ⟨_, _, _, _, _, _, (pay95_at hv181 hv515 hv548 hv559), (pay97_at hv183 hv535 hv548 hv552), (pay98_at hv184 hv545 hv548 hv552), (pay99_at hv182 hv525 hv548 hv552), (pay100_at hv16), (pay101_at hv16 hv182 hv525 hv548 hv552), by rw [k0_part13_eq_skeleton]; rfl⟩

theorem part14_val {v16 : IVec S8x128 32} {v182 : FVec Ideal S8x128 .f32} {v183 : FVec Ideal S8x128 .f32} {v184 : FVec Ideal S8x128 .f32} {v582 : FVec Ideal S8x128 .f32} {v592 : FVec Ideal S8x128 .f32} {v595 : FVec Ideal S8x128 .f32} {v599 : IVec S8x128 32} {v609 : FVec Ideal S8x128 .f32} (hv16 : At v16 GN) (hv182 : At v182 (GA A 1)) (hv183 : At v183 (GA A 2)) (hv184 : At v184 (GA A 3)) (hv582 : At v582 (GD A 8 2)) (hv592 : At v592 (GD A 8 3)) (hv595 : At v595 (GR A 8)) (hv599 : At v599 (GI 8)) (hv609 : At v609 (GD A 9 1)) :
    ∃ (v629 : FVec Ideal S8x128 .f32) (v632 : FVec Ideal S8x128 .f32) (v636 : IVec S8x128 32) (v646 : FVec Ideal S8x128 .f32) (v656 : FVec Ideal S8x128 .f32) (v658 : IVec S8x128 1), At v629 (GD A 9 3) ∧ At v632 (GR A 9) ∧ At v636 (GI 9) ∧ At v646 (GD A 10 1) ∧ At v656 (GD A 10 2) ∧ At v658 GZ ∧ k0_part14 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v182 v183 v184 v582 v592 v595 v599 v609 = pure ⟨v629, v632, v636, v646, v656, v658⟩ :=
  ⟨_, _, _, _, _, _, (pay102_at hv184 hv592 hv595 hv599), (pay103_at hv609), (pay104_at hv16), (pay105_at hv16 hv182 hv609), (pay106_at hv16 hv183 hv582 hv595 hv599 hv609), (pay107_at hv16), by rw [k0_part14_eq_skeleton]; rfl⟩

theorem part15_val {v16 : IVec S8x128 32} {v182 : FVec Ideal S8x128 .f32} {v183 : FVec Ideal S8x128 .f32} {v184 : FVec Ideal S8x128 .f32} {v629 : FVec Ideal S8x128 .f32} {v632 : FVec Ideal S8x128 .f32} {v636 : IVec S8x128 32} {v646 : FVec Ideal S8x128 .f32} {v656 : FVec Ideal S8x128 .f32} {v658 : IVec S8x128 1} (hv16 : At v16 GN) (hv182 : At v182 (GA A 1)) (hv183 : At v183 (GA A 2)) (hv184 : At v184 (GA A 3)) (hv629 : At v629 (GD A 9 3)) (hv632 : At v632 (GR A 9)) (hv636 : At v636 (GI 9)) (hv646 : At v646 (GD A 10 1)) (hv656 : At v656 (GD A 10 2)) (hv658 : At v658 GZ) :
    ∃ (v683 : FVec Ideal S8x128 .f32) (v693 : FVec Ideal S8x128 .f32) (v703 : FVec Ideal S8x128 .f32) (v706 : FVec Ideal S8x128 .f32) (v708 : IVec S8x128 32), At v683 (GD A 11 1) ∧ At v693 (GD A 11 2) ∧ At v703 (GD A 11 3) ∧ At v706 (GR A 11) ∧ At v708 GB ∧ k0_part15 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v182 v183 v184 v629 v632 v636 v646 v656 v658 = pure ⟨v683, v693, v703, v706, v708⟩ :=
  ⟨_, _, _, _, _, (pay110_at hv16 hv182 hv646), (pay111_at hv16 hv183 hv646 hv656), (pay112_at hv16 hv184 hv629 hv632 hv636 hv646 hv658), (pay113_at hv16 hv182 hv646), (pay114_at hv16), by rw [k0_part15_eq_skeleton]; rfl⟩

theorem part16_val {v16 : IVec S8x128 32} {v182 : FVec Ideal S8x128 .f32} {v183 : FVec Ideal S8x128 .f32} {v184 : FVec Ideal S8x128 .f32} {v683 : FVec Ideal S8x128 .f32} {v693 : FVec Ideal S8x128 .f32} {v703 : FVec Ideal S8x128 .f32} {v706 : FVec Ideal S8x128 .f32} {v708 : IVec S8x128 32} (hv16 : At v16 GN) (hv182 : At v182 (GA A 1)) (hv183 : At v183 (GA A 2)) (hv184 : At v184 (GA A 3)) (hv683 : At v683 (GD A 11 1)) (hv693 : At v693 (GD A 11 2)) (hv703 : At v703 (GD A 11 3)) (hv706 : At v706 (GR A 11)) (hv708 : At v708 GB) :
    ∃ (v730 : FVec Ideal S8x128 .f32) (v740 : FVec Ideal S8x128 .f32) (v743 : FVec Ideal S8x128 .f32) (v747 : IVec S8x128 32) (v757 : FVec Ideal S8x128 .f32), At v730 (GD A 12 2) ∧ At v740 (GD A 12 3) ∧ At v743 (GR A 12) ∧ At v747 (GI 12) ∧ At v757 (GD A 13 1) ∧ k0_part16 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v182 v183 v184 v683 v693 v703 v706 v708 = pure ⟨v730, v740, v743, v747, v757⟩ :=
  ⟨_, _, _, _, _, (pay117_at hv183 hv693 hv706 hv708), (pay118_at hv184 hv703 hv706 hv708), (pay119_at hv182 hv683 hv706 hv708), (pay120_at hv16), (pay121_at hv16 hv182 hv683 hv706 hv708), by rw [k0_part16_eq_skeleton]; rfl⟩

theorem part17_val {v16 : IVec S8x128 32} {v182 : FVec Ideal S8x128 .f32} {v183 : FVec Ideal S8x128 .f32} {v184 : FVec Ideal S8x128 .f32} {v730 : FVec Ideal S8x128 .f32} {v740 : FVec Ideal S8x128 .f32} {v743 : FVec Ideal S8x128 .f32} {v747 : IVec S8x128 32} {v757 : FVec Ideal S8x128 .f32} (hv16 : At v16 GN) (hv182 : At v182 (GA A 1)) (hv183 : At v183 (GA A 2)) (hv184 : At v184 (GA A 3)) (hv730 : At v730 (GD A 12 2)) (hv740 : At v740 (GD A 12 3)) (hv743 : At v743 (GR A 12)) (hv747 : At v747 (GI 12)) (hv757 : At v757 (GD A 13 1)) :
    ∃ (v777 : FVec Ideal S8x128 .f32) (v780 : FVec Ideal S8x128 .f32) (v784 : IVec S8x128 32) (v794 : FVec Ideal S8x128 .f32) (v804 : FVec Ideal S8x128 .f32) (v806 : IVec S8x128 1), At v777 (GD A 13 3) ∧ At v780 (GR A 13) ∧ At v784 (GI 13) ∧ At v794 (GD A 14 1) ∧ At v804 (GD A 14 2) ∧ At v806 GZ ∧ k0_part17 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v182 v183 v184 v730 v740 v743 v747 v757 = pure ⟨v777, v780, v784, v794, v804, v806⟩ :=
  ⟨_, _, _, _, _, _, (pay122_at hv184 hv740 hv743 hv747), (pay123_at hv757), (pay124_at hv16), (pay125_at hv16 hv182 hv757), (pay126_at hv16 hv183 hv730 hv743 hv747 hv757), (pay127_at hv16), by rw [k0_part17_eq_skeleton]; rfl⟩

theorem part18_val {v16 : IVec S8x128 32} {v182 : FVec Ideal S8x128 .f32} {v183 : FVec Ideal S8x128 .f32} {v184 : FVec Ideal S8x128 .f32} {v777 : FVec Ideal S8x128 .f32} {v780 : FVec Ideal S8x128 .f32} {v784 : IVec S8x128 32} {v794 : FVec Ideal S8x128 .f32} {v804 : FVec Ideal S8x128 .f32} {v806 : IVec S8x128 1} (hv16 : At v16 GN) (hv182 : At v182 (GA A 1)) (hv183 : At v183 (GA A 2)) (hv184 : At v184 (GA A 3)) (hv777 : At v777 (GD A 13 3)) (hv780 : At v780 (GR A 13)) (hv784 : At v784 (GI 13)) (hv794 : At v794 (GD A 14 1)) (hv804 : At v804 (GD A 14 2)) (hv806 : At v806 GZ) :
    ∃ (v831 : FVec Ideal S8x128 .f32) (v841 : FVec Ideal S8x128 .f32) (v851 : FVec Ideal S8x128 .f32) (v854 : FVec Ideal S8x128 .f32) (v856 : IVec S8x128 32), At v831 (GD A 15 1) ∧ At v841 (GD A 15 2) ∧ At v851 (GD A 15 3) ∧ At v854 (GR A 15) ∧ At v856 GB ∧ k0_part18 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v182 v183 v184 v777 v780 v784 v794 v804 v806 = pure ⟨v831, v841, v851, v854, v856⟩ :=
  ⟨_, _, _, _, _, (pay130_at hv16 hv182 hv794), (pay131_at hv16 hv183 hv794 hv804), (pay132_at hv16 hv184 hv777 hv780 hv784 hv794 hv806), (pay133_at hv16 hv182 hv794), (pay134_at hv16), by rw [k0_part18_eq_skeleton]; rfl⟩

theorem part19_val {v16 : IVec S8x128 32} {v182 : FVec Ideal S8x128 .f32} {v183 : FVec Ideal S8x128 .f32} {v184 : FVec Ideal S8x128 .f32} {v831 : FVec Ideal S8x128 .f32} {v841 : FVec Ideal S8x128 .f32} {v851 : FVec Ideal S8x128 .f32} {v854 : FVec Ideal S8x128 .f32} {v856 : IVec S8x128 32} (hv16 : At v16 GN) (hv182 : At v182 (GA A 1)) (hv183 : At v183 (GA A 2)) (hv184 : At v184 (GA A 3)) (hv831 : At v831 (GD A 15 1)) (hv841 : At v841 (GD A 15 2)) (hv851 : At v851 (GD A 15 3)) (hv854 : At v854 (GR A 15)) (hv856 : At v856 GB) :
    ∃ (v868 : FVec Ideal S8x128 .f32) (v888 : FVec Ideal S8x128 .f32) (v891 : FVec Ideal S8x128 .f32) (v895 : IVec S8x128 32) (v905 : FVec Ideal S8x128 .f32), At v868 (GD A 16 1) ∧ At v888 (GD A 16 3) ∧ At v891 (GR A 16) ∧ At v895 (GI 16) ∧ At v905 (GD A 17 2) ∧ k0_part19 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v182 v183 v184 v831 v841 v851 v854 v856 = pure ⟨v868, v888, v891, v895, v905⟩ :=
  ⟨_, _, _, _, _, (pay136_at hv182 hv831 hv854 hv856), (pay138_at hv184 hv851 hv854 hv856), (pay139_at hv183 hv841 hv854 hv856), (pay140_at hv16), (pay141_at hv16 hv183 hv841 hv854 hv856), by rw [k0_part19_eq_skeleton]; rfl⟩

theorem part20_val {v16 : IVec S8x128 32} {v183 : FVec Ideal S8x128 .f32} {v184 : FVec Ideal S8x128 .f32} {v888 : FVec Ideal S8x128 .f32} {v891 : FVec Ideal S8x128 .f32} {v895 : IVec S8x128 32} {v905 : FVec Ideal S8x128 .f32} (hv16 : At v16 GN) (hv183 : At v183 (GA A 2)) (hv184 : At v184 (GA A 3)) (hv888 : At v888 (GD A 16 3)) (hv891 : At v891 (GR A 16)) (hv895 : At v895 (GI 16)) (hv905 : At v905 (GD A 17 2)) :
    ∃ (v932 : FVec Ideal S8x128 .f32) (v942 : FVec Ideal S8x128 .f32) (v945 : FVec Ideal S8x128 .f32) (v949 : IVec S8x128 32) (v951 : IVec S8x128 1) (v953 : IVec S8x128 32), At v932 (GD A 18 2) ∧ At v942 (GD A 18 3) ∧ At v945 (GR A 18) ∧ At v949 (GI 18) ∧ At v951 GZ ∧ At v953 (GW 18) ∧ k0_part20 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v183 v184 v888 v891 v895 v905 = pure ⟨v932, v942, v945, v949, v951, v953⟩ :=
  ⟨_, _, _, _, _, _, (pay144_at hv16 hv183 hv905), (pay145_at hv16 hv184 hv888 hv891 hv895 hv905), (pay146_at hv16 hv183 hv905), (pay147_at hv16), (pay148_at hv16), (pay149_at hv16), by rw [k0_part20_eq_skeleton]; rfl⟩

theorem part21_val {v16 : IVec S8x128 32} {v183 : FVec Ideal S8x128 .f32} {v184 : FVec Ideal S8x128 .f32} {v932 : FVec Ideal S8x128 .f32} {v942 : FVec Ideal S8x128 .f32} {v945 : FVec Ideal S8x128 .f32} {v949 : IVec S8x128 32} {v951 : IVec S8x128 1} {v953 : IVec S8x128 32} (hv16 : At v16 GN) (hv183 : At v183 (GA A 2)) (hv184 : At v184 (GA A 3)) (hv932 : At v932 (GD A 18 2)) (hv942 : At v942 (GD A 18 3)) (hv945 : At v945 (GR A 18)) (hv949 : At v949 (GI 18)) (hv951 : At v951 GZ) (hv953 : At v953 (GW 18)) :
    ∃ (v986 : FVec Ideal S8x128 .f32) (v996 : FVec Ideal S8x128 .f32) (v999 : FVec Ideal S8x128 .f32) (v1003 : IVec S8x128 32), At v986 (GD A 20 2) ∧ At v996 (GD A 20 3) ∧ At v999 (GR A 20) ∧ At v1003 (GI 20) ∧ k0_part21 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v183 v184 v932 v942 v945 v949 v951 v953 = pure ⟨v986, v996, v999, v1003⟩ :=
  ⟨_, _, _, _, (pay153_at hv16 hv183 hv932 hv945 hv949 hv951 hv953), (pay154_at hv16 hv183 hv184 hv932 hv942 hv945 hv949 hv951 hv953), (pay155_at hv16 hv183 hv932 hv945 hv949 hv951 hv953), (pay156_at hv16), by rw [k0_part21_eq_skeleton]; rfl⟩

theorem part22_val {v16 : IVec S8x128 32} {v183 : FVec Ideal S8x128 .f32} {v184 : FVec Ideal S8x128 .f32} {v986 : FVec Ideal S8x128 .f32} {v996 : FVec Ideal S8x128 .f32} {v999 : FVec Ideal S8x128 .f32} {v1003 : IVec S8x128 32} (hv16 : At v16 GN) (hv183 : At v183 (GA A 2)) (hv184 : At v184 (GA A 3)) (hv986 : At v986 (GD A 20 2)) (hv996 : At v996 (GD A 20 3)) (hv999 : At v999 (GR A 20)) (hv1003 : At v1003 (GI 20)) :
    ∃ (v1040 : FVec Ideal S8x128 .f32) (v1050 : FVec Ideal S8x128 .f32) (v1053 : FVec Ideal S8x128 .f32), At v1040 (GD A 22 2) ∧ At v1050 (GD A 22 3) ∧ At v1053 (GR A 22) ∧ k0_part22 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v183 v184 v986 v996 v999 v1003 = pure ⟨v1040, v1050, v1053⟩ :=
  ⟨_, _, _, (pay160_at hv16 hv183 hv986 hv999 hv1003), (pay161_at hv16 hv183 hv184 hv986 hv996 hv999 hv1003), (pay162_at hv16 hv183 hv986 hv999 hv1003), by rw [k0_part22_eq_skeleton]; rfl⟩

theorem part23_val {v16 : IVec S8x128 32} {v183 : FVec Ideal S8x128 .f32} {v184 : FVec Ideal S8x128 .f32} {v1040 : FVec Ideal S8x128 .f32} {v1050 : FVec Ideal S8x128 .f32} {v1053 : FVec Ideal S8x128 .f32} (hv16 : At v16 GN) (hv183 : At v183 (GA A 2)) (hv184 : At v184 (GA A 3)) (hv1040 : At v1040 (GD A 22 2)) (hv1050 : At v1050 (GD A 22 3)) (hv1053 : At v1053 (GR A 22)) :
    ∃ (v1077 : FVec Ideal S8x128 .f32) (v1080 : FVec Ideal S8x128 .f32) (v1094 : FVec Ideal S8x128 .f32) (v1101 : IVec S8x128 32), At v1077 (GD A 23 3) ∧ At v1080 (GR A 23) ∧ At v1094 (GD A 24 2) ∧ At v1101 (GI 23) ∧ k0_part23 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v183 v184 v1040 v1050 v1053 = pure ⟨v1077, v1080, v1094, v1101⟩ :=
  ⟨_, _, _, _, (pay165_at hv16 hv184 hv1050 hv1053), (pay166_at hv16 hv183 hv1040 hv1053), (pay168_at hv16 hv183 hv1040 hv1053), (pay169_at hv16), by rw [k0_part23_eq_skeleton]; rfl⟩

theorem part24_val {v16 : IVec S8x128 32} {v184 : FVec Ideal S8x128 .f32} {v1077 : FVec Ideal S8x128 .f32} {v1080 : FVec Ideal S8x128 .f32} {v1101 : IVec S8x128 32} (hv16 : At v16 GN) (hv184 : At v184 (GA A 3)) (hv1077 : At v1077 (GD A 23 3)) (hv1080 : At v1080 (GR A 23)) (hv1101 : At v1101 (GI 23)) :
    ∃ (v1138 : FVec Ideal S8x128 .f32) (v1141 : FVec Ideal S8x128 .f32) (v1145 : IVec S8x128 32) (v1147 : IVec S8x128 1) (v1149 : IVec S8x128 32), At v1138 (GD A 26 3) ∧ At v1141 (GR A 26) ∧ At v1145 (GI 26) ∧ At v1147 GZ ∧ At v1149 (GW 26) ∧ k0_part24 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v184 v1077 v1080 v1101 = pure ⟨v1138, v1141, v1145, v1147, v1149⟩ :=
  ⟨_, _, _, _, _, (pay170_at hv16 hv184 hv1077 hv1080 hv1101), (pay171_at hv16 hv184 hv1077 hv1080 hv1101), (pay172_at hv16), (pay173_at hv16), (pay174_at hv16), by rw [k0_part24_eq_skeleton]; rfl⟩

theorem part25_val {v16 : IVec S8x128 32} {v184 : FVec Ideal S8x128 .f32} {v1138 : FVec Ideal S8x128 .f32} {v1141 : FVec Ideal S8x128 .f32} {v1145 : IVec S8x128 32} {v1147 : IVec S8x128 1} {v1149 : IVec S8x128 32} (hv16 : At v16 GN) (hv184 : At v184 (GA A 3)) (hv1138 : At v1138 (GD A 26 3)) (hv1141 : At v1141 (GR A 26)) (hv1145 : At v1145 (GI 26)) (hv1147 : At v1147 GZ) (hv1149 : At v1149 (GW 26)) :
    ∃ (v1189 : FVec Ideal S8x128 .f32) (v1192 : FVec Ideal S8x128 .f32) (v1196 : IVec S8x128 32) (v1198 : IVec S8x128 1), At v1189 (GD A 29 3) ∧ At v1192 (GR A 29) ∧ At v1196 (GI 29) ∧ At v1198 GZ ∧ k0_part25 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v184 v1138 v1141 v1145 v1147 v1149 = pure ⟨v1189, v1192, v1196, v1198⟩ :=
  ⟨_, _, _, _, (pay175_at hv16 hv184 hv1138 hv1141 hv1145 hv1147 hv1149), (pay176_at hv16 hv184 hv1138 hv1141 hv1145 hv1147 hv1149), (pay177_at hv16), (pay178_at hv16), by rw [k0_part25_eq_skeleton]; rfl⟩

end Cert.KernelIdeal.Hand

end
-- ==== Proof.Mat.lean ====
/-
Matrices of real numbers: the operations of the kernel on vectors of two axes, each read at a row and a lane.
-/
module

public import proofs.«01_k».proof.Proof.Lift

@[expose] public section

noncomputable section

namespace Cert.Lift

open Idealize.ShloMosaic

/-- The reading of a matrix of reals. -/
def rd (f : ℕ → ℕ → ℝ) (c : ℕ → ℕ) : EReal := ((f (c 0) (c 1) : ℝ) : EReal)

/-- A shape of two axes. -/
abbrev T2 (n m : ℕ) : Shape := ⟨2, ![n, m]⟩

variable {n m n₁ n₂ n₃ n₄ k : ℕ} {φ ψ : FTy} {f g : ℕ → ℕ → ℝ}

theorem co0_lt {i : (T2 n m).Idx} : co i 0 < n := by
  have h := co_lt i 0 (by show 0 < 2; omega); change _ < n at h; exact h
theorem co1_lt {i : (T2 n m).Idx} : co i 1 < m := by
  have h := co_lt i 1 (by show 1 < 2; omega); change _ < m at h; exact h

theorem m_congr {x : FVec Ideal (T2 n m) φ} (h : At x (rd f)) (e : ∀ r l, r < n → l < m → f r l = g r l) : At x (rd g) :=
  h.congr fun i => by unfold rd; rw [e _ _ co0_lt co1_lt]
theorem m_add {x y : FVec Ideal (T2 n m) φ} (hx : At x (rd f)) (hy : At y (rd g)) : At (addf x y) (rd fun r l => f r l + g r l) := hx.addf hy
theorem m_sub {x y : FVec Ideal (T2 n m) φ} (hx : At x (rd f)) (hy : At y (rd g)) : At (subf x y) (rd fun r l => f r l - g r l) := hx.subf hy
theorem m_mul {x y : FVec Ideal (T2 n m) φ} (hx : At x (rd f)) (hy : At y (rd g)) : At (mulf x y) (rd fun r l => f r l * g r l) := hx.mulf hy
theorem m_exp {x : FVec Ideal (T2 n m) φ} (hx : At x (rd f)) : At (exp x) (rd fun r l => Real.exp (f r l)) := hx.exp
theorem m_truncf {x : FVec Ideal (T2 n m) φ} (hx : At x (rd f)) {h : ψ.bits < φ.bits} : At (truncf ψ x h : FVec Ideal (T2 n m) ψ) (rd f) := hx.truncf h
theorem m_extf {x : FVec Ideal (T2 n m) φ} (hx : At x (rd f)) {h : φ.bits < ψ.bits} : At (extf ψ x h : FVec Ideal (T2 n m) ψ) (rd f) := hx.extf h
theorem m_rest {x : FVec Ideal (T2 n m) φ} (hx : At x (rd f)) {h h' : ψ.bits < φ.bits} :
    At (subf x (extf φ (truncf ψ x h) h')) (rd fun _ _ => 0) := hx.rest h h'
theorem m_splat {v : EReal} {r : ℝ} (h : v = ((r : ℝ) : EReal)) : At (broadcast (T2 n m) v) (rd fun _ _ => r) := fun _ => h
theorem m_select {c : IVec (T2 n m) 1} {p : ℕ → ℕ → Prop} [∀ r l, Decidable (p r l)] {x y : FVec Ideal (T2 n m) φ}
    (hc : At c fun c => if p (c 0) (c 1) then 1#1 else 0#1) (hx : At x (rd f)) (hy : At y (rd g)) :
    At (select c x y) (rd fun r l => if p r l then f r l else g r l) := At.selectP (p := fun c => p (c 0) (c 1)) hc hx hy
theorem m_slice {a b : ℕ} {x : FVec Ideal (T2 n m) φ} {h : (T2 n m).Slices ![a, b] (T2 n₁ n₂)} (hx : At x (rd f)) :
    At (extractStridedSlice (T2 n₁ n₂) ![a, b] x h) (rd fun r l => f (a + r) (b + l)) := hx.slice
theorem m_row {x : FVec Ideal (T2 1 m) φ} {h : (T2 1 m).Broadcasts (T2 n m)} (hx : At x (rd f)) :
    At (broadcastTo (T2 n m) x h) (rd fun _ l => f 0 l) := hx.broadcastTo.congr fun i => by
  unfold rd
  by_cases hm : m = 1
  · have : co i 1 = 0 := by have := @co1_lt n m i; omega
    subst hm; rw [this]; rfl
  · show ((f 0 (if m = 1 then 0 else co i 1) : ℝ) : EReal) = _
    rw [if_neg hm]
theorem m_self {x : FVec Ideal (T2 n m) φ} {h : (T2 n m).ShapeCasts (T2 n m)} (hx : At x (rd f)) : At (shapeCast (T2 n m) x h) (rd f) := hx.shapeCast_self
theorem m_transpose {x : FVec Ideal (T2 n m) φ} {h : (T2 n m).Transposes [1, 0] (T2 m n)} (hx : At x (rd f)) :
    At (transpose (T2 m n) [1, 0] x h) (rd fun r l => f l r) := hx.transpose
theorem m_rows2 {x₁ : FVec Ideal (T2 n₁ m) φ} {x₂ : FVec Ideal (T2 n₂ m) φ} {f₁ f₂ : ℕ → ℕ → ℝ} (h₁ : At x₁ (rd f₁)) (h₂ : At x₂ (rd f₂))
    {h : Shape.Concatenates [T2 n₁ m, T2 n₂ m] (T2 n m) 0} :
    At (concatenate (T2 n m) 0 [⟨T2 n₁ m, x₁⟩, ⟨T2 n₂ m, x₂⟩] h : FVec Ideal (T2 n m) φ) (rd fun r l => if r < n₁ then f₁ r l else f₂ (r - n₁) l) :=
  (At.concat2 h₁ h₂ fun _ => rfl).congr fun i => by
    unfold rd back
    show (if co i 0 < n₁ then _ else _) = _
    by_cases e : co i 0 < n₁ <;> simp [e]
theorem m_cols2 {x₁ : FVec Ideal (T2 n n₁) φ} {x₂ : FVec Ideal (T2 n n₂) φ} {f₁ f₂ : ℕ → ℕ → ℝ} (h₁ : At x₁ (rd f₁)) (h₂ : At x₂ (rd f₂))
    {h : Shape.Concatenates [T2 n n₁, T2 n n₂] (T2 n m) 1} :
    At (concatenate (T2 n m) 1 [⟨T2 n n₁, x₁⟩, ⟨T2 n n₂, x₂⟩] h : FVec Ideal (T2 n m) φ) (rd fun r l => if l < n₁ then f₁ r l else f₂ r (l - n₁)) :=
  (At.concat2 h₁ h₂ fun _ => rfl).congr fun i => by
    unfold rd back
    show (if co i 1 < n₁ then _ else _) = _
    by_cases e : co i 1 < n₁ <;> simp [e]
theorem m_rows3 {x₁ : FVec Ideal (T2 n₁ m) φ} {x₂ : FVec Ideal (T2 n₂ m) φ} {x₃ : FVec Ideal (T2 n₃ m) φ} {f₁ f₂ f₃ : ℕ → ℕ → ℝ}
    (h₁ : At x₁ (rd f₁)) (h₂ : At x₂ (rd f₂)) (h₃ : At x₃ (rd f₃))
    {h : Shape.Concatenates [T2 n₁ m, T2 n₂ m, T2 n₃ m] (T2 n m) 0} :
    At (concatenate (T2 n m) 0 [⟨T2 n₁ m, x₁⟩, ⟨T2 n₂ m, x₂⟩, ⟨T2 n₃ m, x₃⟩] h : FVec Ideal (T2 n m) φ)
      (rd fun r l => if r < n₁ then f₁ r l else if r - n₁ < n₂ then f₂ (r - n₁) l else f₃ (r - n₁ - n₂) l) :=
  (At.concat3 h₁ h₂ h₃ (fun _ => rfl) fun _ => rfl).congr fun i => by
    unfold rd back
    show (if co i 0 < n₁ then _ else if co i 0 - n₁ < n₂ then _ else _) = _
    by_cases e : co i 0 < n₁ <;> by_cases e' : co i 0 - n₁ < n₂ <;> simp [e, e']
theorem m_rows4 {x₁ : FVec Ideal (T2 n₁ m) φ} {x₂ : FVec Ideal (T2 n₂ m) φ} {x₃ : FVec Ideal (T2 n₃ m) φ} {x₄ : FVec Ideal (T2 n₄ m) φ}
    {f₁ f₂ f₃ f₄ : ℕ → ℕ → ℝ} (h₁ : At x₁ (rd f₁)) (h₂ : At x₂ (rd f₂)) (h₃ : At x₃ (rd f₃)) (h₄ : At x₄ (rd f₄))
    {h : Shape.Concatenates [T2 n₁ m, T2 n₂ m, T2 n₃ m, T2 n₄ m] (T2 n m) 0} :
    At (concatenate (T2 n m) 0 [⟨T2 n₁ m, x₁⟩, ⟨T2 n₂ m, x₂⟩, ⟨T2 n₃ m, x₃⟩, ⟨T2 n₄ m, x₄⟩] h : FVec Ideal (T2 n m) φ)
      (rd fun r l => if r < n₁ then f₁ r l else if r - n₁ < n₂ then f₂ (r - n₁) l else if r - n₁ - n₂ < n₃ then f₃ (r - n₁ - n₂) l
        else f₄ (r - n₁ - n₂ - n₃) l) :=
  (At.concat4 h₁ h₂ h₃ h₄ (fun _ => rfl) (fun _ => rfl) fun _ => rfl).congr fun i => by
    unfold rd back
    show (if co i 0 < n₁ then _ else if co i 0 - n₁ < n₂ then _ else if co i 0 - n₁ - n₂ < n₃ then _ else _) = _
    by_cases e : co i 0 < n₁ <;> by_cases e' : co i 0 - n₁ < n₂ <;> by_cases e'' : co i 0 - n₁ - n₂ < n₃ <;> simp [e, e', e'']
theorem m_cols4 {x₁ : FVec Ideal (T2 n n₁) φ} {x₂ : FVec Ideal (T2 n n₂) φ} {x₃ : FVec Ideal (T2 n n₃) φ} {x₄ : FVec Ideal (T2 n n₄) φ}
    {f₁ f₂ f₃ f₄ : ℕ → ℕ → ℝ} (h₁ : At x₁ (rd f₁)) (h₂ : At x₂ (rd f₂)) (h₃ : At x₃ (rd f₃)) (h₄ : At x₄ (rd f₄))
    {h : Shape.Concatenates [T2 n n₁, T2 n n₂, T2 n n₃, T2 n n₄] (T2 n m) 1} :
    At (concatenate (T2 n m) 1 [⟨T2 n n₁, x₁⟩, ⟨T2 n n₂, x₂⟩, ⟨T2 n n₃, x₃⟩, ⟨T2 n n₄, x₄⟩] h : FVec Ideal (T2 n m) φ)
      (rd fun r l => if l < n₁ then f₁ r l else if l - n₁ < n₂ then f₂ r (l - n₁) else if l - n₁ - n₂ < n₃ then f₃ r (l - n₁ - n₂)
        else f₄ r (l - n₁ - n₂ - n₃)) :=
  (At.concat4 h₁ h₂ h₃ h₄ (fun _ => rfl) (fun _ => rfl) fun _ => rfl).congr fun i => by
    unfold rd back
    show (if co i 1 < n₁ then _ else if co i 1 - n₁ < n₂ then _ else if co i 1 - n₁ - n₂ < n₃ then _ else _) = _
    by_cases e : co i 1 < n₁ <;> by_cases e' : co i 1 - n₁ < n₂ <;> by_cases e'' : co i 1 - n₁ - n₂ < n₃ <;> simp [e, e', e'']

/-- A product, of the rows of one with the columns of the other. -/
theorem m_dot {K : ℕ} {z : FVec Ideal (T2 n m) .f32} {x : FVec Ideal (T2 n K) φ} {y : FVec Ideal (T2 K m) φ} (hx : At x (rd f)) (hy : At y (rd g))
    (hz : ∀ j, z j = constant (F := Ideal) (T2 n m) .f32 0x00000000#32 j + ∑ k : Fin K, x (ix2 (j 0) k) * y (ix2 k (j 1))) :
    At z (rd fun r l => ∑ k ∈ Finset.range K, f r k * g k l) :=
  At.dot (F := fun c k => f (c 0) k) (G := fun c k => g k (c 1)) hx hy hz (fun _ => zero_f32.trans EReal.coe_zero) (fun j k => rfl) (fun j k => rfl)
/-- A product of rows with rows. -/
theorem m_dotT {K : ℕ} {z : FVec Ideal (T2 n m) .f32} {x : FVec Ideal (T2 n K) φ} {y : FVec Ideal (T2 m K) φ} (hx : At x (rd f)) (hy : At y (rd g))
    (hz : ∀ j, z j = constant (F := Ideal) (T2 n m) .f32 0x00000000#32 j + ∑ k : Fin K, x (ix2 (j 0) k) * y (ix2 (j 1) k)) :
    At z (rd fun r l => ∑ k ∈ Finset.range K, f r k * g l k) :=
  At.dot (F := fun c k => f (c 0) k) (G := fun c k => g (c 1) k) hx hy hz (fun _ => zero_f32.trans EReal.coe_zero) (fun j k => rfl) (fun j k => rfl)

/-- A product whose factors are written as three parts each, the second and third of them zero: what is left is the product of the first parts. -/
theorem split_sum (K : ℕ) (a b : ℕ → ℝ) : ∑ k ∈ Finset.range (K + K + K + K),
    (if k < K then a k else if k - K < K then a (k - K) else if k - K - K < K then 0 else 0) *
    (if k < K then b k else if k - K < K then 0 else if k - K - K < K then b (k - K - K) else b (k - K - K - K)) = ∑ k ∈ Finset.range K, a k * b k := by
  rw [Finset.sum_range_add, Finset.sum_range_add, Finset.sum_range_add]
  refine (congrArg₂ (· + ·) (congrArg₂ (· + ·) (congrArg₂ (· + ·) (Finset.sum_congr (g := fun k => a k * b k) rfl ?_) (Finset.sum_eq_zero ?_))
    (Finset.sum_eq_zero ?_)) (Finset.sum_eq_zero ?_)).trans (by simp only [add_zero])
  · intro x hx; rw [if_pos (Finset.mem_range.1 hx), if_pos (Finset.mem_range.1 hx)]
  · intro x hx; have := Finset.mem_range.1 hx
    rw [if_neg (by omega : ¬ K + x < K), if_pos (by omega : K + x - K < K), if_neg (by omega : ¬ K + x < K), if_pos (by omega : K + x - K < K), mul_zero]
  · intro x hx; have := Finset.mem_range.1 hx
    rw [if_neg (by omega : ¬ K + K + x < K), if_neg (by omega : ¬ K + K + x - K < K), if_pos (by omega : K + K + x - K - K < K), zero_mul]
  · intro x hx; have := Finset.mem_range.1 hx
    rw [if_neg (by omega : ¬ K + K + K + x < K), if_neg (by omega : ¬ K + K + K + x - K < K), if_neg (by omega : ¬ K + K + K + x - K - K < K), zero_mul]

/-- The left factor, in parts. -/
theorem m_lhs {K K4 : ℕ} {x : FVec Ideal (T2 n K) .f32} (hx : At x (rd f)) {h h' h'' h₃ h₄ : FTy.bf16.bits < FTy.f32.bits}
    {e : Shape.Concatenates [T2 n K, T2 n K, T2 n K, T2 n K] (T2 n K4) 1} :
    At (concatenate (T2 n K4) 1 [⟨T2 n K, truncf .bf16 x h⟩, ⟨T2 n K, truncf .bf16 x h⟩,
      ⟨T2 n K, truncf .bf16 (subf x (extf .f32 (truncf .bf16 x h) h')) h''⟩,
      ⟨T2 n K, truncf .bf16 (subf (subf x (extf .f32 (truncf .bf16 x h) h'))
        (extf .f32 (truncf .bf16 (subf x (extf .f32 (truncf .bf16 x h) h')) h'') h₃)) h₄⟩] e : FVec Ideal (T2 n K4) .bf16)
      (rd fun r k => if k < K then f r k else if k - K < K then f r (k - K) else if k - K - K < K then 0 else 0) :=
  m_cols4 (m_truncf hx) (m_truncf hx) (m_truncf (m_rest hx)) (m_truncf (m_rest (m_rest hx)))

/-- The right factor, in parts. -/
theorem m_rhs {K K4 : ℕ} {x : FVec Ideal (T2 K 128) .f32} (hx : At x (rd f)) {h h' h'' h₃ h₄ : FTy.bf16.bits < FTy.f32.bits}
    {e e' : Shape.Concatenates [T2 K 128, T2 K 128, T2 K 128, T2 K 128] (T2 K4 128) 0} {e'' : Shape.Concatenates [T2 K4 128, T2 K4 128] (T2 K4 256) 1} {v : EReal}
    (hv : v = ((0 : ℝ) : EReal)) :
    At (concatenate (T2 K4 256) 1 [
      ⟨T2 K4 128, (concatenate (T2 K4 128) 0 [⟨T2 K 128, truncf .bf16 x h⟩,
        ⟨T2 K 128, truncf .bf16 (subf x (extf .f32 (truncf .bf16 x h) h')) h''⟩, ⟨T2 K 128, truncf .bf16 x h⟩, ⟨T2 K 128, truncf .bf16 x h⟩] e
        : FVec Ideal (T2 K4 128) .bf16)⟩,
      ⟨T2 K4 128, (concatenate (T2 K4 128) 0 [⟨T2 K 128, truncf .bf16 (subf (subf x (extf .f32 (truncf .bf16 x h) h'))
        (extf .f32 (truncf .bf16 (subf x (extf .f32 (truncf .bf16 x h) h')) h'') h₃)) h₄⟩,
        ⟨T2 K 128, (broadcast (T2 K 128) v : FVec Ideal (T2 K 128) .bf16)⟩,
        ⟨T2 K 128, truncf .bf16 (subf x (extf .f32 (truncf .bf16 x h) h')) h''⟩,
        ⟨T2 K 128, (broadcast (T2 K 128) v : FVec Ideal (T2 K 128) .bf16)⟩] e' : FVec Ideal (T2 K4 128) .bf16)⟩] e'' : FVec Ideal (T2 K4 256) .bf16)
      (rd fun k l => if l < 128 then (if k < K then f k l else if k - K < K then 0 else if k - K - K < K then f (k - K - K) l else f (k - K - K - K) l) else 0) :=
  m_congr (m_cols2 (m_rows4 (m_truncf hx) (m_truncf (m_rest hx)) (m_truncf hx) (m_truncf hx))
    (m_rows4 (m_truncf (m_rest (m_rest hx))) (m_splat hv) (m_truncf (m_rest hx)) (m_splat hv))) fun r l _ _ => by
      split_ifs <;> rfl

/-- The product of the two, in its two halves. -/
theorem m_split {K K4 : ℕ} (h4 : K4 = K + K + K + K) {a b : ℕ → ℕ → ℝ} {z : FVec Ideal (T2 n 256) .f32} {x : FVec Ideal (T2 n K4) .bf16} {y : FVec Ideal (T2 K4 256) .bf16}
    (hx : At x (rd fun r k => if k < K then a r k else if k - K < K then a r (k - K) else if k - K - K < K then 0 else 0))
    (hy : At y (rd fun k l => if l < 128 then (if k < K then b k l else if k - K < K then 0 else if k - K - K < K then b (k - K - K) l else b (k - K - K - K) l) else 0))
    (hz : ∀ j, z j = constant (F := Ideal) (T2 n 256) .f32 0x00000000#32 j + ∑ k : Fin K4, x (ix2 (j 0) k) * y (ix2 k (j 1))) :
    At z (rd fun r l => if l < 128 then ∑ k ∈ Finset.range K, a r k * b k l else 0) :=
  m_congr (m_dot hx hy hz) fun r l _ _ => by
    by_cases e : l < 128
    · simp only [if_pos e]; rw [h4]; exact split_sum K (a r) fun k => b k l
    · simp only [if_neg e, mul_zero, Finset.sum_const_zero]

/-- The product of a factor written twice with a factor padded by zeros. -/
theorem m_padded {P s : ℕ → ℕ → ℝ} {z : FVec Ideal (T2 n 256) .f32} {x : FVec Ideal (T2 n 256) .bf16} {y : FVec Ideal (T2 256 256) .bf16}
    (hx : At x (rd fun r k => if k < 128 then P r k else P r (k - 128)))
    (hy : At y (rd fun k l => if l < 128 then (if k < 96 then s k l else 0) else 0))
    (hz : ∀ j, z j = constant (F := Ideal) (T2 n 256) .f32 0x00000000#32 j + ∑ k : Fin 256, x (ix2 (j 0) k) * y (ix2 k (j 1))) :
    At z (rd fun r l => if l < 128 then ∑ k ∈ Finset.range 96, P r k * s k l else 0) :=
  m_congr (m_dot hx hy hz) fun r l _ _ => by
    by_cases e : l < 128
    · simp only [if_pos e]
      rw [show 256 = 96 + 160 from rfl, Finset.sum_range_add]
      refine (congrArg₂ (· + ·) (Finset.sum_congr (g := fun k => P r k * s k l) rfl ?_) (Finset.sum_eq_zero ?_)).trans (add_zero _)
      · intro k hk; have := Finset.mem_range.1 hk; rw [if_pos (by omega), if_pos (by omega)]
      · intro k hk; rw [if_neg (by omega : ¬ 96 + k < 96), mul_zero]
    · simp only [if_neg e, mul_zero, Finset.sum_const_zero]

/-- The product of a factor written twice, and zeros, with a factor in parts. -/
theorem m_twice {a b : ℕ → ℕ → ℝ} {z : FVec Ideal (T2 n 256) .f32} {x : FVec Ideal (T2 n 256) .bf16} {y : FVec Ideal (T2 256 256) .bf16}
    (hx : At x (rd fun r k => if k < 128 then (if k < 64 then a r k else a r (k - 64)) else 0))
    (hy : At y (rd fun k l => if l < 128 then (if k < 64 then b k l else if k - 64 < 64 then 0 else if k - 64 - 64 < 64 then b (k - 64 - 64) l
      else b (k - 64 - 64 - 64) l) else 0))
    (hz : ∀ j, z j = constant (F := Ideal) (T2 n 256) .f32 0x00000000#32 j + ∑ k : Fin 256, x (ix2 (j 0) k) * y (ix2 k (j 1))) :
    At z (rd fun r l => if l < 128 then ∑ k ∈ Finset.range 64, a r k * b k l else 0) :=
  m_congr (m_dot hx hy hz) fun r l _ _ => by
    by_cases e : l < 128
    · simp only [if_pos e]
      rw [show 256 = 64 + 64 + 128 from rfl, Finset.sum_range_add, Finset.sum_range_add]
      refine (congrArg₂ (· + ·) (congrArg₂ (· + ·) (Finset.sum_congr (g := fun k => a r k * b k l) rfl ?_) (Finset.sum_eq_zero ?_))
        (Finset.sum_eq_zero ?_)).trans (by simp only [add_zero])
      · intro k hk; have := Finset.mem_range.1 hk; rw [if_pos (by omega), if_pos (by omega), if_pos (by omega)]
      · intro k hk; have := Finset.mem_range.1 hk; rw [if_neg (by omega : ¬ 64 + k < 64), if_neg (by omega : ¬ 64 + k < 64), if_pos (by omega : 64 + k - 64 < 64), mul_zero]
      · intro k hk; rw [if_neg (by omega : ¬ 64 + 64 + k < 128), zero_mul]
    · simp only [if_neg e, mul_zero, Finset.sum_const_zero]

/-- The sum of the two halves. -/
theorem m_fold {x : FVec Ideal (T2 n 256) .f32} {h : (T2 n 256).Slices ![0, 0] (T2 n 128)} {h' : (T2 n 256).Slices ![0, 128] (T2 n 128)}
    (hx : At x (rd fun r l => if l < 128 then f r l else 0)) :
    At (addf (extractStridedSlice (T2 n 128) ![0, 0] x h) (extractStridedSlice (T2 n 128) ![0, 128] x h')) (rd f) :=
  m_congr (m_add (m_slice hx) (m_slice hx)) fun r l _ hl => by
    rw [if_pos (by omega), if_neg (by omega), add_zero, Nat.zero_add, Nat.zero_add]

/-- A reading with three axes. -/
def rd3 (f : ℕ → ℕ → ℕ → ℝ) (c : ℕ → ℕ) : EReal := ((f (c 0) (c 1) (c 2) : ℝ) : EReal)

/-- The rows of one parity, as a matrix. -/
theorem m_half {p : Fin 2} {f : ℕ → ℕ → ℕ → ℝ} {x : FVec Ideal ⟨3, ![n, 2, m]⟩ .bf16} {b : (⟨3, ![n, 2, m]⟩ : Shape).Bitcasts 16 ⟨3, ![n, 1, m]⟩ 32}
    {h : (⟨3, ![n, 1, m]⟩ : Shape).ShapeCasts (T2 n m)} (hx : At x (rd3 f)) :
    At (shapeCast (T2 n m) (rowsOfParity p ⟨3, ![n, 1, m]⟩ x b) h : FVec Ideal (T2 n m) .bf16) (rd fun r l => f r p.val l) :=
  hx.rowsOfParity.shapeCast fun i j e => by
    rw [Shape.rowMajor_val_three, Shape.rowMajor_val_two] at e
    have a1 := (i 1).isLt; have a2 := (i 2).isLt; have b1 := (j 1).isLt
    change ((i 0).val * 1 + (i 1).val) * m + (i 2).val = (j 0).val * m + (j 1).val at e
    change (i 1).val < 1 at a1; change (i 2).val < m at a2; change (j 1).val < m at b1
    have e1 : (i 1).val = 0 := by omega
    rw [e1, Nat.mul_one, Nat.add_zero] at e
    have hm : 0 < m := by omega
    have e2 : (i 2).val = (j 1).val := by
      have := congrArg (· % m) e; simpa [Nat.add_mod, Nat.mod_eq_of_lt a2, Nat.mod_eq_of_lt b1] using this
    have e0 : (i 0).val = (j 0).val := by
      rw [e2] at e; exact Nat.eq_of_mul_eq_mul_right hm (Nat.add_right_cancel e)
    show ((f (co i 0) (2 * co i 1 + p.val) (co i 2) : ℝ) : EReal) = ((f (co j 0) p.val (co j 1) : ℝ) : EReal)
    have c0 : co i 0 = co j 0 := by rw [co_of_lt i 0 (by show 0 < 3; omega), co_of_lt j 0 (by show 0 < 2; omega)]; exact e0
    have c1 : co i 1 = 0 := by rw [co_of_lt i 1 (by show 1 < 3; omega)]; exact e1
    have c2 : co i 2 = co j 1 := by rw [co_of_lt i 2 (by show 2 < 3; omega), co_of_lt j 1 (by show 1 < 2; omega)]; exact e2
    rw [c0, c1, c2, Nat.mul_zero, Nat.zero_add]

/-- A unit axis put before, and taken away. -/
theorem m_lead {x : FVec Ideal (T2 n m) φ} {h : (T2 n m).ShapeCasts ⟨3, ![1, n, m]⟩} (hx : At x (rd f)) :
    At (shapeCast ⟨3, ![1, n, m]⟩ x h : FVec Ideal ⟨3, ![1, n, m]⟩ φ) (rd3 fun _ r l => f r l) :=
  hx.shapeCast fun j i e => by
    rw [Shape.rowMajor_val_three, Shape.rowMajor_val_two] at e
    have a1 := (i 0).isLt; have a2 := (i 2).isLt; have b1 := (j 1).isLt
    change (j 0).val * m + (j 1).val = ((i 0).val * n + (i 1).val) * m + (i 2).val at e
    change (i 0).val < 1 at a1; change (i 2).val < m at a2; change (j 1).val < m at b1
    have e1 : (i 0).val = 0 := by omega
    rw [e1, Nat.zero_mul, Nat.zero_add] at e
    have hm : 0 < m := by omega
    have e2 : (j 1).val = (i 2).val := by
      have := congrArg (· % m) e; simpa [Nat.add_mod, Nat.mod_eq_of_lt a2, Nat.mod_eq_of_lt b1] using this
    have e0 : (j 0).val = (i 1).val := by
      rw [e2] at e; exact Nat.eq_of_mul_eq_mul_right hm (Nat.add_right_cancel e)
    show ((f (co j 0) (co j 1) : ℝ) : EReal) = ((f (co i 1) (co i 2) : ℝ) : EReal)
    have c0 : co j 0 = co i 1 := by rw [co_of_lt i 1 (by show 1 < 3; omega), co_of_lt j 0 (by show 0 < 2; omega)]; exact e0
    have c2 : co j 1 = co i 2 := by rw [co_of_lt i 2 (by show 2 < 3; omega), co_of_lt j 1 (by show 1 < 2; omega)]; exact e2
    rw [c0, c2]
theorem m_unlead {f : ℕ → ℕ → ℕ → ℝ} {x : FVec Ideal ⟨3, ![1, n, m]⟩ φ} {h : (⟨3, ![1, n, m]⟩ : Shape).ShapeCasts (T2 n m)} (hx : At x (rd3 f)) :
    At (shapeCast (T2 n m) x h : FVec Ideal (T2 n m) φ) (rd fun r l => f 0 r l) :=
  hx.shapeCast fun i j e => by
    rw [Shape.rowMajor_val_three, Shape.rowMajor_val_two] at e
    have a1 := (i 0).isLt; have a2 := (i 2).isLt; have b1 := (j 1).isLt
    change ((i 0).val * n + (i 1).val) * m + (i 2).val = (j 0).val * m + (j 1).val at e
    change (i 0).val < 1 at a1; change (i 2).val < m at a2; change (j 1).val < m at b1
    have e1 : (i 0).val = 0 := by omega
    rw [e1, Nat.zero_mul, Nat.zero_add] at e
    have hm : 0 < m := by omega
    have e2 : (i 2).val = (j 1).val := by
      have := congrArg (· % m) e; simpa [Nat.add_mod, Nat.mod_eq_of_lt a2, Nat.mod_eq_of_lt b1] using this
    have e0 : (i 1).val = (j 0).val := by
      rw [e2] at e; exact Nat.eq_of_mul_eq_mul_right hm (Nat.add_right_cancel e)
    show ((f (co i 0) (co i 1) (co i 2) : ℝ) : EReal) = ((f 0 (co j 0) (co j 1) : ℝ) : EReal)
    have c : co i 0 = 0 := by rw [co_of_lt i 0 (by show 0 < 3; omega)]; exact e1
    have c0 : co i 1 = co j 0 := by rw [co_of_lt i 1 (by show 1 < 3; omega), co_of_lt j 0 (by show 0 < 2; omega)]; exact e0
    have c2 : co i 2 = co j 1 := by rw [co_of_lt i 2 (by show 2 < 3; omega), co_of_lt j 1 (by show 1 < 2; omega)]; exact e2
    rw [c, c0, c2]

/-- The lane `h` of each row, on every lane. -/
theorem m_lane {h : ℕ} (hh : h < 128) {u : BitVec 32} (hu : u = BitVec.ofNat 32 h) {x : FVec Ideal (T2 n 128) φ}
    {e : (T2 n 128).ShapeCasts ⟨3, ![n, 128, 1]⟩} {e' : (⟨3, ![n, 128, 1]⟩ : Shape).ShapeCasts (T2 n 128)} (hx : At x (rd f)) :
    At (dynamicGather 1 x (shapeCast (T2 n 128) (shapeCast ⟨3, ![n, 128, 1]⟩
      (select (cmpi .slt (broadcast (T2 n 128) u) (broadcast (T2 n 128) 0#32)) (addi (broadcast (T2 n 128) u) (broadcast (T2 n 128) 128#32))
        (broadcast (T2 n 128) u)) e) e') : FVec Ideal (T2 n 128) φ) (rd fun r _ => f r h) := by
  have hi : At (shapeCast (T2 n 128) (shapeCast ⟨3, ![n, 128, 1]⟩
      (select (cmpi .slt (broadcast (T2 n 128) u) (broadcast (T2 n 128) 0#32)) (addi (broadcast (T2 n 128) u) (broadcast (T2 n 128) 128#32))
        (broadcast (T2 n 128) u)) e) e' : IVec (T2 n 128) 32) (fun _ => BitVec.ofNat 32 h) := by
    refine At.shapeCast (f := fun _ => BitVec.ofNat 32 h) (At.shapeCast (f := fun _ => BitVec.ofNat 32 h) ?_ fun _ _ _ => rfl) fun _ _ _ => rfl
    intro i
    show Scalar.select (IntOp.cmpi .slt u 0#32) (u + 128#32) u = _
    have : ∀ a : ℕ, a < 128 → IntOp.cmpi .slt (BitVec.ofNat 32 a) 0#32 = 0#1 := by decide
    rw [hu, this _ hh]; rfl
  refine (hx.dynamicGather hi).congr fun i => ?_
  show ((f (co i 0) ((BitVec.ofNat 32 h).toNat % 128) : ℝ) : EReal) = _
  rw [BitVec.toNat_ofNat, Nat.mod_eq_of_lt (by omega : h < 2 ^ 32), Nat.mod_eq_of_lt hh]; rfl

end Cert.Lift

end
-- ==== Proof.KI.Pay.lean ====
/-
The arithmetic of a pair of heads, payload by payload: what each computes over the reals.
-/
module

public import proofs.«01_k».proof.Proof.KI.Elim
public import proofs.«01_k».proof.Proof.Mat

@[expose] public section

set_option maxRecDepth 16384

noncomputable section

namespace Cert.KernelIdeal.Hand

open Idealize.ShloMosaic Cert.KernelIdeal.Gen Cert.Lift

theorem dot128x64 (x : FVec Ideal S128x128 .bf16) (y : FVec Ideal S64x128 .bf16) (c : FVec Ideal S128x64 .f32) (j : S128x64.Idx) :
    matmul dot_S128x128_S64x128_S128x64_1_1_0_0_n_n none x y c j = c j + ∑ k : Fin 128, x (ix2 (j 0) k) * y (ix2 (j 1) k) := by simp only [pointwise]

theorem dot128x256 (x : FVec Ideal S128x256 .bf16) (y : FVec Ideal S256x256 .bf16) (c : FVec Ideal S128x256 .f32) (j : S128x256.Idx) :
    matmul dot_S128x256_S256x256_S128x256_1_0_0_1_n_n none x y c j = c j + ∑ k : Fin 256, x (ix2 (j 0) k) * y (ix2 k (j 1)) := by simp only [pointwise]

theorem dot32x256 (x : FVec Ideal S32x128 .bf16) (y : FVec Ideal S128x256 .bf16) (c : FVec Ideal S32x256 .f32) (j : S32x256.Idx) :
    matmul dot_S32x128_S128x256_S32x256_1_0_0_1_n_n none x y c j = c j + ∑ k : Fin 128, x (ix2 (j 0) k) * y (ix2 k (j 1)) := by simp only [pointwise]

theorem dot64x256 (x : FVec Ideal S64x256 .bf16) (y : FVec Ideal S256x256 .bf16) (c : FVec Ideal S64x256 .f32) (j : S64x256.Idx) :
    matmul dot_S64x256_S256x256_S64x256_1_0_0_1_n_n none x y c j = c j + ∑ k : Fin 256, x (ix2 (j 0) k) * y (ix2 k (j 1)) := by simp only [pointwise]

theorem dot96x256 (x : FVec Ideal S96x256 .bf16) (y : FVec Ideal S256x256 .bf16) (c : FVec Ideal S96x256 .f32) (j : S96x256.Idx) :
    matmul dot_S96x256_S256x256_S96x256_1_0_0_1_n_n none x y c j = c j + ∑ k : Fin 256, x (ix2 (j 0) k) * y (ix2 k (j 1)) := by simp only [pointwise]

theorem pay5_at {x : Vec Ideal S64x2x128 .bf16} {f : ℕ → ℕ → ℕ → ℝ} (hx : At x (rd3 f)) :
    At (k0_pay5 x) (rd fun r l => f r 0 l) := by
  unfold k0_pay5; exact m_truncf (m_extf (m_half hx))

theorem pay6_at {x : Vec Ideal S64x2x128 .bf16} {f : ℕ → ℕ → ℕ → ℝ} (hx : At x (rd3 f)) :
    At (k0_pay6 x) (rd fun r l => f r 1 l) := by
  unfold k0_pay6; exact m_truncf (m_extf (m_half hx))

theorem pay7_at {x : Vec Ideal S64x2x128 .bf16} {f : ℕ → ℕ → ℕ → ℝ} (hx : At x (rd3 f)) :
    At (k0_pay7 x) (rd fun r l => f r 0 l) := by
  unfold k0_pay7; exact m_truncf (m_extf (m_half hx))

theorem pay8_at {x : Vec Ideal S64x2x128 .bf16} {f : ℕ → ℕ → ℕ → ℝ} (hx : At x (rd3 f)) :
    At (k0_pay8 x) (rd fun r l => f r 1 l) := by
  unfold k0_pay8; exact m_truncf (m_extf (m_half hx))

theorem pay9_at {x : Vec Ideal S64x2x128 .bf16} {f : ℕ → ℕ → ℕ → ℝ} (hx : At x (rd3 f)) :
    At (k0_pay9 x) (rd fun r l => f r 0 l) := by
  unfold k0_pay9; exact m_truncf (m_extf (m_half hx))

theorem pay10_at {x : Vec Ideal S64x2x128 .bf16} {f : ℕ → ℕ → ℕ → ℝ} (hx : At x (rd3 f)) :
    At (k0_pay10 x) (rd fun r l => f r 1 l) := by
  unfold k0_pay10; exact m_truncf (m_extf (m_half hx))

theorem pay11_at {x : Vec Ideal S64x128 .f32} {f : ℕ → ℕ → ℝ} (hx : At x (rd f)) :
    At (k0_pay11 x) (rd fun _ l => f 63 l) := by
  unfold k0_pay11; exact m_congr (m_slice hx) fun r l hr _ => by rw [show r = 0 by omega, Nat.zero_add]

theorem pay12_at {x : Vec Ideal S64x128 .f32} {f : ℕ → ℕ → ℝ} (hx : At x (rd f)) :
    At (k0_pay12 x) (rd fun r l => Real.exp (f r l)) := by
  unfold k0_pay12; exact m_truncf (m_exp hx)

theorem pay13_at {x : Vec Ideal S64x128 .f32} {f : ℕ → ℕ → ℝ} (hx : At x (rd f)) :
    At (k0_pay13 x) (rd fun r l => Real.exp (0 - f r l)) := by
  unfold k0_pay13; exact m_truncf (m_exp (m_sub (m_splat zero_f32) hx))

theorem pay14_at {x : Vec Ideal S64x128 .f32} {f : ℕ → ℕ → ℝ} (hx : At x (rd f)) :
    At (k0_pay14 x) (rd fun r l => Real.exp (f 63 l - f r l)) := by
  unfold k0_pay14; exact m_truncf (m_exp (m_sub (m_row (pay11_at hx)) hx))

theorem pay21_at {x : Vec Ideal S64x128 .f32} {f : ℕ → ℕ → ℝ} (hx : At x (rd f)) :
    At (k0_pay21 x) (rd fun _ l => f 63 l) := by
  unfold k0_pay21; exact m_congr (m_slice hx) fun r l hr _ => by rw [show r = 0 by omega, Nat.zero_add]

theorem pay22_at {x : Vec Ideal S64x128 .f32} {f : ℕ → ℕ → ℝ} (hx : At x (rd f)) :
    At (k0_pay22 x) (rd fun r l => Real.exp (f r l)) := by
  unfold k0_pay22; exact m_truncf (m_exp hx)

theorem pay23_at {x : Vec Ideal S64x128 .f32} {f : ℕ → ℕ → ℝ} (hx : At x (rd f)) :
    At (k0_pay23 x) (rd fun r l => Real.exp (0 - f r l)) := by
  unfold k0_pay23; exact m_truncf (m_exp (m_sub (m_splat zero_f32) hx))

theorem pay24_at {x : Vec Ideal S64x128 .f32} {f : ℕ → ℕ → ℝ} (hx : At x (rd f)) :
    At (k0_pay24 x) (rd fun r l => Real.exp (f 63 l - f r l)) := by
  unfold k0_pay24; exact m_truncf (m_exp (m_sub (m_row (pay21_at hx)) hx))

theorem pay15_at {y : Vec Ideal S64x2x128 .bf16} {x : Vec Ideal S64x128 .f32} {f : ℕ → ℕ → ℕ → ℝ} {g : ℕ → ℕ → ℝ} (hy : At y (rd3 f)) (hx : At x (rd g)) :
    At (k0_pay15 y x) (rd fun r l => f r 0 l * Real.exp (g r l)) := by
  unfold k0_pay15; exact m_mul (pay7_at hy) (pay12_at hx)

theorem pay16_at {a : FVec Ideal S64x128 .bf16} {b : FVec Ideal S64x128 .bf16} {c : FVec Ideal S64x128 .bf16} {f g p : ℕ → ℕ → ℝ} (ha : At a (rd f)) (hb : At b (rd g)) (hc : At c (rd p)) :
    At (k0_pay16 a b c) (rd fun r l => if r < 64 then p r l else f (r - 64) l * g (r - 64) l) := by
  unfold k0_pay16; exact m_rows2 hc (m_mul ha hb)

theorem pay17_at {a : FVec Ideal S64x128 .bf16} {b : FVec Ideal S64x128 .bf16} {f g : ℕ → ℕ → ℝ} (ha : At a (rd f)) (hb : At b (rd g)) :
    At (k0_pay17 a b) (rd fun r l => f r l * g r l) := by
  unfold k0_pay17; exact m_mul ha hb

theorem pay18_at {a : FVec Ideal S64x128 .bf16} {b : FVec Ideal S64x128 .bf16} {f g : ℕ → ℕ → ℝ} (ha : At a (rd f)) (hb : At b (rd g)) :
    At (k0_pay18 a b) (rd fun r l => f r l * g r l) := by
  unfold k0_pay18; exact m_mul ha hb

theorem pay28_at {a : FVec Ideal S64x128 .bf16} {b : FVec Ideal S64x128 .bf16} {f g : ℕ → ℕ → ℝ} (ha : At a (rd f)) (hb : At b (rd g)) :
    At (k0_pay28 a b) (rd fun r l => f r l * g r l) := by
  unfold k0_pay28; exact m_mul ha hb

theorem pay25_at {a : FVec Ideal S64x128 .bf16} {x : Vec Ideal S64x128 .f32} {f g : ℕ → ℕ → ℝ} (ha : At a (rd f)) (hx : At x (rd g)) :
    At (k0_pay25 a x) (rd fun r l => f r l * Real.exp (g r l)) := by
  unfold k0_pay25; exact m_mul ha (pay22_at hx)

theorem pay26_at {a : FVec Ideal S64x128 .bf16} {x : Vec Ideal S64x128 .f32} {f g : ℕ → ℕ → ℝ} (ha : At a (rd f)) (hx : At x (rd g)) :
    At (k0_pay26 a x) (rd fun r l => f r l * Real.exp (g r l)) := by
  unfold k0_pay26; exact m_mul ha (pay22_at hx)

theorem pay19_at {a : FVec Ideal S1x128 .f32} {g : ℕ → ℝ} (ha : At a (rd fun _ l => g l)) :
    At (k0_pay19 a) (rd fun r _ => Real.exp (g r)) := by
  unfold k0_pay19; exact m_congr (m_slice (m_transpose (m_row (m_self (m_exp ha))))) fun r l _ _ => by rw [Nat.zero_add]

theorem pay29_at {a : FVec Ideal S1x128 .f32} {g : ℕ → ℝ} (ha : At a (rd fun _ l => g l)) :
    At (k0_pay29 a) (rd fun r _ => Real.exp (g r)) := by
  unfold k0_pay29; exact m_congr (m_slice (m_transpose (m_row (m_self (m_exp ha))))) fun r l _ _ => by rw [Nat.zero_add]

theorem pay27_at {a : FVec Ideal S64x128 .bf16} {b : FVec Ideal S64x128 .bf16} {f g : ℕ → ℕ → ℝ} (ha : At a (rd f)) (hb : At b (rd g)) :
    At (k0_pay27 a b) (rd fun r l => if r < 64 then f r l else g (r - 64) l) := by
  unfold k0_pay27; exact m_rows2 ha hb

theorem pay20_at {u : BitVec 32} {x : Vec Ideal S64x128 .f32} {f : ℕ → ℕ → ℝ} {h : ℕ} (hh : h < 128) (hu : u = BitVec.ofNat 32 h) (hx : At x (rd f)) :
    At (k0_pay20 u x) (rd fun r _ => f r h) := by
  unfold k0_pay20; exact m_lane hh hu hx

theorem pay33_at {u : BitVec 32} {w : Elt Ideal .f32} {x : Vec Ideal S64x128 .f32} {f : ℕ → ℕ → ℝ} {h : ℕ} {k : ℝ} (hh : h < 128) (hu : u = BitVec.ofNat 32 h) (hw : w = ((k : ℝ) : EReal)) (hx : At x (rd f)) :
    At (k0_pay33 u w x) (rd fun r _ => f r h * k) := by
  unfold k0_pay33; exact m_mul (m_lane hh hu hx) (m_splat hw)

theorem pay32_at {w : Elt Ideal .f32} {x : FVec Ideal S64x128 .f32} {f : ℕ → ℕ → ℝ} {k : ℝ} (hw : w = ((k : ℝ) : EReal)) (hx : At x (rd f)) :
    At (k0_pay32 w x) (rd fun r l => f r l * k) := by
  unfold k0_pay32; exact m_mul hx (m_splat hw)

theorem pay30_at {a : FVec Ideal S64x128 .bf16} {b : FVec Ideal S128x128 .bf16} {c : FVec Ideal S64x128 .bf16} {d : FVec Ideal S64x128 .bf16} {e : FVec Ideal S64x128 .bf16} {p : FVec Ideal S64x128 .bf16} {fa fb fc fd fe fp : ℕ → ℕ → ℝ} (ha : At a (rd fa)) (hb : At b (rd fb)) (hc : At c (rd fc)) (hd : At d (rd fd)) (he : At e (rd fe)) (hp : At p (rd fp)) :
    At (k0_pay30 a b c d e p) (rd fun r l => if l < 64 then ∑ k ∈ Finset.range 128, fb r k * fc l k
      else ∑ k ∈ Finset.range 128, (if r < 64 then fe r k else fp (r - 64) k) * (fa (l - 64) k * fd (l - 64) k)) := by
  unfold k0_pay30; exact m_cols2 (m_dotT hb hc (dot128x64 _ _ _)) (m_dotT (pay27_at he hp) (m_mul ha hd) (dot128x64 _ _ _))

theorem pay31_at {m : IVec S64x128 1} {a : FVec Ideal S64x128 .bf16} {b : FVec Ideal S128x128 .bf16} {c : FVec Ideal S64x128 .bf16} {d : FVec Ideal S64x128 .bf16} {e : FVec Ideal S64x128 .bf16} {p : FVec Ideal S64x128 .bf16} (hm : At m fun c => if c 1 % 64 ≤ c 0 then 1#1 else 0#1) {fa fb fc fd fe fp : ℕ → ℕ → ℝ} (ha : At a (rd fa)) (hb : At b (rd fb)) (hc : At c (rd fc)) (hd : At d (rd fd)) (he : At e (rd fe)) (hp : At p (rd fp)) :
    At (k0_pay31 m a b c d e p) (rd fun r l => if l % 64 ≤ r then (if l < 64 then ∑ k ∈ Finset.range 128, fb (64 + r) k * fc l k
      else ∑ k ∈ Finset.range 128, fp r k * (fa (l - 64) k * fd (l - 64) k)) else 0) := by
  unfold k0_pay31; exact m_congr (m_select (p := fun r l => l % 64 ≤ r) hm (m_slice (pay30_at ha hb hc hd he hp)) (m_splat zero_f32)) fun r l _ _ => by
    have e : ¬ 64 + r < 64 := by omega
    simp only [Nat.zero_add, if_neg e, Nat.add_sub_cancel_left]

theorem pay34_at {m : IVec S64x128 1} {a : FVec Ideal S64x128 .bf16} {b : FVec Ideal S128x128 .bf16} {c : FVec Ideal S64x128 .bf16} {w : Elt Ideal .f32} {x : FVec Ideal S64x128 .f32} {u : BitVec 32} {d : FVec Ideal S64x128 .bf16} {e : FVec Ideal S64x128 .bf16} {p : FVec Ideal S64x128 .bf16} {w2 : Elt Ideal .f32} {y : Vec Ideal S64x128 .f32} (hm : At m fun c => if c 1 < 64 then 1#1 else 0#1) {fa fb fc fd fe fp : ℕ → ℕ → ℝ} (ha : At a (rd fa)) (hb : At b (rd fb)) (hc : At c (rd fc)) (hd : At d (rd fd)) (he : At e (rd fe)) (hp : At p (rd fp)) {k k2 : ℝ} {h : ℕ} {g gy : ℕ → ℕ → ℝ} (hh : h < 128) (hu : u = BitVec.ofNat 32 h) (hw : w = ((k : ℝ) : EReal)) (hw2 : w2 = ((k2 : ℝ) : EReal)) (hx : At x (rd g)) (hy : At y (rd gy)) :
    At (k0_pay34 m a b c w x u d e p w2 y) (rd fun r l => if l < 64 then g r l * k * k * ∑ k ∈ Finset.range 128, fb r k * fc l k
      else gy r h * k2 * k2 * ∑ k ∈ Finset.range 128, fe r k * (fa (l - 64) k * fd (l - 64) k)) := by
  unfold k0_pay34; exact m_congr (m_mul (m_select (p := fun r l => l < 64) hm (m_mul (pay32_at hw hx) (m_splat hw)) (m_mul (pay33_at hh hu hw2 hy) (m_splat hw2)))
    (m_slice (pay30_at ha hb hc hd he hp))) fun r l hr _ => by
    simp only [Nat.zero_add, if_pos hr]
    by_cases e : l < 64
    · simp only [if_pos e]
    · simp only [if_neg e]

theorem pay36_at {m : IVec S64x128 1} {x : FVec Ideal S64x128 .f32} {y : FVec Ideal S64x128 .f32} (hm : At m fun c => if c 1 % 64 < c 0 then 1#1 else 0#1) {f : ℕ → ℕ → ℝ} (hx : At x (rd f)) (hy : At y (rd fun _ _ => 0)) :
    At (k0_pay36 m x y) (rd fun r l => if l % 64 < r then f r l else 0) := by
  unfold k0_pay36; exact m_select (p := fun r l => l % 64 < r) hm hx hy

theorem pay37_at {n : IVec S64x128 32} {m : IVec S64x128 1} {x : FVec Ideal S64x128 .f32} {y : FVec Ideal S64x128 .f32} (hl : At n fun c => BitVec.ofNat 32 (c 1)) (hm : At m fun c => if c 1 % 64 < c 0 then 1#1 else 0#1) {f : ℕ → ℕ → ℝ} (hx : At x (rd f)) (hy : At y (rd fun _ _ => 0)) :
    At (k0_pay37 n m x y) (rd fun r l => if l / 32 % 2 = 0 then (if l % 64 < r then f r l else 0) else if l % 64 < 32 + r then f (32 + r) l else 0) := by
  unfold k0_pay37; exact m_congr (m_select (p := fun r l => l / 32 % 2 = 0) (fun i => by
    show IntOp.cmpi .eq (_ &&& 32#32) 0#32 = _
    have e : extractStridedSlice S32x128 ![0, 0] n slices_S64x128_o0_0_S32x128 i = BitVec.ofNat 32 (0 + co i 1) := hl.slice i
    rw [show extractStridedSlice S32x128 ![0, 0] n slices_S64x128_o0_0_S32x128 i = _ from e, Nat.zero_add]
    have : ∀ a : ℕ, a < 128 → IntOp.cmpi .eq (BitVec.ofNat 32 a &&& 32#32) 0#32 = if a / 32 % 2 = 0 then 1#1 else 0#1 := by decide
    exact this _ (co1_lt (n := 32)))
    (m_slice (pay36_at hm hx hy)) (m_slice (pay36_at hm hx hy))) fun r l _ _ => by simp only [Nat.zero_add]

theorem pay38_at {n : IVec S64x128 32} {m : IVec S64x128 1} {x : FVec Ideal S64x128 .f32} {y : FVec Ideal S64x128 .f32} (hl : At n fun c => BitVec.ofNat 32 (c 1)) (hm : At m fun c => if c 1 % 64 < c 0 then 1#1 else 0#1) {f A : ℕ → ℕ → ℝ} (hx : At x (rd f)) (hy : At y (rd fun _ _ => 0)) (hA : ∀ r l, r < 32 → l < 128 → A r l = if l / 32 % 2 = 0 then (if l % 64 < r then f r l else 0) else if l % 64 < 32 + r then f (32 + r) l else 0) :
    At (k0_pay38 n m x y) (GA A 0) := by
  unfold k0_pay38; exact m_congr (g := fun r l => A (0 + r) l) (m_slice (pay37_at hl hm hx hy)) fun r l hr hl => by rw [hA _ _ (by omega) hl, Nat.zero_add]

theorem pay39_at {n : IVec S64x128 32} {m : IVec S64x128 1} {x : FVec Ideal S64x128 .f32} {y : FVec Ideal S64x128 .f32} (hl : At n fun c => BitVec.ofNat 32 (c 1)) (hm : At m fun c => if c 1 % 64 < c 0 then 1#1 else 0#1) {f A : ℕ → ℕ → ℝ} (hx : At x (rd f)) (hy : At y (rd fun _ _ => 0)) (hA : ∀ r l, r < 32 → l < 128 → A r l = if l / 32 % 2 = 0 then (if l % 64 < r then f r l else 0) else if l % 64 < 32 + r then f (32 + r) l else 0) :
    At (k0_pay39 n m x y) (GA A 1) := by
  unfold k0_pay39; exact m_congr (g := fun r l => A (8 + r) l) (m_slice (pay37_at hl hm hx hy)) fun r l hr hl => by rw [hA _ _ (by omega) hl, Nat.zero_add]

theorem pay40_at {n : IVec S64x128 32} {m : IVec S64x128 1} {x : FVec Ideal S64x128 .f32} {y : FVec Ideal S64x128 .f32} (hl : At n fun c => BitVec.ofNat 32 (c 1)) (hm : At m fun c => if c 1 % 64 < c 0 then 1#1 else 0#1) {f A : ℕ → ℕ → ℝ} (hx : At x (rd f)) (hy : At y (rd fun _ _ => 0)) (hA : ∀ r l, r < 32 → l < 128 → A r l = if l / 32 % 2 = 0 then (if l % 64 < r then f r l else 0) else if l % 64 < 32 + r then f (32 + r) l else 0) :
    At (k0_pay40 n m x y) (GA A 2) := by
  unfold k0_pay40; exact m_congr (g := fun r l => A (16 + r) l) (m_slice (pay37_at hl hm hx hy)) fun r l hr hl => by rw [hA _ _ (by omega) hl, Nat.zero_add]

theorem pay41_at {n : IVec S64x128 32} {m : IVec S64x128 1} {x : FVec Ideal S64x128 .f32} {y : FVec Ideal S64x128 .f32} (hl : At n fun c => BitVec.ofNat 32 (c 1)) (hm : At m fun c => if c 1 % 64 < c 0 then 1#1 else 0#1) {f A : ℕ → ℕ → ℝ} (hx : At x (rd f)) (hy : At y (rd fun _ _ => 0)) (hA : ∀ r l, r < 32 → l < 128 → A r l = if l / 32 % 2 = 0 then (if l % 64 < r then f r l else 0) else if l % 64 < 32 + r then f (32 + r) l else 0) :
    At (k0_pay41 n m x y) (GA A 3) := by
  unfold k0_pay41; exact m_congr (g := fun r l => A (24 + r) l) (m_slice (pay37_at hl hm hx hy)) fun r l hr hl => by rw [hA _ _ (by omega) hl, Nat.zero_add]

/-- The lanes that hold the identity's ones in a group of rows. -/
theorem eye_mask {n r : IVec S8x128 32} (hn : At n GN) (hr : At r fun c => BitVec.ofNat 32 (c 0)) (a : ℕ) (ha : a < 32) :
    At (cmpi .eq (andi n (broadcast S8x128 31#32)) (addi r (broadcast S8x128 (BitVec.ofNat 32 a)))) fun c => if c 1 % 32 = a + c 0 then 1#1 else 0#1 := fun i => by
  show IntOp.cmpi .eq (n i &&& 31#32) (r i + BitVec.ofNat 32 a) = _
  rw [hn i, hr i]
  have h0 := @co0_lt 8 128 i; have h1 := @co1_lt 8 128 i
  have e : ∀ b : ℕ, b < 128 → GN (fun _ => b) &&& 31#32 = BitVec.ofNat 32 (b % 32) := by decide
  show IntOp.cmpi .eq (GN (fun _ => co i 1) &&& 31#32) (BitVec.ofNat 32 (co i 0) + BitVec.ofNat 32 a) = _
  rw [e _ h1, ← BitVec.ofNat_add]
  show _ = if co i 1 % 32 = a + co i 0 then 1#1 else 0#1
  by_cases q : co i 1 % 32 = a + co i 0
  · rw [if_pos q, q, Nat.add_comm]; simp [IntOp.cmpi]
  · rw [if_neg q]
    have : BitVec.ofNat 32 (co i 1 % 32) ≠ BitVec.ofNat 32 (co i 0 + a) := fun h => q (by
      have := congrArg BitVec.toNat h; rw [BitVec.toNat_ofNat, BitVec.toNat_ofNat] at this; omega)
    show BitVec.ofBool (BitVec.ofNat 32 (co i 1 % 32) == BitVec.ofNat 32 (co i 0 + a)) = 0#1
    rw [beq_eq_false_iff_ne.2 this]; rfl

theorem pay42_at {n r : IVec S8x128 32} (hn : At n GN) (hr : At r fun c => BitVec.ofNat 32 (c 0)) {A : ℕ → ℕ → ℝ} : At (k0_pay42 (F := Ideal) n r) (GD A 0 0) := by
  unfold k0_pay42
  exact m_congr (f := fun r l => if l % 32 = 0 + r then 1 else 0) (g := fun r l => el A 0 (0 + r) l)
    (m_select (p := fun r l => l % 32 = 0 + r) (eye_mask hn hr 0 (by omega)) (m_splat one_f32) (m_splat zero_f32)) fun r l _ _ => rfl

theorem pay43_at {n r : IVec S8x128 32} (hn : At n GN) (hr : At r fun c => BitVec.ofNat 32 (c 0)) {A : ℕ → ℕ → ℝ} : At (k0_pay43 (F := Ideal) n r) (GD A 0 1) := by
  unfold k0_pay43
  exact m_congr (f := fun r l => if l % 32 = 8 + r then 1 else 0) (g := fun r l => el A 0 (8 + r) l)
    (m_select (p := fun r l => l % 32 = 8 + r) (eye_mask hn hr 8 (by omega)) (m_splat one_f32) (m_splat zero_f32)) fun r l _ _ => rfl

theorem pay44_at {n r : IVec S8x128 32} (hn : At n GN) (hr : At r fun c => BitVec.ofNat 32 (c 0)) {A : ℕ → ℕ → ℝ} : At (k0_pay44 (F := Ideal) n r) (GD A 0 2) := by
  unfold k0_pay44
  exact m_congr (f := fun r l => if l % 32 = 16 + r then 1 else 0) (g := fun r l => el A 0 (16 + r) l)
    (m_select (p := fun r l => l % 32 = 16 + r) (eye_mask hn hr 16 (by omega)) (m_splat one_f32) (m_splat zero_f32)) fun r l _ _ => rfl

theorem pay45_at {n r : IVec S8x128 32} (hn : At n GN) (hr : At r fun c => BitVec.ofNat 32 (c 0)) {A : ℕ → ℕ → ℝ} {a b : Ideal .f32} (ha : a = ((1 : ℝ) : EReal)) (hb : b = ((0 : ℝ) : EReal)) :
    At (select (k0_pay45 n r) (broadcast S8x128 a) (broadcast S8x128 b)) (GD A 0 3) := by
  unfold k0_pay45
  exact m_congr (f := fun r l => if l % 32 = 24 + r then 1 else 0) (g := fun r l => el A 0 (24 + r) l)
    (m_select (p := fun r l => l % 32 = 24 + r) (eye_mask hn hr 24 (by omega)) (m_splat ha) (m_splat hb)) fun r l _ _ => rfl

theorem pay179_at {A : ℕ → ℕ → ℝ} (hA : ∀ r l j, r ≤ j → j < 32 → A r (l / 32 * 32 + j) = 0) {v16 : IVec S8x128 32} {v184 : FVec Ideal S8x128 .f32} {v562 : FVec Ideal S8x128 .f32} {v868 : FVec Ideal S8x128 .f32} {v1094 : FVec Ideal S8x128 .f32} {v1189 : FVec Ideal S8x128 .f32} {v1192 : FVec Ideal S8x128 .f32} {v1196 : IVec S8x128 32} {v1198 : IVec S8x128 1} (hv16 : At v16 GN) (hv184 : At v184 (GA A 3)) (hv562 : At v562 (GD A 8 0)) (hv868 : At v868 (GD A 16 1)) (hv1094 : At v1094 (GD A 24 2)) (hv1189 : At v1189 (GD A 29 3)) (hv1192 : At v1192 (GR A 29)) (hv1196 : At v1196 (GI 29)) (hv1198 : At v1198 GZ) :
    At (k0_pay179 v16 v184 v562 v868 v1094 v1189 v1192 v1196 v1198) (rd fun r l => el A 31 r l) := by
  unfold k0_pay179
  have e : ∀ r J l, r ≤ J → J ≤ 31 → el A 31 r l = el A J r l := fun r J l h h' => by
    have := el_stable hA r l J h (31 - J) (by omega)
    rwa [show J + (31 - J) = 31 by omega] at this
  exact m_congr (m_rows4 (f₁ := fun r l => el A 8 (8 * 0 + r) l) (f₂ := fun r l => el A 16 (8 * 1 + r) l) (f₃ := fun r l => el A 24 (8 * 2 + r) l)
    (f₄ := fun r l => el A 31 (8 * 3 + r) l) hv562 hv868 hv1094 (el_step (el_step hv1189 (el_prod (el_coef hv184 (el_cast2 (el_cast1 (el_pick hv1198 hv1196))) (by decide)) hv1192)) (el_prod (el_coef hv184 (el_cast2 (el_cast1 (el_pick (el_neg (el_idx (el_block hv16)) (by decide)) (el_idx (el_block hv16))))) (by decide)) (el_spread (el_rowCast (el_row (el_step hv1189 (el_prod (el_coef hv184 (el_cast2 (el_cast1 (el_pick hv1198 hv1196))) (by decide)) hv1192)) (by rfl))))))) fun r l hr _ => by
    split_ifs
    · rw [e r 8 l (by omega) (by omega)]; congr 1; omega
    · rw [e r 16 l (by omega) (by omega)]; congr 1; omega
    · rw [e r 24 l (by omega) (by omega)]; congr 1; omega
    · congr 1; omega

theorem pay180_at {x : Vec Ideal S1x96x128 .f32} {f : ℕ → ℕ → ℕ → ℝ} (hx : At x (rd3 f)) :
    At (k0_pay180 x) (rd fun r l => f 0 r l) := by
  unfold k0_pay180; exact m_unlead hx

theorem pay181_at {a : FVec Ideal S128x128 .bf16} {x : Vec Ideal S1x96x128 .f32} {p : ℕ → ℕ → ℝ} {f : ℕ → ℕ → ℕ → ℝ} (ha : At a (rd p)) (hx : At x (rd3 f)) :
    At (k0_pay181 a x) (rd fun r l => if l < 128 then ∑ k ∈ Finset.range 96, p r k * f 0 k l else 0) := by
  unfold k0_pay181; exact m_padded (m_cols2 ha ha) (m_congr (m_cols2
    (m_rows4 (m_truncf (pay180_at hx)) (m_splat zero_bf16) (m_truncf (m_rest (pay180_at hx))) (m_splat zero_bf16))
    (m_rows3 (m_truncf (m_rest (m_rest (pay180_at hx)))) (m_splat zero_bf16) (m_splat zero_bf16))) fun r l _ _ => by
      split_ifs <;> rfl) (dot128x256 _ _ _)

theorem pay182_at {a : FVec Ideal S64x128 .bf16} {f : ℕ → ℕ → ℝ} (ha : At a (rd f)) :
    At (k0_pay182 a) (rd f) := by
  unfold k0_pay182; exact m_extf ha

theorem pay183_at {a : FVec Ideal S128x128 .bf16} {x : Vec Ideal S1x96x128 .f32} {p : ℕ → ℕ → ℝ} {f : ℕ → ℕ → ℕ → ℝ} (ha : At a (rd p)) (hx : At x (rd3 f)) :
    At (k0_pay183 a x) (rd fun r l => if l < 128 then ∑ k ∈ Finset.range 96, p r k * f 0 k l else 0) := by
  unfold k0_pay183; exact m_congr (m_slice (pay181_at ha hx)) fun r l _ _ => by simp only [Nat.zero_add]

theorem pay184_at {a : FVec Ideal S128x128 .bf16} {x : Vec Ideal S1x96x128 .f32} {p : ℕ → ℕ → ℝ} {f : ℕ → ℕ → ℕ → ℝ} (ha : At a (rd p)) (hx : At x (rd3 f)) :
    At (k0_pay184 a x) (rd fun r l => ∑ k ∈ Finset.range 96, p r k * f 0 k l) := by
  unfold k0_pay184; exact m_congr (m_slice (pay183_at ha hx)) fun r l _ hl => by simp only [Nat.zero_add, if_pos hl]

theorem pay185_at {w : Elt Ideal .f32} {b : FVec Ideal S64x128 .f32} {v : FVec Ideal S64x128 .f32} {x : FVec Ideal S64x256 .f32} {y : FVec Ideal S64x128 .f32} {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay185 w b v x y) (rd fun r l => (fb r l * (fv r l - k * fx r l))) := by
  unfold k0_pay185; exact m_congr (m_mul hb (m_sub hv (m_mul (m_splat hw) (m_add hy (m_slice hx))))) fun r l _ _ => by
    have e : ¬ 128 + l < 128 := by omega
    simp only [if_neg e, add_zero]

theorem pay186_at {d : FVec Ideal S32x128 .f32} {D : ℕ → ℕ → ℝ} (hd : At d (rd D)) :
    At (k0_pay186 d) (rd fun r l => D r (32 + l)) := by
  unfold k0_pay186; exact m_congr (m_slice hd) fun r l _ _ => by rw [Nat.zero_add]

theorem pay187_at {w : Elt Ideal .f32} {b : FVec Ideal S64x128 .f32} {d : FVec Ideal S32x128 .f32} {v : FVec Ideal S64x128 .f32} {x : FVec Ideal S64x256 .f32} {y : FVec Ideal S64x128 .f32} {D : ℕ → ℕ → ℝ} (hd : At d (rd D)) {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay187 w b d v x y) (rd fun r l => ∑ j ∈ Finset.range 32, D r (0 + j) * (fb j l * (fv j l - k * fx j l))) := by
  unfold k0_pay187; exact m_congr (m_fold (m_split (K := 32) (K4 := 128) rfl (m_lhs (m_slice hd)) (m_rhs (m_slice (pay185_at hw hb hv hx hy)) zero_bf16) (dot32x256 _ _ _)))
    fun r l _ _ => by simp only [Nat.zero_add]

theorem pay188_at {w : Elt Ideal .f32} {b : FVec Ideal S64x128 .f32} {v : FVec Ideal S64x128 .f32} {x : FVec Ideal S64x256 .f32} {y : FVec Ideal S64x128 .f32} {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay188 w b v x y) (rd fun r l => fb (32 + r) l * (fv (32 + r) l - k * fx (32 + r) l)) := by
  unfold k0_pay188; exact m_congr (m_slice (pay185_at hw hb hv hx hy)) fun r l _ _ => by rw [Nat.zero_add]

theorem pay189_at {w : Elt Ideal .f32} {b : FVec Ideal S64x128 .f32} {q : FVec Ideal S64x128 .f32} {d : FVec Ideal S32x128 .f32} {v : FVec Ideal S64x128 .f32} {x : FVec Ideal S64x256 .f32} {y : FVec Ideal S64x128 .f32} {D A : ℕ → ℕ → ℝ} (hq : At q (rd A)) (hd : At d (rd D)) {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay189 w b q d v x y) (rd fun r l => if l < 128 then ∑ i ∈ Finset.range 32, A (32 + r) (0 + i) * ∑ j ∈ Finset.range 32, D i (0 + j) * (fb j l * (fv j l - k * fx j l)) else 0) := by
  unfold k0_pay189; exact m_congr (m_split (K := 32) (K4 := 128) rfl (m_lhs (m_slice hq)) (m_rhs (pay187_at hd hw hb hv hx hy) zero_bf16) (dot32x256 _ _ _))
    fun r l _ _ => by simp only [Nat.zero_add]

theorem pay190_at {w : Elt Ideal .f32} {b : FVec Ideal S64x128 .f32} {q : FVec Ideal S64x128 .f32} {d : FVec Ideal S32x128 .f32} {v : FVec Ideal S64x128 .f32} {x : FVec Ideal S64x256 .f32} {y : FVec Ideal S64x128 .f32} {D A : ℕ → ℕ → ℝ} (hq : At q (rd A)) (hd : At d (rd D)) {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay190 w b q d v x y) (rd fun r l => ∑ i ∈ Finset.range 32, A (32 + r) (0 + i) * ∑ j ∈ Finset.range 32, D i (0 + j) * (fb j l * (fv j l - k * fx j l))) := by
  unfold k0_pay190; exact m_congr (m_slice (pay189_at hq hd hw hb hv hx hy)) fun r l _ hl => by simp only [Nat.zero_add, if_pos hl]

theorem pay191_at {w : Elt Ideal .f32} {b : FVec Ideal S64x128 .f32} {q : FVec Ideal S64x128 .f32} {d : FVec Ideal S32x128 .f32} {v : FVec Ideal S64x128 .f32} {x : FVec Ideal S64x256 .f32} {y : FVec Ideal S64x128 .f32} {D A : ℕ → ℕ → ℝ} (hq : At q (rd A)) (hd : At d (rd D)) {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay191 w b q d v x y) (rd fun r l => 0) := by
  unfold k0_pay191; exact m_congr (m_slice (pay189_at hq hd hw hb hv hx hy)) fun r l _ hl => by
    have e : ¬ 128 + l < 128 := by omega
    simp only [if_neg e]

theorem pay192_at {a : FVec Ideal S64x128 .bf16} {f : ℕ → ℕ → ℝ} (ha : At a (rd f)) :
    At (k0_pay192 a) (rd fun r k => if k < 128 then (if k < 64 then f k r else f (k - 64) r) else 0) := by
  unfold k0_pay192; exact m_congr (m_cols2 (m_slice (m_transpose (m_rows2 ha ha))) (m_splat zero_bf16)) fun r l _ _ => by simp only [Nat.zero_add]

theorem pay193_at {d : FVec Ideal S32x32 .f32} {a : FVec Ideal S32x128 .f32} {b : FVec Ideal S32x128 .f32} {x : FVec Ideal S32x128 .f32} {y : FVec Ideal S32x128 .f32} {D fa fb fx : ℕ → ℕ → ℝ} (hd : At d (rd D)) (ha : At a (rd fa)) (hb : At b (rd fb)) (hx : At x (rd fx)) (hy : At y (rd fun _ _ => 0)) :
    At (k0_pay193 d a b x y) (rd fun k l => if l < 128 then (if k < 64 then (if k < 32 then fa k l else ∑ j ∈ Finset.range 32, D (k - 32) j * (fb j l - (fx j l + 0))) else if k - 64 < 64 then 0 else if k - 64 - 64 < 64 then (if (k - 64 - 64) < 32 then fa (k - 64 - 64) l else ∑ j ∈ Finset.range 32, D ((k - 64 - 64) - 32) j * (fb j l - (fx j l + 0))) else (if (k - 64 - 64 - 64) < 32 then fa (k - 64 - 64 - 64) l else ∑ j ∈ Finset.range 32, D ((k - 64 - 64 - 64) - 32) j * (fb j l - (fx j l + 0)))) else 0) := by
  unfold k0_pay193; exact m_rhs (m_rows2 ha (m_fold (m_split (K := 32) (K4 := 128) rfl (m_lhs hd) (m_rhs (m_sub hb (m_add hx hy)) zero_bf16) (dot32x256 _ _ _)))) zero_bf16

theorem pay194_at {q : FVec Ideal S64x128 .f32} {z : FVec Ideal S128x256 .f32} {d : FVec Ideal S32x32 .f32} {a : FVec Ideal S32x128 .f32} {b : FVec Ideal S32x128 .f32} {x : FVec Ideal S32x128 .f32} {y : FVec Ideal S32x128 .f32} {N fz : ℕ → ℕ → ℝ} (hq : At q (rd N)) (hz : At z (rd fun r l => if l < 128 then fz r l else 0)) {D fa fb fx : ℕ → ℕ → ℝ} (hd : At d (rd D)) (ha : At a (rd fa)) (hb : At b (rd fb)) (hx : At x (rd fx)) (hy : At y (rd fun _ _ => 0)) :
    At (k0_pay194 q z d a b x y) (rd fun r l => if l < 128 then fz (64 + r) l + ∑ i ∈ Finset.range 64, N r (0 + i) * (if i < 32 then fa i l else ∑ j ∈ Finset.range 32, D (i - 32) j * (fb j l - (fx j l + 0))) else 0) := by
  unfold k0_pay194; exact m_congr (m_add (m_slice hz) (m_split (K := 64) (K4 := 256) rfl (m_lhs (m_slice hq)) (pay193_at hd ha hb hx hy) (dot64x256 _ _ _)))
    fun r l _ _ => by
      by_cases e : l < 128
      · simp only [Nat.zero_add, if_pos e]
      · simp only [Nat.zero_add, if_neg e, add_zero]

theorem pay195_at {w : Elt Ideal .f32} {x : FVec Ideal S64x256 .f32} {k c : ℝ} {f : ℕ → ℕ → ℝ} (hc : Ideal.ofBits .f32 0x3DD105EC#32 = ((c : ℝ) : EReal)) (hw : w = ((k : ℝ) : EReal)) (hx : At x (rd fun r l => if l < 128 then f r l else 0)) :
    At (k0_pay195 w x) (rd3 fun _ r l => c * k * f r l) := by
  unfold k0_pay195; exact m_lead (m_truncf (m_mul (m_splat (r := c * k) (by
    show Ideal.ofBits .f32 0x3DD105EC#32 * w = _
    rw [hc, hw]; exact (EReal.coe_mul _ _).symm)) (m_fold hx)))

theorem pay196_at {d : FVec Ideal S96x128 .f32} {s : FVec Ideal S96x128 .f32} {a : FVec Ideal S96x256 .bf16} {u : FVec Ideal S256x256 .bf16} {fd fs fa U : ℕ → ℕ → ℝ} (hd : At d (rd fd)) (hs : At s (rd fs))
    (ha : At a (rd fun r k => if k < 128 then (if k < 64 then fa k r else fa (k - 64) r) else 0))
    (hu : At u (rd fun k l => if l < 128 then (if k < 64 then U k l else if k - 64 < 64 then 0 else if k - 64 - 64 < 64 then U (k - 64 - 64) l else U (k - 64 - 64 - 64) l) else 0)) :
    At (k0_pay196 d s a u (constant S96x256 .f32 0x00000000#32)) (rd3 fun _ r l => fd r l * fs r l + ∑ t ∈ Finset.range 64, fa t r * U t l) := by
  unfold k0_pay196; exact m_lead (m_add (m_mul hd hs) (m_fold (m_twice (a := fun r k => fa k r) ha hu (dot96x256 _ _ _))))

theorem pay197_at {x : Vec Ideal S1x96x128 .f32} {f : ℕ → ℕ → ℕ → ℝ} (hx : At x (rd3 f)) :
    At (k0_pay197 x) (rd fun r l => f 0 r l) := by
  unfold k0_pay197; exact m_unlead hx

theorem pay198_at {a : FVec Ideal S128x128 .bf16} {x : Vec Ideal S1x96x128 .f32} {p : ℕ → ℕ → ℝ} {f : ℕ → ℕ → ℕ → ℝ} (ha : At a (rd p)) (hx : At x (rd3 f)) :
    At (k0_pay198 a x) (rd fun r l => if l < 128 then ∑ k ∈ Finset.range 96, p r k * f 0 k l else 0) := by
  unfold k0_pay198; exact m_padded (m_cols2 ha ha) (m_congr (m_cols2
    (m_rows4 (m_truncf (pay197_at hx)) (m_splat zero_bf16) (m_truncf (m_rest (pay197_at hx))) (m_splat zero_bf16))
    (m_rows3 (m_truncf (m_rest (m_rest (pay197_at hx)))) (m_splat zero_bf16) (m_splat zero_bf16))) fun r l _ _ => by
      split_ifs <;> rfl) (dot128x256 _ _ _)

theorem pay199_at {a : FVec Ideal S64x128 .bf16} {f : ℕ → ℕ → ℝ} (ha : At a (rd f)) :
    At (k0_pay199 a) (rd f) := by
  unfold k0_pay199; exact m_extf ha

theorem pay200_at {a : FVec Ideal S128x128 .bf16} {x : Vec Ideal S1x96x128 .f32} {p : ℕ → ℕ → ℝ} {f : ℕ → ℕ → ℕ → ℝ} (ha : At a (rd p)) (hx : At x (rd3 f)) :
    At (k0_pay200 a x) (rd fun r l => if l < 128 then ∑ k ∈ Finset.range 96, p r k * f 0 k l else 0) := by
  unfold k0_pay200; exact m_congr (m_slice (pay198_at ha hx)) fun r l _ _ => by simp only [Nat.zero_add]

theorem pay201_at {a : FVec Ideal S128x128 .bf16} {x : Vec Ideal S1x96x128 .f32} {p : ℕ → ℕ → ℝ} {f : ℕ → ℕ → ℕ → ℝ} (ha : At a (rd p)) (hx : At x (rd3 f)) :
    At (k0_pay201 a x) (rd fun r l => ∑ k ∈ Finset.range 96, p r k * f 0 k l) := by
  unfold k0_pay201; exact m_congr (m_slice (pay200_at ha hx)) fun r l _ hl => by simp only [Nat.zero_add, if_pos hl]

theorem pay202_at {w : Elt Ideal .f32} {b : FVec Ideal S64x128 .f32} {v : FVec Ideal S64x128 .f32} {x : FVec Ideal S64x256 .f32} {y : FVec Ideal S64x128 .f32} {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay202 w b v x y) (rd fun r l => (fb r l * (fv r l - k * fx r l))) := by
  unfold k0_pay202; exact m_congr (m_mul hb (m_sub hv (m_mul (m_splat hw) (m_add hy (m_slice hx))))) fun r l _ _ => by
    have e : ¬ 128 + l < 128 := by omega
    simp only [if_neg e, add_zero]

theorem pay203_at {d : FVec Ideal S32x128 .f32} {D : ℕ → ℕ → ℝ} (hd : At d (rd D)) :
    At (k0_pay203 d) (rd fun r l => D r (96 + l)) := by
  unfold k0_pay203; exact m_congr (m_slice hd) fun r l _ _ => by rw [Nat.zero_add]

theorem pay204_at {w : Elt Ideal .f32} {b : FVec Ideal S64x128 .f32} {d : FVec Ideal S32x128 .f32} {v : FVec Ideal S64x128 .f32} {x : FVec Ideal S64x256 .f32} {y : FVec Ideal S64x128 .f32} {D : ℕ → ℕ → ℝ} (hd : At d (rd D)) {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay204 w b d v x y) (rd fun r l => ∑ j ∈ Finset.range 32, D r (64 + j) * (fb j l * (fv j l - k * fx j l))) := by
  unfold k0_pay204; exact m_congr (m_fold (m_split (K := 32) (K4 := 128) rfl (m_lhs (m_slice hd)) (m_rhs (m_slice (pay202_at hw hb hv hx hy)) zero_bf16) (dot32x256 _ _ _)))
    fun r l _ _ => by simp only [Nat.zero_add]

theorem pay205_at {w : Elt Ideal .f32} {b : FVec Ideal S64x128 .f32} {v : FVec Ideal S64x128 .f32} {x : FVec Ideal S64x256 .f32} {y : FVec Ideal S64x128 .f32} {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay205 w b v x y) (rd fun r l => fb (32 + r) l * (fv (32 + r) l - k * fx (32 + r) l)) := by
  unfold k0_pay205; exact m_congr (m_slice (pay202_at hw hb hv hx hy)) fun r l _ _ => by rw [Nat.zero_add]

theorem pay206_at {w : Elt Ideal .f32} {b : FVec Ideal S64x128 .f32} {q : FVec Ideal S64x128 .f32} {d : FVec Ideal S32x128 .f32} {v : FVec Ideal S64x128 .f32} {x : FVec Ideal S64x256 .f32} {y : FVec Ideal S64x128 .f32} {D A : ℕ → ℕ → ℝ} (hq : At q (rd A)) (hd : At d (rd D)) {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay206 w b q d v x y) (rd fun r l => if l < 128 then ∑ i ∈ Finset.range 32, A (32 + r) (64 + i) * ∑ j ∈ Finset.range 32, D i (64 + j) * (fb j l * (fv j l - k * fx j l)) else 0) := by
  unfold k0_pay206; exact m_congr (m_split (K := 32) (K4 := 128) rfl (m_lhs (m_slice hq)) (m_rhs (pay204_at hd hw hb hv hx hy) zero_bf16) (dot32x256 _ _ _))
    fun r l _ _ => by simp only [Nat.zero_add]

theorem pay207_at {w : Elt Ideal .f32} {b : FVec Ideal S64x128 .f32} {q : FVec Ideal S64x128 .f32} {d : FVec Ideal S32x128 .f32} {v : FVec Ideal S64x128 .f32} {x : FVec Ideal S64x256 .f32} {y : FVec Ideal S64x128 .f32} {D A : ℕ → ℕ → ℝ} (hq : At q (rd A)) (hd : At d (rd D)) {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay207 w b q d v x y) (rd fun r l => ∑ i ∈ Finset.range 32, A (32 + r) (64 + i) * ∑ j ∈ Finset.range 32, D i (64 + j) * (fb j l * (fv j l - k * fx j l))) := by
  unfold k0_pay207; exact m_congr (m_slice (pay206_at hq hd hw hb hv hx hy)) fun r l _ hl => by simp only [Nat.zero_add, if_pos hl]

theorem pay208_at {w : Elt Ideal .f32} {b : FVec Ideal S64x128 .f32} {q : FVec Ideal S64x128 .f32} {d : FVec Ideal S32x128 .f32} {v : FVec Ideal S64x128 .f32} {x : FVec Ideal S64x256 .f32} {y : FVec Ideal S64x128 .f32} {D A : ℕ → ℕ → ℝ} (hq : At q (rd A)) (hd : At d (rd D)) {k : ℝ} {fb fv fx : ℕ → ℕ → ℝ} (hw : w = ((k : ℝ) : EReal)) (hb : At b (rd fb)) (hv : At v (rd fv)) (hx : At x (rd fun r l => if l < 128 then fx r l else 0)) (hy : At y (rd fx)) :
    At (k0_pay208 w b q d v x y) (rd fun r l => 0) := by
  unfold k0_pay208; exact m_congr (m_slice (pay206_at hq hd hw hb hv hx hy)) fun r l _ hl => by
    have e : ¬ 128 + l < 128 := by omega
    simp only [if_neg e]

theorem pay209_at {a : FVec Ideal S64x128 .bf16} {f : ℕ → ℕ → ℝ} (ha : At a (rd f)) :
    At (k0_pay209 a) (rd fun r k => if k < 128 then (if k < 64 then f k r else f (k - 64) r) else 0) := by
  unfold k0_pay209; exact m_congr (m_cols2 (m_slice (m_transpose (m_rows2 ha ha))) (m_splat zero_bf16)) fun r l _ _ => by simp only [Nat.zero_add]

theorem pay210_at {d : FVec Ideal S32x32 .f32} {a : FVec Ideal S32x128 .f32} {b : FVec Ideal S32x128 .f32} {x : FVec Ideal S32x128 .f32} {y : FVec Ideal S32x128 .f32} {D fa fb fx : ℕ → ℕ → ℝ} (hd : At d (rd D)) (ha : At a (rd fa)) (hb : At b (rd fb)) (hx : At x (rd fx)) (hy : At y (rd fun _ _ => 0)) :
    At (k0_pay210 d a b x y) (rd fun k l => if l < 128 then (if k < 64 then (if k < 32 then fa k l else ∑ j ∈ Finset.range 32, D (k - 32) j * (fb j l - (fx j l + 0))) else if k - 64 < 64 then 0 else if k - 64 - 64 < 64 then (if (k - 64 - 64) < 32 then fa (k - 64 - 64) l else ∑ j ∈ Finset.range 32, D ((k - 64 - 64) - 32) j * (fb j l - (fx j l + 0))) else (if (k - 64 - 64 - 64) < 32 then fa (k - 64 - 64 - 64) l else ∑ j ∈ Finset.range 32, D ((k - 64 - 64 - 64) - 32) j * (fb j l - (fx j l + 0)))) else 0) := by
  unfold k0_pay210; exact m_rhs (m_rows2 ha (m_fold (m_split (K := 32) (K4 := 128) rfl (m_lhs hd) (m_rhs (m_sub hb (m_add hx hy)) zero_bf16) (dot32x256 _ _ _)))) zero_bf16

theorem pay211_at {q : FVec Ideal S64x128 .f32} {z : FVec Ideal S128x256 .f32} {d : FVec Ideal S32x32 .f32} {a : FVec Ideal S32x128 .f32} {b : FVec Ideal S32x128 .f32} {x : FVec Ideal S32x128 .f32} {y : FVec Ideal S32x128 .f32} {N fz : ℕ → ℕ → ℝ} (hq : At q (rd N)) (hz : At z (rd fun r l => if l < 128 then fz r l else 0)) {D fa fb fx : ℕ → ℕ → ℝ} (hd : At d (rd D)) (ha : At a (rd fa)) (hb : At b (rd fb)) (hx : At x (rd fx)) (hy : At y (rd fun _ _ => 0)) :
    At (k0_pay211 q z d a b x y) (rd fun r l => if l < 128 then fz (64 + r) l + ∑ i ∈ Finset.range 64, N r (64 + i) * (if i < 32 then fa i l else ∑ j ∈ Finset.range 32, D (i - 32) j * (fb j l - (fx j l + 0))) else 0) := by
  unfold k0_pay211; exact m_congr (m_add (m_slice hz) (m_split (K := 64) (K4 := 256) rfl (m_lhs (m_slice hq)) (pay210_at hd ha hb hx hy) (dot64x256 _ _ _)))
    fun r l _ _ => by
      by_cases e : l < 128
      · simp only [Nat.zero_add, if_pos e]
      · simp only [Nat.zero_add, if_neg e, add_zero]

theorem pay212_at {w : Elt Ideal .f32} {x : FVec Ideal S64x256 .f32} {k c : ℝ} {f : ℕ → ℕ → ℝ} (hc : Ideal.ofBits .f32 0x3DD105EC#32 = ((c : ℝ) : EReal)) (hw : w = ((k : ℝ) : EReal)) (hx : At x (rd fun r l => if l < 128 then f r l else 0)) :
    At (k0_pay212 w x) (rd3 fun _ r l => c * k * f r l) := by
  unfold k0_pay212; exact m_lead (m_truncf (m_mul (m_splat (r := c * k) (by
    show Ideal.ofBits .f32 0x3DD105EC#32 * w = _
    rw [hc, hw]; exact (EReal.coe_mul _ _).symm)) (m_fold hx)))

theorem pay213_at {d : FVec Ideal S96x128 .f32} {s : FVec Ideal S96x128 .f32} {a : FVec Ideal S96x256 .bf16} {u : FVec Ideal S256x256 .bf16} {fd fs fa U : ℕ → ℕ → ℝ} (hd : At d (rd fd)) (hs : At s (rd fs))
    (ha : At a (rd fun r k => if k < 128 then (if k < 64 then fa k r else fa (k - 64) r) else 0))
    (hu : At u (rd fun k l => if l < 128 then (if k < 64 then U k l else if k - 64 < 64 then 0 else if k - 64 - 64 < 64 then U (k - 64 - 64) l else U (k - 64 - 64 - 64) l) else 0)) :
    At (k0_pay213 d s a u (constant S96x256 .f32 0x00000000#32)) (rd3 fun _ r l => fd r l * fs r l + ∑ t ∈ Finset.range 64, fa t r * U t l) := by
  unfold k0_pay213; exact m_lead (m_add (m_mul hd hs) (m_fold (m_twice (a := fun r k => fa k r) ha hu (dot96x256 _ _ _))))

end Cert.KernelIdeal.Hand

end
-- ==== Proof.Io.lean ====
/-
Loads and stores of a window, read at its coordinates: a load reads a shifted reading, a store replaces the reading in its window.
-/
module

public import proofs.«01_k».proof.Proof.Mat
public import Idealize.ShloMosaic.Lib.VecWindow

@[expose] public section

noncomputable section

namespace Cert.Lift

open Idealize.ShloMosaic

variable {φ : Type} {n m k n₁ m₁ k₁ a b c p q o : ℕ}

abbrev T3 (n m k : ℕ) : Shape := ⟨3, ![n, m, k]⟩

theorem on_load1 {f : ℕ → ℝ} {x : (⟨1, ![n]⟩ : Shape).Idx → EReal} (h : ∀ i : (⟨1, ![n]⟩ : Shape).Idx, x i = ((f (i 0).val : ℝ) : EReal))
    (B : LoadRect ⟨1, ![n]⟩) (h0 : B.off 0 = a) (hz : B.size 0 = 1) (j : B.shape.Idx) : x (B.idx j) = ((f a : ℝ) : EReal) := by
  rw [h]
  have hj : (j 0).val < B.size 0 := (j 0).isLt
  have e : (B.idx j 0).val = B.off 0 + B.stride 0 * (j 0).val := rfl
  rw [e, h0, show (j 0).val = 0 by omega, Nat.mul_zero, Nat.add_zero]

theorem on_load2 {P : ℕ → ℕ → Prop} {f : ℕ → ℕ → ℝ} {x : (T2 n m).Idx → EReal} (h : ∀ i, P (co i 0) (co i 1) → x i = rd f (co i))
    (B : LoadRect (T2 n m)) (h0 : B.off 0 = a) (h1 : B.off 1 = b) (s0 : B.stride 0 = p) (s1 : B.stride 1 = q) (z0 : B.size 0 = n₁) (z1 : B.size 1 = m₁)
    (hP : ∀ r l, r < n₁ → l < m₁ → P (a + p * r) (b + q * l)) : At (fun j : B.shape.Idx => x (B.idx j)) (rd fun r l => f (a + p * r) (b + q * l)) := fun j => by
  have e0 : co (B.idx j) 0 = a + p * co j 0 := by rw [← h0, ← s0]; rfl
  have e1 : co (B.idx j) 1 = b + q * co j 1 := by rw [← h1, ← s1]; rfl
  have l0 : co j 0 < n₁ := by rw [← z0]; exact (j 0).isLt
  have l1 : co j 1 < m₁ := by rw [← z1]; exact (j 1).isLt
  show x (B.idx j) = _
  rw [h _ (by rw [e0, e1]; exact hP _ _ l0 l1)]
  unfold rd; rw [e0, e1]

theorem on_load3 {P : ℕ → ℕ → ℕ → Prop} {f : ℕ → ℕ → ℕ → ℝ} {x : (T3 n m k).Idx → EReal} (h : ∀ i, P (co i 0) (co i 1) (co i 2) → x i = rd3 f (co i))
    (B : LoadRect (T3 n m k)) (h0 : B.off 0 = a) (h1 : B.off 1 = b) (h2 : B.off 2 = c) (s0 : B.stride 0 = p) (s1 : B.stride 1 = q) (s2 : B.stride 2 = o)
    (z0 : B.size 0 = n₁) (z1 : B.size 1 = m₁) (z2 : B.size 2 = k₁)
    (hP : ∀ r l t, r < n₁ → l < m₁ → t < k₁ → P (a + p * r) (b + q * l) (c + o * t)) :
    At (fun j : B.shape.Idx => x (B.idx j)) (rd3 fun r l t => f (a + p * r) (b + q * l) (c + o * t)) := fun j => by
  have e0 : co (B.idx j) 0 = a + p * co j 0 := by rw [← h0, ← s0]; rfl
  have e1 : co (B.idx j) 1 = b + q * co j 1 := by rw [← h1, ← s1]; rfl
  have e2 : co (B.idx j) 2 = c + o * co j 2 := by rw [← h2, ← s2]; rfl
  have l0 : co j 0 < n₁ := by rw [← z0]; exact (j 0).isLt
  have l1 : co j 1 < m₁ := by rw [← z1]; exact (j 1).isLt
  have l2 : co j 2 < k₁ := by rw [← z2]; exact (j 2).isLt
  show x (B.idx j) = _
  rw [h _ (by rw [e0, e1, e2]; exact hP _ _ _ l0 l1 l2)]
  unfold rd3; rw [e0, e1, e2]

/-- A reading with four axes. -/
def rd4 (f : ℕ → ℕ → ℕ → ℕ → ℝ) (c : ℕ → ℕ) : EReal := ((f (c 0) (c 1) (c 2) (c 3) : ℝ) : EReal)

theorem on_load4 {N : Fin 4 → ℕ} {f : ℕ → ℕ → ℕ → ℕ → ℝ} {x : (⟨4, N⟩ : Shape).Idx → EReal} (h : At x (rd4 f)) {d : ℕ}
    (B : LoadRect ⟨4, N⟩) (h0 : B.off 0 = a) (h1 : B.off 1 = b) (h2 : B.off 2 = c) (h3 : B.off 3 = d) (s0 : ∀ i, B.stride i = 1) :
    At (fun j : B.shape.Idx => x (B.idx j)) (rd4 fun r l t u => f (a + r) (b + l) (c + t) (d + u)) := fun j => by
  have e0 : co (B.idx j) 0 = a + co j 0 := by
    have : co (B.idx j) 0 = B.off 0 + B.stride 0 * co j 0 := rfl
    rw [this, h0, s0, one_mul]
  have e1 : co (B.idx j) 1 = b + co j 1 := by
    have : co (B.idx j) 1 = B.off 1 + B.stride 1 * co j 1 := rfl
    rw [this, h1, s0, one_mul]
  have e2 : co (B.idx j) 2 = c + co j 2 := by
    have : co (B.idx j) 2 = B.off 2 + B.stride 2 * co j 2 := rfl
    rw [this, h2, s0, one_mul]
  have e3 : co (B.idx j) 3 = d + co j 3 := by
    have : co (B.idx j) 3 = B.off 3 + B.stride 3 * co j 3 := rfl
    rw [this, h3, s0, one_mul]
  show x (B.idx j) = _
  rw [h]
  unfold rd4; rw [e0, e1, e2, e3]

theorem on_put2 {P : ℕ → ℕ → Prop} {f fw : ℕ → ℕ → ℝ} {x : (T2 n m).Idx → EReal} {off size : Fin 2 → ℕ} {w : ((a : Fin 2) → Fin (size a)) → EReal}
    (h0 : off 0 = a) (h1 : off 1 = b) (z0 : size 0 = n₁) (z1 : size 1 = m₁) (hw : At (s := ⟨2, size⟩) w (rd fw))
    (hx : ∀ i, ¬ ((a ≤ co i 0 ∧ co i 0 < a + n₁) ∧ (b ≤ co i 1 ∧ co i 1 < b + m₁)) → P (co i 0) (co i 1) → x i = rd f (co i))
    (e : ∀ r l, r < n₁ → l < m₁ → P (a + r) (b + l) → fw r l = f (a + r) (b + l)) :
    ∀ i, P (co i 0) (co i 1) → VecWindow.put (s := T2 n m) x off size w i = rd f (co i) := fun i hP => by
  have c0 : co i 0 = (i 0).val := rfl
  have c1 : co i 1 = (i 1).val := rfl
  unfold VecWindow.put
  split_ifs with h
  · have g0 := h 0; have g1 := h 1
    rw [h0, z0] at g0; rw [h1, z1] at g1
    refine (hw _).trans ?_
    have d0 : co (s := ⟨2, size⟩) (Rect.unitLocal (s := T2 n m) (off := off) (size := size) i h) 0 = (i 0).val - a := by rw [← h0]; rfl
    have d1 : co (s := ⟨2, size⟩) (Rect.unitLocal (s := T2 n m) (off := off) (size := size) i h) 1 = (i 1).val - b := by rw [← h1]; rfl
    unfold rd
    rw [d0, d1, e _ _ (by omega) (by omega) (by rw [show a + ((i 0).val - a) = (i 0).val by omega, show b + ((i 1).val - b) = (i 1).val by omega]; exact hP),
      show a + ((i 0).val - a) = (i 0).val by omega, show b + ((i 1).val - b) = (i 1).val by omega]
    rfl
  · refine hx i (fun g => h fun d => ?_) hP
    match d with
    | 0 => show off 0 ≤ (i 0).val ∧ (i 0).val < off 0 + size 0; rw [h0, z0]; exact g.1
    | 1 => show off 1 ≤ (i 1).val ∧ (i 1).val < off 1 + size 1; rw [h1, z1]; exact g.2

theorem on_put3 {P : ℕ → ℕ → ℕ → Prop} {f fw : ℕ → ℕ → ℕ → ℝ} {x : (T3 n m k).Idx → EReal} {off size : Fin 3 → ℕ} {w : ((a : Fin 3) → Fin (size a)) → EReal}
    (h0 : off 0 = a) (h1 : off 1 = b) (h2 : off 2 = c) (z0 : size 0 = n₁) (z1 : size 1 = m₁) (z2 : size 2 = k₁) (hw : At (s := ⟨3, size⟩) w (rd3 fw))
    (hx : ∀ i, ¬ ((a ≤ co i 0 ∧ co i 0 < a + n₁) ∧ (b ≤ co i 1 ∧ co i 1 < b + m₁) ∧ (c ≤ co i 2 ∧ co i 2 < c + k₁)) → P (co i 0) (co i 1) (co i 2) → x i = rd3 f (co i))
    (e : ∀ r l t, r < n₁ → l < m₁ → t < k₁ → P (a + r) (b + l) (c + t) → fw r l t = f (a + r) (b + l) (c + t)) :
    ∀ i, P (co i 0) (co i 1) (co i 2) → VecWindow.put (s := T3 n m k) x off size w i = rd3 f (co i) := fun i hP => by
  have c0 : co i 0 = (i 0).val := rfl
  have c1 : co i 1 = (i 1).val := rfl
  have c2 : co i 2 = (i 2).val := rfl
  unfold VecWindow.put
  split_ifs with h
  · have g0 := h 0; have g1 := h 1; have g2 := h 2
    rw [h0, z0] at g0; rw [h1, z1] at g1; rw [h2, z2] at g2
    refine (hw _).trans ?_
    have d0 : co (s := ⟨3, size⟩) (Rect.unitLocal (s := T3 n m k) (off := off) (size := size) i h) 0 = (i 0).val - a := by rw [← h0]; rfl
    have d1 : co (s := ⟨3, size⟩) (Rect.unitLocal (s := T3 n m k) (off := off) (size := size) i h) 1 = (i 1).val - b := by rw [← h1]; rfl
    have d2 : co (s := ⟨3, size⟩) (Rect.unitLocal (s := T3 n m k) (off := off) (size := size) i h) 2 = (i 2).val - c := by rw [← h2]; rfl
    have q0 : a + ((i 0).val - a) = (i 0).val := by omega
    have q1 : b + ((i 1).val - b) = (i 1).val := by omega
    have q2 : c + ((i 2).val - c) = (i 2).val := by omega
    unfold rd3
    rw [d0, d1, d2, e _ _ _ (by omega) (by omega) (by omega) (by rw [q0, q1, q2]; exact hP), q0, q1, q2]
    rfl
  · refine hx i (fun g => h fun d => ?_) hP
    match d with
    | 0 => show off 0 ≤ (i 0).val ∧ (i 0).val < off 0 + size 0; rw [h0, z0]; exact g.1
    | 1 => show off 1 ≤ (i 1).val ∧ (i 1).val < off 1 + size 1; rw [h1, z1]; exact g.2.1
    | 2 => show off 2 ≤ (i 2).val ∧ (i 2).val < off 2 + size 2; rw [h2, z2]; exact g.2.2

end Cert.Lift

end
-- ==== Proof.KI.Offs.lean ====
/-
The offsets of the kernel's loads and stores, and the values of its small payloads.
-/
module

public import proofs.«01_k».proof.Proof.KI.Pay
public import proofs.«01_k».proof.Proof.Io

@[expose] public section

set_option maxRecDepth 16384

noncomputable section

namespace Cert.KernelIdeal.Hand

open Idealize.ShloMosaic Cert.KernelIdeal.Gen Cert.Lift

theorem off1_eq : ∀ t : Fin k0_t1_loop.trips, k0_off1 t = ![0, t.val, 0, 0] := by decide +kernel
theorem off2_eq : ∀ t : Fin k0_t1_loop.trips, k0_off2 t = ![36 * t.val, 0] := by decide +kernel
theorem off3_eq : ∀ t : Fin k0_t1_loop.trips, k0_off3 t = ![20 * t.val, 0, 0] := by decide +kernel
theorem off4_eq : ∀ t : Fin k0_t1_loop.trips, k0_off4 t = ![0, t.val, 0, 0] := by decide +kernel
theorem off5_eq : ∀ t : Fin k0_t1_loop.trips, k0_off5 t = ![20 * t.val, 0, 0] := by decide +kernel
theorem off6_eq : ∀ t : Fin k0_t2_loop.trips, k0_off6 t = ![t.val, 0, 0] := by decide +kernel
theorem off7_eq : ∀ (t : Fin k0_t2_loop.trips) (r : Fin 2), k0_off7 t (BitVec.ofNat 32 r.val) = ![2 * t.val + r.val, 0] := by decide +kernel
theorem off8_eq : ∀ (a : Fin 8) (b : Fin 4) (t : Fin k0_t2_loop.trips) (r : Fin 2), k0_off8 (fun d => match d with | 0 => a | 1 => b) t (BitVec.ofNat 32 r.val)
    = ![(a.val * 4 + b.val) * 28 + 2 * t.val + r.val] := by decide +kernel
theorem off9_eq : ∀ (t : Fin k0_t2_loop.trips) (r : Fin 2), k0_off9 t (BitVec.ofNat 32 r.val) = ![2 * t.val + r.val, 0, 0] := by decide +kernel
theorem off10_eq : ∀ (t : Fin k0_t2_loop.trips) (r : Fin 2), k0_off10 t (BitVec.ofNat 32 r.val) = ![0, 0, (2 * t.val + r.val) * 128] := by decide +kernel
theorem u0_eq : ∀ t : Fin k0_t2_loop.trips, Scalar.addi (Scalar.muli 2#32 (Scf.iv 0#32 1#32 t.val)) 0#32 = BitVec.ofNat 32 (2 * t.val + 0) := by decide +kernel
theorem u1_eq : ∀ t : Fin k0_t2_loop.trips, Scalar.addi (Scalar.muli 2#32 (Scf.iv 0#32 1#32 t.val)) 1#32 = BitVec.ofNat 32 (2 * t.val + 1) := by decide +kernel
theorem t1_lt (t : Fin k0_t1_loop.trips) : t.val < 64 := t.isLt
theorem t2_lt (t : Fin k0_t2_loop.trips) : t.val < 14 := t.isLt

/-- The masks. -/
theorem lane_num : ∀ l, l < 128 → ∀ r, r < 64 → (IntOp.cmpi .sgt (BitVec.ofNat 32 r) (BitVec.ofNat 32 l &&& 63#32) = if l % 64 < r then 1#1 else 0#1)
    ∧ (IntOp.cmpi .sge (BitVec.ofNat 32 r) (BitVec.ofNat 32 l &&& 63#32) = if l % 64 ≤ r then 1#1 else 0#1)
    ∧ (IntOp.cmpi .slt (BitVec.ofNat 32 l) 64#32 = if l < 64 then 1#1 else 0#1) := by decide +kernel
theorem pay221_at : At k0_pay221 fun c => if c 1 % 64 < c 0 then 1#1 else 0#1 := by
  unfold k0_pay221 k0_pay220
  exact (At.cmpi At.iota (At.andi At.iota At.splat)).congr fun i => (lane_num _ (co1_lt (n := 64)) _ (co0_lt (m := 128))).1
theorem pay222_at : At k0_pay222 fun c => if c 1 % 64 ≤ c 0 then 1#1 else 0#1 := by
  unfold k0_pay222 k0_pay220
  exact (At.cmpi At.iota (At.andi At.iota At.splat)).congr fun i => (lane_num _ (co1_lt (n := 64)) _ (co0_lt (m := 128))).2.1
theorem pay223_at : At k0_pay223 fun c => if c 1 < 64 then 1#1 else 0#1 := by
  unfold k0_pay223
  exact (At.cmpi At.iota At.splat).congr fun i => (lane_num _ (co1_lt (n := 64)) 0 (by decide)).2.2
theorem pay35_at : At (k0_pay35 (F := Ideal)) (rd fun _ _ => 0) := fun _ => zero_f32
theorem pay214_at : At (k0_pay214 (F := Ideal)) (rd fun _ _ => 0) := At.shapeCast_self fun _ => zero_f32
theorem pay215_at : At (k0_pay215 (F := Ideal)) (rd fun _ _ => 0) := At.shapeCast_self fun _ => zero_f32
theorem pay218_at : At (k0_pay218 (F := Ideal)) (rd fun _ _ => 0) := fun _ => zero_f32
theorem pay217_at {x : Vec Ideal S1x64x28 .f32} {f : ℕ → ℕ → ℕ → ℝ} (hx : At x (rd3 f)) : At (k0_pay217 x) (rd fun r l => f 0 r l) :=
  At.shapeCast_self (m_unlead hx)

/-- Two unit axes taken away. -/
theorem m_unlead2 {n m : ℕ} {φ : FTy} {f : ℕ → ℕ → ℕ → ℕ → ℝ} {x : FVec Ideal ⟨4, ![1, 1, n, m]⟩ φ} {h : (⟨4, ![1, 1, n, m]⟩ : Shape).ShapeCasts (T2 n m)} (hx : At x (rd4 f)) :
    At (shapeCast (T2 n m) x h : FVec Ideal (T2 n m) φ) (rd fun r l => f 0 0 r l) :=
  hx.shapeCast fun i j e => by
    rw [Shape.rowMajor_val_four, Shape.rowMajor_val_two] at e
    have a0 := (i 0).isLt; have a1 := (i 1).isLt; have a2 := (i 3).isLt; have b1 := (j 1).isLt
    change ((((i 0).val * 1 + (i 1).val) * n + (i 2).val) * m + (i 3).val) = (j 0).val * m + (j 1).val at e
    change (i 0).val < 1 at a0; change (i 1).val < 1 at a1; change (i 3).val < m at a2; change (j 1).val < m at b1
    have e1 : (i 0).val = 0 := by omega
    have e1' : (i 1).val = 0 := by omega
    simp only [e1, e1', Nat.zero_mul, Nat.zero_add] at e
    have hm : 0 < m := by omega
    have e2 : (i 3).val = (j 1).val := by
      have := congrArg (· % m) e; simpa [Nat.add_mod, Nat.mod_eq_of_lt a2, Nat.mod_eq_of_lt b1] using this
    have e0 : (i 2).val = (j 0).val := by
      rw [e2] at e; exact Nat.eq_of_mul_eq_mul_right hm (Nat.add_right_cancel e)
    show (((f (i 0).val (i 1).val (i 2).val (i 3).val : ℝ) : EReal)) = ((f 0 0 (j 0).val (j 1).val : ℝ) : EReal)
    rw [e1, e1', e0, e2]
theorem m_unlead3 {n m k : ℕ} {φ : FTy} {f : ℕ → ℕ → ℕ → ℕ → ℝ} {x : FVec Ideal ⟨4, ![1, n, m, k]⟩ φ} {h : (⟨4, ![1, n, m, k]⟩ : Shape).ShapeCasts (T3 n m k)} (hx : At x (rd4 f)) :
    At (shapeCast (T3 n m k) x h : FVec Ideal (T3 n m k) φ) (rd3 fun r l t => f 0 r l t) :=
  hx.shapeCast fun i j e => by
    rw [Shape.rowMajor_val_four, Shape.rowMajor_val_three] at e
    have a0 := (i 0).isLt; have a2 := (i 2).isLt; have a3 := (i 3).isLt; have b1 := (j 1).isLt; have b2 := (j 2).isLt
    change ((((i 0).val * n + (i 1).val) * m + (i 2).val) * k + (i 3).val) = ((j 0).val * m + (j 1).val) * k + (j 2).val at e
    change (i 0).val < 1 at a0; change (i 2).val < m at a2; change (i 3).val < k at a3; change (j 1).val < m at b1; change (j 2).val < k at b2
    have e1 : (i 0).val = 0 := by omega
    rw [e1, Nat.zero_mul, Nat.zero_add] at e
    have e3 : (i 3).val = (j 2).val := by
      have := congrArg (· % k) e; simpa [Nat.add_mod, Nat.mod_eq_of_lt a3, Nat.mod_eq_of_lt b2] using this
    rw [e3] at e
    have e' := Nat.eq_of_mul_eq_mul_right (by omega : 0 < k) (Nat.add_right_cancel e)
    have e2 : (i 2).val = (j 1).val := by
      have := congrArg (· % m) e'; simpa [Nat.add_mod, Nat.mod_eq_of_lt a2, Nat.mod_eq_of_lt b1] using this
    rw [e2] at e'
    have e0 := Nat.eq_of_mul_eq_mul_right (by omega : 0 < m) (Nat.add_right_cancel e')
    show (((f (i 0).val (i 1).val (i 2).val (i 3).val : ℝ) : EReal)) = ((f 0 (j 0).val (j 1).val (j 2).val : ℝ) : EReal)
    rw [e1, e0, e2, e3]
theorem m_lead3 {n m k : ℕ} {φ : FTy} {f : ℕ → ℕ → ℕ → ℝ} {x : FVec Ideal (T3 n m k) φ} {h : (T3 n m k).ShapeCasts ⟨4, ![1, n, m, k]⟩} (hx : At x (rd3 f)) :
    At (shapeCast ⟨4, ![1, n, m, k]⟩ x h : FVec Ideal ⟨4, ![1, n, m, k]⟩ φ) (rd4 fun _ r l t => f r l t) :=
  hx.shapeCast fun j i e => by
    rw [Shape.rowMajor_val_four, Shape.rowMajor_val_three] at e
    have a0 := (i 0).isLt; have a2 := (i 2).isLt; have a3 := (i 3).isLt; have b1 := (j 1).isLt; have b2 := (j 2).isLt
    change ((j 0).val * m + (j 1).val) * k + (j 2).val = ((((i 0).val * n + (i 1).val) * m + (i 2).val) * k + (i 3).val) at e
    change (i 0).val < 1 at a0; change (i 2).val < m at a2; change (i 3).val < k at a3; change (j 1).val < m at b1; change (j 2).val < k at b2
    have e1 : (i 0).val = 0 := by omega
    rw [e1, Nat.zero_mul, Nat.zero_add] at e
    have e3 : (i 3).val = (j 2).val := by
      have := congrArg (· % k) e.symm; simpa [Nat.add_mod, Nat.mod_eq_of_lt a3, Nat.mod_eq_of_lt b2] using this
    rw [e3] at e
    have e' := Nat.eq_of_mul_eq_mul_right (by omega : 0 < k) (Nat.add_right_cancel e)
    have e2 : (i 2).val = (j 1).val := by
      have := congrArg (· % m) e'.symm; simpa [Nat.add_mod, Nat.mod_eq_of_lt a2, Nat.mod_eq_of_lt b1] using this
    rw [e2] at e'
    have e0 := Nat.eq_of_mul_eq_mul_right (by omega : 0 < m) (Nat.add_right_cancel e')
    show (((f (j 0).val (j 1).val (j 2).val : ℝ) : EReal)) = ((f (i 1).val (i 2).val (i 3).val : ℝ) : EReal)
    rw [e0, e2, e3]
theorem pay216_at {x : Vec Ideal S1x28x96x128 .f32} {f : ℕ → ℕ → ℕ → ℕ → ℝ} (hx : At x (rd4 f)) : At (k0_pay216 x) (rd3 fun r l t => f 0 r l t) :=
  At.shapeCast_self (m_unlead3 hx)
theorem pay224_at {x : Vec Ideal S28x96x128 .f32} {f : ℕ → ℕ → ℕ → ℝ} (hx : At x (rd3 f)) : At (k0_pay224 x) (rd4 fun _ r l t => f r l t) :=
  m_lead3 hx
theorem pay1_at {a : FVec Ideal S28x96 .f32} {x : Vec Ideal S1x1x28x96 .f32} {g : ℕ → ℕ → ℝ} {f : ℕ → ℕ → ℕ → ℕ → ℝ} (ha : At a (rd g)) (hx : At x (rd4 f)) :
    At (k0_pay1 a x) (rd fun r l => g r l + f 0 0 r l) := m_add ha (m_unlead2 hx)
theorem pay2_at {a : FVec Ideal S28x96 .f32} {x : Vec Ideal S1x1x28x96 .f32} {g : ℕ → ℕ → ℝ} {f : ℕ → ℕ → ℕ → ℕ → ℝ} (ha : At a (rd g)) (hx : At x (rd4 f)) :
    At (k0_pay2 a x) (rd fun r l => g r l + f 0 0 r l) := At.shapeCast_self (pay1_at ha hx)

/-- The rows by pairs. -/
theorem m_pairs {n n2 m : ℕ} (hn : n = 2 * n2) {f : ℕ → ℕ → ℝ} {x : FVec Ideal (T2 n m) .bf16} {b : (T2 n m).Bitcasts 16 (T2 n2 m) 32} {h : (T2 n2 m).ShapeCasts (T3 n2 1 m)}
    {b' : (T3 n2 2 m).Bitcasts 16 (T3 n2 1 m) 32} (hx : At x (rd f)) :
    At (interleaveRows (T3 n2 2 m) (shapeCast (T3 n2 1 m) (rowsOfParity 0 (T2 n2 m) x b) h) (shapeCast (T3 n2 1 m) (rowsOfParity 1 (T2 n2 m) x b) h) b')
      (rd3 fun r e l => f (2 * r + e) l) := by
  have q : ∀ p : Fin 2, At (shapeCast (T3 n2 1 m) (rowsOfParity p (T2 n2 m) x b) h) (rd3 fun r _ l => f (2 * r + p.val) l) := fun p =>
    hx.rowsOfParity.shapeCast fun j i e => by
      rw [Shape.rowMajor_val_three, Shape.rowMajor_val_two] at e
      have a1 := (i 1).isLt; have a2 := (i 2).isLt; have b1 := (j 1).isLt
      change (j 0).val * m + (j 1).val = ((i 0).val * 1 + (i 1).val) * m + (i 2).val at e
      change (i 1).val < 1 at a1; change (i 2).val < m at a2; change (j 1).val < m at b1
      have e1 : (i 1).val = 0 := by omega
      rw [e1, Nat.mul_one, Nat.add_zero] at e
      have hm : 0 < m := by omega
      have e2 : (j 1).val = (i 2).val := by
        have := congrArg (· % m) e; simpa [Nat.add_mod, Nat.mod_eq_of_lt a2, Nat.mod_eq_of_lt b1] using this
      have e0 : (j 0).val = (i 0).val := by
        rw [e2] at e; exact Nat.eq_of_mul_eq_mul_right hm (Nat.add_right_cancel e)
      show ((f (2 * (j 0).val + p.val) (j 1).val : ℝ) : EReal) = ((f (2 * (i 0).val + p.val) (i 2).val : ℝ) : EReal)
      rw [e0, e2]
  refine (At.interleaveRows (q 0) (q 1) (by show 2 ≤ 3; omega)).congr fun i => ?_
  have i1 : co i 1 < 2 := by have := co_lt i 1 (by show 1 < 3; omega); exact this
  show (if co i 1 % 2 = 0 then ((f (2 * co i 0 + 0) (co i 2) : ℝ) : EReal) else ((f (2 * co i 0 + 1) (co i 2) : ℝ) : EReal)) = ((f (2 * co i 0 + co i 1) (co i 2) : ℝ) : EReal)
  split_ifs with h
  · rw [show co i 1 = 0 by omega]
  · rw [show co i 1 = 1 by omega]
theorem pay3_at {x : Vec Ideal S1x1x28x96 .fp8e4m3} {f : ℕ → ℕ → ℕ → ℕ → ℝ} (hx : At (α := EReal) x (rd4 f)) : At (k0_pay3 x) (rd3 fun r e l => f 0 0 (2 * r + e) l) := by
  unfold k0_pay3
  exact m_pairs (n := 28) rfl (m_extf (m_unlead2 (φ := .fp8e4m3) hx))
theorem pay4_at {x : Vec Ideal S1x1x28x96 .fp8e4m3} {f : ℕ → ℕ → ℕ → ℕ → ℝ} (hx : At (α := EReal) x (rd4 f)) : At (k0_pay4 x) (rd3 fun r e l => f 0 0 (2 * r + e) l) := by
  unfold k0_pay4
  exact m_pairs (n := 28) rfl (m_extf (m_unlead2 (φ := .fp8e4m3) hx))
theorem pay219_at {x : Vec Ideal S1x1x28x128 .bf16} {f : ℕ → ℕ → ℕ → ℕ → ℝ} (hx : At x (rd4 f)) : At (k0_pay219 x) (rd3 fun r e l => f 0 0 (2 * r + e) l) := by
  unfold k0_pay219
  exact m_pairs (n := 28) rfl (m_unlead2 hx)

end Cert.KernelIdeal.Hand

end
-- ==== Proof.Solve.lean ====
/-
A unit lower triangular system of 64 rows: its solution row by row, and the same solution from the inverses of its two diagonal blocks of 32 rows.
-/
module

public import proofs.«01_k».proof.Proof.KI.Elim0

@[expose] public section

noncomputable section

namespace Cert.Lift

/-- The solution of `U t + Σ s < t, A t s * U s = R t`. -/
def sol (A : ℕ → ℕ → ℝ) (R : ℕ → ℝ) (t : ℕ) : ℝ := R t - ∑ s : Fin t, A t s.val * sol A R s.val
termination_by t
decreasing_by exact s.isLt

theorem sol_eq (A : ℕ → ℕ → ℝ) (R : ℕ → ℝ) (t : ℕ) : sol A R t = R t - ∑ s ∈ Finset.range t, A t s * sol A R s := by
  rw [sol, Finset.sum_range]

/-- The solution is the only one. -/
theorem sol_unique {A : ℕ → ℕ → ℝ} {R U : ℕ → ℝ} {n : ℕ} (h : ∀ t, t < n → U t = R t - ∑ s ∈ Finset.range t, A t s * U s) :
    ∀ t, t < n → U t = sol A R t := by
  intro t
  induction t using Nat.strong_induction_on with
  | _ t ih =>
    intro ht
    rw [h t ht, sol_eq]
    congr 1
    exact Finset.sum_congr rfl fun s hs => by
      have := Finset.mem_range.1 hs
      rw [ih s this (by omega)]

/-- The solution depends on the entries below the diagonal only. -/
theorem sol_congr {A B : ℕ → ℕ → ℝ} {R R' : ℕ → ℝ} {n : ℕ} (hA : ∀ t s, t < n → s < t → A t s = B t s) (hR : ∀ t, t < n → R t = R' t) :
    ∀ t, t < n → sol A R t = sol B R' t :=
  sol_unique fun t ht => by
    rw [sol_eq, hR t ht]
    congr 1
    exact Finset.sum_congr rfl fun s hs => by rw [hA t s ht (Finset.mem_range.1 hs)]

/-- One block: the inverse times a right side solves the block's system. -/
theorem block_sol {A : ℕ → ℕ → ℝ} (hA : ∀ r l j, r ≤ j → j < 32 → A r (l / 32 * 32 + j) = 0) {b : ℕ} (hb : b % 32 = 0) (R : ℕ → ℝ) (r : ℕ) (hr : r < 32) :
    ∑ j ∈ Finset.range 32, el A 31 r (b + j) * R j
      = R r - ∑ i ∈ Finset.range r, A r (b + i) * ∑ j ∈ Finset.range 32, el A 31 i (b + j) * R j := by
  have e : ∀ j ∈ Finset.range 32, el A 31 r (b + j) * R j
      = (if j = r then R r else 0) - ∑ i ∈ Finset.range 31, A r (b + i) * (el A 31 i (b + j) * R j) := fun j hj => by
    have hj := Finset.mem_range.1 hj
    rw [el_eq hA r (b + j) 31 (by omega), sub_mul]
    congr 1
    · rw [show (b + j) % 32 = j by omega]
      split_ifs with q
      · rw [q, one_mul]
      · rw [zero_mul]
    · rw [show (b + j) / 32 * 32 = b by omega, Finset.sum_mul]
      exact Finset.sum_congr rfl fun i _ => by rw [mul_assoc]
  rw [Finset.sum_congr rfl e, Finset.sum_sub_distrib, Finset.sum_comm]
  congr 1
  · rw [Finset.sum_ite_eq' (Finset.range 32) r, if_pos (Finset.mem_range.2 hr)]
  · simp only [← Finset.mul_sum]
    refine (Finset.sum_subset (Finset.range_subset_range.2 (by omega)) fun i hi hn => ?_).symm
    have hi := Finset.mem_range.1 hi
    have hn : r ≤ i := by by_contra q; exact hn (Finset.mem_range.2 (by omega))
    have := hA r b i hn (by omega)
    rw [show b / 32 * 32 = b by omega] at this
    rw [this, zero_mul]

/-- The 64 rows from the two blocks. -/
theorem two_blocks {A : ℕ → ℕ → ℝ} (hA : ∀ r l j, r ≤ j → j < 32 → A r (l / 32 * 32 + j) = 0) {b : ℕ} (hb : b % 32 = 0)
    {B f : ℕ → ℕ → ℝ} {R : ℕ → ℝ} (h1 : ∀ r j, r < 32 → j < r → A r (b + j) = B r j) (h2 : ∀ r j, r < 32 → j < r → A r (b + 32 + j) = B (32 + r) (32 + j))
    (h3 : ∀ r i, r < 32 → i < 32 → f (32 + r) (b + i) = B (32 + r) i) (t : ℕ) (ht : t < 64) :
    (if t < 32 then ∑ j ∈ Finset.range 32, el A 31 t (b + j) * R j
      else ∑ j ∈ Finset.range 32, el A 31 (t - 32) (b + 32 + j) * (R (32 + j) - (∑ i ∈ Finset.range 32, f (32 + j) (b + i) * ∑ j ∈ Finset.range 32, el A 31 i (b + j) * R j + 0)))
      = sol B R t := by
  refine sol_unique (n := 64) (U := fun t => if t < 32 then ∑ j ∈ Finset.range 32, el A 31 t (b + j) * R j
      else ∑ j ∈ Finset.range 32, el A 31 (t - 32) (b + 32 + j) * (R (32 + j) - (∑ i ∈ Finset.range 32, f (32 + j) (b + i) * ∑ j ∈ Finset.range 32, el A 31 i (b + j) * R j + 0))) (fun t ht => ?_) t ht
  by_cases q : t < 32
  · simp only [if_pos q]
    rw [block_sol hA hb R t q]
    congr 1
    exact Finset.sum_congr rfl fun i hi => by
      have hi := Finset.mem_range.1 hi
      rw [h1 t i q hi, if_pos (by omega)]
  · simp only [if_neg q]
    rw [block_sol hA (show (b + 32) % 32 = 0 by omega) (fun j => R (32 + j) - (∑ i ∈ Finset.range 32, f (32 + j) (b + i) * ∑ j ∈ Finset.range 32, el A 31 i (b + j) * R j + 0)) (t - 32) (by omega)]
    show R (32 + (t - 32)) - _ - _ = _
    rw [show (32 + (t - 32)) = t by omega, add_zero, sub_sub]
    congr 1
    conv_rhs => rw [show t = 32 + (t - 32) by omega, Finset.sum_range_add]
    congr 1
    · exact Finset.sum_congr rfl fun i hi => by
        have hi := Finset.mem_range.1 hi
        have := h3 (t - 32) i (by omega) hi
        rw [show 32 + (t - 32) = t by omega] at this ⊢
        rw [this, if_pos (by omega)]
    · exact Finset.sum_congr rfl fun i hi => by
        have hi := Finset.mem_range.1 hi
        rw [h2 (t - 32) i (by omega) hi, if_neg (by omega), show 32 + i - 32 = i by omega]

end Cert.Lift

end
-- ==== Proof.Spec.lean ====
/-
One chunk of the gated delta rule, over the real numbers: what it reads, the state it leaves and the rows it returns.
-/
module

public import proofs.«01_k».proof.Proof.Solve

@[expose] public section

noncomputable section

namespace Cert.Lift

/-- What a chunk reads: the running sums of the gates, the codes and values at a token, a head and a lane, the strengths at a token and a head, the scales of the
    heads from number `base` on, and the state at a head, a row and a lane. -/
structure Blk where
  G : ℕ → ℕ → ℕ → ℝ
  Q : ℕ → ℕ → ℕ → ℝ
  K : ℕ → ℕ → ℕ → ℝ
  V : ℕ → ℕ → ℕ → ℝ
  B : ℕ → ℕ → ℝ
  S : ℕ → ℕ → ℕ → ℝ
  qa : ℕ → ℝ
  ka : ℕ → ℝ
  base : ℕ

variable (D : Blk) (h : ℕ)

def Blk.qs : ℝ := D.qa (D.base + h)
def Blk.ks : ℝ := D.ka (D.base + h)
def Blk.qp (t l : ℕ) : ℝ := D.Q t h l * Real.exp (D.G t h l)
def Blk.kp (t l : ℕ) : ℝ := D.K t h l * Real.exp (D.G t h l)
def Blk.kn (t l : ℕ) : ℝ := D.K t h l * Real.exp (0 - D.G t h l)
def Blk.kd (t l : ℕ) : ℝ := D.K t h l * Real.exp (D.G 63 h l - D.G t h l)
def Blk.A (t s : ℕ) : ℝ := D.B t h * D.ks h * D.ks h * ∑ k ∈ Finset.range 128, D.kp h t k * D.kn h s k
def Blk.N (t s : ℕ) : ℝ := if s ≤ t then ∑ k ∈ Finset.range 128, D.qp h t k * D.kn h s k else 0
def Blk.R (l t : ℕ) : ℝ := D.B t h * D.ks h * (D.V t h l - D.ks h * ∑ k ∈ Finset.range 96, D.kp h t k * D.S h k l)
def Blk.U (l t : ℕ) : ℝ := sol (D.A h) (D.R h l) t
def Blk.o (c : ℝ) (t l : ℕ) : ℝ := c * D.qs h * (∑ k ∈ Finset.range 96, D.qp h t k * D.S h k l + ∑ i ∈ Finset.range 64, D.N h t i * D.U h l i)
def Blk.s (r l : ℕ) : ℝ := Real.exp (D.G 63 h r) * D.S h r l + ∑ t ∈ Finset.range 64, D.kd h t r * D.U h l t

/-- The coefficients of a pair of heads side by side. -/
def Blk.AA (D : Blk) (a b r l : ℕ) : ℝ := if l < 64 then D.A a r l else D.A b r (l - 64)
/-- The same below the diagonal. -/
def Blk.AL (D : Blk) (a b r l : ℕ) : ℝ := if l % 64 < r then D.AA a b r l else 0
/-- The diagonal blocks of 32 rows side by side. -/
def Blk.AD (D : Blk) (a b r l : ℕ) : ℝ := if l / 32 % 2 = 0 then (if l % 64 < r then D.AA a b r l else 0) else if l % 64 < 32 + r then D.AA a b (32 + r) l else 0
/-- The causal products of a pair of heads side by side. -/
def Blk.NN (D : Blk) (a b r l : ℕ) : ℝ := if l < 64 then D.N a r l else D.N b r (l - 64)
/-- The positive side of the keys above that of the queries. -/
def Blk.kq (D : Blk) (a r l : ℕ) : ℝ := if r < 64 then D.kp a r l else D.qp a (r - 64) l

theorem Blk.AD_low (D : Blk) (a b r l j : ℕ) (h : r ≤ j) (hj : j < 32) : D.AD a b r (l / 32 * 32 + j) = 0 := by
  unfold Blk.AD
  by_cases q : l / 32 % 2 = 0
  · rw [if_pos (by omega), if_neg (by omega)]
  · rw [if_neg (by omega), if_neg (by omega)]

/-- The solution of the first head's system from the blocks. -/
theorem Blk.U_left (D : Blk) (a b : ℕ) (l t : ℕ) (ht : t < 64) :
    (if t < 32 then ∑ j ∈ Finset.range 32, el (D.AD a b) 31 t (0 + j) * D.R a l j
      else ∑ j ∈ Finset.range 32, el (D.AD a b) 31 (t - 32) (32 + j) * (D.R a l (32 + j) - (∑ i ∈ Finset.range 32, D.AL a b (32 + j) (0 + i) * ∑ j ∈ Finset.range 32, el (D.AD a b) 31 i (0 + j) * D.R a l j + 0)))
      = D.U a l t :=
  two_blocks (D.AD_low a b) (b := 0) rfl (B := D.A a)
    (fun r j _ h => by unfold Blk.AD Blk.AA; rw [if_pos (by omega), if_pos (by omega), if_pos (by omega), Nat.zero_add])
    (fun r j _ h => by unfold Blk.AD Blk.AA; rw [if_neg (by omega), if_pos (by omega), if_pos (by omega)])
    (fun r i _ h => by unfold Blk.AL Blk.AA; rw [if_pos (by omega), if_pos (by omega), Nat.zero_add]) t ht

/-- The solution of the second head's system from the blocks. -/
theorem Blk.U_right (D : Blk) (a b : ℕ) (l t : ℕ) (ht : t < 64) :
    (if t < 32 then ∑ j ∈ Finset.range 32, el (D.AD a b) 31 t (64 + j) * D.R b l j
      else ∑ j ∈ Finset.range 32, el (D.AD a b) 31 (t - 32) (96 + j) * (D.R b l (32 + j) - (∑ i ∈ Finset.range 32, D.AL a b (32 + j) (64 + i) * ∑ j ∈ Finset.range 32, el (D.AD a b) 31 i (64 + j) * D.R b l j + 0)))
      = D.U b l t :=
  two_blocks (D.AD_low a b) (b := 64) rfl (B := D.A b)
    (fun r j _ h => by unfold Blk.AD Blk.AA; rw [if_pos (by omega), if_pos (by omega), if_neg (by omega), show 64 + j - 64 = j by omega])
    (fun r j _ h => by unfold Blk.AD Blk.AA; rw [if_neg (by omega), if_pos (by omega), if_neg (by omega), show 64 + 32 + j - 64 = 32 + j by omega])
    (fun r i _ h => by unfold Blk.AL Blk.AA; rw [if_pos (by omega), if_neg (by omega), show 64 + i - 64 = i by omega]) t ht

end Cert.Lift

end
-- ==== Proof.KI.Mem.lean ====
/-
One pair of heads: what a trip of the second loop reads, computes and stores.
-/
module

public import proofs.«01_k».proof.Proof.KI.Parts
public import proofs.«01_k».proof.Proof.KI.Offs
public import proofs.«01_k».proof.Proof.Spec
public import proofs.«01_k».proof.Proof.KI.Pay

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

/-- The buffers a trip reads and writes. -/
def Res (c : Dev nD) (arg2 : Memref sig .tc .smem S896 .f32) (arg3 : Memref sig .tc .smem S896 .f32) (arg12 : Memref sig .tc .vmem S2304x128 .f32) (arg13 : Memref sig .tc .vmem S1280x2x128 .bf16) (arg14 : Memref sig .tc .vmem S1280x2x128 .bf16) (arg15 : Memref sig .tc .vmem S1280x2x128 .bf16) (arg16 : Memref sig .tc .vmem S64x128 .f32) (arg17 : Memref sig .tc .vmem S28x96x128 .f32) (arg10 : Memref sig .tc .vmem S1x64x3584 .bf16) (f2 : BufTy.Contents (Elt Ideal) arg2.view.ty) (f3 : BufTy.Contents (Elt Ideal) arg3.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) (f10 : BufTy.Contents (Elt Ideal) arg10.view.ty) : sProp 𝕄 :=
  iprop((arg2.view.loc (c : Thread nD τ) ↦[arg2.view.set]{fullShare} f2) ∗ (arg3.view.loc (c : Thread nD τ) ↦[arg3.view.set]{fullShare} f3) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg10.view.loc (c : Thread nD τ) ↦[arg10.view.set]{fullShare} f10))

/-- What the buffers hold for a chunk. -/
structure Holds (arg2 : Memref sig .tc .smem S896 .f32) (arg3 : Memref sig .tc .smem S896 .f32) (arg12 : Memref sig .tc .vmem S2304x128 .f32) (arg13 : Memref sig .tc .vmem S1280x2x128 .bf16) (arg14 : Memref sig .tc .vmem S1280x2x128 .bf16) (arg15 : Memref sig .tc .vmem S1280x2x128 .bf16) (arg16 : Memref sig .tc .vmem S64x128 .f32) (arg17 : Memref sig .tc .vmem S28x96x128 .f32) (D : Blk) (f2 : BufTy.Contents (Elt Ideal) arg2.view.ty) (f3 : BufTy.Contents (Elt Ideal) arg3.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) : Prop where
  h2 : ∀ j : S896.Idx, arg2.view.read (Elt Ideal) f2 j = ((D.qa (j 0).val : ℝ) : EReal)
  h3 : ∀ j : S896.Idx, arg3.view.read (Elt Ideal) f3 j = ((D.ka (j 0).val : ℝ) : EReal)
  h12 : ∀ j : S2304x128.Idx, co j 0 % 36 < 28 → arg12.view.read (Elt Ideal) f12 j = rd (fun p l => D.G (p / 36) (p % 36) l) (co j)
  h13 : ∀ j : S1280x2x128.Idx, co j 0 % 20 < 14 → arg13.view.read (Elt Ideal) f13 j = rd3 (fun p e l => D.Q (p / 20) (2 * (p % 20) + e) l) (co j)
  h14 : ∀ j : S1280x2x128.Idx, co j 0 % 20 < 14 → arg14.view.read (Elt Ideal) f14 j = rd3 (fun p e l => D.K (p / 20) (2 * (p % 20) + e) l) (co j)
  h15 : ∀ j : S1280x2x128.Idx, co j 0 % 20 < 14 → arg15.view.read (Elt Ideal) f15 j = rd3 (fun p e l => D.V (p / 20) (2 * (p % 20) + e) l) (co j)
  h16 : At (s := S64x128) (arg16.view.read (Elt Ideal) f16) (rd D.B)

variable {D : Blk}

/-- Loads of the strided rows. -/
theorem ld13 (arg13 : Memref sig .tc .vmem S1280x2x128 .bf16) (f13 : BufTy.Contents (Elt Ideal) arg13.view.ty) (h : ∀ j : S1280x2x128.Idx, co j 0 % 20 < 14 → arg13.view.read (Elt Ideal) f13 j = rd3 (fun p e l => D.Q (p / 20) (2 * (p % 20) + e) l) (co j))
    (t : Fin k0_t2_loop.trips) (inb : _) : At (View.readAt (Elt Ideal) arg13.view (⟨k0_off6 t, S64x2x128.size, ![20, 1, 1], inb⟩ : LoadRect S1280x2x128) f13) (rd3 fun r e l => D.Q r (2 * t.val + e) l) :=
  (on_load3 (P := fun p _ _ => p % 20 < 14) (a := t.val) (b := 0) (c := 0) (p := 20) (q := 1) (o := 1) (n₁ := 64) (m₁ := 2) (k₁ := 128) h _ (congrFun (off6_eq t) 0) (congrFun (off6_eq t) 1) (congrFun (off6_eq t) 2) rfl rfl rfl rfl rfl rfl
    (fun r l u _ _ _ => by have := t2_lt t; show (t.val + 20 * r) % 20 < 14; omega)).congr fun x => by
      have := t2_lt t
      show ((D.Q ((t.val + 20 * co x 0) / 20) (2 * ((t.val + 20 * co x 0) % 20) + (0 + 1 * co x 1)) (0 + 1 * co x 2) : ℝ) : EReal) = ((D.Q (co x 0) (2 * t.val + co x 1) (co x 2) : ℝ) : EReal)
      rw [show (t.val + 20 * co x 0) / 20 = co x 0 by omega, show (t.val + 20 * co x 0) % 20 = t.val by omega, Nat.zero_add, Nat.one_mul, Nat.zero_add, Nat.one_mul]
theorem ld14 (arg14 : Memref sig .tc .vmem S1280x2x128 .bf16) (f14 : BufTy.Contents (Elt Ideal) arg14.view.ty) (h : ∀ j : S1280x2x128.Idx, co j 0 % 20 < 14 → arg14.view.read (Elt Ideal) f14 j = rd3 (fun p e l => D.K (p / 20) (2 * (p % 20) + e) l) (co j))
    (t : Fin k0_t2_loop.trips) (inb : _) : At (View.readAt (Elt Ideal) arg14.view (⟨k0_off6 t, S64x2x128.size, ![20, 1, 1], inb⟩ : LoadRect S1280x2x128) f14) (rd3 fun r e l => D.K r (2 * t.val + e) l) :=
  (on_load3 (P := fun p _ _ => p % 20 < 14) (a := t.val) (b := 0) (c := 0) (p := 20) (q := 1) (o := 1) (n₁ := 64) (m₁ := 2) (k₁ := 128) h _ (congrFun (off6_eq t) 0) (congrFun (off6_eq t) 1) (congrFun (off6_eq t) 2) rfl rfl rfl rfl rfl rfl
    (fun r l u _ _ _ => by have := t2_lt t; show (t.val + 20 * r) % 20 < 14; omega)).congr fun x => by
      have := t2_lt t
      show ((D.K ((t.val + 20 * co x 0) / 20) (2 * ((t.val + 20 * co x 0) % 20) + (0 + 1 * co x 1)) (0 + 1 * co x 2) : ℝ) : EReal) = ((D.K (co x 0) (2 * t.val + co x 1) (co x 2) : ℝ) : EReal)
      rw [show (t.val + 20 * co x 0) / 20 = co x 0 by omega, show (t.val + 20 * co x 0) % 20 = t.val by omega, Nat.zero_add, Nat.one_mul, Nat.zero_add, Nat.one_mul]
theorem ld15 (arg15 : Memref sig .tc .vmem S1280x2x128 .bf16) (f15 : BufTy.Contents (Elt Ideal) arg15.view.ty) (h : ∀ j : S1280x2x128.Idx, co j 0 % 20 < 14 → arg15.view.read (Elt Ideal) f15 j = rd3 (fun p e l => D.V (p / 20) (2 * (p % 20) + e) l) (co j))
    (t : Fin k0_t2_loop.trips) (inb : _) : At (View.readAt (Elt Ideal) arg15.view (⟨k0_off6 t, S64x2x128.size, ![20, 1, 1], inb⟩ : LoadRect S1280x2x128) f15) (rd3 fun r e l => D.V r (2 * t.val + e) l) :=
  (on_load3 (P := fun p _ _ => p % 20 < 14) (a := t.val) (b := 0) (c := 0) (p := 20) (q := 1) (o := 1) (n₁ := 64) (m₁ := 2) (k₁ := 128) h _ (congrFun (off6_eq t) 0) (congrFun (off6_eq t) 1) (congrFun (off6_eq t) 2) rfl rfl rfl rfl rfl rfl
    (fun r l u _ _ _ => by have := t2_lt t; show (t.val + 20 * r) % 20 < 14; omega)).congr fun x => by
      have := t2_lt t
      show ((D.V ((t.val + 20 * co x 0) / 20) (2 * ((t.val + 20 * co x 0) % 20) + (0 + 1 * co x 1)) (0 + 1 * co x 2) : ℝ) : EReal) = ((D.V (co x 0) (2 * t.val + co x 1) (co x 2) : ℝ) : EReal)
      rw [show (t.val + 20 * co x 0) / 20 = co x 0 by omega, show (t.val + 20 * co x 0) % 20 = t.val by omega, Nat.zero_add, Nat.one_mul, Nat.zero_add, Nat.one_mul]
theorem ld12_0 (arg12 : Memref sig .tc .vmem S2304x128 .f32) (f12 : BufTy.Contents (Elt Ideal) arg12.view.ty) (h : ∀ j : S2304x128.Idx, co j 0 % 36 < 28 → arg12.view.read (Elt Ideal) f12 j = rd (fun p l => D.G (p / 36) (p % 36) l) (co j))
    (t : Fin k0_t2_loop.trips) (inb : _) : At (View.readAt (Elt Ideal) arg12.view (⟨k0_off7 t 0#32, S64x128.size, ![36, 1], inb⟩ : LoadRect S2304x128) f12) (rd fun r l => D.G r (2 * t.val + 0) l) :=
  (on_load2 (P := fun p _ => p % 36 < 28) (a := 2 * t.val + 0) (b := 0) (p := 36) (q := 1) (n₁ := 64) (m₁ := 128) h _ (congrFun (off7_eq t 0) 0) (congrFun (off7_eq t 0) 1) rfl rfl rfl rfl
    (fun r l _ _ => by have := t2_lt t; show (2 * t.val + 0 + 36 * r) % 36 < 28; omega)).congr fun x => by
      have := t2_lt t
      show ((D.G ((2 * t.val + 0 + 36 * co x 0) / 36) ((2 * t.val + 0 + 36 * co x 0) % 36) (0 + 1 * co x 1) : ℝ) : EReal) = ((D.G (co x 0) (2 * t.val + 0) (co x 1) : ℝ) : EReal)
      rw [show (2 * t.val + 0 + 36 * co x 0) / 36 = co x 0 by omega, show (2 * t.val + 0 + 36 * co x 0) % 36 = 2 * t.val + 0 by omega, Nat.zero_add, Nat.one_mul]
theorem ld17_0 (arg17 : Memref sig .tc .vmem S28x96x128 .f32) (f17 : BufTy.Contents (Elt Ideal) arg17.view.ty) {S : ℕ → ℕ → ℕ → ℝ} (h : At (s := S28x96x128) (arg17.view.read (Elt Ideal) f17) (rd3 S))
    (t : Fin k0_t2_loop.trips) (inb : _) : At (View.readAt (Elt Ideal) arg17.view (Rect.unit (s := S28x96x128) (k0_off9 t 0#32) S1x96x128.size inb).toLoadRect f17) (rd3 fun z r l => S (2 * t.val + 0 + z) r l) :=
  (on_load3 (P := fun _ _ _ => True) (a := 2 * t.val + 0) (b := 0) (c := 0) (p := 1) (q := 1) (o := 1) (n₁ := 1) (m₁ := 96) (k₁ := 128) (fun i _ => h i) _ (congrFun (off9_eq t 0) 0) (congrFun (off9_eq t 0) 1) (congrFun (off9_eq t 0) 2)
    rfl rfl rfl rfl rfl rfl (fun _ _ _ _ _ _ => trivial)).congr fun x => by
      show ((S (2 * t.val + 0 + 1 * co x 0) (0 + 1 * co x 1) (0 + 1 * co x 2) : ℝ) : EReal) = ((S (2 * t.val + 0 + co x 0) (co x 1) (co x 2) : ℝ) : EReal)
      simp only [Nat.zero_add, Nat.one_mul]
theorem st17_0 (arg17 : Memref sig .tc .vmem S28x96x128 .f32) (f17 : BufTy.Contents (Elt Ideal) arg17.view.ty) {S w : ℕ → ℕ → ℕ → ℝ} (h : At (s := S28x96x128) (arg17.view.read (Elt Ideal) f17) (rd3 S))
    (t : Fin k0_t2_loop.trips) (inb : _) {x : S1x96x128.Idx → EReal} (hx : At x (rd3 w)) :
    At (s := S28x96x128) (arg17.view.read (Elt Ideal) (arg17.view.writes (Elt Ideal) f17 [⟨Rect.unit (s := S28x96x128) (k0_off9 t 0#32) S1x96x128.size inb, x⟩])) (rd3 fun h r l => if h = 2 * t.val + 0 then w 0 r l else S h r l) := fun i => by
  rw [View.read_writes_cons_put _ _ _ _ _ rfl, View.writes_nil]
  refine on_put3 (P := fun _ _ _ => True) (a := 2 * t.val + 0) (b := 0) (c := 0) (n₁ := 1) (m₁ := 96) (k₁ := 128) (congrFun (off9_eq t 0) 0) (congrFun (off9_eq t 0) 1) (congrFun (off9_eq t 0) 2) rfl rfl rfl hx
    (fun j hj _ => ?_) (fun a b c ha _ _ _ => ?_) i trivial
  · have j1 : co j 1 < 96 := by have := co_lt j 1 (by decide); exact this
    have j2 : co j 2 < 128 := by have := co_lt j 2 (by decide); exact this
    rw [h j]; unfold rd3; dsimp only; rw [if_neg (by omega)]
  · rw [if_pos (by omega), show a = 0 by omega, Nat.zero_add, Nat.zero_add]
theorem st10_0 (arg10 : Memref sig .tc .vmem S1x64x3584 .bf16) (f10 : BufTy.Contents (Elt Ideal) arg10.view.ty) {O w : ℕ → ℕ → ℕ → ℝ} (t : Fin k0_t2_loop.trips)
    (h : ∀ j : S1x64x3584.Idx, co j 2 < 128 * (2 * t.val + 0) → arg10.view.read (Elt Ideal) f10 j = rd3 (fun _ r c => O (c / 128) r (c % 128)) (co j)) (inb : _) {x : S1x64x128.Idx → EReal} (hx : At x (rd3 w))
    (e : ∀ r l, r < 64 → l < 128 → w 0 r l = O (2 * t.val + 0) r l) :
    ∀ j : S1x64x3584.Idx, co j 2 < 128 * (2 * t.val + 0 + 1) → arg10.view.read (Elt Ideal) (arg10.view.writes (Elt Ideal) f10 [⟨Rect.unit (s := S1x64x3584) (k0_off10 t 0#32) S1x64x128.size inb, x⟩]) j
      = rd3 (fun _ r c => O (c / 128) r (c % 128)) (co j) := fun i hi => by
  rw [View.read_writes_cons_put _ _ _ _ _ rfl, View.writes_nil]
  refine on_put3 (P := fun _ _ c => c < 128 * (2 * t.val + 0 + 1)) (a := 0) (b := 0) (c := (2 * t.val + 0) * 128) (n₁ := 1) (m₁ := 64) (k₁ := 128) (congrFun (off10_eq t 0) 0) (congrFun (off10_eq t 0) 1) (congrFun (off10_eq t 0) 2) rfl rfl rfl hx
    (fun j hj hP => ?_) (fun a b c ha hb hc _ => ?_) i hi
  · have j1 : co j 1 < 64 := by have := co_lt j 1 (by decide); exact this
    have j0 : co j 0 < 1 := by have := co_lt j 0 (by decide); exact this
    exact h j (by omega)
  · rw [show a = 0 by omega, e _ _ hb hc, show ((2 * t.val + 0) * 128 + c) / 128 = 2 * t.val + 0 by omega, show ((2 * t.val + 0) * 128 + c) % 128 = c by omega, Nat.zero_add]
theorem ld12_1 (arg12 : Memref sig .tc .vmem S2304x128 .f32) (f12 : BufTy.Contents (Elt Ideal) arg12.view.ty) (h : ∀ j : S2304x128.Idx, co j 0 % 36 < 28 → arg12.view.read (Elt Ideal) f12 j = rd (fun p l => D.G (p / 36) (p % 36) l) (co j))
    (t : Fin k0_t2_loop.trips) (inb : _) : At (View.readAt (Elt Ideal) arg12.view (⟨k0_off7 t 1#32, S64x128.size, ![36, 1], inb⟩ : LoadRect S2304x128) f12) (rd fun r l => D.G r (2 * t.val + 1) l) :=
  (on_load2 (P := fun p _ => p % 36 < 28) (a := 2 * t.val + 1) (b := 0) (p := 36) (q := 1) (n₁ := 64) (m₁ := 128) h _ (congrFun (off7_eq t 1) 0) (congrFun (off7_eq t 1) 1) rfl rfl rfl rfl
    (fun r l _ _ => by have := t2_lt t; show (2 * t.val + 1 + 36 * r) % 36 < 28; omega)).congr fun x => by
      have := t2_lt t
      show ((D.G ((2 * t.val + 1 + 36 * co x 0) / 36) ((2 * t.val + 1 + 36 * co x 0) % 36) (0 + 1 * co x 1) : ℝ) : EReal) = ((D.G (co x 0) (2 * t.val + 1) (co x 1) : ℝ) : EReal)
      rw [show (2 * t.val + 1 + 36 * co x 0) / 36 = co x 0 by omega, show (2 * t.val + 1 + 36 * co x 0) % 36 = 2 * t.val + 1 by omega, Nat.zero_add, Nat.one_mul]
theorem ld17_1 (arg17 : Memref sig .tc .vmem S28x96x128 .f32) (f17 : BufTy.Contents (Elt Ideal) arg17.view.ty) {S : ℕ → ℕ → ℕ → ℝ} (h : At (s := S28x96x128) (arg17.view.read (Elt Ideal) f17) (rd3 S))
    (t : Fin k0_t2_loop.trips) (inb : _) : At (View.readAt (Elt Ideal) arg17.view (Rect.unit (s := S28x96x128) (k0_off9 t 1#32) S1x96x128.size inb).toLoadRect f17) (rd3 fun z r l => S (2 * t.val + 1 + z) r l) :=
  (on_load3 (P := fun _ _ _ => True) (a := 2 * t.val + 1) (b := 0) (c := 0) (p := 1) (q := 1) (o := 1) (n₁ := 1) (m₁ := 96) (k₁ := 128) (fun i _ => h i) _ (congrFun (off9_eq t 1) 0) (congrFun (off9_eq t 1) 1) (congrFun (off9_eq t 1) 2)
    rfl rfl rfl rfl rfl rfl (fun _ _ _ _ _ _ => trivial)).congr fun x => by
      show ((S (2 * t.val + 1 + 1 * co x 0) (0 + 1 * co x 1) (0 + 1 * co x 2) : ℝ) : EReal) = ((S (2 * t.val + 1 + co x 0) (co x 1) (co x 2) : ℝ) : EReal)
      simp only [Nat.zero_add, Nat.one_mul]
theorem st17_1 (arg17 : Memref sig .tc .vmem S28x96x128 .f32) (f17 : BufTy.Contents (Elt Ideal) arg17.view.ty) {S w : ℕ → ℕ → ℕ → ℝ} (h : At (s := S28x96x128) (arg17.view.read (Elt Ideal) f17) (rd3 S))
    (t : Fin k0_t2_loop.trips) (inb : _) {x : S1x96x128.Idx → EReal} (hx : At x (rd3 w)) :
    At (s := S28x96x128) (arg17.view.read (Elt Ideal) (arg17.view.writes (Elt Ideal) f17 [⟨Rect.unit (s := S28x96x128) (k0_off9 t 1#32) S1x96x128.size inb, x⟩])) (rd3 fun h r l => if h = 2 * t.val + 1 then w 0 r l else S h r l) := fun i => by
  rw [View.read_writes_cons_put _ _ _ _ _ rfl, View.writes_nil]
  refine on_put3 (P := fun _ _ _ => True) (a := 2 * t.val + 1) (b := 0) (c := 0) (n₁ := 1) (m₁ := 96) (k₁ := 128) (congrFun (off9_eq t 1) 0) (congrFun (off9_eq t 1) 1) (congrFun (off9_eq t 1) 2) rfl rfl rfl hx
    (fun j hj _ => ?_) (fun a b c ha _ _ _ => ?_) i trivial
  · have j1 : co j 1 < 96 := by have := co_lt j 1 (by decide); exact this
    have j2 : co j 2 < 128 := by have := co_lt j 2 (by decide); exact this
    rw [h j]; unfold rd3; dsimp only; rw [if_neg (by omega)]
  · rw [if_pos (by omega), show a = 0 by omega, Nat.zero_add, Nat.zero_add]
theorem st10_1 (arg10 : Memref sig .tc .vmem S1x64x3584 .bf16) (f10 : BufTy.Contents (Elt Ideal) arg10.view.ty) {O w : ℕ → ℕ → ℕ → ℝ} (t : Fin k0_t2_loop.trips)
    (h : ∀ j : S1x64x3584.Idx, co j 2 < 128 * (2 * t.val + 1) → arg10.view.read (Elt Ideal) f10 j = rd3 (fun _ r c => O (c / 128) r (c % 128)) (co j)) (inb : _) {x : S1x64x128.Idx → EReal} (hx : At x (rd3 w))
    (e : ∀ r l, r < 64 → l < 128 → w 0 r l = O (2 * t.val + 1) r l) :
    ∀ j : S1x64x3584.Idx, co j 2 < 128 * (2 * t.val + 1 + 1) → arg10.view.read (Elt Ideal) (arg10.view.writes (Elt Ideal) f10 [⟨Rect.unit (s := S1x64x3584) (k0_off10 t 1#32) S1x64x128.size inb, x⟩]) j
      = rd3 (fun _ r c => O (c / 128) r (c % 128)) (co j) := fun i hi => by
  rw [View.read_writes_cons_put _ _ _ _ _ rfl, View.writes_nil]
  refine on_put3 (P := fun _ _ c => c < 128 * (2 * t.val + 1 + 1)) (a := 0) (b := 0) (c := (2 * t.val + 1) * 128) (n₁ := 1) (m₁ := 64) (k₁ := 128) (congrFun (off10_eq t 1) 0) (congrFun (off10_eq t 1) 1) (congrFun (off10_eq t 1) 2) rfl rfl rfl hx
    (fun j hj hP => ?_) (fun a b c ha hb hc _ => ?_) i hi
  · have j1 : co j 1 < 64 := by have := co_lt j 1 (by decide); exact this
    have j0 : co j 0 < 1 := by have := co_lt j 0 (by decide); exact this
    exact h j (by omega)
  · rw [show a = 0 by omega, e _ _ hb hc, show ((2 * t.val + 1) * 128 + c) / 128 = 2 * t.val + 1 by omega, show ((2 * t.val + 1) * 128 + c) % 128 = c by omega, Nat.zero_add]
theorem ld16 (arg16 : Memref sig .tc .vmem S64x128 .f32) (f16 : BufTy.Contents (Elt Ideal) arg16.view.ty) (h : At (s := S64x128) (arg16.view.read (Elt Ideal) f16) (rd D.B)) (inb : _) :
    At (View.readAt (Elt Ideal) arg16.view (Rect.unit (s := S64x128) ![0, 0] S64x128.size inb).toLoadRect f16) (rd D.B) :=
  (on_load2 (P := fun _ _ => True) (a := 0) (b := 0) (p := 1) (q := 1) (n₁ := 64) (m₁ := 128) (fun i _ => h i) _ rfl rfl rfl rfl rfl rfl (fun _ _ _ _ => trivial)).congr fun x => by
    show ((D.B (0 + 1 * co x 0) (0 + 1 * co x 1) : ℝ) : EReal) = ((D.B (co x 0) (co x 1) : ℝ) : EReal)
    simp only [Nat.zero_add, Nat.one_mul]
theorem lds (i : grid0.Coords) {arg : Memref sig .tc .smem S896 .f32} (f : BufTy.Contents (Elt Ideal) arg.view.ty) {q : ℕ → ℝ} {b : ℕ} (hb : b = ((i 0).val * 4 + (i 1).val) * 28) (h : ∀ j : S896.Idx, arg.view.read (Elt Ideal) f j = ((q (j 0).val : ℝ) : EReal))
    (t : Fin k0_t2_loop.trips) (r : Fin 2) {w : BitVec 32} (hw : w = BitVec.ofNat 32 r.val) (inb : _) (z : _) :
    View.readAt (Elt Ideal) arg.view (Rect.unit (s := S896) (k0_off8 i t w) S1.size inb).toLoadRect f z = ((q (b + (2 * t.val + r.val)) : ℝ) : EReal) := by
  subst hw
  have e : k0_off8 i t (BitVec.ofNat 32 r.val) = ![((i 0).val * 4 + (i 1).val) * 28 + 2 * t.val + r.val] := off8_eq (i 0) (i 1) t r
  refine (on_load1 (x := arg.view.read (Elt Ideal) f) h _ (congrFun e 0) rfl z).trans ?_
  subst hb
  rw [show ((i 0).val * 4 + (i 1).val) * 28 + (2 * t.val + r.val) = ((i 0).val * 4 + (i 1).val) * 28 + 2 * t.val + r.val by omega]; rfl
end Cert.KernelIdeal.Hand

end
-- ==== Proof.KI.Wp.lean ====
/-
The parts of a trip of the second loop that read and write memory.
-/
module

public import proofs.«01_k».proof.Proof.KI.Mem

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

variable (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole)

variable {D : Blk} {f2 : BufTy.Contents (Elt Ideal) arg2.view.ty} {f3 : BufTy.Contents (Elt Ideal) arg3.view.ty} {f12 : BufTy.Contents (Elt Ideal) arg12.view.ty} {f13 : BufTy.Contents (Elt Ideal) arg13.view.ty} {f14 : BufTy.Contents (Elt Ideal) arg14.view.ty} {f15 : BufTy.Contents (Elt Ideal) arg15.view.ty} {f16 : BufTy.Contents (Elt Ideal) arg16.view.ty} {f17 : BufTy.Contents (Elt Ideal) arg17.view.ty} {f10 : BufTy.Contents (Elt Ideal) arg10.view.ty} {α : Type} {E : Set ℕ} {Q : α → sProp 𝕄}

/-- The loads of the pair's codes and values and of the first head's gates. -/
theorem part2_wp (t : Fin k0_t2_loop.trips)  (hD : Holds arg2 arg3 arg12 arg13 arg14 arg15 arg16 arg17 D f2 f3 f12 f13 f14 f15 f16)  {K : _ → Prog (TpuEff nD τ sig (Elt Ideal) Λ₀ .tc) α}
    (hK : ∀ (v35 : FVec Ideal S64x128 .bf16) (v39 : FVec Ideal S64x128 .bf16) (v45 : FVec Ideal S64x128 .bf16) (v49 : FVec Ideal S64x128 .bf16) (v55 : FVec Ideal S64x128 .bf16) (v59 : FVec Ideal S64x128 .bf16) (v64 : FVec Ideal S1x128 .f32) (v66 : FVec Ideal S64x128 .bf16) (v70 : FVec Ideal S64x128 .bf16) (v74 : FVec Ideal S64x128 .bf16) (v75 : FVec Ideal S64x128 .bf16), At v35 (rd fun r l => D.Q r (2 * t.val + 0) l) → At v39 (rd fun r l => D.Q r (2 * t.val + 1) l) → At v45 (rd fun r l => D.K r (2 * t.val + 0) l) → At v49 (rd fun r l => D.K r (2 * t.val + 1) l) → At v55 (rd fun r l => D.V r (2 * t.val + 0) l) → At v59 (rd fun r l => D.V r (2 * t.val + 1) l) → At v64 (rd fun r l => D.G 63 (2 * t.val + 0) l) → At v66 (rd fun r l => Real.exp (D.G r (2 * t.val + 0) l)) → At v70 (rd fun r l => Real.exp (0 - D.G r (2 * t.val + 0) l)) → At v74 (rd fun r l => Real.exp (D.G 63 (2 * t.val + 0) l - D.G r (2 * t.val + 0) l)) → At v75 (rd fun r l => D.kp (2 * t.val + 0) r l) → Res c arg2 arg3 arg12 arg13 arg14 arg15 arg16 arg17 arg10 f2 f3 f12 f13 f14 f15 f16 f17 f10 ⊢ wp frame (wpE (defs₀ (F := Ideal)) Variants.none (c : Thread nD τ) none) E (K ⟨Scf.iv 0#32 1#32 t.val, v35, v39, v45, v49, v55, v59, Scalar.addi (Scalar.muli 2#32 (Scf.iv 0#32 1#32 t.val)) 0#32, v64, v66, v70, v74, v75⟩) Q) :
    Res c arg2 arg3 arg12 arg13 arg14 arg15 arg16 arg17 arg10 f2 f3 f12 f13 f14 f15 f16 f17 f10 ⊢ wp frame (wpE (defs₀ (F := Ideal)) Variants.none (c : Thread nD τ) none) E (k0_part2 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 0#32 1#32 t >>= K) Q := by
  have l13 := ld13 arg13 f13 hD.h13 t (k0_off6_inb t)
  have l14 := ld14 arg14 f14 hD.h14 t (k0_off6_inb t)
  have l15 := ld15 arg15 f15 hD.h15 t (k0_off6_inb t)
  have l12 := ld12_0 arg12 f12 hD.h12 t (k0_off7_inb t 0)
  have hK := hK _ _ _ _ _ _ _ _ _ _ _ (pay5_at l13) (pay6_at l13) (pay7_at l14) (pay8_at l14) (pay9_at l15) (pay10_at l15) (pay11_at l12) (pay12_at l12) (pay13_at l12) (pay14_at l12) (pay15_at l14 l12)
  rw [k0_part2_eq_skeleton]; unfold k0_part2_skel
  simp only [smemLoad, smemLoadElt, Prog.lift, Prog.bind_op, Prog.bind_ret, Prog.pure_eq_ret]
  unfold Res at hK ⊢
  iintro ⟨H2, H3, H12, H13, H14, H15, H16, H17, H10⟩
  sl_step
  sl_step
  sl_step
  sl_step
  iapply hK
  isplitl [H2]; · iexact H2
  isplitl [H3]; · iexact H3
  isplitl [H12]; · iexact H12
  isplitl [H13]; · iexact H13
  isplitl [H14]; · iexact H14
  isplitl [H15]; · iexact H15
  isplitl [H16]; · iexact H16
  isplitl [H17]; · iexact H17
  iexact H10

/-- The first head's products with its gates, its scales and strengths, and the second head's gates. -/
theorem part3_wp (t : Fin k0_t2_loop.trips) {v35 : FVec Ideal S64x128 .bf16} {v39 : FVec Ideal S64x128 .bf16} {v45 : FVec Ideal S64x128 .bf16} {v49 : FVec Ideal S64x128 .bf16} {v64 : FVec Ideal S1x128 .f32} {v66 : FVec Ideal S64x128 .bf16} {v70 : FVec Ideal S64x128 .bf16} {v74 : FVec Ideal S64x128 .bf16} {v75 : FVec Ideal S64x128 .bf16} (hD : Holds arg2 arg3 arg12 arg13 arg14 arg15 arg16 arg17 D f2 f3 f12 f13 f14 f15 f16) (hb : D.base = ((i 0).val * 4 + (i 1).val) * 28) (hv35 : At v35 (rd fun r l => D.Q r (2 * t.val + 0) l)) (hv39 : At v39 (rd fun r l => D.Q r (2 * t.val + 1) l)) (hv45 : At v45 (rd fun r l => D.K r (2 * t.val + 0) l)) (hv49 : At v49 (rd fun r l => D.K r (2 * t.val + 1) l)) (hv64 : At v64 (rd fun r l => D.G 63 (2 * t.val + 0) l)) (hv66 : At v66 (rd fun r l => Real.exp (D.G r (2 * t.val + 0) l))) (hv70 : At v70 (rd fun r l => Real.exp (0 - D.G r (2 * t.val + 0) l))) (hv74 : At v74 (rd fun r l => Real.exp (D.G 63 (2 * t.val + 0) l - D.G r (2 * t.val + 0) l))) (hv75 : At v75 (rd fun r l => D.kp (2 * t.val + 0) r l)) {K : _ → Prog (TpuEff nD τ sig (Elt Ideal) Λ₀ .tc) α}
    (hK : ∀ (v77 : FVec Ideal S128x128 .bf16) (v78 : FVec Ideal S64x128 .bf16) (v79 : FVec Ideal S64x128 .bf16) (v84 : FVec Ideal S96x128 .f32) (v90 : Ideal .f32) (v96 : Ideal .f32) (v106 : FVec Ideal S64x128 .f32) (v111 : FVec Ideal S1x128 .f32) (v117 : FVec Ideal S64x128 .bf16) (v121 : FVec Ideal S64x128 .bf16) (v122 : FVec Ideal S64x128 .bf16) (v123 : FVec Ideal S64x128 .bf16), At v77 (rd fun r l => D.kq (2 * t.val + 0) r l) → At v78 (rd fun r l => D.kn (2 * t.val + 0) r l) → At v79 (rd fun r l => D.kd (2 * t.val + 0) r l) → At v84 (rd fun r l => Real.exp (D.G 63 (2 * t.val + 0) r)) → v90 = ((D.ks (2 * t.val + 0) : ℝ) : EReal) → v96 = ((D.qs (2 * t.val + 0) : ℝ) : EReal) → At v106 (rd fun r l => D.B r (2 * t.val + 0)) → At v111 (rd fun r l => D.G 63 (2 * t.val + 1) l) → At v117 (rd fun r l => Real.exp (0 - D.G r (2 * t.val + 1) l)) → At v121 (rd fun r l => Real.exp (D.G 63 (2 * t.val + 1) l - D.G r (2 * t.val + 1) l)) → At v122 (rd fun r l => D.kp (2 * t.val + 1) r l) → At v123 (rd fun r l => D.qp (2 * t.val + 1) r l) → Res c arg2 arg3 arg12 arg13 arg14 arg15 arg16 arg17 arg10 f2 f3 f12 f13 f14 f15 f16 f17 f10 ⊢ wp frame (wpE (defs₀ (F := Ideal)) Variants.none (c : Thread nD τ) none) E (K ⟨v77, v78, v79, v84, v90, v96, v106, Scalar.addi (Scalar.muli 2#32 (Scf.iv 0#32 1#32 t.val)) 1#32, v111, v117, v121, v122, v123⟩) Q) :
    Res c arg2 arg3 arg12 arg13 arg14 arg15 arg16 arg17 arg10 f2 f3 f12 f13 f14 f15 f16 f17 f10 ⊢ wp frame (wpE (defs₀ (F := Ideal)) Variants.none (c : Thread nD τ) none) E (k0_part3 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (BitVec.ofNat 32 (i 1).val) t (Scf.iv 0#32 1#32 t.val) v35 v39 v45 v49 (Scalar.addi (Scalar.muli 2#32 (Scf.iv 0#32 1#32 t.val)) 0#32) v64 v66 v70 v74 v75 >>= K) Q := by
  have l12 := ld12_1 arg12 f12 hD.h12 t (k0_off7_inb t 1)
  have l16 := ld16 arg16 f16 hD.h16 inb_S64x128_S64x128_0_0
  have s3 := lds i (arg := arg3) f3 hb hD.h3 t 0 (w := 0#32) rfl (k0_off8_inb i t 0) (Shape.Idx.first (show 0 < S1.numel from numel1_S1.symm ▸ Nat.one_pos))
  have s2 := lds i (arg := arg2) f2 hb hD.h2 t 0 (w := 0#32) rfl (k0_off8_inb i t 0) (Shape.Idx.first (show 0 < S1.numel from numel1_S1.symm ▸ Nat.one_pos))
  have hK := hK _ _ _ _ _ _ _ _ _ _ _ _ (pay16_at hv35 hv66 hv75) (pay17_at hv45 hv70) (pay18_at hv45 hv74) (pay19_at hv64) s3 s2 (pay20_at (by have := t2_lt t; omega) (u0_eq t) l16) (pay21_at l12) (pay23_at l12) (pay24_at l12) (pay25_at hv49 l12) (pay26_at hv39 l12)
  rw [k0_part3_eq_skeleton]; unfold k0_part3_skel
  simp only [smemLoad, smemLoadElt, Prog.lift, Prog.bind_op, Prog.bind_ret, Prog.pure_eq_ret]
  unfold Res at hK ⊢
  iintro ⟨H2, H3, H12, H13, H14, H15, H16, H17, H10⟩
  sl_step
  sl_step
  sl_step
  sl_step
  iapply hK
  isplitl [H2]; · iexact H2
  isplitl [H3]; · iexact H3
  isplitl [H12]; · iexact H12
  isplitl [H13]; · iexact H13
  isplitl [H14]; · iexact H14
  isplitl [H15]; · iexact H15
  isplitl [H16]; · iexact H16
  isplitl [H17]; · iexact H17
  iexact H10

/-- The second head's scales and strengths, and the products of both heads. -/
theorem part4_wp (t : Fin k0_t2_loop.trips) {v49 : FVec Ideal S64x128 .bf16} {v77 : FVec Ideal S128x128 .bf16} {v78 : FVec Ideal S64x128 .bf16} {v90 : Ideal .f32} {v106 : FVec Ideal S64x128 .f32} {v111 : FVec Ideal S1x128 .f32} {v117 : FVec Ideal S64x128 .bf16} {v121 : FVec Ideal S64x128 .bf16} {v122 : FVec Ideal S64x128 .bf16} {v123 : FVec Ideal S64x128 .bf16} (hD : Holds arg2 arg3 arg12 arg13 arg14 arg15 arg16 arg17 D f2 f3 f12 f13 f14 f15 f16) (hb : D.base = ((i 0).val * 4 + (i 1).val) * 28) (hv49 : At v49 (rd fun r l => D.K r (2 * t.val + 1) l)) (hv77 : At v77 (rd fun r l => D.kq (2 * t.val + 0) r l)) (hv78 : At v78 (rd fun r l => D.kn (2 * t.val + 0) r l)) (hv90 : v90 = ((D.ks (2 * t.val + 0) : ℝ) : EReal)) (hv106 : At v106 (rd fun r l => D.B r (2 * t.val + 0))) (hv111 : At v111 (rd fun r l => D.G 63 (2 * t.val + 1) l)) (hv117 : At v117 (rd fun r l => Real.exp (0 - D.G r (2 * t.val + 1) l))) (hv121 : At v121 (rd fun r l => Real.exp (D.G 63 (2 * t.val + 1) l - D.G r (2 * t.val + 1) l))) (hv122 : At v122 (rd fun r l => D.kp (2 * t.val + 1) r l)) (hv123 : At v123 (rd fun r l => D.qp (2 * t.val + 1) r l)) {K : _ → Prog (TpuEff nD τ sig (Elt Ideal) Λ₀ .tc) α}
    (hK : ∀ (v124 : FVec Ideal S128x128 .bf16) (v126 : FVec Ideal S64x128 .bf16) (v131 : FVec Ideal S96x128 .f32) (v137 : Ideal .f32) (v143 : Ideal .f32) (v160 : FVec Ideal S64x128 .f32) (v162 : FVec Ideal S64x128 .f32) (v164 : FVec Ideal S64x128 .f32) (v170 : FVec Ideal S64x128 .f32) (v171 : FVec Ideal S64x128 .f32), At v124 (rd fun r l => D.kq (2 * t.val + 1) r l) → At v126 (rd fun r l => D.kd (2 * t.val + 1) r l) → At v131 (rd fun r l => Real.exp (D.G 63 (2 * t.val + 1) r)) → v137 = ((D.ks (2 * t.val + 1) : ℝ) : EReal) → v143 = ((D.qs (2 * t.val + 1) : ℝ) : EReal) → At v160 (rd fun r l => D.NN (2 * t.val + 0) (2 * t.val + 1) r l) → At v162 (rd fun r l => D.B r (2 * t.val + 0) * D.ks (2 * t.val + 0)) → At v164 (rd fun r l => D.B r (2 * t.val + 1) * D.ks (2 * t.val + 1)) → At v170 (rd fun r l => D.AA (2 * t.val + 0) (2 * t.val + 1) r l) → At v171 (rd fun r l => (0 : ℝ)) → Res c arg2 arg3 arg12 arg13 arg14 arg15 arg16 arg17 arg10 f2 f3 f12 f13 f14 f15 f16 f17 f10 ⊢ wp frame (wpE (defs₀ (F := Ideal)) Variants.none (c : Thread nD τ) none) E (K ⟨v124, v126, v131, v137, v143, v160, v162, v164, v170, v171⟩) Q) :
    Res c arg2 arg3 arg12 arg13 arg14 arg15 arg16 arg17 arg10 f2 f3 f12 f13 f14 f15 f16 f17 f10 ⊢ wp frame (wpE (defs₀ (F := Ideal)) Variants.none (c : Thread nD τ) none) E (k0_part4 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (BitVec.ofNat 32 (i 1).val) k0_pay222 k0_pay223 t v49 v77 v78 v90 v106 (Scalar.addi (Scalar.muli 2#32 (Scf.iv 0#32 1#32 t.val)) 1#32) v111 v117 v121 v122 v123 >>= K) Q := by
  have l16 := ld16 arg16 f16 hD.h16 inb_S64x128_S64x128_0_0
  have s3 := lds i (arg := arg3) f3 hb hD.h3 t 1 (w := 1#32) rfl (k0_off8_inb i t 1) (Shape.Idx.first (show 0 < S1.numel from numel1_S1.symm ▸ Nat.one_pos))
  have s2 := lds i (arg := arg2) f2 hb hD.h2 t 1 (w := 1#32) rfl (k0_off8_inb i t 1) (Shape.Idx.first (show 0 < S1.numel from numel1_S1.symm ▸ Nat.one_pos))
  have n160 := m_congr (g := D.NN (2 * t.val + 0) (2 * t.val + 1)) (pay31_at pay222_at hv49 hv77 hv78 hv117 hv122 hv123) fun r l hr hl => by
    unfold Blk.NN Blk.N Blk.kq
    by_cases q : l < 64
    · rw [if_pos q, Nat.mod_eq_of_lt q]
      simp only [if_pos q, if_neg (show ¬ 64 + r < 64 by omega), Nat.add_sub_cancel_left]
    · rw [if_neg q, show l % 64 = l - 64 by omega]
      simp only [if_neg q]; rfl
  have n170 := m_congr (g := D.AA (2 * t.val + 0) (2 * t.val + 1)) (pay34_at pay223_at hv49 hv77 hv78 hv117 hv122 hv123 (by have := t2_lt t; omega) (u1_eq t) hv90 s3 hv106 l16) fun r l hr hl => by
    unfold Blk.AA Blk.A Blk.kq
    by_cases q : l < 64
    · simp only [if_pos q, if_pos hr]
    · simp only [if_neg q]; rfl
  have hK := hK _ _ _ _ _ _ _ _ _ _ (pay27_at hv122 hv123) (pay28_at hv49 hv121) (pay29_at hv111) s3 s2 n160 (pay32_at hv90 hv106) (pay33_at (by have := t2_lt t; omega) (u1_eq t) s3 l16) n170 pay35_at
  rw [k0_part4_eq_skeleton]; unfold k0_part4_skel
  simp only [smemLoad, smemLoadElt, Prog.lift, Prog.bind_op, Prog.bind_ret, Prog.pure_eq_ret]
  unfold Res at hK ⊢
  iintro ⟨H2, H3, H12, H13, H14, H15, H16, H17, H10⟩
  sl_step
  sl_step
  sl_step
  iapply hK
  isplitl [H2]; · iexact H2
  isplitl [H3]; · iexact H3
  isplitl [H12]; · iexact H12
  isplitl [H13]; · iexact H13
  isplitl [H14]; · iexact H14
  isplitl [H15]; · iexact H15
  isplitl [H16]; · iexact H16
  isplitl [H17]; · iexact H17
  iexact H10

/-- The load of the first head's state. -/
theorem part26_wp (t : Fin k0_t2_loop.trips) {v55 : FVec Ideal S64x128 .bf16} {v77 : FVec Ideal S128x128 .bf16} {A : ℕ → ℕ → ℝ} {v16 v1196 : IVec S8x128 32} {v184 v562 v868 v1094 v1189 v1192 : FVec Ideal S8x128 .f32} {v1198 : IVec S8x128 1} (hD : Holds arg2 arg3 arg12 arg13 arg14 arg15 arg16 arg17 D f2 f3 f12 f13 f14 f15 f16) (hA : ∀ r l j, r ≤ j → j < 32 → A r (l / 32 * 32 + j) = 0) (h17 : At (s := S28x96x128) (arg17.view.read (Elt Ideal) f17) (rd3 fun h r l => if h < 2 * t.val then D.s h r l else D.S h r l)) (hv55 : At v55 (rd fun r l => D.V r (2 * t.val + 0) l)) (hv77 : At v77 (rd fun r l => D.kq (2 * t.val + 0) r l)) (hv16 : At v16 GN) (hv184 : At v184 (GA A 3)) (hv562 : At v562 (GD A 8 0)) (hv868 : At v868 (GD A 16 1)) (hv1094 : At v1094 (GD A 24 2)) (hv1189 : At v1189 (GD A 29 3)) (hv1192 : At v1192 (GR A 29)) (hv1196 : At v1196 (GI 29)) (hv1198 : At v1198 GZ) {K : _ → Prog (TpuEff nD τ sig (Elt Ideal) Λ₀ .tc) α}
    (hK : ∀ (v1224 : FVec Ideal S32x128 .f32) (v1229 : FVec Ideal S96x128 .f32) (v1243 : FVec Ideal S128x256 .f32) (v1244 : FVec Ideal S64x128 .f32) (v1245 : FVec Ideal S64x256 .f32) (v1246 : FVec Ideal S64x128 .f32), At v1224 (rd fun r l => el A 31 r l) → At v1229 (rd fun r l => D.S (2 * t.val + 0) r l) → At v1243 (rd fun r l => if l < 128 then ∑ k ∈ Finset.range 96, D.kq (2 * t.val + 0) r k * D.S (2 * t.val + 0) k l else 0) → At v1244 (rd fun r l => D.V r (2 * t.val + 0) l) → At v1245 (rd fun r l => if l < 128 then ∑ k ∈ Finset.range 96, D.kq (2 * t.val + 0) r k * D.S (2 * t.val + 0) k l else 0) → At v1246 (rd fun r l => ∑ k ∈ Finset.range 96, D.kq (2 * t.val + 0) r k * D.S (2 * t.val + 0) k l) → Res c arg2 arg3 arg12 arg13 arg14 arg15 arg16 arg17 arg10 f2 f3 f12 f13 f14 f15 f16 f17 f10 ⊢ wp frame (wpE (defs₀ (F := Ideal)) Variants.none (c : Thread nD τ) none) E (K ⟨v1224, Scalar.addi (Scalar.muli 2#32 (Scf.iv 0#32 1#32 t.val)) 0#32, v1229, v1243, v1244, v1245, v1246⟩) Q) :
    Res c arg2 arg3 arg12 arg13 arg14 arg15 arg16 arg17 arg10 f2 f3 f12 f13 f14 f15 f16 f17 f10 ⊢ wp frame (wpE (defs₀ (F := Ideal)) Variants.none (c : Thread nD τ) none) E (k0_part26 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 t (Scf.iv 0#32 1#32 t.val) v55 v77 v184 v562 v868 v1094 v1189 v1192 v1196 v1198 >>= K) Q := by
  have l17 := (ld17_0 arg17 f17 h17 t (k0_off9_inb t 0)).congr (g := rd3 fun _ r l => D.S (2 * t.val + 0) r l) fun x => by
    have h0 : co x 0 < 1 := by exact co_lt (s := S1x96x128) x 0 (by decide)
    unfold rd3; dsimp only; rw [if_neg (by omega), show 2 * t.val + 0 + co x 0 = 2 * t.val + 0 by omega]
  have hK := hK _ _ _ _ _ _ (pay179_at hA hv16 hv184 hv562 hv868 hv1094 hv1189 hv1192 hv1196 hv1198) (pay180_at l17) (pay181_at hv77 l17) (pay182_at hv55) (pay183_at hv77 l17) (pay184_at hv77 l17)
  rw [k0_part26_eq_skeleton]; unfold k0_part26_skel
  simp only [smemLoad, smemLoadElt, Prog.lift, Prog.bind_op, Prog.bind_ret, Prog.pure_eq_ret]
  unfold Res at hK ⊢
  iintro ⟨H2, H3, H12, H13, H14, H15, H16, H17, H10⟩
  sl_step
  iapply hK
  isplitl [H2]; · iexact H2
  isplitl [H3]; · iexact H3
  isplitl [H12]; · iexact H12
  isplitl [H13]; · iexact H13
  isplitl [H14]; · iexact H14
  isplitl [H15]; · iexact H15
  isplitl [H16]; · iexact H16
  isplitl [H17]; · iexact H17
  iexact H10

/-- The stores of the first head's rows and state, and the load of the second head's state. -/
theorem part29_wp (t : Fin k0_t2_loop.trips) {v59 : FVec Ideal S64x128 .bf16} {v84 : FVec Ideal S96x128 .f32} {v96 : Ideal .f32} {v124 : FVec Ideal S128x128 .bf16} {v1229 : FVec Ideal S96x128 .f32} {v1334 : FVec Ideal S96x256 .bf16} {v1345 : FVec Ideal S256x256 .bf16} {v1356 : FVec Ideal S64x256 .f32} (hD : Holds arg2 arg3 arg12 arg13 arg14 arg15 arg16 arg17 D f2 f3 f12 f13 f14 f15 f16) {cs : ℝ} (hcs : Ideal.ofBits .f32 0x3DD105EC#32 = ((cs : ℝ) : EReal)) (h17 : At (s := S28x96x128) (arg17.view.read (Elt Ideal) f17) (rd3 fun h r l => if h < 2 * t.val then D.s h r l else D.S h r l)) (h10 : ∀ j : S1x64x3584.Idx, co j 2 < 128 * (2 * t.val + 0) → arg10.view.read (Elt Ideal) f10 j = rd3 (fun _ r c => D.o (c / 128) cs r (c % 128)) (co j)) (hv59 : At v59 (rd fun r l => D.V r (2 * t.val + 1) l)) (hv84 : At v84 (rd fun r l => Real.exp (D.G 63 (2 * t.val + 0) r))) (hv96 : v96 = ((D.qs (2 * t.val + 0) : ℝ) : EReal)) (hv124 : At v124 (rd fun r l => D.kq (2 * t.val + 1) r l)) (hv1229 : At v1229 (rd fun r l => D.S (2 * t.val + 0) r l)) (hv1334 : At v1334 (rd fun r l => if l < 128 then (if l < 64 then D.kd (2 * t.val + 0) l r else D.kd (2 * t.val + 0) (l - 64) r) else 0)) (hv1345 : At v1345 (rd fun r l => if l < 128 then (if r < 64 then D.U (2 * t.val + 0) l r else if r - 64 < 64 then 0 else if r - 64 - 64 < 64 then D.U (2 * t.val + 0) l (r - 64 - 64) else D.U (2 * t.val + 0) l (r - 64 - 64 - 64)) else 0)) (hv1356 : At v1356 (rd fun r l => if l < 128 then ∑ k ∈ Finset.range 96, D.qp (2 * t.val + 0) r k * D.S (2 * t.val + 0) k l + ∑ i ∈ Finset.range 64, D.N (2 * t.val + 0) r i * D.U (2 * t.val + 0) l i else 0)) {K : _ → Prog (TpuEff nD τ sig (Elt Ideal) Λ₀ .tc) α}
    (hK : ∀ (v1384 : FVec Ideal S96x128 .f32) (v1398 : FVec Ideal S128x256 .f32) (v1399 : FVec Ideal S64x128 .f32) (v1400 : FVec Ideal S64x256 .f32) (v1401 : FVec Ideal S64x128 .f32) (g10 : BufTy.Contents (Elt Ideal) arg10.view.ty) (g17 : BufTy.Contents (Elt Ideal) arg17.view.ty), At v1384 (rd fun r l => D.S (2 * t.val + 1) r l) → At v1398 (rd fun r l => if l < 128 then ∑ k ∈ Finset.range 96, D.kq (2 * t.val + 1) r k * D.S (2 * t.val + 1) k l else 0) → At v1399 (rd fun r l => D.V r (2 * t.val + 1) l) → At v1400 (rd fun r l => if l < 128 then ∑ k ∈ Finset.range 96, D.kq (2 * t.val + 1) r k * D.S (2 * t.val + 1) k l else 0) → At v1401 (rd fun r l => ∑ k ∈ Finset.range 96, D.kq (2 * t.val + 1) r k * D.S (2 * t.val + 1) k l) → (∀ j : S1x64x3584.Idx, co j 2 < 128 * (2 * t.val + 0 + 1) → arg10.view.read (Elt Ideal) g10 j = rd3 (fun _ r c => D.o (c / 128) cs r (c % 128)) (co j)) → At (s := S28x96x128) (arg17.view.read (Elt Ideal) g17) (rd3 fun h r l => if h < 2 * t.val + 1 then D.s h r l else D.S h r l) → Res c arg2 arg3 arg12 arg13 arg14 arg15 arg16 arg17 arg10 f2 f3 f12 f13 f14 f15 f16 g17 g10 ⊢ wp frame (wpE (defs₀ (F := Ideal)) Variants.none (c : Thread nD τ) none) E (K ⟨Scalar.addi (Scalar.muli 2#32 (Scf.iv 0#32 1#32 t.val)) 1#32, v1384, v1398, v1399, v1400, v1401⟩) Q) :
    Res c arg2 arg3 arg12 arg13 arg14 arg15 arg16 arg17 arg10 f2 f3 f12 f13 f14 f15 f16 f17 f10 ⊢ wp frame (wpE (defs₀ (F := Ideal)) Variants.none (c : Thread nD τ) none) E (k0_part29 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (Scf.iv 0#32 1#32 t.val) v59 v84 v96 v124 (Scalar.addi (Scalar.muli 2#32 (Scf.iv 0#32 1#32 t.val)) 0#32) v1229 v1334 v1345 v1356 (constant S96x256 .f32 0x00000000#32) >>= K) Q := by
  have g10 := st10_0 arg10 f10 (O := fun h r l => D.o h cs r l) t h10 (k0_off10_inb t 0) (pay195_at hcs hv96 hv1356) (fun r l _ hl => rfl)
  have w17 := pay196_at hv84 hv1229 hv1334 hv1345
  have g17 := (st17_0 arg17 f17 h17 t (k0_off9_inb t 0) w17).congr (g := rd3 fun h r l => if h < 2 * t.val + 1 then D.s h r l else D.S h r l) fun x => by
    unfold rd3; dsimp only
    by_cases q : co x 0 = 2 * t.val + 0
    · rw [if_pos q, if_pos (by omega), q]; rfl
    · rw [if_neg q]
      by_cases q' : co x 0 < 2 * t.val
      · rw [if_pos q', if_pos (by omega)]
      · rw [if_neg q', if_neg (by omega)]
  have l17 := (ld17_1 arg17 _ g17 t (k0_off9_inb t 1)).congr (g := rd3 fun _ r l => D.S (2 * t.val + 1) r l) fun x => by
    have h0 : co x 0 < 1 := by exact co_lt (s := S1x96x128) x 0 (by decide)
    unfold rd3; dsimp only; rw [if_neg (by omega), show 2 * t.val + 1 + co x 0 = 2 * t.val + 1 by omega]
  have hK := hK _ _ _ _ _ _ _ (pay197_at l17) (pay198_at hv124 l17) (pay199_at hv59) (pay200_at hv124 l17) (pay201_at hv124 l17) g10 g17
  rw [k0_part29_eq_skeleton]; unfold k0_part29_skel
  simp only [smemLoad, smemLoadElt, Prog.lift, Prog.bind_op, Prog.bind_ret, Prog.pure_eq_ret]
  unfold Res at hK ⊢
  iintro ⟨H2, H3, H12, H13, H14, H15, H16, H17, H10⟩
  sl_step
  sl_step
  sl_step
  sl_step
  sl_step
  iapply hK
  isplitl [H2]; · iexact H2
  isplitl [H3]; · iexact H3
  isplitl [H12]; · iexact H12
  isplitl [H13]; · iexact H13
  isplitl [H14]; · iexact H14
  isplitl [H15]; · iexact H15
  isplitl [H16]; · iexact H16
  isplitl [H17]; · iexact H17
  iexact H10

end Cert.KernelIdeal.Hand

end
-- ==== Proof.KI.Vals.lean ====
/-
The parts of a trip of the second loop that compute the solution and its products.
-/
module

public import proofs.«01_k».proof.Proof.KI.Wp
public import proofs.«01_k».proof.Proof.Solve

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

variable (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole)

theorem part5_val {D : Blk} {a b : ℕ} {v16 v17 : IVec S8x128 32} {v19 : IVec S64x128 32} {v170 v171 : FVec Ideal S64x128 .f32} (hv16 : At v16 GN) (hv17 : At v17 fun c => BitVec.ofNat 32 (c 0)) (hv19 : At v19 fun c => BitVec.ofNat 32 (c 1)) (hv170 : At v170 (rd fun r l => D.AA a b r l)) (hv171 : At v171 (rd fun _ _ => (0 : ℝ))) :
    ∃ (v172 : FVec Ideal S64x128 .f32) (v181 v182 v183 v184 v192 v200 v208 : FVec Ideal S8x128 .f32) (v213 : IVec S8x128 1) (cst_58 cst_59 : Ideal .f32), At v172 (rd fun r l => D.AL a b r l) ∧ At v181 (GA (D.AD a b) 0) ∧ At v182 (GA (D.AD a b) 1) ∧ At v183 (GA (D.AD a b) 2) ∧ At v184 (GA (D.AD a b) 3) ∧ At v192 (GD (D.AD a b) 0 0) ∧ At v200 (GD (D.AD a b) 0 1) ∧ At v208 (GD (D.AD a b) 0 2) ∧ At (select v213 (broadcast S8x128 cst_58) (broadcast S8x128 cst_59)) (GD (D.AD a b) 0 3)
      ∧ k0_part5 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v16 v17 v19 k0_pay221 v170 v171 = pure ⟨v172, v181, v182, v183, v184, v192, v200, v208, v213, cst_58, cst_59⟩ :=
  ⟨_, _, _, _, _, _, _, _, _, _, _, (pay36_at pay221_at hv170 hv171), (pay38_at hv19 pay221_at hv170 hv171 (fun r l _ _ => rfl)), (pay39_at hv19 pay221_at hv170 hv171 (fun r l _ _ => rfl)), (pay40_at hv19 pay221_at hv170 hv171 (fun r l _ _ => rfl)), (pay41_at hv19 pay221_at hv170 hv171 (fun r l _ _ => rfl)), (pay42_at hv16 hv17), (pay43_at hv16 hv17), (pay44_at hv16 hv17), (pay45_at hv16 hv17 one_f32 zero_f32), by rw [k0_part5_eq_skeleton]; rfl⟩

theorem part27_val {D : Blk} {a b : ℕ} {v90 : Ideal .f32} {v162 v172 v1244 v1246 : FVec Ideal S64x128 .f32} {v1224 : FVec Ideal S32x128 .f32} {v1245 : FVec Ideal S64x256 .f32} (hv90 : v90 = ((D.ks a : ℝ) : EReal)) (hv162 : At v162 (rd fun r l => D.B r a * D.ks a)) (hv172 : At v172 (rd fun r l => D.AL a b r l)) (hv1224 : At v1224 (rd fun r l => el (D.AD a b) 31 r l)) (hv1244 : At v1244 (rd fun r l => D.V r a l)) (hv1245 : At v1245 (rd fun r l => if l < 128 then ∑ k ∈ Finset.range 96, D.kq a r k * D.S a k l else 0)) (hv1246 : At v1246 (rd fun r l => ∑ k ∈ Finset.range 96, D.kq a r k * D.S a k l)) :
    ∃ (v1255 : FVec Ideal S32x32 .f32) (v1279 : FVec Ideal S32x128 .f32) (v1280 : FVec Ideal S32x128 .f32) (v1301 : FVec Ideal S32x128 .f32) (v1302 : FVec Ideal S32x128 .f32), At v1255 (rd fun r l => el (D.AD a b) 31 r (32 + l)) ∧ At v1279 (rd fun r l => ∑ j ∈ Finset.range 32, el (D.AD a b) 31 r (0 + j) * D.R a l j) ∧ At v1280 (rd fun r l => D.R a l (32 + r)) ∧ At v1301 (rd fun r l => ∑ i ∈ Finset.range 32, D.AL a b (32 + r) (0 + i) * ∑ j ∈ Finset.range 32, el (D.AD a b) 31 i (0 + j) * D.R a l j) ∧ At v1302 (rd fun r l => (0 : ℝ)) ∧ k0_part27 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v90 v162 v172 v1224 v1244 v1245 v1246 = pure ⟨v1255, v1279, v1280, v1301, v1302⟩ := by
  have kq : ∀ j l, j < 64 → D.B j a * D.ks a * (D.V j a l - D.ks a * ∑ k ∈ Finset.range 96, D.kq a j k * D.S a k l) = D.R a l j := by
    intro j l hj; unfold Blk.R Blk.kq; simp only [if_pos hj]
  have n1 := m_congr (g := fun r l => ∑ j ∈ Finset.range 32, el (D.AD a b) 31 r (0 + j) * D.R a l j) (pay187_at hv1224 hv90 hv162 hv1244 hv1245 hv1246) fun r l hr hl => Finset.sum_congr rfl fun j hj => by
    rw [kq j l (by have := Finset.mem_range.1 hj; omega)]
  have n2 := m_congr (g := fun r l => D.R a l (32 + r)) (pay188_at hv90 hv162 hv1244 hv1245 hv1246) fun r l hr hl => kq (32 + r) l (by omega)
  have n3 := m_congr (g := fun r l => ∑ i ∈ Finset.range 32, D.AL a b (32 + r) (0 + i) * ∑ j ∈ Finset.range 32, el (D.AD a b) 31 i (0 + j) * D.R a l j) (pay190_at hv172 hv1224 hv90 hv162 hv1244 hv1245 hv1246) fun r l hr hl => Finset.sum_congr rfl fun i hi => by
    refine congrArg (D.AL a b (32 + r) (0 + i) * ·) (Finset.sum_congr rfl fun j hj => ?_)
    rw [kq j l (by have := Finset.mem_range.1 hj; omega)]
  exact ⟨_, _, _, _, _, (pay186_at hv1224), n1, n2, n3, (pay191_at (w := v90) (b := v162) (q := v172) (d := v1224) (v := v1244) (x := v1245) (y := v1246) hv172 hv1224 hv90 hv162 hv1244 hv1245 hv1246), by rw [k0_part27_eq_skeleton]; rfl⟩

theorem part28_val {D : Blk} {a b : ℕ} {v79 : FVec Ideal S64x128 .bf16} {v160 : FVec Ideal S64x128 .f32} {v1243 : FVec Ideal S128x256 .f32} {v1255 : FVec Ideal S32x32 .f32} {v1279 v1280 v1301 v1302 : FVec Ideal S32x128 .f32} (hv79 : At v79 (rd fun r l => D.kd a r l)) (hv160 : At v160 (rd fun r l => D.NN a b r l)) (hv1243 : At v1243 (rd fun r l => if l < 128 then ∑ k ∈ Finset.range 96, D.kq a r k * D.S a k l else 0)) (hv1255 : At v1255 (rd fun r l => el (D.AD a b) 31 r (32 + l))) (hv1279 : At v1279 (rd fun r l => ∑ j ∈ Finset.range 32, el (D.AD a b) 31 r (0 + j) * D.R a l j)) (hv1280 : At v1280 (rd fun r l => D.R a l (32 + r))) (hv1301 : At v1301 (rd fun r l => ∑ i ∈ Finset.range 32, D.AL a b (32 + r) (0 + i) * ∑ j ∈ Finset.range 32, el (D.AD a b) 31 i (0 + j) * D.R a l j)) (hv1302 : At v1302 (rd fun r l => (0 : ℝ))) :
    ∃ (v1334 : FVec Ideal S96x256 .bf16) (v1345 : FVec Ideal S256x256 .bf16) (v1356 : FVec Ideal S64x256 .f32), At v1334 (rd fun r l => if l < 128 then (if l < 64 then D.kd a l r else D.kd a (l - 64) r) else 0) ∧ At v1345 (rd fun r l => if l < 128 then (if r < 64 then D.U a l r else if r - 64 < 64 then 0 else if r - 64 - 64 < 64 then D.U a l (r - 64 - 64) else D.U a l (r - 64 - 64 - 64)) else 0) ∧ At v1356 (rd fun r l => if l < 128 then ∑ k ∈ Finset.range 96, D.qp a r k * D.S a k l + ∑ i ∈ Finset.range 64, D.N a r i * D.U a l i else 0)
      ∧ k0_part28 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v79 v160 v1243 v1255 v1279 v1280 v1301 v1302 = pure ⟨v1334, v1345, v1356, constant S96x256 .f32 0x00000000#32⟩ := by
  have hU := fun l t ht => D.U_left a b l t ht
  have n2 := m_congr (g := fun r l => if l < 128 then (if r < 64 then D.U a l r else if r - 64 < 64 then 0 else if r - 64 - 64 < 64 then D.U a l (r - 64 - 64) else D.U a l (r - 64 - 64 - 64)) else 0) (pay193_at hv1255 hv1279 hv1280 hv1301 hv1302) fun r l hr hl => by
    by_cases q0 : l < 128
    · rw [if_pos q0, if_pos q0]
      by_cases q1 : r < 64
      · rw [if_pos q1, if_pos q1]; exact hU l r q1
      · rw [if_neg q1, if_neg q1]
        by_cases q2 : r - 64 < 64
        · rw [if_pos q2, if_pos q2]
        · rw [if_neg q2, if_neg q2]
          by_cases q3 : r - 64 - 64 < 64
          · rw [if_pos q3, if_pos q3]; exact hU l _ q3
          · rw [if_neg q3, if_neg q3]; exact hU l _ (by omega)
    · rw [if_neg q0, if_neg q0]
  have n3 := m_congr (g := fun r l => if l < 128 then ∑ k ∈ Finset.range 96, D.qp a r k * D.S a k l + ∑ i ∈ Finset.range 64, D.N a r i * D.U a l i else 0) (pay194_at hv160 hv1243 hv1255 hv1279 hv1280 hv1301 hv1302) fun r l hr hl => by
    by_cases q0 : l < 128
    · rw [if_pos q0, if_pos q0]
      congr 1
      · unfold Blk.kq; simp only [if_neg (show ¬ 64 + r < 64 by omega), Nat.add_sub_cancel_left]
      · exact Finset.sum_congr rfl fun i hi => by
          have hi := Finset.mem_range.1 hi
          unfold Blk.NN; rw [if_pos (show 0 + i < 64 by omega), Nat.zero_add]; congr 1; exact hU l i hi
    · rw [if_neg q0, if_neg q0]
  exact ⟨_, _, _, (pay192_at hv79), n2, n3, by rw [k0_part28_eq_skeleton]; rfl⟩

theorem part30_val {D : Blk} {a b : ℕ} {v137 : Ideal .f32} {v164 v172 v1399 v1401 : FVec Ideal S64x128 .f32} {v1224 : FVec Ideal S32x128 .f32} {v1400 : FVec Ideal S64x256 .f32} (hv137 : v137 = ((D.ks b : ℝ) : EReal)) (hv164 : At v164 (rd fun r l => D.B r b * D.ks b)) (hv172 : At v172 (rd fun r l => D.AL a b r l)) (hv1224 : At v1224 (rd fun r l => el (D.AD a b) 31 r l)) (hv1399 : At v1399 (rd fun r l => D.V r b l)) (hv1400 : At v1400 (rd fun r l => if l < 128 then ∑ k ∈ Finset.range 96, D.kq b r k * D.S b k l else 0)) (hv1401 : At v1401 (rd fun r l => ∑ k ∈ Finset.range 96, D.kq b r k * D.S b k l)) :
    ∃ (v1410 : FVec Ideal S32x32 .f32) (v1434 : FVec Ideal S32x128 .f32) (v1435 : FVec Ideal S32x128 .f32) (v1456 : FVec Ideal S32x128 .f32) (v1457 : FVec Ideal S32x128 .f32), At v1410 (rd fun r l => el (D.AD a b) 31 r (96 + l)) ∧ At v1434 (rd fun r l => ∑ j ∈ Finset.range 32, el (D.AD a b) 31 r (64 + j) * D.R b l j) ∧ At v1435 (rd fun r l => D.R b l (32 + r)) ∧ At v1456 (rd fun r l => ∑ i ∈ Finset.range 32, D.AL a b (32 + r) (64 + i) * ∑ j ∈ Finset.range 32, el (D.AD a b) 31 i (64 + j) * D.R b l j) ∧ At v1457 (rd fun r l => (0 : ℝ)) ∧ k0_part30 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v137 v164 v172 v1224 v1399 v1400 v1401 = pure ⟨v1410, v1434, v1435, v1456, v1457⟩ := by
  have kq : ∀ j l, j < 64 → D.B j b * D.ks b * (D.V j b l - D.ks b * ∑ k ∈ Finset.range 96, D.kq b j k * D.S b k l) = D.R b l j := by
    intro j l hj; unfold Blk.R Blk.kq; simp only [if_pos hj]
  have n1 := m_congr (g := fun r l => ∑ j ∈ Finset.range 32, el (D.AD a b) 31 r (64 + j) * D.R b l j) (pay204_at hv1224 hv137 hv164 hv1399 hv1400 hv1401) fun r l hr hl => Finset.sum_congr rfl fun j hj => by
    rw [kq j l (by have := Finset.mem_range.1 hj; omega)]
  have n2 := m_congr (g := fun r l => D.R b l (32 + r)) (pay205_at hv137 hv164 hv1399 hv1400 hv1401) fun r l hr hl => kq (32 + r) l (by omega)
  have n3 := m_congr (g := fun r l => ∑ i ∈ Finset.range 32, D.AL a b (32 + r) (64 + i) * ∑ j ∈ Finset.range 32, el (D.AD a b) 31 i (64 + j) * D.R b l j) (pay207_at hv172 hv1224 hv137 hv164 hv1399 hv1400 hv1401) fun r l hr hl => Finset.sum_congr rfl fun i hi => by
    refine congrArg (D.AL a b (32 + r) (64 + i) * ·) (Finset.sum_congr rfl fun j hj => ?_)
    rw [kq j l (by have := Finset.mem_range.1 hj; omega)]
  exact ⟨_, _, _, _, _, (pay203_at hv1224), n1, n2, n3, (pay208_at (w := v137) (b := v164) (q := v172) (d := v1224) (v := v1399) (x := v1400) (y := v1401) hv172 hv1224 hv137 hv164 hv1399 hv1400 hv1401), by rw [k0_part30_eq_skeleton]; rfl⟩

theorem part31_val {D : Blk} {a b : ℕ} {v126 : FVec Ideal S64x128 .bf16} {v160 : FVec Ideal S64x128 .f32} {v1398 : FVec Ideal S128x256 .f32} {v1410 : FVec Ideal S32x32 .f32} {v1434 v1435 v1456 v1457 : FVec Ideal S32x128 .f32} (hv126 : At v126 (rd fun r l => D.kd b r l)) (hv160 : At v160 (rd fun r l => D.NN a b r l)) (hv1398 : At v1398 (rd fun r l => if l < 128 then ∑ k ∈ Finset.range 96, D.kq b r k * D.S b k l else 0)) (hv1410 : At v1410 (rd fun r l => el (D.AD a b) 31 r (96 + l))) (hv1434 : At v1434 (rd fun r l => ∑ j ∈ Finset.range 32, el (D.AD a b) 31 r (64 + j) * D.R b l j)) (hv1435 : At v1435 (rd fun r l => D.R b l (32 + r))) (hv1456 : At v1456 (rd fun r l => ∑ i ∈ Finset.range 32, D.AL a b (32 + r) (64 + i) * ∑ j ∈ Finset.range 32, el (D.AD a b) 31 i (64 + j) * D.R b l j)) (hv1457 : At v1457 (rd fun r l => (0 : ℝ))) :
    ∃ (v1489 : FVec Ideal S96x256 .bf16) (v1500 : FVec Ideal S256x256 .bf16) (v1511 : FVec Ideal S64x256 .f32), At v1489 (rd fun r l => if l < 128 then (if l < 64 then D.kd b l r else D.kd b (l - 64) r) else 0) ∧ At v1500 (rd fun r l => if l < 128 then (if r < 64 then D.U b l r else if r - 64 < 64 then 0 else if r - 64 - 64 < 64 then D.U b l (r - 64 - 64) else D.U b l (r - 64 - 64 - 64)) else 0) ∧ At v1511 (rd fun r l => if l < 128 then ∑ k ∈ Finset.range 96, D.qp b r k * D.S b k l + ∑ i ∈ Finset.range 64, D.N b r i * D.U b l i else 0)
      ∧ k0_part31 (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v126 v160 v1398 v1410 v1434 v1435 v1456 v1457 = pure ⟨v1489, v1500, v1511, constant S96x256 .f32 0x00000000#32⟩ := by
  have hU := fun l t ht => D.U_right a b l t ht
  have n2 := m_congr (g := fun r l => if l < 128 then (if r < 64 then D.U b l r else if r - 64 < 64 then 0 else if r - 64 - 64 < 64 then D.U b l (r - 64 - 64) else D.U b l (r - 64 - 64 - 64)) else 0) (pay210_at hv1410 hv1434 hv1435 hv1456 hv1457) fun r l hr hl => by
    by_cases q0 : l < 128
    · rw [if_pos q0, if_pos q0]
      by_cases q1 : r < 64
      · rw [if_pos q1, if_pos q1]; exact hU l r q1
      · rw [if_neg q1, if_neg q1]
        by_cases q2 : r - 64 < 64
        · rw [if_pos q2, if_pos q2]
        · rw [if_neg q2, if_neg q2]
          by_cases q3 : r - 64 - 64 < 64
          · rw [if_pos q3, if_pos q3]; exact hU l _ q3
          · rw [if_neg q3, if_neg q3]; exact hU l _ (by omega)
    · rw [if_neg q0, if_neg q0]
  have n3 := m_congr (g := fun r l => if l < 128 then ∑ k ∈ Finset.range 96, D.qp b r k * D.S b k l + ∑ i ∈ Finset.range 64, D.N b r i * D.U b l i else 0) (pay211_at hv160 hv1398 hv1410 hv1434 hv1435 hv1456 hv1457) fun r l hr hl => by
    by_cases q0 : l < 128
    · rw [if_pos q0, if_pos q0]
      congr 1
      · unfold Blk.kq; simp only [if_neg (show ¬ 64 + r < 64 by omega), Nat.add_sub_cancel_left]
      · exact Finset.sum_congr rfl fun i hi => by
          have hi := Finset.mem_range.1 hi
          unfold Blk.NN; rw [if_neg (show ¬ 64 + i < 64 by omega), Nat.add_sub_cancel_left]; congr 1; exact hU l i hi
    · rw [if_neg q0, if_neg q0]
  exact ⟨_, _, _, (pay209_at hv126), n2, n3, by rw [k0_part31_eq_skeleton]; rfl⟩

end Cert.KernelIdeal.Hand

end
-- ==== Proof.KI.Pair.lean ====
/-
A trip of the second loop.
-/
module

public import proofs.«01_k».proof.Proof.KI.Wp
public import proofs.«01_k».proof.Proof.KI.Vals
public import proofs.«01_k».proof.Proof.Solve

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

variable (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole)

set_option maxHeartbeats 4000000

variable {D : Blk} {f2 : BufTy.Contents (Elt Ideal) arg2.view.ty} {f3 : BufTy.Contents (Elt Ideal) arg3.view.ty} {f12 : BufTy.Contents (Elt Ideal) arg12.view.ty} {f13 : BufTy.Contents (Elt Ideal) arg13.view.ty} {f14 : BufTy.Contents (Elt Ideal) arg14.view.ty} {f15 : BufTy.Contents (Elt Ideal) arg15.view.ty} {f16 : BufTy.Contents (Elt Ideal) arg16.view.ty} {f17 : BufTy.Contents (Elt Ideal) arg17.view.ty} {f10 : BufTy.Contents (Elt Ideal) arg10.view.ty} {E : Set ℕ} {Q : Unit → sProp 𝕄}

/-- A trip of the second loop writes the pair's columns of the rows and the pair's states. -/
theorem pair_trip (t : Fin k0_t2_loop.trips) (hD : Holds arg2 arg3 arg12 arg13 arg14 arg15 arg16 arg17 D f2 f3 f12 f13 f14 f15 f16) (hb : D.base = ((i 0).val * 4 + (i 1).val) * 28) {cs : ℝ} (hcs : Ideal.ofBits .f32 0x3DD105EC#32 = ((cs : ℝ) : EReal))
    {v16 v17 : IVec S8x128 32} {v19 : IVec S64x128 32} (hv16 : At v16 GN) (hv17 : At v17 fun c => BitVec.ofNat 32 (c 0)) (hv19 : At v19 fun c => BitVec.ofNat 32 (c 1))
    (h17 : At (s := S28x96x128) (arg17.view.read (Elt Ideal) f17) (rd3 fun h r l => if h < 2 * t.val then D.s h r l else D.S h r l)) (h10 : ∀ j : S1x64x3584.Idx, co j 2 < 128 * (2 * t.val + 0) → arg10.view.read (Elt Ideal) f10 j = rd3 (fun _ r c => D.o (c / 128) cs r (c % 128)) (co j))
    (hK : ∀ (g10 : BufTy.Contents (Elt Ideal) arg10.view.ty) (g17 : BufTy.Contents (Elt Ideal) arg17.view.ty), (∀ j : S1x64x3584.Idx, co j 2 < 128 * (2 * t.val + 1 + 1) → arg10.view.read (Elt Ideal) g10 j = rd3 (fun _ r c => D.o (c / 128) cs r (c % 128)) (co j)) → At (s := S28x96x128) (arg17.view.read (Elt Ideal) g17) (rd3 fun h r l => if h < 2 * t.val + 2 then D.s h r l else D.S h r l) → Res c arg2 arg3 arg12 arg13 arg14 arg15 arg16 arg17 arg10 f2 f3 f12 f13 f14 f15 f16 g17 g10 ⊢ Q ⟨⟩) :
    Res c arg2 arg3 arg12 arg13 arg14 arg15 arg16 arg17 arg10 f2 f3 f12 f13 f14 f15 f16 f17 f10 ⊢ wp frame (wpE (defs₀ (F := Ideal)) Variants.none (c : Thread nD τ) none) E (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (BitVec.ofNat 32 (i 1).val) v16 v17 v19 t ⟨⟩) Q := by
  unfold k0_t2_body; rw [k0_part32_eq_skeleton]; unfold k0_part32_skel
  dsimp only
  rw [bind_assoc]
  refine part2_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t hD  fun v35 v39 v45 v49 v55 v59 v64 v66 v70 v74 v75 hv35 hv39 hv45 hv49 hv55 hv59 hv64 hv66 hv70 hv74 hv75 => ?_
  dsimp only
  rw [bind_assoc]
  refine part3_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t hD hb hv35 hv39 hv45 hv49 hv64 hv66 hv70 hv74 hv75 fun v77 v78 v79 v84 v90 v96 v106 v111 v117 v121 v122 v123 hv77 hv78 hv79 hv84 hv90 hv96 hv106 hv111 hv117 hv121 hv122 hv123 => ?_
  dsimp only
  rw [bind_assoc]
  refine part4_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t hD hb hv49 hv77 hv78 hv90 hv106 hv111 hv117 hv121 hv122 hv123 fun v124 v126 v131 v137 v143 v160 v162 v164 v170 v171 hv124 hv126 hv131 hv137 hv143 hv160 hv162 hv164 hv170 hv171 => ?_
  dsimp only
  obtain ⟨v172, v181, v182, v183, v184, v192, v200, v208, v213, cst_58, cst_59, hv172, hv181, hv182, hv183, hv184, hv192, hv200, hv208, hv216, e⟩ := part5_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv17 hv19 hv170 hv171
  rw [bind_assoc, e, pure_bind]; clear e
  dsimp only
  obtain ⟨v233, v243, v253, v263, hv233, hv243, hv253, hv263, e⟩ := part6_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv181 hv182 hv183 hv184 hv192 hv200 hv208 hv216
  rw [bind_assoc, e, pure_bind]; clear e
  dsimp only
  obtain ⟨v280, v290, v300, v310, v313, hv280, hv290, hv300, hv310, hv313, e⟩ := part7_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv181 hv182 hv183 hv184 hv233 hv243 hv253 hv263
  rw [bind_assoc, e, pure_bind]; clear e
  dsimp only
  obtain ⟨v327, v337, v347, v357, v360, v362, hv327, hv337, hv347, hv357, hv360, hv362, e⟩ := part8_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv181 hv182 hv183 hv184 hv280 hv290 hv300 hv310 hv313
  rw [bind_assoc, e, pure_bind]; clear e
  dsimp only
  obtain ⟨v374, v384, v394, v404, v407, v411, hv374, hv384, hv394, hv404, hv407, hv411, e⟩ := part9_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv181 hv182 hv183 hv184 hv327 hv337 hv347 hv357 hv360 hv362
  rw [bind_assoc, e, pure_bind]; clear e
  dsimp only
  obtain ⟨v421, v431, v441, v451, v454, v458, v460, hv421, hv431, hv441, hv451, hv454, hv458, hv460, e⟩ := part10_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv181 hv182 hv183 hv184 hv374 hv384 hv394 hv404 hv407 hv411
  rw [bind_assoc, e, pure_bind]; clear e
  dsimp only
  obtain ⟨v468, v478, v488, v498, v501, v505, v507, v509, hv468, hv478, hv488, hv498, hv501, hv505, hv507, hv509, e⟩ := part11_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv181 hv182 hv183 hv184 hv421 hv431 hv441 hv451 hv454 hv458 hv460
  rw [bind_assoc, e, pure_bind]; clear e
  dsimp only
  obtain ⟨v515, v525, v535, v545, v548, v552, v559, hv515, hv525, hv535, hv545, hv548, hv552, hv559, e⟩ := part12_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv181 hv182 hv183 hv184 hv468 hv478 hv488 hv498 hv501 hv505 hv507 hv509
  rw [bind_assoc, e, pure_bind]; clear e
  dsimp only
  obtain ⟨v562, v582, v592, v595, v599, v609, hv562, hv582, hv592, hv595, hv599, hv609, e⟩ := part13_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv181 hv182 hv183 hv184 hv515 hv525 hv535 hv545 hv548 hv552 hv559
  rw [bind_assoc, e, pure_bind]; clear e
  dsimp only
  obtain ⟨v629, v632, v636, v646, v656, v658, hv629, hv632, hv636, hv646, hv656, hv658, e⟩ := part14_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv182 hv183 hv184 hv582 hv592 hv595 hv599 hv609
  rw [bind_assoc, e, pure_bind]; clear e
  dsimp only
  obtain ⟨v683, v693, v703, v706, v708, hv683, hv693, hv703, hv706, hv708, e⟩ := part15_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv182 hv183 hv184 hv629 hv632 hv636 hv646 hv656 hv658
  rw [bind_assoc, e, pure_bind]; clear e
  dsimp only
  obtain ⟨v730, v740, v743, v747, v757, hv730, hv740, hv743, hv747, hv757, e⟩ := part16_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv182 hv183 hv184 hv683 hv693 hv703 hv706 hv708
  rw [bind_assoc, e, pure_bind]; clear e
  dsimp only
  obtain ⟨v777, v780, v784, v794, v804, v806, hv777, hv780, hv784, hv794, hv804, hv806, e⟩ := part17_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv182 hv183 hv184 hv730 hv740 hv743 hv747 hv757
  rw [bind_assoc, e, pure_bind]; clear e
  dsimp only
  obtain ⟨v831, v841, v851, v854, v856, hv831, hv841, hv851, hv854, hv856, e⟩ := part18_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv182 hv183 hv184 hv777 hv780 hv784 hv794 hv804 hv806
  rw [bind_assoc, e, pure_bind]; clear e
  dsimp only
  obtain ⟨v868, v888, v891, v895, v905, hv868, hv888, hv891, hv895, hv905, e⟩ := part19_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv182 hv183 hv184 hv831 hv841 hv851 hv854 hv856
  rw [bind_assoc, e, pure_bind]; clear e
  dsimp only
  obtain ⟨v932, v942, v945, v949, v951, v953, hv932, hv942, hv945, hv949, hv951, hv953, e⟩ := part20_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv183 hv184 hv888 hv891 hv895 hv905
  rw [bind_assoc, e, pure_bind]; clear e
  dsimp only
  obtain ⟨v986, v996, v999, v1003, hv986, hv996, hv999, hv1003, e⟩ := part21_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv183 hv184 hv932 hv942 hv945 hv949 hv951 hv953
  rw [bind_assoc, e, pure_bind]; clear e
  dsimp only
  obtain ⟨v1040, v1050, v1053, hv1040, hv1050, hv1053, e⟩ := part22_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv183 hv184 hv986 hv996 hv999 hv1003
  rw [bind_assoc, e, pure_bind]; clear e
  dsimp only
  obtain ⟨v1077, v1080, v1094, v1101, hv1077, hv1080, hv1094, hv1101, e⟩ := part23_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv183 hv184 hv1040 hv1050 hv1053
  rw [bind_assoc, e, pure_bind]; clear e
  dsimp only
  obtain ⟨v1138, v1141, v1145, v1147, v1149, hv1138, hv1141, hv1145, hv1147, hv1149, e⟩ := part24_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv184 hv1077 hv1080 hv1101
  rw [bind_assoc, e, pure_bind]; clear e
  dsimp only
  obtain ⟨v1189, v1192, v1196, v1198, hv1189, hv1192, hv1196, hv1198, e⟩ := part25_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv16 hv184 hv1138 hv1141 hv1145 hv1147 hv1149
  rw [bind_assoc, e, pure_bind]; clear e
  dsimp only
  rw [bind_assoc]
  refine part26_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t hD (D.AD_low _ _) h17 hv55 hv77 hv16 hv184 hv562 hv868 hv1094 hv1189 hv1192 hv1196 hv1198 fun v1224 v1229 v1243 v1244 v1245 v1246 hv1224 hv1229 hv1243 hv1244 hv1245 hv1246 => ?_
  dsimp only
  obtain ⟨v1255, v1279, v1280, v1301, v1302, hv1255, hv1279, hv1280, hv1301, hv1302, e⟩ := part27_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv90 hv162 hv172 hv1224 hv1244 hv1245 hv1246
  rw [bind_assoc, e, pure_bind]; clear e
  dsimp only
  obtain ⟨v1334, v1345, v1356, hv1334, hv1345, hv1356, e⟩ := part28_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv79 hv160 hv1243 hv1255 hv1279 hv1280 hv1301 hv1302
  rw [bind_assoc, e, pure_bind]; clear e
  dsimp only
  rw [bind_assoc]
  refine part29_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t hD hcs h17 h10 hv59 hv84 hv96 hv124 hv1229 hv1334 hv1345 hv1356 fun v1384 v1398 v1399 v1400 v1401 g10 g17 hv1384 hv1398 hv1399 hv1400 hv1401 h10 h17 => ?_
  dsimp only
  obtain ⟨v1410, v1434, v1435, v1456, v1457, hv1410, hv1434, hv1435, hv1456, hv1457, e⟩ := part30_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv137 hv164 hv172 hv1224 hv1399 hv1400 hv1401
  rw [bind_assoc, e, pure_bind]; clear e
  dsimp only
  obtain ⟨v1489, v1500, v1511, hv1489, hv1500, hv1511, e⟩ := part31_val i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hv126 hv160 hv1398 hv1410 hv1434 hv1435 hv1456 hv1457
  rw [bind_assoc, e, pure_bind]; clear e
  dsimp only
  have k10 := st10_1 arg10 g10 (O := fun h r l => D.o h cs r l) t h10 (k0_off10_inb t 1) (pay212_at hcs hv143 hv1511) (fun r l _ hl => rfl)
  have w17 := pay213_at hv131 hv1384 hv1489 hv1500
  have k17 := (st17_1 arg17 g17 h17 t (k0_off9_inb t 1) w17).congr (g := rd3 fun h r l => if h < 2 * t.val + 2 then D.s h r l else D.S h r l) fun x => by
    unfold rd3; dsimp only
    by_cases q : co x 0 = 2 * t.val + 1
    · rw [if_pos q, if_pos (by omega), q]; rfl
    · rw [if_neg q]
      by_cases q' : co x 0 < 2 * t.val + 1
      · rw [if_pos q', if_pos (by omega)]
      · rw [if_neg q', if_neg (by omega)]
  have hK := hK _ _ k10 k17
  simp only [Prog.lift, Prog.bind_op, Prog.bind_ret, Prog.pure_eq_ret]
  unfold Res at hK ⊢
  iintro ⟨H2, H3, H12, H13, H14, H15, H16, H17, H10⟩
  sl_step
  sl_step
  sl_step
  sl_step
  sl_step
  iapply hK
  isplitl [H2]; · iexact H2
  isplitl [H3]; · iexact H3
  isplitl [H12]; · iexact H12
  isplitl [H13]; · iexact H13
  isplitl [H14]; · iexact H14
  isplitl [H15]; · iexact H15
  isplitl [H16]; · iexact H16
  isplitl [H17]; · iexact H17
  iexact H10

end Cert.KernelIdeal.Hand

end
-- ==== Proof.KI.Tok.lean ====
/-
A trip of the first loop: one token of every head.
-/
module

public import proofs.«01_k».proof.Proof.KI.Mem

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

theorem off1_at (t : Fin k0_t1_loop.trips) {f : ℕ → ℕ → ℕ → ℕ → ℝ} {φ : FTy} {x : FVec Ideal S1x64x28x96 φ} (h : At x (rd4 f)) (inb : _) :
    At (fun j : S1x1x28x96.Idx => x ((Rect.unit (s := S1x64x28x96) (k0_off1 t) S1x1x28x96.size inb).toLoadRect.idx j)) (rd4 fun a b r l => f a (t.val + b) r l) :=
  (on_load4 h (Rect.unit (s := S1x64x28x96) (k0_off1 t) S1x1x28x96.size inb).toLoadRect (a := 0) (b := t.val) (c := 0) (d := 0) (congrFun (off1_eq t) 0) (congrFun (off1_eq t) 1) (congrFun (off1_eq t) 2) (congrFun (off1_eq t) 3) (fun _ => rfl)).congr
    fun i => by unfold rd4; dsimp only; rw [Nat.zero_add, Nat.zero_add, Nat.zero_add]

theorem off4_at (t : Fin k0_t1_loop.trips) {f : ℕ → ℕ → ℕ → ℕ → ℝ} {φ : FTy} {x : FVec Ideal S1x64x28x128 φ} (h : At x (rd4 f)) (inb : _) :
    At (fun j : S1x1x28x128.Idx => x ((Rect.unit (s := S1x64x28x128) (k0_off4 t) S1x1x28x128.size inb).toLoadRect.idx j)) (rd4 fun a b r l => f a (t.val + b) r l) :=
  (on_load4 h (Rect.unit (s := S1x64x28x128) (k0_off4 t) S1x1x28x128.size inb).toLoadRect (a := 0) (b := t.val) (c := 0) (d := 0) (congrFun (off4_eq t) 0) (congrFun (off4_eq t) 1) (congrFun (off4_eq t) 2) (congrFun (off4_eq t) 3) (fun _ => rfl)).congr
    fun i => by unfold rd4; dsimp only; rw [Nat.zero_add, Nat.zero_add, Nat.zero_add]

/-- The store of a token's rows of gates. -/
theorem st12 (arg12 : Memref sig .tc .vmem S2304x128 .f32) (f12 : BufTy.Contents (Elt Ideal) arg12.view.ty) {G : ℕ → ℕ → ℕ → ℝ} (t : Fin k0_t1_loop.trips)
    (h : ∀ j : S2304x128.Idx, (co j 0 % 36 < 28 ∧ co j 0 / 36 < t.val) ∨ 96 ≤ co j 1 → arg12.view.read (Elt Ideal) f12 j = rd (fun p l => G (p / 36) (p % 36) l) (co j))
    (inb : _) {x : S28x96.Idx → EReal} {w : ℕ → ℕ → ℝ} (hx : At x (rd w)) (e : ∀ r l, r < 28 → l < 96 → w r l = G t.val r l) :
    ∀ j : S2304x128.Idx, (co j 0 % 36 < 28 ∧ co j 0 / 36 < t.val + 1) ∨ 96 ≤ co j 1 →
      arg12.view.read (Elt Ideal) (arg12.view.writes (Elt Ideal) f12 [⟨Rect.unit (s := S2304x128) (k0_off2 t) S28x96.size inb, x⟩]) j = rd (fun p l => G (p / 36) (p % 36) l) (co j) := fun i hi => by
  rw [View.read_writes_cons_put _ _ _ _ _ rfl, View.writes_nil]
  refine on_put2 (P := fun p l => (p % 36 < 28 ∧ p / 36 < t.val + 1) ∨ 96 ≤ l) (a := 36 * t.val) (b := 0) (n₁ := 28) (m₁ := 96) (congrFun (off2_eq t) 0) (congrFun (off2_eq t) 1) rfl rfl hx
    (fun j hj hP => h j ?_) (fun r l hr hl _ => ?_) i hi
  · omega
  · rw [e r l hr hl, show (36 * t.val + r) / 36 = t.val by omega, show (36 * t.val + r) % 36 = r by omega, Nat.zero_add]

/-- The store of a token's rows of codes. -/
theorem st13 (arg : Memref sig .tc .vmem S1280x2x128 .bf16) (f : BufTy.Contents (Elt Ideal) arg.view.ty) {G : ℕ → ℕ → ℕ → ℝ} (t : Fin k0_t1_loop.trips)
    (h : ∀ j : S1280x2x128.Idx, (co j 0 % 20 < 14 ∧ co j 0 / 20 < t.val) ∨ 96 ≤ co j 2 → arg.view.read (Elt Ideal) f j = rd3 (fun p e l => G (p / 20) (2 * (p % 20) + e) l) (co j))
    (inb : _) {x : S14x2x96.Idx → EReal} {w : ℕ → ℕ → ℕ → ℝ} (hx : At x (rd3 w)) (e : ∀ r e l, r < 14 → e < 2 → l < 96 → w r e l = G t.val (2 * r + e) l) :
    ∀ j : S1280x2x128.Idx, (co j 0 % 20 < 14 ∧ co j 0 / 20 < t.val + 1) ∨ 96 ≤ co j 2 →
      arg.view.read (Elt Ideal) (arg.view.writes (Elt Ideal) f [⟨Rect.unit (s := S1280x2x128) (k0_off3 t) S14x2x96.size inb, x⟩]) j = rd3 (fun p e l => G (p / 20) (2 * (p % 20) + e) l) (co j) := fun i hi => by
  rw [View.read_writes_cons_put _ _ _ _ _ rfl, View.writes_nil]
  refine on_put3 (P := fun p _ l => (p % 20 < 14 ∧ p / 20 < t.val + 1) ∨ 96 ≤ l) (a := 20 * t.val) (b := 0) (c := 0) (n₁ := 14) (m₁ := 2) (k₁ := 96) (congrFun (off3_eq t) 0) (congrFun (off3_eq t) 1) (congrFun (off3_eq t) 2) rfl rfl rfl hx
    (fun j hj hP => h j ?_) (fun r q l hr hq hl _ => ?_) i hi
  · have j1 : co j 1 < 2 := by have := co_lt j 1 (by decide); exact this
    omega
  · rw [e r q l hr hq hl, show (20 * t.val + r) / 20 = t.val by omega, show (20 * t.val + r) % 20 = r by omega, Nat.zero_add, Nat.zero_add]

/-- The store of a token's rows of values. -/
theorem st15 (arg : Memref sig .tc .vmem S1280x2x128 .bf16) (f : BufTy.Contents (Elt Ideal) arg.view.ty) {G : ℕ → ℕ → ℕ → ℝ} (t : Fin k0_t1_loop.trips)
    (h : ∀ j : S1280x2x128.Idx, (co j 0 % 20 < 14 ∧ co j 0 / 20 < t.val) → arg.view.read (Elt Ideal) f j = rd3 (fun p e l => G (p / 20) (2 * (p % 20) + e) l) (co j))
    (inb : _) {x : S14x2x128.Idx → EReal} {w : ℕ → ℕ → ℕ → ℝ} (hx : At x (rd3 w)) (e : ∀ r e l, r < 14 → e < 2 → l < 128 → w r e l = G t.val (2 * r + e) l) :
    ∀ j : S1280x2x128.Idx, (co j 0 % 20 < 14 ∧ co j 0 / 20 < t.val + 1) →
      arg.view.read (Elt Ideal) (arg.view.writes (Elt Ideal) f [⟨Rect.unit (s := S1280x2x128) (k0_off5 t) S14x2x128.size inb, x⟩]) j = rd3 (fun p e l => G (p / 20) (2 * (p % 20) + e) l) (co j) := fun i hi => by
  rw [View.read_writes_cons_put _ _ _ _ _ rfl, View.writes_nil]
  refine on_put3 (P := fun p _ l => (p % 20 < 14 ∧ p / 20 < t.val + 1)) (a := 20 * t.val) (b := 0) (c := 0) (n₁ := 14) (m₁ := 2) (k₁ := 128) (congrFun (off5_eq t) 0) (congrFun (off5_eq t) 1) (congrFun (off5_eq t) 2) rfl rfl rfl hx
    (fun j hj hP => h j ?_) (fun r q l hr hq hl _ => ?_) i hi
  · have j1 : co j 1 < 2 := by have := co_lt j 1 (by decide); exact this
    have j2 : co j 2 < 128 := by have := co_lt j 2 (by decide); exact this
    omega
  · rw [e r q l hr hq hl, show (20 * t.val + r) / 20 = t.val by omega, show (20 * t.val + r) % 20 = r by omega, Nat.zero_add, Nat.zero_add]

/-- A chunk's gates, codes and values as they come in. -/
structure Src where
  (g q k v : ℕ → ℕ → ℕ → ℝ)

/-- The gates summed, the codes with lanes of zeros after them. -/
structure Fits (X : Src) (D : Blk) : Prop where
  hG : ∀ t h l, D.G t h l = if l < 96 then ∑ s ∈ Finset.range (t + 1), X.g s h l else 0
  hQ : ∀ t h l, D.Q t h l = if l < 96 then X.q t h l else 0
  hK : ∀ t h l, D.K t h l = if l < 96 then X.k t h l else 0
  hV : ∀ t h l, D.V t h l = X.v t h l

/-- What the four buffers hold after `n` tokens. -/
structure Upto (arg12 : Memref sig .tc .vmem S2304x128 .f32) (arg13 arg14 arg15 : Memref sig .tc .vmem S1280x2x128 .bf16) (D : Blk) (n : ℕ)
    (f12 : BufTy.Contents (Elt Ideal) arg12.view.ty) (f13 : BufTy.Contents (Elt Ideal) arg13.view.ty) (f14 : BufTy.Contents (Elt Ideal) arg14.view.ty) (f15 : BufTy.Contents (Elt Ideal) arg15.view.ty) : Prop where
  h12 : ∀ j : S2304x128.Idx, (co j 0 % 36 < 28 ∧ co j 0 / 36 < n) ∨ 96 ≤ co j 1 → arg12.view.read (Elt Ideal) f12 j = rd (fun p l => D.G (p / 36) (p % 36) l) (co j)
  h13 : ∀ j : S1280x2x128.Idx, (co j 0 % 20 < 14 ∧ co j 0 / 20 < n) ∨ 96 ≤ co j 2 → arg13.view.read (Elt Ideal) f13 j = rd3 (fun p e l => D.Q (p / 20) (2 * (p % 20) + e) l) (co j)
  h14 : ∀ j : S1280x2x128.Idx, (co j 0 % 20 < 14 ∧ co j 0 / 20 < n) ∨ 96 ≤ co j 2 → arg14.view.read (Elt Ideal) f14 j = rd3 (fun p e l => D.K (p / 20) (2 * (p % 20) + e) l) (co j)
  h15 : ∀ j : S1280x2x128.Idx, (co j 0 % 20 < 14 ∧ co j 0 / 20 < n) → arg15.view.read (Elt Ideal) f15 j = rd3 (fun p e l => D.V (p / 20) (2 * (p % 20) + e) l) (co j)

/-- The buffers the first loop uses. -/
def ResT (c : Dev nD) (arg4 : Memref sig .tc .vmem S1x64x28x96 .fp8e4m3) (arg5 : Memref sig .tc .vmem S1x64x28x96 .fp8e4m3) (arg6 : Memref sig .tc .vmem S1x64x28x128 .bf16) (arg7 : Memref sig .tc .vmem S1x64x28x96 .f32) (arg12 : Memref sig .tc .vmem S2304x128 .f32) (arg13 : Memref sig .tc .vmem S1280x2x128 .bf16) (arg14 : Memref sig .tc .vmem S1280x2x128 .bf16) (arg15 : Memref sig .tc .vmem S1280x2x128 .bf16) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) : sProp 𝕄 := iprop((arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

variable (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole)

variable {D : Blk} {X : Src} {f4 : BufTy.Contents (Elt Ideal) arg4.view.ty} {f5 : BufTy.Contents (Elt Ideal) arg5.view.ty} {f6 : BufTy.Contents (Elt Ideal) arg6.view.ty} {f7 : BufTy.Contents (Elt Ideal) arg7.view.ty} {f12 : BufTy.Contents (Elt Ideal) arg12.view.ty} {f13 : BufTy.Contents (Elt Ideal) arg13.view.ty} {f14 : BufTy.Contents (Elt Ideal) arg14.view.ty} {f15 : BufTy.Contents (Elt Ideal) arg15.view.ty} {E : Set ℕ}

/-- What the inputs' buffers hold. -/
structure Ins (arg4 : Memref sig .tc .vmem S1x64x28x96 .fp8e4m3) (arg5 : Memref sig .tc .vmem S1x64x28x96 .fp8e4m3) (arg6 : Memref sig .tc .vmem S1x64x28x128 .bf16) (arg7 : Memref sig .tc .vmem S1x64x28x96 .f32)  (X : Src) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) : Prop where
  h4 : At (s := S1x64x28x96) (α := EReal) (arg4.view.read (Elt Ideal) f4) (rd4 fun _ t h l => X.q t h l)
  h5 : At (s := S1x64x28x96) (α := EReal) (arg5.view.read (Elt Ideal) f5) (rd4 fun _ t h l => X.k t h l)
  h6 : At (s := S1x64x28x128) (arg6.view.read (Elt Ideal) f6) (rd4 fun _ t h l => X.v t h l)
  h7 : At (s := S1x64x28x96) (arg7.view.read (Elt Ideal) f7) (rd4 fun _ t h l => X.g t h l)

/-- What holds before trip `n`. -/
def TokInv (c : Dev nD) (arg4 : Memref sig .tc .vmem S1x64x28x96 .fp8e4m3) (arg5 : Memref sig .tc .vmem S1x64x28x96 .fp8e4m3) (arg6 : Memref sig .tc .vmem S1x64x28x128 .bf16) (arg7 : Memref sig .tc .vmem S1x64x28x96 .f32) (arg12 : Memref sig .tc .vmem S2304x128 .f32) (arg13 : Memref sig .tc .vmem S1280x2x128 .bf16) (arg14 : Memref sig .tc .vmem S1280x2x128 .bf16) (arg15 : Memref sig .tc .vmem S1280x2x128 .bf16) (D : Blk) (X : Src) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (n : ℕ) (acc : FVec Ideal S28x96 .f32) : sProp 𝕄 :=
  iprop(∃ (f12 : BufTy.Contents (Elt Ideal) arg12.view.ty) (f13 : BufTy.Contents (Elt Ideal) arg13.view.ty) (f14 : BufTy.Contents (Elt Ideal) arg14.view.ty) (f15 : BufTy.Contents (Elt Ideal) arg15.view.ty), ⌜At acc (rd fun h l => ∑ s ∈ Finset.range n, X.g s h l) ∧ Upto arg12 arg13 arg14 arg15 D n f12 f13 f14 f15⌝ ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15))

/-- A trip of the first loop keeps the invariant. -/
theorem tok_trip (hF : Fits X D) (hI : Ins arg4 arg5 arg6 arg7 X f4 f5 f6 f7) (t : Fin k0_t1_loop.trips) (acc : FVec Ideal S28x96 .f32) :
    TokInv c arg4 arg5 arg6 arg7 arg12 arg13 arg14 arg15 D X f4 f5 f6 f7 t.val acc ⊢ wp frame (wpE (defs₀ (F := Ideal)) Variants.none (c : Thread nD τ) none) E (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t acc)
      (fun a => TokInv c arg4 arg5 arg6 arg7 arg12 arg13 arg14 arg15 D X f4 f5 f6 f7 (t.val + 1) a) := by
  unfold k0_t1_body; rw [k0_part1_eq_skeleton]; unfold k0_part1_skel
  simp only [Prog.lift, Prog.bind_op, Prog.bind_ret, Prog.pure_eq_ret, Prog.bind_assoc]
  unfold TokInv
  iintro ⟨%f12, %f13, %f14, %f15, %hu, H4, H5, H6, H7, H12, H13, H14, H15⟩
  have l7 := off1_at (φ := .f32) t hI.h7 (k0_off1_inb t)
  have l4 := off1_at (φ := .fp8e4m3) t hI.h4 (k0_off1_inb t)
  have l5 := off1_at (φ := .fp8e4m3) t hI.h5 (k0_off1_inb t)
  have l6 := off4_at (φ := .bf16) t hI.h6 (k0_off4_inb t)
  have ht := t1_lt t
  have hG : ∀ h l, l < 96 → ∑ s ∈ Finset.range t.val, X.g s h l + X.g (t.val + 0) h l = D.G t.val h l := fun h l hl => by
    rw [hF.hG, if_pos hl, Finset.sum_range_succ, Nat.add_zero]
  sl_step
  sl_step
  sl_step
  sl_step
  sl_step
  sl_step
  sl_step
  sl_step
  sl_step
  sl_step
  sl_step
  sl_step
  rw [wp_ret]; imodintro
  iexists _, _, _, _
  isplitr; swap
  · isplitl [H4]; · iexact H4
    isplitl [H5]; · iexact H5
    isplitl [H6]; · iexact H6
    isplitl [H7]; · iexact H7
    isplitl [H12]; · iexact H12
    isplitl [H13]; · iexact H13
    isplitl [H14]; · iexact H14
    iexact H15
  ipureintro
  refine ⟨m_congr (pay1_at hu.1 l7) fun h l _ _ => ?_, ⟨st12 arg12 f12 t hu.2.h12 (k0_off2_inb t) (pay2_at hu.1 l7) (fun h l _ hl => hG h l hl), st13 arg13 f13 t hu.2.h13 (k0_off3_inb t) (pay3_at l4) (fun r e l _ _ hl => ?_), st13 arg14 f14 t hu.2.h14 (k0_off3_inb t) (pay4_at l5) (fun r e l _ _ hl => ?_), st15 arg15 f15 t hu.2.h15 (k0_off5_inb t) (pay219_at l6) (fun r e l _ _ hl => ?_)⟩⟩
  · rw [Finset.sum_range_succ, Nat.add_zero]
  · rw [hF.hQ, if_pos hl, Nat.add_zero]
  · rw [hF.hK, if_pos hl, Nat.add_zero]
  · rw [hF.hV, Nat.add_zero]

end Cert.KernelIdeal.Hand

end
-- ==== Proof.KI.Loops.lean ====
/-
The two loops of the body, one after the other.
-/
module

public import proofs.«01_k».proof.Proof.KI.Pair
public import proofs.«01_k».proof.Proof.KI.Tok

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

/-- Every buffer of the body. -/
def ResA (c : Dev nD) (arg2 : Memref sig .tc .smem S896 .f32) (arg3 : Memref sig .tc .smem S896 .f32) (arg4 : Memref sig .tc .vmem S1x64x28x96 .fp8e4m3) (arg5 : Memref sig .tc .vmem S1x64x28x96 .fp8e4m3) (arg6 : Memref sig .tc .vmem S1x64x28x128 .bf16) (arg7 : Memref sig .tc .vmem S1x64x28x96 .f32) (arg8 : Memref sig .tc .vmem S1x64x28 .f32) (arg9 : Memref sig .tc .vmem S1x28x96x128 .f32) (arg10 : Memref sig .tc .vmem S1x64x3584 .bf16) (arg11 : Memref sig .tc .vmem S1x28x96x128 .f32) (arg12 : Memref sig .tc .vmem S2304x128 .f32) (arg13 : Memref sig .tc .vmem S1280x2x128 .bf16) (arg14 : Memref sig .tc .vmem S1280x2x128 .bf16) (arg15 : Memref sig .tc .vmem S1280x2x128 .bf16) (arg16 : Memref sig .tc .vmem S64x128 .f32) (arg17 : Memref sig .tc .vmem S28x96x128 .f32) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (f17 : BufTy.Contents (Elt Ideal) arg17.view.ty) : sProp 𝕄 := iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

/-- What holds before trip `n` of the second loop. -/
def PairInv (c : Dev nD) (arg2 : Memref sig .tc .smem S896 .f32) (arg3 : Memref sig .tc .smem S896 .f32) (arg12 : Memref sig .tc .vmem S2304x128 .f32) (arg13 : Memref sig .tc .vmem S1280x2x128 .bf16) (arg14 : Memref sig .tc .vmem S1280x2x128 .bf16) (arg15 : Memref sig .tc .vmem S1280x2x128 .bf16) (arg16 : Memref sig .tc .vmem S64x128 .f32) (arg17 : Memref sig .tc .vmem S28x96x128 .f32) (arg10 : Memref sig .tc .vmem S1x64x3584 .bf16) (D : Blk) (cs : ℝ) (f2 : BufTy.Contents (Elt Ideal) arg2.view.ty) (f3 : BufTy.Contents (Elt Ideal) arg3.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty) (f16 : BufTy.Contents (Elt Ideal) arg16.view.ty) (n : ℕ) (_ : Unit) : sProp 𝕄 :=
  iprop(∃ (f10 : BufTy.Contents (Elt Ideal) arg10.view.ty) (f17 : BufTy.Contents (Elt Ideal) arg17.view.ty), ⌜(∀ j : S1x64x3584.Idx, co j 2 < 128 * (2 * n) → arg10.view.read (Elt Ideal) f10 j = rd3 (fun _ r c => D.o (c / 128) cs r (c % 128)) (co j)) ∧ At (s := S28x96x128) (arg17.view.read (Elt Ideal) f17) (rd3 fun h r l => if h < 2 * n then D.s h r l else D.S h r l)⌝ ∗ Res c arg2 arg3 arg12 arg13 arg14 arg15 arg16 arg17 arg10 f2 f3 f12 f13 f14 f15 f16 f17 f10)

variable (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole)

variable {D : Blk} {X : Src} {f2 : BufTy.Contents (Elt Ideal) arg2.view.ty} {f3 : BufTy.Contents (Elt Ideal) arg3.view.ty} {f4 : BufTy.Contents (Elt Ideal) arg4.view.ty} {f5 : BufTy.Contents (Elt Ideal) arg5.view.ty} {f6 : BufTy.Contents (Elt Ideal) arg6.view.ty} {f7 : BufTy.Contents (Elt Ideal) arg7.view.ty} {f8 : BufTy.Contents (Elt Ideal) arg8.view.ty} {f9 : BufTy.Contents (Elt Ideal) arg9.view.ty} {f10 : BufTy.Contents (Elt Ideal) arg10.view.ty} {f11 : BufTy.Contents (Elt Ideal) arg11.view.ty} {f12 : BufTy.Contents (Elt Ideal) arg12.view.ty} {f13 : BufTy.Contents (Elt Ideal) arg13.view.ty} {f14 : BufTy.Contents (Elt Ideal) arg14.view.ty} {f15 : BufTy.Contents (Elt Ideal) arg15.view.ty} {f16 : BufTy.Contents (Elt Ideal) arg16.view.ty} {f17 : BufTy.Contents (Elt Ideal) arg17.view.ty} {E : Set ℕ} {cs : ℝ}

/-- A trip of the second loop keeps the invariant. -/
theorem pair_keep (hD : Holds arg2 arg3 arg12 arg13 arg14 arg15 arg16 arg17 D f2 f3 f12 f13 f14 f15 f16) (hb : D.base = ((i 0).val * 4 + (i 1).val) * 28) (hcs : Ideal.ofBits .f32 0x3DD105EC#32 = ((cs : ℝ) : EReal))
    (t : Fin k0_t2_loop.trips) (u : Unit) :
    PairInv c arg2 arg3 arg12 arg13 arg14 arg15 arg16 arg17 arg10 D cs f2 f3 f12 f13 f14 f15 f16 t.val u ⊢ wp frame (wpE (defs₀ (F := Ideal)) Variants.none (c : Thread nD τ) none) E
      (k0_t2_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (BitVec.ofNat 32 (i 1).val) (iota .tc S8x128 32 [1] iota_S8x128_d1_w32) (iota .tc S8x128 32 [0] iota_S8x128_d0_w32) (iota .tc S64x128 32 [1] iota_S64x128_d1_w32) t u)
      (fun a => PairInv c arg2 arg3 arg12 arg13 arg14 arg15 arg16 arg17 arg10 D cs f2 f3 f12 f13 f14 f15 f16 (t.val + 1) a) := by
  unfold PairInv
  iintro ⟨%f10, %f17, %h, H⟩
  iapply (pair_trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t hD hb hcs (E := E) At.iota At.iota At.iota h.2 (by rw [Nat.add_zero]; exact h.1) (fun g10 g17 k10 k17 => ?_))
  · iintro H
    iexists g10, g17
    isplitr
    · ipureintro
      exact ⟨fun j hj => k10 j (by omega), k17⟩
    · iexact H
  · iexact H

/-- The two loops: the rows of every head are computed and the states are taken on. -/
theorem loops_wp (hF : Fits X D) (hI : Ins arg4 arg5 arg6 arg7 X f4 f5 f6 f7) (hb : D.base = ((i 0).val * 4 + (i 1).val) * 28) (hcs : Ideal.ofBits .f32 0x3DD105EC#32 = ((cs : ℝ) : EReal))
    (k2 : ∀ j : S896.Idx, arg2.view.read (Elt Ideal) f2 j = ((D.qa (j 0).val : ℝ) : EReal)) (k3 : ∀ j : S896.Idx, arg3.view.read (Elt Ideal) f3 j = ((D.ka (j 0).val : ℝ) : EReal))
    (k16 : At (s := S64x128) (arg16.view.read (Elt Ideal) f16) (rd D.B)) (hu : Upto arg12 arg13 arg14 arg15 D 0 f12 f13 f14 f15) (k17 : At (s := S28x96x128) (arg17.view.read (Elt Ideal) f17) (rd3 D.S))
    {Q : PUnit → sProp 𝕄} {P : sProp 𝕄} {K : Unit → Prog (TpuEff nD τ sig (Elt Ideal) Λ₀ .tc) PUnit}
    (hK : ∀ (g10 : BufTy.Contents (Elt Ideal) arg10.view.ty) (g12 : BufTy.Contents (Elt Ideal) arg12.view.ty) (g13 : BufTy.Contents (Elt Ideal) arg13.view.ty) (g14 : BufTy.Contents (Elt Ideal) arg14.view.ty) (g15 : BufTy.Contents (Elt Ideal) arg15.view.ty) (g17 : BufTy.Contents (Elt Ideal) arg17.view.ty),
      At (s := S1x64x3584) (arg10.view.read (Elt Ideal) g10) (rd3 fun _ r c => D.o (c / 128) cs r (c % 128)) → Upto arg12 arg13 arg14 arg15 D 64 g12 g13 g14 g15 → At (s := S28x96x128) (arg17.view.read (Elt Ideal) g17) (rd3 D.s) →
      iprop(ResA c arg2 arg3 arg4 arg5 arg6 arg7 arg8 arg9 arg10 arg11 arg12 arg13 arg14 arg15 arg16 arg17 f2 f3 f4 f5 f6 f7 f8 f9 g10 f11 g12 g13 g14 g15 f16 g17 ∗ P) ⊢ wp frame (wpE (defs₀ (F := Ideal)) Variants.none (c : Thread nD τ) none) E (K ⟨⟩) Q) :
    iprop(ResA c arg2 arg3 arg4 arg5 arg6 arg7 arg8 arg9 arg10 arg11 arg12 arg13 arg14 arg15 arg16 arg17 f2 f3 f4 f5 f6 f7 f8 f9 f10 f11 f12 f13 f14 f15 f16 f17 ∗ P) ⊢ wp frame (wpE (defs₀ (F := Ideal)) Variants.none (c : Thread nD τ) none) E
      (Scf.Loop.for k0_t1_loop k0_t1_ok (k0_pay218 (F := Ideal)) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) >>= fun _ =>
        Scf.Loop.for k0_t2_loop k0_t2_ok ⟨⟩ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val) (BitVec.ofNat 32 (i 1).val) (iota .tc S8x128 32 [1] iota_S8x128_d1_w32) (iota .tc S8x128 32 [0] iota_S8x128_d0_w32) (iota .tc S64x128 32 [1] iota_S64x128_d1_w32)) >>= K) Q := by
  unfold ResA
  iintro ⟨⟨H2, H3, H4, H5, H6, H7, H8, H9, H10, H11, H12, H13, H14, H15, H16, H17⟩, HP⟩
  iapply (Scf.wp_for_bind frame (wpE (defs₀ (F := Ideal)) Variants.none (c : Thread nD τ) none) E _ _ _ k0_t1_ok _ _ (TokInv c arg4 arg5 arg6 arg7 arg12 arg13 arg14 arg15 D X f4 f5 f6 f7) (tok_trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hF hI)) $$ [H4 H5 H6 H7 H12 H13 H14 H15]
  · unfold TokInv
    iexists f12, f13, f14, f15
    isplitr
    · ipureintro; exact ⟨pay218_at.congr fun x => by unfold rd; dsimp only; rw [Finset.range_zero, Finset.sum_empty], hu⟩
    isplitl [H4]; · iexact H4
    isplitl [H5]; · iexact H5
    isplitl [H6]; · iexact H6
    isplitl [H7]; · iexact H7
    isplitl [H12]; · iexact H12
    isplitl [H13]; · iexact H13
    isplitl [H14]; · iexact H14
    iexact H15
  iintro %acc Hinv
  unfold TokInv
  icases Hinv with ⟨%g12, %g13, %g14, %g15, %hg, H4, H5, H6, H7, H12, H13, H14, H15⟩
  have hu64 : Upto arg12 arg13 arg14 arg15 D 64 g12 g13 g14 g15 := hg.2
  have hH : Holds arg2 arg3 arg12 arg13 arg14 arg15 arg16 arg17 D f2 f3 g12 g13 g14 g15 f16 := ⟨k2, k3, fun j hj => hu64.h12 j (.inl ⟨hj, by have := co_lt j 0 (by decide); have : co j 0 < 2304 := this; omega⟩),
    fun j hj => hu64.h13 j (.inl ⟨hj, by have := co_lt j 0 (by decide); have : co j 0 < 1280 := this; omega⟩), fun j hj => hu64.h14 j (.inl ⟨hj, by have := co_lt j 0 (by decide); have : co j 0 < 1280 := this; omega⟩),
    fun j hj => hu64.h15 j ⟨hj, by have := co_lt j 0 (by decide); have : co j 0 < 1280 := this; omega⟩, k16⟩
  iapply (Scf.wp_for_bind frame (wpE (defs₀ (F := Ideal)) Variants.none (c : Thread nD τ) none) E _ _ _ k0_t2_ok _ _ (PairInv c arg2 arg3 arg12 arg13 arg14 arg15 arg16 arg17 arg10 D cs f2 f3 g12 g13 g14 g15 f16) (pair_keep c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hH hb hcs)) $$ [H2 H3 H12 H13 H14 H15 H16 H17 H10]
  · unfold PairInv
    iexists f10, f17
    isplitr
    · ipureintro; exact ⟨fun j hj => absurd hj (by omega), k17.congr fun x => by unfold rd3; dsimp only; rw [if_neg (by omega)]⟩
    unfold Res
    isplitl [H2]; · iexact H2
    isplitl [H3]; · iexact H3
    isplitl [H12]; · iexact H12
    isplitl [H13]; · iexact H13
    isplitl [H14]; · iexact H14
    isplitl [H15]; · iexact H15
    isplitl [H16]; · iexact H16
    isplitl [H17]; · iexact H17
    iexact H10
  iintro %u Hinv
  unfold PairInv
  icases Hinv with ⟨%g10, %g17, %hp, Hr⟩
  unfold Res
  icases Hr with ⟨H2, H3, H12, H13, H14, H15, H16, H17, H10⟩
  have hp1 : ∀ j : S1x64x3584.Idx, co j 2 < 128 * (2 * 14) → arg10.view.read (Elt Ideal) g10 j = rd3 (fun _ r c => D.o (c / 128) cs r (c % 128)) (co j) := hp.1
  have hp2 : At (s := S28x96x128) (arg17.view.read (Elt Ideal) g17) (rd3 fun h r l => if h < 2 * 14 then D.s h r l else D.S h r l) := hp.2
  have hp3 : At (s := S28x96x128) (arg17.view.read (Elt Ideal) g17) (rd3 D.s) := by
    intro x
    have hx := co_lt x 0 (by decide)
    have hx : co x 0 < 2 * 14 := hx
    refine (hp2 x).trans ?_
    unfold rd3
    dsimp only
    rw [if_pos hx]
  have hK := hK g10 g12 g13 g14 g15 g17 (fun j => hp1 j (by have hj := co_lt j 2 (by decide); exact hj)) hu64 hp3
  unfold ResA at hK
  iapply hK
  isplitr [HP]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact HP

end Cert.KernelIdeal.Hand

end
-- ==== Proof.KI.Body.lean ====
/-
One point of the grid: what the body leaves in the outputs, in the state and in the word buffers.
-/
module

public import proofs.«01_k».proof.Proof.KI.Base
public import proofs.«01_k».proof.Proof.KI.Loops

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

/-- The lanes of the word buffers past the data are zero. -/
structure Pads (d12 : Vec Ideal S2304x128 .f32) (d13 : Vec Ideal S1280x2x128 .bf16) (d14 : Vec Ideal S1280x2x128 .bf16) (d16 : Vec Ideal S64x128 .f32) : Prop where
  p12 : ∀ j : S2304x128.Idx, 96 ≤ co j 1 → d12 j = ((0 : ℝ) : EReal)
  p13 : ∀ j : S1280x2x128.Idx, 96 ≤ co j 2 → d13 j = ((0 : ℝ) : EReal)
  p14 : ∀ j : S1280x2x128.Idx, 96 ≤ co j 2 → d14 j = ((0 : ℝ) : EReal)
  p16 : ∀ j : S64x128.Idx, 28 ≤ co j 1 → d16 j = ((0 : ℝ) : EReal)

/-- The input blocks of a point hold the numbers of `X` and `D`, the start state `H` and the weights `b`. -/
structure Blocks (X : Src) (D : Blk) (H : ℕ → ℕ → ℕ → ℝ) (b : ℕ → ℕ → ℝ) (x2 : Vec Ideal S896 .f32) (x3 : Vec Ideal S896 .f32) (x4 : Vec Ideal S1x64x28x96 .fp8e4m3) (x5 : Vec Ideal S1x64x28x96 .fp8e4m3) (x6 : Vec Ideal S1x64x28x128 .bf16) (x7 : Vec Ideal S1x64x28x96 .f32) (x8 : Vec Ideal S1x64x28 .f32) (x9 : Vec Ideal S1x28x96x128 .f32) : Prop where
  h2 : ∀ j : S896.Idx, x2 j = ((D.qa (j 0).val : ℝ) : EReal)
  h3 : ∀ j : S896.Idx, x3 j = ((D.ka (j 0).val : ℝ) : EReal)
  h4 : At (α := EReal) x4 (rd4 fun _ t h l => X.q t h l)
  h5 : At (α := EReal) x5 (rd4 fun _ t h l => X.k t h l)
  h6 : At x6 (rd4 fun _ t h l => X.v t h l)
  h7 : At x7 (rd4 fun _ t h l => X.g t h l)
  h8 : At x8 (rd3 fun _ t h => b t h)
  h9 : At x9 (rd4 fun _ h r l => H h r l)

/-- The block of rows that a point leaves. -/
def outO (D : Blk) (cs : ℝ) : Vec Ideal S1x64x3584 .bf16 := fun j => rd3 (fun _ r c => D.o (c / 128) cs r (c % 128)) (co j)
/-- The states that a sequence leaves. -/
def outS (D : Blk) : Vec Ideal S1x28x96x128 .f32 := fun j => rd4 (fun _ h r l => D.s h r l) (co j)

/-- What is held after a point. -/
def PostV (c : Dev nD) (arg2 : Memref sig .tc .smem S896 .f32) (arg3 : Memref sig .tc .smem S896 .f32) (arg4 : Memref sig .tc .vmem S1x64x28x96 .fp8e4m3) (arg5 : Memref sig .tc .vmem S1x64x28x96 .fp8e4m3) (arg6 : Memref sig .tc .vmem S1x64x28x128 .bf16) (arg7 : Memref sig .tc .vmem S1x64x28x96 .f32) (arg8 : Memref sig .tc .vmem S1x64x28 .f32) (arg9 : Memref sig .tc .vmem S1x28x96x128 .f32) (arg10 : Memref sig .tc .vmem S1x64x3584 .bf16) (arg11 : Memref sig .tc .vmem S1x28x96x128 .f32) (arg12 : Memref sig .tc .vmem S2304x128 .f32) (arg13 : Memref sig .tc .vmem S1280x2x128 .bf16) (arg14 : Memref sig .tc .vmem S1280x2x128 .bf16) (arg15 : Memref sig .tc .vmem S1280x2x128 .bf16) (arg16 : Memref sig .tc .vmem S64x128 .f32) (arg17 : Memref sig .tc .vmem S28x96x128 .f32) (D : Blk) (cs : ℝ) (x2 : Vec Ideal S896 .f32) (x3 : Vec Ideal S896 .f32) (x4 : Vec Ideal S1x64x28x96 .fp8e4m3) (x5 : Vec Ideal S1x64x28x96 .fp8e4m3) (x6 : Vec Ideal S1x64x28x128 .bf16) (x7 : Vec Ideal S1x64x28x96 .f32) (x8 : Vec Ideal S1x64x28 .f32) (x9 : Vec Ideal S1x28x96x128 .f32) (x11 : Vec Ideal S1x28x96x128 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (outO D cs) ∗ owns (c : Thread nD τ) arg11 fullShare x11
    ∗ ∃ (d12 : Vec Ideal S2304x128 .f32) (d13 : Vec Ideal S1280x2x128 .bf16) (d14 : Vec Ideal S1280x2x128 .bf16) (d15 : Vec Ideal S1280x2x128 .bf16) (d16 : Vec Ideal S64x128 .f32) (d17 : Vec Ideal S28x96x128 .f32), ⌜Pads d12 d13 d14 d16 ∧ At d17 (rd3 D.s)⌝ ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17)

theorem At.of_eq {α : Type} {s : Shape} {x y : s.Idx → α} {f : (ℕ → ℕ) → α} (e : x = y) (h : At y f) : At x f := e ▸ h

/-- A store over the whole of a buffer leaves what was stored. -/
theorem full_store {sg : RefSig} {κ : Kind} {sp : Space} {s : Shape} {e : EltTy} {Val : EltTy → Type} (v : View sg κ sp s e) (f : v.ty.Contents Val) {off : Fin s.rank → ℕ} (inb : ∀ a, off a + s.size a ≤ s.size a)
    (x : s.Idx → Val e) : v.read Val (v.writes Val f [⟨Rect.unit off s.size inb, x⟩]) = x := by
  funext y
  have h := View.read_writes_cons_emb v f (Rect.unit off s.size inb) x [] y
  have e : (Rect.unit off s.size inb).emb y = y := funext fun a => Fin.ext (by
    show off a + 1 * (y a).val = (y a).val
    have := inb a; omega)
  rw [e] at h
  exact h

theorem pads_upto {D : Blk} {X : Src} (hF : Fits X D) (arg12 : Memref sig .tc .vmem S2304x128 .f32) (arg13 : Memref sig .tc .vmem S1280x2x128 .bf16) (arg14 : Memref sig .tc .vmem S1280x2x128 .bf16) (arg15 : Memref sig .tc .vmem S1280x2x128 .bf16) {f12 : BufTy.Contents (Elt Ideal) arg12.view.ty} {f13 : BufTy.Contents (Elt Ideal) arg13.view.ty} {f14 : BufTy.Contents (Elt Ideal) arg14.view.ty} {f15 : BufTy.Contents (Elt Ideal) arg15.view.ty}
    (h12 : ∀ j : S2304x128.Idx, 96 ≤ co j 1 → arg12.view.read (Elt Ideal) f12 j = ((0 : ℝ) : EReal))
    (h13 : ∀ j : S1280x2x128.Idx, 96 ≤ co j 2 → arg13.view.read (Elt Ideal) f13 j = ((0 : ℝ) : EReal))
    (h14 : ∀ j : S1280x2x128.Idx, 96 ≤ co j 2 → arg14.view.read (Elt Ideal) f14 j = ((0 : ℝ) : EReal)) : Upto arg12 arg13 arg14 arg15 D 0 f12 f13 f14 f15 :=
  ⟨fun j hj => by
      have hj : 96 ≤ co j 1 := by omega
      rw [h12 j hj]; unfold rd; dsimp only; rw [hF.hG, if_neg (by omega)],
    fun j hj => by
      have hj : 96 ≤ co j 2 := by omega
      rw [h13 j hj]; unfold rd3; dsimp only; rw [hF.hQ, if_neg (by omega)],
    fun j hj => by
      have hj : 96 ≤ co j 2 := by omega
      rw [h14 j hj]; unfold rd3; dsimp only; rw [hF.hK, if_neg (by omega)], fun j hj => absurd hj.2 (by omega)⟩

theorem upto_pads {D : Blk} {X : Src} (hF : Fits X D) (arg12 : Memref sig .tc .vmem S2304x128 .f32) (arg13 : Memref sig .tc .vmem S1280x2x128 .bf16) (arg14 : Memref sig .tc .vmem S1280x2x128 .bf16) (arg15 : Memref sig .tc .vmem S1280x2x128 .bf16) {f12 : BufTy.Contents (Elt Ideal) arg12.view.ty} {f13 : BufTy.Contents (Elt Ideal) arg13.view.ty} {f14 : BufTy.Contents (Elt Ideal) arg14.view.ty} {f15 : BufTy.Contents (Elt Ideal) arg15.view.ty} (h : Upto arg12 arg13 arg14 arg15 D 64 f12 f13 f14 f15)
    {d16 : Vec Ideal S64x128 .f32} {b : ℕ → ℕ → ℝ} (h16 : At d16 (rd fun r h => if h < 28 then b r h else 0)) : Pads (arg12.view.read (Elt Ideal) f12) (arg13.view.read (Elt Ideal) f13) (arg14.view.read (Elt Ideal) f14) d16 :=
  ⟨fun j hj => by rw [h.h12 j (.inr hj)]; unfold rd; dsimp only; rw [hF.hG, if_neg (by omega)],
    fun j hj => by rw [h.h13 j (.inr hj)]; unfold rd3; dsimp only; rw [hF.hQ, if_neg (by omega)],
    fun j hj => by rw [h.h14 j (.inr hj)]; unfold rd3; dsimp only; rw [hF.hK, if_neg (by omega)],
    fun j hj => by rw [h16 j]; unfold rd; dsimp only; rw [if_neg (by omega)]⟩

/-- The store of the weights beside zero lanes. -/
theorem st16 (arg16 : Memref sig .tc .vmem S64x128 .f32) (f16 : BufTy.Contents (Elt Ideal) arg16.view.ty) (h : ∀ j : S64x128.Idx, 28 ≤ co j 1 → arg16.view.read (Elt Ideal) f16 j = ((0 : ℝ) : EReal))
    (inb : _) {x : S64x28.Idx → EReal} {b : ℕ → ℕ → ℝ} (hx : At x (rd b)) :
    At (s := S64x128) (arg16.view.read (Elt Ideal) (arg16.view.writes (Elt Ideal) f16 [⟨Rect.unit (s := S64x128) ![0, 0] S64x28.size inb, x⟩])) (rd fun r h => if h < 28 then b r h else 0) := fun i => by
  rw [View.read_writes_cons_put _ _ _ _ _ rfl, View.writes_nil]
  refine on_put2 (P := fun _ _ => True) (a := 0) (b := 0) (n₁ := 64) (m₁ := 28) rfl rfl rfl rfl hx (fun j hj _ => ?_) (fun r l hr hl _ => ?_) i trivial
  · have j0 : co j 0 < 64 := by have j0 := co_lt j 0 (by decide); exact j0
    have j1 : 28 ≤ co j 1 := by omega
    rw [h j j1]; unfold rd; dsimp only; rw [if_neg (by omega)]
  · rw [Nat.zero_add, Nat.zero_add, if_pos hl]

set_option maxHeartbeats 3200000 in
/-- A point in the middle of a sequence. -/
theorem valB (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole) {X : Src} {D : Blk} {H : ℕ → ℕ → ℕ → ℝ} {b : ℕ → ℕ → ℝ} {cs : ℝ}
    {x2 : Vec Ideal S896 .f32} {x3 : Vec Ideal S896 .f32} {x4 : Vec Ideal S1x64x28x96 .fp8e4m3} {x5 : Vec Ideal S1x64x28x96 .fp8e4m3} {x6 : Vec Ideal S1x64x28x128 .bf16} {x7 : Vec Ideal S1x64x28x96 .f32} {x8 : Vec Ideal S1x64x28 .f32} {x9 : Vec Ideal S1x28x96x128 .f32} {d10 : Vec Ideal S1x64x3584 .bf16} {d11 : Vec Ideal S1x28x96x128 .f32} {d12 : Vec Ideal S2304x128 .f32} {d13 : Vec Ideal S1280x2x128 .bf16} {d14 : Vec Ideal S1280x2x128 .bf16} {d15 : Vec Ideal S1280x2x128 .bf16} {d16 : Vec Ideal S64x128 .f32} {d17 : Vec Ideal S28x96x128 .f32} (hF : Fits X D) (hX : Blocks X D H b x2 x3 x4 x5 x6 x7 x8 x9) (hB : ∀ r h, D.B r h = if h < 28 then b r h else 0) (hb : D.base = ((i 0).val * 4 + (i 1).val) * 28)
    (hcs : Ideal.ofBits .f32 0x3DD105EC#32 = ((cs : ℝ) : EReal)) (hp : Pads d12 d13 d14 d16) (h17 : At d17 (rd3 D.S)) (hc0 : ¬ cond0_0 i) (hc1 : ¬ cond0_1 i) (hc2 : ¬ cond0_2 i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ (PostV c arg2 arg3 arg4 arg5 arg6 arg7 arg8 arg9 arg10 arg11 arg12 arg13 arg14 arg15 arg16 arg17 D cs x2 x3 x4 x5 x6 x7 x8 x9 d11 -∗ K ⟨⟩)) ⊢ wp frame (wpE (defs₀ (F := Ideal)) Variants.none (c : Thread nD τ) none) E (cc0_kda (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  unfold k0_part33_skel
  have hc0' := hc0
  unfold cond0_0 at hc0'
  have hc1' := hc1
  unfold cond0_1 at hc1'
  have hc2' := hc2
  unfold cond0_2 at hc2'
  simp (config := {proj := false}) only [dif_neg hc0', dif_neg hc1', dif_neg hc2', bind_assoc, pure_bind, Prog.lift, Prog.bind_op, Prog.bind_ret, Prog.pure_eq_ret]
  sl_step
  sl_step
  sl_step
  have hI : Ins arg4 arg5 arg6 arg7 X f4 f5 f6 f7 := ⟨At.of_eq hf4 hX.h4, At.of_eq hf5 hX.h5, At.of_eq hf6 hX.h6, At.of_eq hf7 hX.h7⟩
  have hDB : D.B = fun r h => if h < 28 then b r h else 0 := funext fun r => funext fun h => hB r h
  have K16 := st16 arg16 f16 (fun j hj => by rw [hf16]; exact hp.p16 j hj) inb_S64x128_S64x28_0_0 (pay217_at (At.of_eq ((View.readAt_full arg8.view f8 inb_S1x64x28_S1x64x28_0_0_0).trans hf8) hX.h8))
  have K16' := K16
  rw [← hDB] at K16'
  have KU := pads_upto hF arg12 arg13 arg14 arg15 (f12 := f12) (f13 := f13) (f14 := f14) (f15 := f15) (fun j hj => by rw [hf12]; exact hp.p12 j hj) (fun j hj => by rw [hf13]; exact hp.p13 j hj) (fun j hj => by rw [hf14]; exact hp.p14 j hj)
  have K17 : At (s := S28x96x128) (arg17.view.read (Elt Ideal) f17) (rd3 D.S) := (At.of_eq hf17 h17)
  have k2 : ∀ j : S896.Idx, arg2.view.read (Elt Ideal) f2 j = ((D.qa (j 0).val : ℝ) : EReal) := fun j => (congrFun hf2 j).trans (hX.h2 j)
  have k3 : ∀ j : S896.Idx, arg3.view.read (Elt Ideal) f3 j = ((D.ka (j 0).val : ℝ) : EReal) := fun j => (congrFun hf3 j).trans (hX.h3 j)
  iapply (loops_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hF hI hb hcs (f8 := f8) (f9 := f9) (f10 := f10) (f11 := f11) k2 k3 K16' KU K17 (P := iprop(PostV c arg2 arg3 arg4 arg5 arg6 arg7 arg8 arg9 arg10 arg11 arg12 arg13 arg14 arg15 arg16 arg17 D cs x2 x3 x4 x5 x6 x7 x8 x9 d11 -∗ K ⟨⟩)) (fun g10 g12 g13 g14 g15 g17 k10 ku k17 => ?_))
  · unfold ResA
    iintro ⟨⟨H2, H3, H4, H5, H6, H7, H8, H9, H10, H11, H12, H13, H14, H15, H16, H17⟩, Hk⟩
    sl_step
    iapply Hk
    unfold PostV owns
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact funext k10
      iexact H10
    isplitl [H11]
    · iexists _; isplitr
      · ipureintro; exact hf11
      iexact H11
    iexists (arg12.view.read (Elt Ideal) g12), (arg13.view.read (Elt Ideal) g13), (arg14.view.read (Elt Ideal) g14), (arg15.view.read (Elt Ideal) g15), (arg16.view.read (Elt Ideal) _), (arg17.view.read (Elt Ideal) g17)
    isplitr
    · ipureintro
      exact ⟨upto_pads hF arg12 arg13 arg14 arg15 ku K16, k17⟩
    isplitl [H12]
    · iexists _; isplitr
      · ipureintro; rfl
      iexact H12
    isplitl [H13]
    · iexists _; isplitr
      · ipureintro; rfl
      iexact H13
    isplitl [H14]
    · iexists _; isplitr
      · ipureintro; rfl
      iexact H14
    isplitl [H15]
    · iexists _; isplitr
      · ipureintro; rfl
      iexact H15
    isplitl [H16]
    · iexists _; isplitr
      · ipureintro; rfl
      iexact H16
    iexists _; isplitr
    · ipureintro; rfl
    iexact H17
  isplitr [Hk]
  · unfold ResA
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hk

set_option maxHeartbeats 3200000 in
/-- The last point of a sequence. -/
theorem valC (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole) {X : Src} {D : Blk} {H : ℕ → ℕ → ℕ → ℝ} {b : ℕ → ℕ → ℝ} {cs : ℝ}
    {x2 : Vec Ideal S896 .f32} {x3 : Vec Ideal S896 .f32} {x4 : Vec Ideal S1x64x28x96 .fp8e4m3} {x5 : Vec Ideal S1x64x28x96 .fp8e4m3} {x6 : Vec Ideal S1x64x28x128 .bf16} {x7 : Vec Ideal S1x64x28x96 .f32} {x8 : Vec Ideal S1x64x28 .f32} {x9 : Vec Ideal S1x28x96x128 .f32} {d10 : Vec Ideal S1x64x3584 .bf16} {d11 : Vec Ideal S1x28x96x128 .f32} {d12 : Vec Ideal S2304x128 .f32} {d13 : Vec Ideal S1280x2x128 .bf16} {d14 : Vec Ideal S1280x2x128 .bf16} {d15 : Vec Ideal S1280x2x128 .bf16} {d16 : Vec Ideal S64x128 .f32} {d17 : Vec Ideal S28x96x128 .f32} (hF : Fits X D) (hX : Blocks X D H b x2 x3 x4 x5 x6 x7 x8 x9) (hB : ∀ r h, D.B r h = if h < 28 then b r h else 0) (hb : D.base = ((i 0).val * 4 + (i 1).val) * 28)
    (hcs : Ideal.ofBits .f32 0x3DD105EC#32 = ((cs : ℝ) : EReal)) (hp : Pads d12 d13 d14 d16) (h17 : At d17 (rd3 D.S)) (hc0 : ¬ cond0_0 i) (hc1 : ¬ cond0_1 i) (hc2 : cond0_2 i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ (PostV c arg2 arg3 arg4 arg5 arg6 arg7 arg8 arg9 arg10 arg11 arg12 arg13 arg14 arg15 arg16 arg17 D cs x2 x3 x4 x5 x6 x7 x8 x9 (outS D) -∗ K ⟨⟩)) ⊢ wp frame (wpE (defs₀ (F := Ideal)) Variants.none (c : Thread nD τ) none) E (cc0_kda (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  unfold k0_part33_skel
  have hc0' := hc0
  unfold cond0_0 at hc0'
  have hc1' := hc1
  unfold cond0_1 at hc1'
  have hc2' := hc2
  unfold cond0_2 at hc2'
  simp (config := {proj := false}) only [dif_neg hc0', dif_neg hc1', dif_pos hc2', bind_assoc, pure_bind, Prog.lift, Prog.bind_op, Prog.bind_ret, Prog.pure_eq_ret]
  sl_step
  sl_step
  sl_step
  have hI : Ins arg4 arg5 arg6 arg7 X f4 f5 f6 f7 := ⟨At.of_eq hf4 hX.h4, At.of_eq hf5 hX.h5, At.of_eq hf6 hX.h6, At.of_eq hf7 hX.h7⟩
  have hDB : D.B = fun r h => if h < 28 then b r h else 0 := funext fun r => funext fun h => hB r h
  have K16 := st16 arg16 f16 (fun j hj => by rw [hf16]; exact hp.p16 j hj) inb_S64x128_S64x28_0_0 (pay217_at (At.of_eq ((View.readAt_full arg8.view f8 inb_S1x64x28_S1x64x28_0_0_0).trans hf8) hX.h8))
  have K16' := K16
  rw [← hDB] at K16'
  have KU := pads_upto hF arg12 arg13 arg14 arg15 (f12 := f12) (f13 := f13) (f14 := f14) (f15 := f15) (fun j hj => by rw [hf12]; exact hp.p12 j hj) (fun j hj => by rw [hf13]; exact hp.p13 j hj) (fun j hj => by rw [hf14]; exact hp.p14 j hj)
  have K17 : At (s := S28x96x128) (arg17.view.read (Elt Ideal) f17) (rd3 D.S) := (At.of_eq hf17 h17)
  have k2 : ∀ j : S896.Idx, arg2.view.read (Elt Ideal) f2 j = ((D.qa (j 0).val : ℝ) : EReal) := fun j => (congrFun hf2 j).trans (hX.h2 j)
  have k3 : ∀ j : S896.Idx, arg3.view.read (Elt Ideal) f3 j = ((D.ka (j 0).val : ℝ) : EReal) := fun j => (congrFun hf3 j).trans (hX.h3 j)
  iapply (loops_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hF hI hb hcs (f8 := f8) (f9 := f9) (f10 := f10) (f11 := f11) k2 k3 K16' KU K17 (P := iprop(PostV c arg2 arg3 arg4 arg5 arg6 arg7 arg8 arg9 arg10 arg11 arg12 arg13 arg14 arg15 arg16 arg17 D cs x2 x3 x4 x5 x6 x7 x8 x9 (outS D) -∗ K ⟨⟩)) (fun g10 g12 g13 g14 g15 g17 k10 ku k17 => ?_))
  · unfold ResA
    iintro ⟨⟨H2, H3, H4, H5, H6, H7, H8, H9, H10, H11, H12, H13, H14, H15, H16, H17⟩, Hk⟩
    sl_step
    sl_step
    sl_step
    sl_step
    iapply Hk
    unfold PostV owns
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact funext k10
      iexact H10
    isplitl [H11]
    · iexists _; isplitr
      · ipureintro; exact (full_store arg11.view f11 inb_S1x28x96x128_S1x28x96x128_0_0_0_0 _).trans (funext (pay224_at (At.of_eq (View.readAt_full arg17.view g17 inb_S28x96x128_S28x96x128_0_0_0) k17)))
      iexact H11
    iexists (arg12.view.read (Elt Ideal) g12), (arg13.view.read (Elt Ideal) g13), (arg14.view.read (Elt Ideal) g14), (arg15.view.read (Elt Ideal) g15), (arg16.view.read (Elt Ideal) _), (arg17.view.read (Elt Ideal) g17)
    isplitr
    · ipureintro
      exact ⟨upto_pads hF arg12 arg13 arg14 arg15 ku K16, k17⟩
    isplitl [H12]
    · iexists _; isplitr
      · ipureintro; rfl
      iexact H12
    isplitl [H13]
    · iexists _; isplitr
      · ipureintro; rfl
      iexact H13
    isplitl [H14]
    · iexists _; isplitr
      · ipureintro; rfl
      iexact H14
    isplitl [H15]
    · iexists _; isplitr
      · ipureintro; rfl
      iexact H15
    isplitl [H16]
    · iexists _; isplitr
      · ipureintro; rfl
      iexact H16
    iexists _; isplitr
    · ipureintro; rfl
    iexact H17
  isplitr [Hk]
  · unfold ResA
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hk

set_option maxHeartbeats 3200000 in
/-- The first point of a later sequence. -/
theorem valD (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole) {X : Src} {D : Blk} {H : ℕ → ℕ → ℕ → ℝ} {b : ℕ → ℕ → ℝ} {cs : ℝ}
    {x2 : Vec Ideal S896 .f32} {x3 : Vec Ideal S896 .f32} {x4 : Vec Ideal S1x64x28x96 .fp8e4m3} {x5 : Vec Ideal S1x64x28x96 .fp8e4m3} {x6 : Vec Ideal S1x64x28x128 .bf16} {x7 : Vec Ideal S1x64x28x96 .f32} {x8 : Vec Ideal S1x64x28 .f32} {x9 : Vec Ideal S1x28x96x128 .f32} {d10 : Vec Ideal S1x64x3584 .bf16} {d11 : Vec Ideal S1x28x96x128 .f32} {d12 : Vec Ideal S2304x128 .f32} {d13 : Vec Ideal S1280x2x128 .bf16} {d14 : Vec Ideal S1280x2x128 .bf16} {d15 : Vec Ideal S1280x2x128 .bf16} {d16 : Vec Ideal S64x128 .f32} {d17 : Vec Ideal S28x96x128 .f32} (hF : Fits X D) (hX : Blocks X D H b x2 x3 x4 x5 x6 x7 x8 x9) (hB : ∀ r h, D.B r h = if h < 28 then b r h else 0) (hb : D.base = ((i 0).val * 4 + (i 1).val) * 28)
    (hcs : Ideal.ofBits .f32 0x3DD105EC#32 = ((cs : ℝ) : EReal)) (hp : Pads d12 d13 d14 d16) (hH : ∀ h r l, D.S h r l = H h r l) (hc0 : ¬ cond0_0 i) (hc1 : cond0_1 i) (hc2 : ¬ cond0_2 i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ (PostV c arg2 arg3 arg4 arg5 arg6 arg7 arg8 arg9 arg10 arg11 arg12 arg13 arg14 arg15 arg16 arg17 D cs x2 x3 x4 x5 x6 x7 x8 x9 d11 -∗ K ⟨⟩)) ⊢ wp frame (wpE (defs₀ (F := Ideal)) Variants.none (c : Thread nD τ) none) E (cc0_kda (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  unfold k0_part33_skel
  have hc0' := hc0
  unfold cond0_0 at hc0'
  have hc1' := hc1
  unfold cond0_1 at hc1'
  have hc2' := hc2
  unfold cond0_2 at hc2'
  simp (config := {proj := false}) only [dif_neg hc0', dif_pos hc1', dif_neg hc2', bind_assoc, pure_bind, Prog.lift, Prog.bind_op, Prog.bind_ret, Prog.pure_eq_ret]
  sl_step
  sl_step
  sl_step
  sl_step
  sl_step
  sl_step
  have hI : Ins arg4 arg5 arg6 arg7 X f4 f5 f6 f7 := ⟨At.of_eq hf4 hX.h4, At.of_eq hf5 hX.h5, At.of_eq hf6 hX.h6, At.of_eq hf7 hX.h7⟩
  have hDB : D.B = fun r h => if h < 28 then b r h else 0 := funext fun r => funext fun h => hB r h
  have K16 := st16 arg16 f16 (fun j hj => by rw [hf16]; exact hp.p16 j hj) inb_S64x128_S64x28_0_0 (pay217_at (At.of_eq ((View.readAt_full arg8.view f8 inb_S1x64x28_S1x64x28_0_0_0).trans hf8) hX.h8))
  have K16' := K16
  rw [← hDB] at K16'
  have KU := pads_upto hF arg12 arg13 arg14 arg15 (f12 := f12) (f13 := f13) (f14 := f14) (f15 := f15) (fun j hj => by rw [hf12]; exact hp.p12 j hj) (fun j hj => by rw [hf13]; exact hp.p13 j hj) (fun j hj => by rw [hf14]; exact hp.p14 j hj)
  have K17 : At (s := S28x96x128) (arg17.view.read (Elt Ideal) (arg17.view.writes (Elt Ideal) f17 [⟨Rect.unit (s := S28x96x128) ![0, 0, 0] S28x96x128.size inb_S28x96x128_S28x96x128_0_0_0, k0_pay216 (F := Ideal) (View.readAt (Elt Ideal) arg9.view (Rect.unit (s := S1x28x96x128) ![0, 0, 0, 0] S1x28x96x128.size inb_S1x28x96x128_S1x28x96x128_0_0_0_0).toLoadRect f9)⟩])) (rd3 D.S) := ((At.of_eq (full_store arg17.view f17 inb_S28x96x128_S28x96x128_0_0_0 _) (pay216_at (At.of_eq ((View.readAt_full arg9.view f9 inb_S1x28x96x128_S1x28x96x128_0_0_0_0).trans hf9) hX.h9))).congr fun x => by unfold rd3; dsimp only; rw [hH])
  have k2 : ∀ j : S896.Idx, arg2.view.read (Elt Ideal) f2 j = ((D.qa (j 0).val : ℝ) : EReal) := fun j => (congrFun hf2 j).trans (hX.h2 j)
  have k3 : ∀ j : S896.Idx, arg3.view.read (Elt Ideal) f3 j = ((D.ka (j 0).val : ℝ) : EReal) := fun j => (congrFun hf3 j).trans (hX.h3 j)
  iapply (loops_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hF hI hb hcs (f8 := f8) (f9 := f9) (f10 := f10) (f11 := f11) k2 k3 K16' KU K17 (P := iprop(PostV c arg2 arg3 arg4 arg5 arg6 arg7 arg8 arg9 arg10 arg11 arg12 arg13 arg14 arg15 arg16 arg17 D cs x2 x3 x4 x5 x6 x7 x8 x9 d11 -∗ K ⟨⟩)) (fun g10 g12 g13 g14 g15 g17 k10 ku k17 => ?_))
  · unfold ResA
    iintro ⟨⟨H2, H3, H4, H5, H6, H7, H8, H9, H10, H11, H12, H13, H14, H15, H16, H17⟩, Hk⟩
    sl_step
    iapply Hk
    unfold PostV owns
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact funext k10
      iexact H10
    isplitl [H11]
    · iexists _; isplitr
      · ipureintro; exact hf11
      iexact H11
    iexists (arg12.view.read (Elt Ideal) g12), (arg13.view.read (Elt Ideal) g13), (arg14.view.read (Elt Ideal) g14), (arg15.view.read (Elt Ideal) g15), (arg16.view.read (Elt Ideal) _), (arg17.view.read (Elt Ideal) g17)
    isplitr
    · ipureintro
      exact ⟨upto_pads hF arg12 arg13 arg14 arg15 ku K16, k17⟩
    isplitl [H12]
    · iexists _; isplitr
      · ipureintro; rfl
      iexact H12
    isplitl [H13]
    · iexists _; isplitr
      · ipureintro; rfl
      iexact H13
    isplitl [H14]
    · iexists _; isplitr
      · ipureintro; rfl
      iexact H14
    isplitl [H15]
    · iexists _; isplitr
      · ipureintro; rfl
      iexact H15
    isplitl [H16]
    · iexists _; isplitr
      · ipureintro; rfl
      iexact H16
    iexists _; isplitr
    · ipureintro; rfl
    iexact H17
  isplitr [Hk]
  · unfold ResA
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hk

set_option maxHeartbeats 3200000 in
/-- The first point of all. -/
theorem valA (c : Dev nD) (i : grid0.Coords) (arg2 : Memref sig .tc .smem S896 .f32) (harg2 : arg2.IsWhole) (arg3 : Memref sig .tc .smem S896 .f32) (harg3 : arg3.IsWhole) (arg4 : Memref sig .tc .vmem S1x64x28x96 .fp8e4m3) (harg4 : arg4.IsWhole) (arg5 : Memref sig .tc .vmem S1x64x28x96 .fp8e4m3) (harg5 : arg5.IsWhole) (arg6 : Memref sig .tc .vmem S1x64x28x128 .bf16) (harg6 : arg6.IsWhole) (arg7 : Memref sig .tc .vmem S1x64x28x96 .f32) (harg7 : arg7.IsWhole) (arg8 : Memref sig .tc .vmem S1x64x28 .f32) (harg8 : arg8.IsWhole) (arg9 : Memref sig .tc .vmem S1x28x96x128 .f32) (harg9 : arg9.IsWhole) (arg10 : Memref sig .tc .vmem S1x64x3584 .bf16) (harg10 : arg10.IsWhole) (arg11 : Memref sig .tc .vmem S1x28x96x128 .f32) (harg11 : arg11.IsWhole) (arg12 : Memref sig .tc .vmem S2304x128 .f32) (harg12 : arg12.IsWhole) (arg13 : Memref sig .tc .vmem S1280x2x128 .bf16) (harg13 : arg13.IsWhole) (arg14 : Memref sig .tc .vmem S1280x2x128 .bf16) (harg14 : arg14.IsWhole) (arg15 : Memref sig .tc .vmem S1280x2x128 .bf16) (harg15 : arg15.IsWhole) (arg16 : Memref sig .tc .vmem S64x128 .f32) (harg16 : arg16.IsWhole) (arg17 : Memref sig .tc .vmem S28x96x128 .f32) (harg17 : arg17.IsWhole) {X : Src} {D : Blk} {H : ℕ → ℕ → ℕ → ℝ} {b : ℕ → ℕ → ℝ} {cs : ℝ}
    {x2 : Vec Ideal S896 .f32} {x3 : Vec Ideal S896 .f32} {x4 : Vec Ideal S1x64x28x96 .fp8e4m3} {x5 : Vec Ideal S1x64x28x96 .fp8e4m3} {x6 : Vec Ideal S1x64x28x128 .bf16} {x7 : Vec Ideal S1x64x28x96 .f32} {x8 : Vec Ideal S1x64x28 .f32} {x9 : Vec Ideal S1x28x96x128 .f32} {d10 : Vec Ideal S1x64x3584 .bf16} {d11 : Vec Ideal S1x28x96x128 .f32} {d12 : Vec Ideal S2304x128 .f32} {d13 : Vec Ideal S1280x2x128 .bf16} {d14 : Vec Ideal S1280x2x128 .bf16} {d15 : Vec Ideal S1280x2x128 .bf16} {d16 : Vec Ideal S64x128 .f32} {d17 : Vec Ideal S28x96x128 .f32} (hF : Fits X D) (hX : Blocks X D H b x2 x3 x4 x5 x6 x7 x8 x9) (hB : ∀ r h, D.B r h = if h < 28 then b r h else 0) (hb : D.base = ((i 0).val * 4 + (i 1).val) * 28)
    (hcs : Ideal.ofBits .f32 0x3DD105EC#32 = ((cs : ℝ) : EReal)) (hH : ∀ h r l, D.S h r l = H h r l) (hc0 : cond0_0 i) (hc1 : cond0_1 i) (hc2 : ¬ cond0_2 i) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare d10 ∗ owns (c : Thread nD τ) arg11 fullShare d11 ∗ owns (c : Thread nD τ) arg12 fullShare d12 ∗ owns (c : Thread nD τ) arg13 fullShare d13 ∗ owns (c : Thread nD τ) arg14 fullShare d14 ∗ owns (c : Thread nD τ) arg15 fullShare d15 ∗ owns (c : Thread nD τ) arg16 fullShare d16 ∗ owns (c : Thread nD τ) arg17 fullShare d17 ∗ (PostV c arg2 arg3 arg4 arg5 arg6 arg7 arg8 arg9 arg10 arg11 arg12 arg13 arg14 arg15 arg16 arg17 D cs x2 x3 x4 x5 x6 x7 x8 x9 d11 -∗ K ⟨⟩)) ⊢ wp frame (wpE (defs₀ (F := Ideal)) Variants.none (c : Thread nD τ) none) E (cc0_kda (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [cc0_kda_eq_skeleton]; unfold cc0_kda_skel
  rw [k0_part33_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
  unfold k0_part33_skel
  have hc0' := hc0
  unfold cond0_0 at hc0'
  have hc1' := hc1
  unfold cond0_1 at hc1'
  have hc2' := hc2
  unfold cond0_2 at hc2'
  simp (config := {proj := false}) only [dif_pos hc0', dif_pos hc1', dif_neg hc2', bind_assoc, pure_bind, Prog.lift, Prog.bind_op, Prog.bind_ret, Prog.pure_eq_ret]
  sl_step
  sl_step
  sl_step
  sl_step
  sl_step
  sl_step
  sl_step
  sl_step
  sl_step
  sl_step
  sl_step
  sl_step
  sl_step
  sl_step
  have hI : Ins arg4 arg5 arg6 arg7 X f4 f5 f6 f7 := ⟨At.of_eq hf4 hX.h4, At.of_eq hf5 hX.h5, At.of_eq hf6 hX.h6, At.of_eq hf7 hX.h7⟩
  have hDB : D.B = fun r h => if h < 28 then b r h else 0 := funext fun r => funext fun h => hB r h
  have K16 := st16 arg16 (arg16.view.writes (Elt Ideal) f16 [⟨Rect.unit (s := S64x128) ![0, 0] S64x128.size inb_S64x128_S64x128_0_0, k0_pay215 (F := Ideal)⟩]) (fun j hj => (congrFun (full_store arg16.view f16 inb_S64x128_S64x128_0_0 _) j).trans (pay215_at j)) inb_S64x128_S64x28_0_0 (pay217_at (At.of_eq ((View.readAt_full arg8.view f8 inb_S1x64x28_S1x64x28_0_0_0).trans hf8) hX.h8))
  have K16' := K16
  rw [← hDB] at K16'
  have KU := pads_upto hF arg12 arg13 arg14 arg15 (f12 := (arg12.view.writes (Elt Ideal) f12 [⟨Rect.unit (s := S2304x128) ![0, 0] S2304x128.size inb_S2304x128_S2304x128_0_0, k0_pay214 (F := Ideal)⟩])) (f13 := (arg13.view.writes (Elt Ideal) f13 [⟨Rect.unit (s := S1280x2x128) ![0, 0, 0] S1280x2x128.size inb_S1280x2x128_S1280x2x128_0_0_0, constant (F := Ideal) S1280x2x128 .bf16 0x0000#16⟩])) (f14 := (arg14.view.writes (Elt Ideal) f14 [⟨Rect.unit (s := S1280x2x128) ![0, 0, 0] S1280x2x128.size inb_S1280x2x128_S1280x2x128_0_0_0, constant (F := Ideal) S1280x2x128 .bf16 0x0000#16⟩])) (f15 := f15) (fun j hj => (congrFun (full_store arg12.view f12 inb_S2304x128_S2304x128_0_0 _) j).trans (pay214_at j)) (fun j hj => (congrFun (full_store arg13.view f13 inb_S1280x2x128_S1280x2x128_0_0_0 _) j).trans (zero_bf16)) (fun j hj => (congrFun (full_store arg14.view f14 inb_S1280x2x128_S1280x2x128_0_0_0 _) j).trans (zero_bf16))
  have K17 : At (s := S28x96x128) (arg17.view.read (Elt Ideal) (arg17.view.writes (Elt Ideal) f17 [⟨Rect.unit (s := S28x96x128) ![0, 0, 0] S28x96x128.size inb_S28x96x128_S28x96x128_0_0_0, k0_pay216 (F := Ideal) (View.readAt (Elt Ideal) arg9.view (Rect.unit (s := S1x28x96x128) ![0, 0, 0, 0] S1x28x96x128.size inb_S1x28x96x128_S1x28x96x128_0_0_0_0).toLoadRect f9)⟩])) (rd3 D.S) := ((At.of_eq (full_store arg17.view f17 inb_S28x96x128_S28x96x128_0_0_0 _) (pay216_at (At.of_eq ((View.readAt_full arg9.view f9 inb_S1x28x96x128_S1x28x96x128_0_0_0_0).trans hf9) hX.h9))).congr fun x => by unfold rd3; dsimp only; rw [hH])
  have k2 : ∀ j : S896.Idx, arg2.view.read (Elt Ideal) f2 j = ((D.qa (j 0).val : ℝ) : EReal) := fun j => (congrFun hf2 j).trans (hX.h2 j)
  have k3 : ∀ j : S896.Idx, arg3.view.read (Elt Ideal) f3 j = ((D.ka (j 0).val : ℝ) : EReal) := fun j => (congrFun hf3 j).trans (hX.h3 j)
  iapply (loops_wp c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hF hI hb hcs (f8 := f8) (f9 := f9) (f10 := f10) (f11 := f11) k2 k3 K16' KU K17 (P := iprop(PostV c arg2 arg3 arg4 arg5 arg6 arg7 arg8 arg9 arg10 arg11 arg12 arg13 arg14 arg15 arg16 arg17 D cs x2 x3 x4 x5 x6 x7 x8 x9 d11 -∗ K ⟨⟩)) (fun g10 g12 g13 g14 g15 g17 k10 ku k17 => ?_))
  · unfold ResA
    iintro ⟨⟨H2, H3, H4, H5, H6, H7, H8, H9, H10, H11, H12, H13, H14, H15, H16, H17⟩, Hk⟩
    sl_step
    iapply Hk
    unfold PostV owns
    isplitl [H2]
    · iexists _; isplitr
      · ipureintro; exact hf2
      iexact H2
    isplitl [H3]
    · iexists _; isplitr
      · ipureintro; exact hf3
      iexact H3
    isplitl [H4]
    · iexists _; isplitr
      · ipureintro; exact hf4
      iexact H4
    isplitl [H5]
    · iexists _; isplitr
      · ipureintro; exact hf5
      iexact H5
    isplitl [H6]
    · iexists _; isplitr
      · ipureintro; exact hf6
      iexact H6
    isplitl [H7]
    · iexists _; isplitr
      · ipureintro; exact hf7
      iexact H7
    isplitl [H8]
    · iexists _; isplitr
      · ipureintro; exact hf8
      iexact H8
    isplitl [H9]
    · iexists _; isplitr
      · ipureintro; exact hf9
      iexact H9
    isplitl [H10]
    · iexists _; isplitr
      · ipureintro; exact funext k10
      iexact H10
    isplitl [H11]
    · iexists _; isplitr
      · ipureintro; exact hf11
      iexact H11
    iexists (arg12.view.read (Elt Ideal) g12), (arg13.view.read (Elt Ideal) g13), (arg14.view.read (Elt Ideal) g14), (arg15.view.read (Elt Ideal) g15), (arg16.view.read (Elt Ideal) _), (arg17.view.read (Elt Ideal) g17)
    isplitr
    · ipureintro
      exact ⟨upto_pads hF arg12 arg13 arg14 arg15 ku K16, k17⟩
    isplitl [H12]
    · iexists _; isplitr
      · ipureintro; rfl
      iexact H12
    isplitl [H13]
    · iexists _; isplitr
      · ipureintro; rfl
      iexact H13
    isplitl [H14]
    · iexists _; isplitr
      · ipureintro; rfl
      iexact H14
    isplitl [H15]
    · iexists _; isplitr
      · ipureintro; rfl
      iexact H15
    isplitl [H16]
    · iexists _; isplitr
      · ipureintro; rfl
      iexact H16
    iexists _; isplitr
    · ipureintro; rfl
    iexact H17
  isplitr [Hk]
  · unfold ResA
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iexact Hk

end Cert.KernelIdeal.Hand

end
-- ==== Proof.KI.Data.lean ====
/-
The input blocks of every point, and the numbers that the points compute.
-/
module

public import proofs.«01_k».proof.Proof.KI.Base
public import proofs.«01_k».proof.Proof.KI.Body
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

/-- The arguments as numbers: codes, gates and values by sequence, row, head and lane; weights by sequence, row and head; start states; scales by sequence, chunk and head. -/
structure In where
  q : ℕ → ℕ → ℕ → ℕ → ℝ
  k : ℕ → ℕ → ℕ → ℕ → ℝ
  v : ℕ → ℕ → ℕ → ℕ → ℝ
  g : ℕ → ℕ → ℕ → ℕ → ℝ
  be : ℕ → ℕ → ℕ → ℝ
  h0 : ℕ → ℕ → ℕ → ℕ → ℝ
  qs : ℕ → ℕ → ℕ → ℝ
  ks : ℕ → ℕ → ℕ → ℝ

variable (I : In)

/-- The rows of point `t`. -/
def In.src (t : ℕ) : Src where
  g a h l := I.g (t / 4) (64 * (t % 4) + a) h l
  q a h l := I.q (t / 4) (64 * (t % 4) + a) h l
  k a h l := I.k (t / 4) (64 * (t % 4) + a) h l
  v a h l := I.v (t / 4) (64 * (t % 4) + a) h l

/-- The chunk of point `t` from the state `S`. -/
def In.blk (t : ℕ) (S : ℕ → ℕ → ℕ → ℝ) : Blk where
  G a h l := if l < 96 then ∑ s ∈ Finset.range (a + 1), I.g (t / 4) (64 * (t % 4) + s) h l else 0
  Q a h l := if l < 96 then I.q (t / 4) (64 * (t % 4) + a) h l else 0
  K a h l := if l < 96 then I.k (t / 4) (64 * (t % 4) + a) h l else 0
  V a h l := I.v (t / 4) (64 * (t % 4) + a) h l
  B r h := if h < 28 then I.be (t / 4) (64 * (t % 4) + r) h else 0
  S := S
  qa p := I.qs (p / 112) (p / 28 % 4) (p % 28)
  ka p := I.ks (p / 112) (p / 28 % 4) (p % 28)
  base := 28 * t

/-- The state that point `t` starts from. -/
def In.st : ℕ → ℕ → ℕ → ℕ → ℝ
  | 0 => I.h0 0
  | t + 1 => if (t + 1) % 4 = 0 then I.h0 ((t + 1) / 4) else fun h r l => (I.blk t (In.st t)).s h r l

/-- The chunk of point `t`. -/
def In.pt (t : ℕ) : Blk := I.blk t (I.st t)

theorem In.fits (t : ℕ) : Fits (I.src t) (I.pt t) := ⟨fun _ _ _ => rfl, fun _ _ _ => rfl, fun _ _ _ => rfl, fun _ _ _ => rfl⟩

theorem In.st_first {t : ℕ} (h : t % 4 = 0) (a b d : ℕ) : (I.pt t).S a b d = I.h0 (t / 4) a b d := by
  show I.st t a b d = _
  cases t with
  | zero => rfl
  | succ n => unfold In.st; rw [if_pos h]

theorem In.st_next {t : ℕ} (h : ¬ t % 4 = 0) : (I.pt t).S = (I.pt (t - 1)).s := by
  show I.st t = _
  cases t with
  | zero => exact absurd rfl h
  | succ n => unfold In.st; rw [if_neg h]; rfl

variable (m : (ℓ : Loc nD τ sig) → Buf (Elt Ideal) ℓ) (c : Dev nD)

/-- The arrays that the windows read hold the numbers. -/
structure Arr : Prop where
  a0 : At (s := S896) (α := EReal) (V m c main_v2) fun j => ((I.qs (j 0 / 112) (j 0 / 28 % 4) (j 0 % 28) : ℝ) : EReal)
  a1 : At (s := S896) (α := EReal) (V m c main_v3) fun j => ((I.ks (j 0 / 112) (j 0 / 28 % 4) (j 0 % 28) : ℝ) : EReal)
  a2 : At (s := S8x256x28x96) (α := EReal) (V m c main_v0) (rd4 I.q)
  a3 : At (s := S8x256x28x96) (α := EReal) (V m c main_v1) (rd4 I.k)
  a4 : At (s := S8x256x28x128) (α := EReal) (V m c main_arg4) (rd4 I.v)
  a5 : At (s := S8x256x28x96) (α := EReal) (V m c main_arg5) (rd4 I.g)
  a6 : At (s := S8x256x28) (α := EReal) (V m c main_arg6) (rd3 I.be)
  a7 : At (s := S8x28x96x128) (α := EReal) (V m c main_arg7) (rd4 I.h0)

variable {I m c}

theorem cval0 (t : Fin cfg0.N) : (grid0.coords t 0).val = t.val / 4 := by
  have hN : t.val < 32 := lt_of_lt_of_eq t.isLt (show cfg0.N = 32 from N_0)
  have e0 : (grid0.coords t 0).val = t.val / 4 % 8 := Pipeline.Grid.coords_val t 0 (by decide) rfl
  omega
theorem cval1 (t : Fin cfg0.N) : (grid0.coords t 1).val = t.val % 4 := by
  have e1 : (grid0.coords t 1).val = t.val / 1 % 4 := Pipeline.Grid.coords_val t 1 (by decide) rfl
  omega
theorem cw0 (t : Fin cfg0.N) : (BitVec.ofNat 32 (grid0.coords t 0).val).toNat = t.val / 4 := by
  have hN : t.val < 32 := lt_of_lt_of_eq t.isLt (show cfg0.N = 32 from N_0)
  rw [cval0, BitVec.toNat_ofNat]; exact Nat.mod_eq_of_lt (by omega)
theorem cw1 (t : Fin cfg0.N) : (BitVec.ofNat 32 (grid0.coords t 1).val).toNat = t.val % 4 := by
  rw [cval1, BitVec.toNat_ofNat]; exact Nat.mod_eq_of_lt (by omega)

theorem blkA2 (h : Arr I m c) (t : Fin cfg0.N) : At (s := S1x64x28x96) (α := EReal) (iblk m c 2 t) (rd4 fun _ a h l => (I.src t.val).q a h l) := fun j => by
  refine (h.a2 (((cfg0.win 2).blk t).view.emb j)).trans ?_
  have j0 : (j 0).val < 1 := (j 0).isLt
  have e0 : ((((cfg0.win 2).blk t).view.emb j) 0).val = t.val / 4 := by
    blk_simp []
    exact cw0 t
  have e1 : ((((cfg0.win 2).blk t).view.emb j) 1).val = 64 * (t.val % 4) + (j 1).val := by
    blk_simp []
    show (BitVec.ofNat 32 (grid0.coords t 1).val).toNat * 64 + (j 1).val = _
    rw [cw1]; omega
  have e2 : ((((cfg0.win 2).blk t).view.emb j) 2).val = (j 2).val := by
    blk_simp []
    show (0#32).toNat * 28 + (j 2).val = _
    exact Nat.zero_add _
  have e3 : ((((cfg0.win 2).blk t).view.emb j) 3).val = (j 3).val := by
    blk_simp []
    show (0#32).toNat * 96 + (j 3).val = _
    exact Nat.zero_add _
  show ((I.q ((((cfg0.win 2).blk t).view.emb j) 0).val ((((cfg0.win 2).blk t).view.emb j) 1).val ((((cfg0.win 2).blk t).view.emb j) 2).val ((((cfg0.win 2).blk t).view.emb j) 3).val : ℝ) : EReal) = _
  rw [e0, e1, e2, e3]; rfl

theorem blkA3 (h : Arr I m c) (t : Fin cfg0.N) : At (s := S1x64x28x96) (α := EReal) (iblk m c 3 t) (rd4 fun _ a h l => (I.src t.val).k a h l) := fun j => by
  refine (h.a3 (((cfg0.win 3).blk t).view.emb j)).trans ?_
  have j0 : (j 0).val < 1 := (j 0).isLt
  have e0 : ((((cfg0.win 3).blk t).view.emb j) 0).val = t.val / 4 := by
    blk_simp []
    exact cw0 t
  have e1 : ((((cfg0.win 3).blk t).view.emb j) 1).val = 64 * (t.val % 4) + (j 1).val := by
    blk_simp []
    show (BitVec.ofNat 32 (grid0.coords t 1).val).toNat * 64 + (j 1).val = _
    rw [cw1]; omega
  have e2 : ((((cfg0.win 3).blk t).view.emb j) 2).val = (j 2).val := by
    blk_simp []
    show (0#32).toNat * 28 + (j 2).val = _
    exact Nat.zero_add _
  have e3 : ((((cfg0.win 3).blk t).view.emb j) 3).val = (j 3).val := by
    blk_simp []
    show (0#32).toNat * 96 + (j 3).val = _
    exact Nat.zero_add _
  show ((I.k ((((cfg0.win 3).blk t).view.emb j) 0).val ((((cfg0.win 3).blk t).view.emb j) 1).val ((((cfg0.win 3).blk t).view.emb j) 2).val ((((cfg0.win 3).blk t).view.emb j) 3).val : ℝ) : EReal) = _
  rw [e0, e1, e2, e3]; rfl

theorem blkA4 (h : Arr I m c) (t : Fin cfg0.N) : At (s := S1x64x28x128) (α := EReal) (iblk m c 4 t) (rd4 fun _ a h l => (I.src t.val).v a h l) := fun j => by
  refine (h.a4 (((cfg0.win 4).blk t).view.emb j)).trans ?_
  have j0 : (j 0).val < 1 := (j 0).isLt
  have e0 : ((((cfg0.win 4).blk t).view.emb j) 0).val = t.val / 4 := by
    blk_simp []
    exact cw0 t
  have e1 : ((((cfg0.win 4).blk t).view.emb j) 1).val = 64 * (t.val % 4) + (j 1).val := by
    blk_simp []
    show (BitVec.ofNat 32 (grid0.coords t 1).val).toNat * 64 + (j 1).val = _
    rw [cw1]; omega
  have e2 : ((((cfg0.win 4).blk t).view.emb j) 2).val = (j 2).val := by
    blk_simp []
    show (0#32).toNat * 28 + (j 2).val = _
    exact Nat.zero_add _
  have e3 : ((((cfg0.win 4).blk t).view.emb j) 3).val = (j 3).val := by
    blk_simp []
    show (0#32).toNat * 128 + (j 3).val = _
    exact Nat.zero_add _
  show ((I.v ((((cfg0.win 4).blk t).view.emb j) 0).val ((((cfg0.win 4).blk t).view.emb j) 1).val ((((cfg0.win 4).blk t).view.emb j) 2).val ((((cfg0.win 4).blk t).view.emb j) 3).val : ℝ) : EReal) = _
  rw [e0, e1, e2, e3]; rfl

theorem blkA5 (h : Arr I m c) (t : Fin cfg0.N) : At (s := S1x64x28x96) (α := EReal) (iblk m c 5 t) (rd4 fun _ a h l => (I.src t.val).g a h l) := fun j => by
  refine (h.a5 (((cfg0.win 5).blk t).view.emb j)).trans ?_
  have j0 : (j 0).val < 1 := (j 0).isLt
  have e0 : ((((cfg0.win 5).blk t).view.emb j) 0).val = t.val / 4 := by
    blk_simp []
    exact cw0 t
  have e1 : ((((cfg0.win 5).blk t).view.emb j) 1).val = 64 * (t.val % 4) + (j 1).val := by
    blk_simp []
    show (BitVec.ofNat 32 (grid0.coords t 1).val).toNat * 64 + (j 1).val = _
    rw [cw1]; omega
  have e2 : ((((cfg0.win 5).blk t).view.emb j) 2).val = (j 2).val := by
    blk_simp []
    show (0#32).toNat * 28 + (j 2).val = _
    exact Nat.zero_add _
  have e3 : ((((cfg0.win 5).blk t).view.emb j) 3).val = (j 3).val := by
    blk_simp []
    show (0#32).toNat * 96 + (j 3).val = _
    exact Nat.zero_add _
  show ((I.g ((((cfg0.win 5).blk t).view.emb j) 0).val ((((cfg0.win 5).blk t).view.emb j) 1).val ((((cfg0.win 5).blk t).view.emb j) 2).val ((((cfg0.win 5).blk t).view.emb j) 3).val : ℝ) : EReal) = _
  rw [e0, e1, e2, e3]; rfl

theorem blkA0 (h : Arr I m c) (t : Fin cfg0.N) (j : S896.Idx) : iblk m c 0 t j = (((I.pt t.val).qa (j 0).val : ℝ) : EReal) := by
  refine (h.a0 (((cfg0.win 0).blk t).view.emb j)).trans ?_
  have e0 : ((((cfg0.win 0).blk t).view.emb j) 0).val = (j 0).val := by
    blk_simp []
    show (0#32).toNat * 896 + (j 0).val = _
    exact Nat.zero_add _
  show (((I.pt t.val).qa ((((cfg0.win 0).blk t).view.emb j) 0).val : ℝ) : EReal) = _
  rw [e0]

theorem blkA1 (h : Arr I m c) (t : Fin cfg0.N) (j : S896.Idx) : iblk m c 1 t j = (((I.pt t.val).ka (j 0).val : ℝ) : EReal) := by
  refine (h.a1 (((cfg0.win 1).blk t).view.emb j)).trans ?_
  have e0 : ((((cfg0.win 1).blk t).view.emb j) 0).val = (j 0).val := by
    blk_simp []
    show (0#32).toNat * 896 + (j 0).val = _
    exact Nat.zero_add _
  show (((I.pt t.val).ka ((((cfg0.win 1).blk t).view.emb j) 0).val : ℝ) : EReal) = _
  rw [e0]

theorem blkA6 (h : Arr I m c) (t : Fin cfg0.N) : At (s := S1x64x28) (α := EReal) (iblk m c 6 t) (rd3 fun _ a h => I.be (t.val / 4) (64 * (t.val % 4) + a) h) := fun j => by
  refine (h.a6 (((cfg0.win 6).blk t).view.emb j)).trans ?_
  have j0 : (j 0).val < 1 := (j 0).isLt
  have e0 : ((((cfg0.win 6).blk t).view.emb j) 0).val = t.val / 4 := by
    blk_simp []
    exact cw0 t
  have e1 : ((((cfg0.win 6).blk t).view.emb j) 1).val = 64 * (t.val % 4) + (j 1).val := by
    blk_simp []
    show (BitVec.ofNat 32 (grid0.coords t 1).val).toNat * 64 + (j 1).val = _
    rw [cw1]; omega
  have e2 : ((((cfg0.win 6).blk t).view.emb j) 2).val = (j 2).val := by
    blk_simp []
    show (0#32).toNat * 28 + (j 2).val = _
    exact Nat.zero_add _
  show ((I.be ((((cfg0.win 6).blk t).view.emb j) 0).val ((((cfg0.win 6).blk t).view.emb j) 1).val ((((cfg0.win 6).blk t).view.emb j) 2).val : ℝ) : EReal) = _
  rw [e0, e1, e2]; rfl

theorem blkA7 (h : Arr I m c) (t : Fin cfg0.N) : At (s := S1x28x96x128) (α := EReal) (iblk m c 7 t) (rd4 fun _ h r l => I.h0 (t.val / 4) h r l) := fun j => by
  refine (h.a7 (((cfg0.win 7).blk t).view.emb j)).trans ?_
  have j0 : (j 0).val < 1 := (j 0).isLt
  have e0 : ((((cfg0.win 7).blk t).view.emb j) 0).val = t.val / 4 := by
    blk_simp []
    exact cw0 t
  have e1 : ((((cfg0.win 7).blk t).view.emb j) 1).val = (j 1).val := by
    blk_simp []
    show (0#32).toNat * 28 + (j 1).val = _
    exact Nat.zero_add _
  have e2 : ((((cfg0.win 7).blk t).view.emb j) 2).val = (j 2).val := by
    blk_simp []
    show (0#32).toNat * 96 + (j 2).val = _
    exact Nat.zero_add _
  have e3 : ((((cfg0.win 7).blk t).view.emb j) 3).val = (j 3).val := by
    blk_simp []
    show (0#32).toNat * 128 + (j 3).val = _
    exact Nat.zero_add _
  show ((I.h0 ((((cfg0.win 7).blk t).view.emb j) 0).val ((((cfg0.win 7).blk t).view.emb j) 1).val ((((cfg0.win 7).blk t).view.emb j) 2).val ((((cfg0.win 7).blk t).view.emb j) 3).val : ℝ) : EReal) = _
  rw [e0, e1, e2, e3]; rfl

/-- The blocks of a point hold the numbers of the point. -/
theorem In.blocks (h : Arr I m c) (t : Fin cfg0.N) : Blocks (I.src t.val) (I.pt t.val) (I.h0 (t.val / 4)) (fun r h => I.be (t.val / 4) (64 * (t.val % 4) + r) h)
    (iblk m c 0 t) (iblk m c 1 t) (iblk m c 2 t) (iblk m c 3 t) (iblk m c 4 t) (iblk m c 5 t) (iblk m c 6 t) (iblk m c 7 t) :=
  ⟨blkA0 h t, blkA1 h t, blkA2 h t, blkA3 h t, blkA4 h t, blkA5 h t, blkA6 h t, blkA7 h t⟩

theorem In.base (t : Fin cfg0.N) : (I.pt t.val).base = ((grid0.coords t 0).val * 4 + (grid0.coords t 1).val) * 28 := by
  rw [cval0, cval1]
  show 28 * t.val = _
  omega

end Cert.KernelIdeal.Hand

end
-- ==== Proof.KI.Val.lean ====
/-
The kernel as a whole: the contents of its two results after the run.
-/
module

public import proofs.«01_k».proof.Proof.KI.Base
public import proofs.«01_k».proof.Proof.KI.Data
public import proofs.«01_k».proof.Proof.KI.Frame

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Lift

local notation "𝕄" => MT nD τ sig Unit (Elt Ideal) ℕ (UR sig nD τ) ℕ

variable (I : In) (cs : ℝ) (m : (ℓ : Loc nD τ sig) → Buf (Elt Ideal) ℓ) (ρ : Dev nD → PrngReg)

/-- The scratch buffers before point `n`: the lanes past the data are zero and the state is that of the point before. -/
def PhiV (c : Dev nD) (n : ℕ) : sProp 𝕄 :=
  iprop((∃ (d12 : Vec Ideal S2304x128 .f32) (d13 : Vec Ideal S1280x2x128 .bf16) (d14 : Vec Ideal S1280x2x128 .bf16) (d15 : Vec Ideal S1280x2x128 .bf16) (d16 : Vec Ideal S64x128 .f32) (d17 : Vec Ideal S28x96x128 .f32), ⌜n ≠ 0 → Pads d12 d13 d14 d16 ∧ At d17 (rd3 (I.pt (n - 1)).s)⌝ ∗ owns (c : Thread nD τ) scM0_0 fullShare d12 ∗ owns (c : Thread nD τ) scM0_1 fullShare d13 ∗ owns (c : Thread nD τ) scM0_2 fullShare d14 ∗ owns (c : Thread nD τ) scM0_3 fullShare d15 ∗ owns (c : Thread nD τ) scM0_4 fullShare d16 ∗ owns (c : Thread nD τ) scM0_5 fullShare d17) ∗ (∃ r, prngReg c r))

/-- The proof data of the pipeline: inputs at their blocks, the results at the numbers of the point. -/
def datv (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outO (I.pt t.val) cs
    | ⟨9, _⟩ => outS (I.pt t.val)
  Φ t := PhiV I c t.val
  q _ := fullShare
  owed _ := 0

theorem Av_eq (c : Dev nD) (w : Fin cfg0.W) : (datv I cs m 0 c).A w = V m c (Pipeline.arrRef spec0 w) := by
  dsimp only [datv]

theorem afterv_0 (c : Dev nD) (t : Fin cfg0.N) : (datv I cs m 0 c).after 0 t = iblk m c 0 t := by dsimp only [datv]
theorem afterv_1 (c : Dev nD) (t : Fin cfg0.N) : (datv I cs m 0 c).after 1 t = iblk m c 1 t := by dsimp only [datv]
theorem afterv_2 (c : Dev nD) (t : Fin cfg0.N) : (datv I cs m 0 c).after 2 t = iblk m c 2 t := by dsimp only [datv]
theorem afterv_3 (c : Dev nD) (t : Fin cfg0.N) : (datv I cs m 0 c).after 3 t = iblk m c 3 t := by dsimp only [datv]
theorem afterv_4 (c : Dev nD) (t : Fin cfg0.N) : (datv I cs m 0 c).after 4 t = iblk m c 4 t := by dsimp only [datv]
theorem afterv_5 (c : Dev nD) (t : Fin cfg0.N) : (datv I cs m 0 c).after 5 t = iblk m c 5 t := by dsimp only [datv]
theorem afterv_6 (c : Dev nD) (t : Fin cfg0.N) : (datv I cs m 0 c).after 6 t = iblk m c 6 t := by dsimp only [datv]
theorem afterv_7 (c : Dev nD) (t : Fin cfg0.N) : (datv I cs m 0 c).after 7 t = iblk m c 7 t := by dsimp only [datv]
theorem afterv_8 (c : Dev nD) (t : Fin cfg0.N) : (datv I cs m 0 c).after 8 t = outO (I.pt t.val) cs := by dsimp only [datv]
theorem afterv_9 (c : Dev nD) (t : Fin cfg0.N) : (datv I cs m 0 c).after 9 t = outS (I.pt t.val) := by dsimp only [datv]

theorem beforev_0 (c : Dev nD) (t : Fin cfg0.N) (d) : (datv I cs m 0 c).before 0 t d = iblk m c 0 t :=
  before0_0_of m (datv I cs m 0 c) (Av_eq I cs m c 0) (afterv_0 I cs m c) t d
theorem beforev_1 (c : Dev nD) (t : Fin cfg0.N) (d) : (datv I cs m 0 c).before 1 t d = iblk m c 1 t :=
  before0_1_of m (datv I cs m 0 c) (Av_eq I cs m c 1) (afterv_1 I cs m c) t d
theorem beforev_2 (c : Dev nD) (t : Fin cfg0.N) (d) : (datv I cs m 0 c).before 2 t d = iblk m c 2 t :=
  before0_2_of m (datv I cs m 0 c) (Av_eq I cs m c 2) (afterv_2 I cs m c) t d
theorem beforev_3 (c : Dev nD) (t : Fin cfg0.N) (d) : (datv I cs m 0 c).before 3 t d = iblk m c 3 t :=
  before0_3_of m (datv I cs m 0 c) (Av_eq I cs m c 3) (afterv_3 I cs m c) t d
theorem beforev_4 (c : Dev nD) (t : Fin cfg0.N) (d) : (datv I cs m 0 c).before 4 t d = iblk m c 4 t :=
  before0_4_of m (datv I cs m 0 c) (Av_eq I cs m c 4) (afterv_4 I cs m c) t d
theorem beforev_5 (c : Dev nD) (t : Fin cfg0.N) (d) : (datv I cs m 0 c).before 5 t d = iblk m c 5 t :=
  before0_5_of m (datv I cs m 0 c) (Av_eq I cs m c 5) (afterv_5 I cs m c) t d
theorem beforev_6 (c : Dev nD) (t : Fin cfg0.N) (d) : (datv I cs m 0 c).before 6 t d = iblk m c 6 t :=
  before0_6_of m (datv I cs m 0 c) (Av_eq I cs m c 6) (afterv_6 I cs m c) t d
theorem beforev_7 (c : Dev nD) (t : Fin cfg0.N) (d) : (datv I cs m 0 c).before 7 t d = iblk m c 7 t :=
  before0_7_of m (datv I cs m 0 c) (Av_eq I cs m c 7) (afterv_7 I cs m c) t d

/-- What the body is called with at point `t`, -/
def bodyPreV (c : Dev nD) (t : Fin cfg0.N) : sProp 𝕄 :=
  iprop((datv I cs m 0 c).Φ t.castSucc ∗ (datv I cs m 0 c).owesAt () t.castSucc
    ∗ (∃ d, owns (c : Thread nD τ) (ms0_0 t) fullShare ((datv I cs m 0 c).before 0 t d))
    ∗ (∃ d, owns (c : Thread nD τ) (ms0_1 t) fullShare ((datv I cs m 0 c).before 1 t d))
    ∗ (∃ d, owns (c : Thread nD τ) (ms0_2 t) fullShare ((datv I cs m 0 c).before 2 t d))
    ∗ (∃ d, owns (c : Thread nD τ) (ms0_3 t) fullShare ((datv I cs m 0 c).before 3 t d))
    ∗ (∃ d, owns (c : Thread nD τ) (ms0_4 t) fullShare ((datv I cs m 0 c).before 4 t d))
    ∗ (∃ d, owns (c : Thread nD τ) (ms0_5 t) fullShare ((datv I cs m 0 c).before 5 t d))
    ∗ (∃ d, owns (c : Thread nD τ) (ms0_6 t) fullShare ((datv I cs m 0 c).before 6 t d))
    ∗ (∃ d, owns (c : Thread nD τ) (ms0_7 t) fullShare ((datv I cs m 0 c).before 7 t d))
    ∗ (∃ d, owns (c : Thread nD τ) (ms0_8 t) fullShare ((datv I cs m 0 c).before 8 t d))
    ∗ (∃ d, owns (c : Thread nD τ) (ms0_9 t) fullShare ((datv I cs m 0 c).before 9 t d)))

/-- and what it returns. -/
def bodyPostV (c : Dev nD) (t : Fin cfg0.N) : sProp 𝕄 :=
  iprop((datv I cs m 0 c).Φ t.succ ∗ (datv I cs m 0 c).owesAt () t.succ
    ∗ (datv I cs m 0 c).leavesExact 0 t
    ∗ (datv I cs m 0 c).leavesExact 1 t
    ∗ (datv I cs m 0 c).leavesExact 2 t
    ∗ (datv I cs m 0 c).leavesExact 3 t
    ∗ (datv I cs m 0 c).leavesExact 4 t
    ∗ (datv I cs m 0 c).leavesExact 5 t
    ∗ (datv I cs m 0 c).leavesExact 6 t
    ∗ (datv I cs m 0 c).leavesExact 7 t
    ∗ (datv I cs m 0 c).leavesExact 8 t
    ∗ (datv I cs m 0 c).leavesExact 9 t)

theorem liveAt0_8 : ∀ t : Fin cfg0.N, cfg0.idle 8 (grid0.coords t) = false := fun _ => rfl

theorem leaves9_last (c : Dev nD) (t : Fin cfg0.N) (h : t.val % 4 = 3) : (datv I cs m 0 c).leavesExact 9 t = owns (c : Thread nD τ) (ms0_9 t) fullShare (outS (I.pt t.val)) := by
  have hi : cfg0.idle 9 (grid0.coords t) = false := by
    show (!(k0_cond3 (grid0.coords t) == 1#1)) = false
    rw [(hcond0_2 t).mpr h]; rfl
  unfold Dat.leavesExact; rw [hi, afterv_9]

theorem leaves9_other (c : Dev nD) (t : Fin cfg0.N) (h : ¬ t.val % 4 = 3) : (datv I cs m 0 c).leavesExact 9 t = iprop(∃ d, owns (c : Thread nD τ) (ms0_9 t) fullShare ((datv I cs m 0 c).before 9 t d)) := by
  have hi : cfg0.idle 9 (grid0.coords t) = true := by
    show (!(k0_cond3 (grid0.coords t) == 1#1)) = true
    have hn : ¬ k0_cond3 (grid0.coords t) = 1#1 := fun e => h ((hcond0_2 t).mp e)
    rw [beq_false_of_ne hn]; rfl
  have hf : (cfg0.win 9).flush t = false := by
    cases e : (cfg0.win 9).flush t with
    | false => rfl
    | true => exact absurd ((flush0_9 t).mp e) h
  exact Dat.leavesExact_idle (dat := datv I cs m 0 c) 9 t hi hf

variable {I cs m}

set_option maxHeartbeats 3200000 in
/-- The body at any point, by the run of the point's case. -/
theorem sound_bodyV (hcs : Ideal.ofBits .f32 0x3DD105EC#32 = ((cs : ℝ) : EReal)) (c : Dev nD) (hI : Arr I m c) (t : Fin cfg0.N) :
    bodyPreV I cs m c t ⊢ wp Idealize.ShloMosaic.frame (wpE (defs₀ (F := Ideal)) Variants.none c none) Set.univ (bodyAt0 (F := Ideal) t) (fun _ => bodyPostV I cs m c t) := by
  unfold bodyPreV bodyPostV bodyAt0
  simp only [beforev_0, beforev_1, beforev_2, beforev_3, beforev_4, beforev_5, beforev_6, beforev_7]
  rw [show (datv I cs m 0 c).owesAt () t.succ = (datv I cs m 0 c).owesAt () t.castSucc from rfl]
  rw [show (datv I cs m 0 c).Φ t.succ = PhiV I c (t.val + 1) from rfl, show (datv I cs m 0 c).Φ t.castSucc = PhiV I c t.val from rfl]
  rw [show (datv I cs m 0 c).leavesExact 0 t = owns (c : Thread nD τ) (ms0_0 t) fullShare ((datv I cs m 0 c).after 0 t) from by
    unfold Dat.leavesExact; rw [liveAt0_0 t], afterv_0]
  rw [show (datv I cs m 0 c).leavesExact 1 t = owns (c : Thread nD τ) (ms0_1 t) fullShare ((datv I cs m 0 c).after 1 t) from by
    unfold Dat.leavesExact; rw [liveAt0_1 t], afterv_1]
  rw [show (datv I cs m 0 c).leavesExact 2 t = owns (c : Thread nD τ) (ms0_2 t) fullShare ((datv I cs m 0 c).after 2 t) from by
    unfold Dat.leavesExact; rw [liveAt0_2 t], afterv_2]
  rw [show (datv I cs m 0 c).leavesExact 3 t = owns (c : Thread nD τ) (ms0_3 t) fullShare ((datv I cs m 0 c).after 3 t) from by
    unfold Dat.leavesExact; rw [liveAt0_3 t], afterv_3]
  rw [show (datv I cs m 0 c).leavesExact 4 t = owns (c : Thread nD τ) (ms0_4 t) fullShare ((datv I cs m 0 c).after 4 t) from by
    unfold Dat.leavesExact; rw [liveAt0_4 t], afterv_4]
  rw [show (datv I cs m 0 c).leavesExact 5 t = owns (c : Thread nD τ) (ms0_5 t) fullShare ((datv I cs m 0 c).after 5 t) from by
    unfold Dat.leavesExact; rw [liveAt0_5 t], afterv_5]
  rw [show (datv I cs m 0 c).leavesExact 6 t = owns (c : Thread nD τ) (ms0_6 t) fullShare ((datv I cs m 0 c).after 6 t) from by
    unfold Dat.leavesExact; rw [liveAt0_6 t], afterv_6]
  rw [show (datv I cs m 0 c).leavesExact 7 t = owns (c : Thread nD τ) (ms0_7 t) fullShare ((datv I cs m 0 c).after 7 t) from by
    unfold Dat.leavesExact; rw [liveAt0_7 t], afterv_7]
  rw [show (datv I cs m 0 c).leavesExact 8 t = owns (c : Thread nD τ) (ms0_8 t) fullShare ((datv I cs m 0 c).after 8 t) from by
    unfold Dat.leavesExact; rw [liveAt0_8 t], afterv_8]
  have hN : t.val < 32 := lt_of_lt_of_eq t.isLt (show cfg0.N = 32 from N_0)
  unfold PhiV
  iintro ⟨⟨⟨%d12, %d13, %d14, %d15, %d16, %d17, %hd, HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h0 : t.val % 32 = 0
  · have h1 : t.val % 4 = 0 := by omega
    have h2 : ¬ t.val % 4 = 3 := by omega
    iapply (valA c (grid0.coords t) _ _ _ _ _ _ _ _ _ _ _ _ _ _ _ _ _ _ _ _ _ _ _ _ _ _ _ _ _ _ _ _ (I.fits t.val) (I.blocks hI t) (fun _ _ => rfl) (I.base t) hcs (fun a b d => I.st_first h1 a b d) ((hcond0_0 t).mpr h0) ((hcond0_1 t).mpr h1) (fun h => h2 ((hcond0_2 t).mp h)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    isplitl [HS3]; · iexact HS3
    isplitl [HS4]; · iexact HS4
    isplitl [HS5]; · iexact HS5
    unfold PostV
    iintro ⟨H0, H1, H2, H3, H4, H5, H6, H7, H8, H9, ⟨%e12, %e13, %e14, %e15, %e16, %e17, %he, HS0, HS1, HS2, HS3, HS4, HS5⟩⟩
    isplitl [HS0 HS1 HS2 HS3 HS4 HS5 Hg]
    · isplitl [HS0 HS1 HS2 HS3 HS4 HS5]
      · iexists e12, e13, e14, e15, e16, e17
        isplitr
        · ipureintro; exact fun _ => he
        isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [leaves9_other I cs m c t h2]
    iexists d9
    iexact H9
  · by_cases h1 : t.val % 4 = 0
    · have h2 : ¬ t.val % 4 = 3 := by omega
      iapply (valD c (grid0.coords t) _ _ _ _ _ _ _ _ _ _ _ _ _ _ _ _ _ _ _ _ _ _ _ _ _ _ _ _ _ _ _ _ (I.fits t.val) (I.blocks hI t) (fun _ _ => rfl) (I.base t) hcs (hd (by omega)).1 (fun a b d => I.st_first h1 a b d) (fun h => h0 ((hcond0_0 t).mp h)) ((hcond0_1 t).mpr h1) (fun h => h2 ((hcond0_2 t).mp h)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      isplitl [HS5]; · iexact HS5
      unfold PostV
      iintro ⟨H0, H1, H2, H3, H4, H5, H6, H7, H8, H9, ⟨%e12, %e13, %e14, %e15, %e16, %e17, %he, HS0, HS1, HS2, HS3, HS4, HS5⟩⟩
      isplitl [HS0 HS1 HS2 HS3 HS4 HS5 Hg]
      · isplitl [HS0 HS1 HS2 HS3 HS4 HS5]
        · iexists e12, e13, e14, e15, e16, e17
          isplitr
          · ipureintro; exact fun _ => he
          isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      rw [leaves9_other I cs m c t h2]
      iexists d9
      iexact H9
    · by_cases h2 : t.val % 4 = 3
      · iapply (valC c (grid0.coords t) _ _ _ _ _ _ _ _ _ _ _ _ _ _ _ _ _ _ _ _ _ _ _ _ _ _ _ _ _ _ _ _ (I.fits t.val) (I.blocks hI t) (fun _ _ => rfl) (I.base t) hcs (hd (by omega)).1 (by rw [I.st_next h1]; exact (hd (by omega)).2) (fun h => h0 ((hcond0_0 t).mp h)) (fun h => h1 ((hcond0_1 t).mp h)) ((hcond0_2 t).mpr h2) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        unfold PostV
        iintro ⟨H0, H1, H2, H3, H4, H5, H6, H7, H8, H9, ⟨%e12, %e13, %e14, %e15, %e16, %e17, %he, HS0, HS1, HS2, HS3, HS4, HS5⟩⟩
        isplitl [HS0 HS1 HS2 HS3 HS4 HS5 Hg]
        · isplitl [HS0 HS1 HS2 HS3 HS4 HS5]
          · iexists e12, e13, e14, e15, e16, e17
            isplitr
            · ipureintro; exact fun _ => he
            isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        rw [leaves9_last I cs m c t h2]
        iexact H9
      · iapply (valB c (grid0.coords t) _ _ _ _ _ _ _ _ _ _ _ _ _ _ _ _ _ _ _ _ _ _ _ _ _ _ _ _ _ _ _ _ (I.fits t.val) (I.blocks hI t) (fun _ _ => rfl) (I.base t) hcs (hd (by omega)).1 (by rw [I.st_next h1]; exact (hd (by omega)).2) (fun h => h0 ((hcond0_0 t).mp h)) (fun h => h1 ((hcond0_1 t).mp h)) (fun h => h2 ((hcond0_2 t).mp h)) Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        isplitl [HS1]; · iexact HS1
        isplitl [HS2]; · iexact HS2
        isplitl [HS3]; · iexact HS3
        isplitl [HS4]; · iexact HS4
        isplitl [HS5]; · iexact HS5
        unfold PostV
        iintro ⟨H0, H1, H2, H3, H4, H5, H6, H7, H8, H9, ⟨%e12, %e13, %e14, %e15, %e16, %e17, %he, HS0, HS1, HS2, HS3, HS4, HS5⟩⟩
        isplitl [HS0 HS1 HS2 HS3 HS4 HS5 Hg]
        · isplitl [HS0 HS1 HS2 HS3 HS4 HS5]
          · iexists e12, e13, e14, e15, e16, e17
            isplitr
            · ipureintro; exact fun _ => he
            isplitl [HS0]; · iexact HS0
            isplitl [HS1]; · iexact HS1
            isplitl [HS2]; · iexact HS2
            isplitl [HS3]; · iexact HS3
            isplitl [HS4]; · iexact HS4
            iexact HS5
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        rw [leaves9_other I cs m c t h2]
        iexists d9
        iexact H9

/-- The body obligation of the pipeline, at every point. -/
theorem body_obligationV (hcs : Ideal.ofBits .f32 0x3DD105EC#32 = ((cs : ℝ) : EReal)) (c : Dev nD) (hI : Arr I m c) : BodyObligation (datv I cs m 0 c) (defs₀ (F := Ideal)) Variants.none () Set.univ := fun t => by
  rw [bigSep_W0, bigSep_W0, defs₀_row]
  exact triple_restated (sound_bodyV hcs c hI t) rfl .rfl fun _ => .rfl

theorem hinV (c : Dev nD) : Pipeline.ΦA spec0 c ⊢ (datv I cs m 0 c).Φ 0 := by
  rw [show (datv I cs m 0 c).Φ 0 = PhiV I c 0 from rfl, PhiA0_eq]
  unfold PhiV
  iintro ⟨⟨⟨%d12, HS0⟩, ⟨%d13, HS1⟩, ⟨%d14, HS2⟩, ⟨%d15, HS3⟩, ⟨%d16, HS4⟩, ⟨%d17, HS5⟩⟩, Hg⟩
  isplitr [Hg]
  · iexists d12, d13, d14, d15, d16, d17
    isplitr
    · ipureintro; exact fun h => absurd rfl h
    isplitl [HS0]; · iexact HS0
    isplitl [HS1]; · iexact HS1
    isplitl [HS2]; · iexact HS2
    isplitl [HS3]; · iexact HS3
    isplitl [HS4]; · iexact HS4
    iexact HS5
  iexact Hg
theorem houtV (c : Dev nD) : (datv I cs m 0 c).Φ (Fin.last cfg0.N) ⊢ Pipeline.ΦA spec0 c := by
  rw [show (datv I cs m 0 c).Φ (Fin.last cfg0.N) = PhiV I c cfg0.N from rfl, PhiA0_eq]
  unfold PhiV
  iintro ⟨⟨%d12, %d13, %d14, %d15, %d16, %d17, -, HS0, HS1, HS2, HS3, HS4, HS5⟩, Hg⟩
  isplitr [Hg]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

-- the implicit arguments are found by unifying the conclusion with this one, which takes unfolding plain definitions in a
-- metavariable's type
set_option backward.isDefEq.respectTransparency.types false in
/-- The run: every window's array ends with its blocks written back. -/
theorem run_valV (hcs : Ideal.ofBits .f32 0x3DD105EC#32 = ((cs : ℝ) : EReal)) (hI : ∀ c, Arr I m c) : θ_run defs (onTc (τ := τ) (main (F := Ideal))) (s₀ m ρ) (Pipeline.FramePost cfgs (datv I cs m) 0 (V m)) :=
  Pipeline.θ_run_frame_track cfgs (datv I cs m) (0 : Fin 1) launch0 defs₀ Variants.none m ρ main
    (hbody := fun c => (body_obligationV hcs c (hI c)).loose) (hshare := fun c => (datv I cs m 0 c).share_full fun _ => rfl)
    (howed := fun _ _ => rfl) (V := V m) (hmain := hmain m Variants.none) (hA := Av_eq I cs m) (hin := hinV) (hout := houtV)

/-- The rows of every sequence, all heads side by side. -/
def resO (I : In) (cs : ℝ) : S8x256x3584.Idx → EReal := fun j => rd3 (fun b s l => (I.pt (4 * b + s / 64)).o (l / 128) cs (s % 64) (l % 128)) (co j)
/-- The states that every sequence ends with. -/
def resS (I : In) : S8x28x96x128.Idx → EReal := fun j => rd4 (fun b h r l => (I.pt (4 * b + 3)).s h r l) (co j)

theorem arrO (c : Dev nD) : (datv I cs m 0 c).arrAt 8 (cfgs 0).N = resO I cs := by
  refine (datv I cs m 0 c).arrAt_eq_of_covers 8 _ (by decide +kernel) fun t hf y => ?_
  blk_simp [afterv_8]
  have e0 : ((((cfg0.win 8).blk t).view.emb y) 0).val = t.val / 4 := by
    blk_simp []
    exact cw0 t
  have e1 : ((((cfg0.win 8).blk t).view.emb y) 1).val = 64 * (t.val % 4) + (y 1).val := by
    blk_simp []
    show (BitVec.ofNat 32 (grid0.coords t 1).val).toNat * 64 + (y 1).val = _
    rw [cw1]; omega
  have e2 : ((((cfg0.win 8).blk t).view.emb y) 2).val = (y 2).val := by
    blk_simp []
    show (0#32).toNat * 3584 + (y 2).val = _
    exact Nat.zero_add _
  have y1 : (y 1).val < 64 := (y 1).isLt
  show (((I.pt t.val).o ((y 2).val / 128) cs (y 1).val ((y 2).val % 128) : ℝ) : EReal)
    = (((I.pt (4 * ((((cfg0.win 8).blk t).view.emb y) 0).val + ((((cfg0.win 8).blk t).view.emb y) 1).val / 64)).o (((((cfg0.win 8).blk t).view.emb y) 2).val / 128) cs (((((cfg0.win 8).blk t).view.emb y) 1).val % 64) (((((cfg0.win 8).blk t).view.emb y) 2).val % 128) : ℝ) : EReal)
  rw [e0, e1, e2, show 4 * (t.val / 4) + (64 * (t.val % 4) + (y 1).val) / 64 = t.val by omega, show (64 * (t.val % 4) + (y 1).val) % 64 = (y 1).val by omega]

theorem arrS (c : Dev nD) : (datv I cs m 0 c).arrAt 9 (cfgs 0).N = resS I := by
  refine (datv I cs m 0 c).arrAt_eq_of_covers 9 _ (by decide +kernel) fun t hf y => ?_
  blk_simp [afterv_9]
  have h3 : t.val % 4 = 3 := (flush0_9 t).mp hf
  have e0 : ((((cfg0.win 9).blk t).view.emb y) 0).val = t.val / 4 := by
    blk_simp []
    exact cw0 t
  have e1 : ((((cfg0.win 9).blk t).view.emb y) 1).val = (y 1).val := by
    blk_simp []
    show (0#32).toNat * 28 + (y 1).val = _
    exact Nat.zero_add _
  have e2 : ((((cfg0.win 9).blk t).view.emb y) 2).val = (y 2).val := by
    blk_simp []
    show (0#32).toNat * 96 + (y 2).val = _
    exact Nat.zero_add _
  have e3 : ((((cfg0.win 9).blk t).view.emb y) 3).val = (y 3).val := by
    blk_simp []
    show (0#32).toNat * 128 + (y 3).val = _
    exact Nat.zero_add _
  show (((I.pt t.val).s (y 1).val (y 2).val (y 3).val : ℝ) : EReal)
    = (((I.pt (4 * ((((cfg0.win 9).blk t).view.emb y) 0).val + 3)).s ((((cfg0.win 9).blk t).view.emb y) 1).val ((((cfg0.win 9).blk t).view.emb y) 2).val ((((cfg0.win 9).blk t).view.emb y) 3).val : ℝ) : EReal)
  rw [e0, e1, e2, e3, show 4 * (t.val / 4) + 3 = t.val by omega]

end Cert.KernelIdeal.Hand

end
-- ==== Proof.Finite.lean ====
/-
Arguments of which the precondition holds are arrays of numbers.
-/
module

public import proofs.«01_k».proof.Proof.Io
public import proofs.«01_k».proof.Proof.Gen.Pre_finite
public import Idealize.ShloMosaic.Lib.ReduceAll

@[expose] public section

set_option maxRecDepth 16384

noncomputable section

namespace Cert.Lift

open Idealize.ShloMosaic

/-- A number is what differs from itself by its own negative. -/
theorem real_of_eq {x : EReal} (h : x - x = -(x - x)) : x = ((x.toReal : ℝ) : EReal) := by
  induction x using EReal.rec with
  | bot => exact absurd h (by simp)
  | top => exact absurd h (by simp)
  | coe r => rfl

theorem and1 {t : Shape} {x y : IVec t 1} {j : t.Idx} (e : andi x y j = 1#1) : x j = 1#1 ∧ y j = 1#1 := by
  have k : ∀ a b : BitVec 1, a &&& b = 1#1 → a = 1#1 ∧ b = 1#1 := by decide
  exact k _ _ e

/-- Every element of the array is a number. -/
def Reals {s : Shape} (x : s.Idx → EReal) : Prop := ∀ i, x i = (((x i).toReal : ℝ) : EReal)

theorem reals_of_all {s t u : Shape} {axes : List (Fin s.rank)} [Subsingleton t.Idx] {φ : FTy} (x : FVec Ideal s φ) (init : u.Idx → BitVec 1) (h : s.ReducesTo axes t)
    (hu : 0 < u.numel) (j : t.Idx) (e : Host.reduce IntOp.andi (cmpf .oeq (subf x x) (Host.negf (subf x x))) init h hu j = 1#1) : Reals (s := s) x := fun i => by
  have q := Host.reduce_andi_all _ _ _ _ j e i
  have k : ∀ b : Bool, BitVec.ofBool b = 1#1 → b = true := by decide
  have q' : decide ((x i : EReal) - x i = -((x i : EReal) - x i)) = true := k _ q
  exact real_of_eq (of_decide_eq_true q')

/-- The number at the coordinates `c`, zero outside the array. -/
def num {s : Shape} (x : s.Idx → EReal) (c : Fin s.rank → ℕ) : ℝ := if h : ∀ a, c a < s.size a then (x fun a => ⟨c a, h a⟩).toReal else 0

theorem num_at {s : Shape} (x : s.Idx → EReal) (i : s.Idx) : num x (fun a => (i a).val) = (x i).toReal := dif_pos fun a => (i a).isLt

theorem at4 {N : Fin 4 → ℕ} {x : (⟨4, N⟩ : Shape).Idx → EReal} (hx : Reals x) : At x (rd4 fun a b c d => num x ![a, b, c, d]) := fun i => by
  rw [hx i, ← num_at x i]
  show _ = ((num x ![(i 0).val, (i 1).val, (i 2).val, (i 3).val] : ℝ) : EReal)
  congr 2
  funext a
  change Fin 4 at a
  fin_cases a <;> rfl

theorem at3 {N : Fin 3 → ℕ} {x : (⟨3, N⟩ : Shape).Idx → EReal} (hx : Reals x) : At x (rd3 fun a b c => num x ![a, b, c]) := fun i => by
  rw [hx i, ← num_at x i]
  show _ = ((num x ![(i 0).val, (i 1).val, (i 2).val] : ℝ) : EReal)
  congr 2
  funext a
  change Fin 3 at a
  fin_cases a <;> rfl

open Cert.Pre_finite in
/-- What the precondition says of the arguments. -/
theorem reals_of_pre {a0 : FVec Ideal S8x256x28x96 .f32} {a1 : FVec Ideal S8x4x28 .f32} {a2 : FVec Ideal S8x256x28x96 .f32} {a3 : FVec Ideal S8x4x28 .f32}
    {a4 : FVec Ideal S8x256x28x128 .bf16} {a5 : FVec Ideal S8x256x28x96 .f32} {a6 : FVec Ideal S8x256x28 .f32} {a7 : FVec Ideal S8x28x96x128 .f32}
    (h : haveI := Cert.Pre_finite.Gen.facts; Cert.Pre_finite.fn (F := Ideal) a0 a1 a2 a3 a4 a5 a6 a7 = fun _ => 1#1) :
    Reals (s := S8x256x28x96) a0 ∧ Reals (s := S8x4x28) a1 ∧ Reals (s := S8x256x28x96) a2 ∧ Reals (s := S8x4x28) a3 ∧ Reals (s := S8x256x28x128) a4
      ∧ Reals (s := S8x256x28x96) a5 ∧ Reals (s := S8x256x28) a6 ∧ Reals (s := S8x28x96x128) a7 := by
  haveI : Subsingleton S_.Idx := ⟨fun a b => funext fun d => d.elim0⟩
  have e := congrFun h (fun d => d.elim0)
  unfold Cert.Pre_finite.fn Cert.Pre_finite.fn_part1 Cert.Pre_finite.fn_part2 at e
  dsimp only at e
  obtain ⟨e, h7⟩ := and1 e
  obtain ⟨e, h6⟩ := and1 e
  obtain ⟨e, h5⟩ := and1 e
  obtain ⟨e, h4⟩ := and1 e
  obtain ⟨e, h3⟩ := and1 e
  obtain ⟨e, h2⟩ := and1 e
  obtain ⟨h0, h1⟩ := and1 e
  exact ⟨reals_of_all a0 _ _ _ _ h0, reals_of_all a1 _ _ _ _ h1, reals_of_all a2 _ _ _ _ h2, reals_of_all a3 _ _ _ _ h3,
    reals_of_all a4 _ _ _ _ h4, reals_of_all a5 _ _ _ _ h5, reals_of_all a6 _ _ _ _ h6, reals_of_all a7 _ _ _ _ h7⟩

/-- The scale of the query rows is a number. -/
theorem scale_real : ∃ c : ℝ, Ideal.ofBits .f32 0x3DD105EC#32 = ((c : ℝ) : EReal) := by
  show ∃ c : ℝ, Ideal.ieee 8 23 0x3DD105EC#32 = ((c : ℝ) : EReal)
  unfold Ideal.ieee
  dsimp only
  rw [if_neg (by decide), if_neg (by decide)]
  exact ⟨_, rfl⟩

end Cert.Lift

end
-- ==== Proof.KI.Nums.lean ====
/-
The numbers of the arguments, and the arrays that the windows read.
-/
module

public import proofs.«01_k».proof.Proof.KI.Val
public import proofs.«01_k».proof.Proof.Finite

@[expose] public section

set_option maxRecDepth 16384

noncomputable section

namespace Cert.KernelIdeal.Hand

open Idealize.ShloMosaic Idealize.ShloMosaic.TcCoe Idealize.ShloMosaic.Tactic
open Cert.KernelIdeal.Gen Cert.Lift

variable (m : (ℓ : Loc nD τ sig) → Buf (Elt Ideal) ℓ)

/-- The arguments of a device as numbers. -/
def inp (c : Dev nD) : In where
  q a b h k := num (s := S8x256x28x96) (m ((c : Thread nD τ).loc main_arg0)) ![a, b, h, k]
  qs a b h := num (s := S8x4x28) (m ((c : Thread nD τ).loc main_arg1)) ![a, b, h]
  k a b h k := num (s := S8x256x28x96) (m ((c : Thread nD τ).loc main_arg2)) ![a, b, h, k]
  ks a b h := num (s := S8x4x28) (m ((c : Thread nD τ).loc main_arg3)) ![a, b, h]
  v a b h k := num (s := S8x256x28x128) (m ((c : Thread nD τ).loc main_arg4)) ![a, b, h, k]
  g a b h k := num (s := S8x256x28x96) (m ((c : Thread nD τ).loc main_arg5)) ![a, b, h, k]
  be a b h := num (s := S8x256x28) (m ((c : Thread nD τ).loc main_arg6)) ![a, b, h]
  h0 a b h k := num (s := S8x28x96x128) (m ((c : Thread nD τ).loc main_arg7)) ![a, b, h, k]

/-- Every argument of the device is an array of numbers. -/
structure Num (c : Dev nD) : Prop where
  r0 : Reals (s := S8x256x28x96) (m ((c : Thread nD τ).loc main_arg0))
  r1 : Reals (s := S8x4x28) (m ((c : Thread nD τ).loc main_arg1))
  r2 : Reals (s := S8x256x28x96) (m ((c : Thread nD τ).loc main_arg2))
  r3 : Reals (s := S8x4x28) (m ((c : Thread nD τ).loc main_arg3))
  r4 : Reals (s := S8x256x28x128) (m ((c : Thread nD τ).loc main_arg4))
  r5 : Reals (s := S8x256x28x96) (m ((c : Thread nD τ).loc main_arg5))
  r6 : Reals (s := S8x256x28) (m ((c : Thread nD τ).loc main_arg6))
  r7 : Reals (s := S8x28x96x128) (m ((c : Thread nD τ).loc main_arg7))

/-- Scales in one row. -/
theorem flat {x : FVec Ideal S8x4x28 .f32} {f : ℕ → ℕ → ℕ → ℝ} {h : S8x4x28.ShapeCasts S896} (hx : At x (rd3 f)) :
    At (s := S896) (α := EReal) (shapeCast S896 x h) (fun j => ((f (j 0 / 112) (j 0 / 28 % 4) (j 0 % 28) : ℝ) : EReal)) :=
  hx.shapeCast fun i j e => by
    rw [Shape.rowMajor_val_three, Shape.rowMajor_val_one] at e
    have i0 := (i 0).isLt; have i1 := (i 1).isLt; have i2 := (i 2).isLt
    change (i 0).val < 8 at i0; change (i 1).val < 4 at i1; change (i 2).val < 28 at i2
    change ((i 0).val * 4 + (i 1).val) * 28 + (i 2).val = (j 0).val at e
    show ((f (i 0).val (i 1).val (i 2).val : ℝ) : EReal) = ((f ((j 0).val / 112) ((j 0).val / 28 % 4) ((j 0).val % 28) : ℝ) : EReal)
    have e0 : (i 0).val = (j 0).val / 112 := by omega
    have e1 : (i 1).val = (j 0).val / 28 % 4 := by omega
    have e2 : (i 2).val = (j 0).val % 28 := by omega
    rw [e0, e1, e2]

variable {m}

theorem arr_of_num {c : Dev nD} (h : Num m c) : Arr (inp m c) m c where
  a0 := by
    entry_read
    exact flat (at3 h.r1)
  a1 := by
    entry_read
    exact flat (at3 h.r3)
  a2 := by
    entry_read
    exact at4 h.r0
  a3 := by
    entry_read
    exact at4 h.r2
  a4 := by rw [V_main_arg4]; exact at4 h.r4
  a5 := by rw [V_main_arg5]; exact at4 h.r5
  a6 := by rw [V_main_arg6]; exact at3 h.r6
  a7 := by rw [V_main_arg7]; exact at4 h.r7

end Cert.KernelIdeal.Hand

end
-- ==== Proof.RefOps.lean ====
/-
The host's operations read at their coordinates: products with a contracted coordinate, running sums, reshapes.
-/
module

public import proofs.«01_k».proof.Proof.Io
public import Idealize.ShloMosaic.Lib.Pointwise.Contract

@[expose] public section

set_option maxRecDepth 16384

noncomputable section

namespace Cert.Lift

open Idealize.ShloMosaic

def rd5 (f : ℕ → ℕ → ℕ → ℕ → ℕ → ℝ) (c : ℕ → ℕ) : EReal := ((f (c 0) (c 1) (c 2) (c 3) (c 4) : ℝ) : EReal)

/-- A host product with one contracted coordinate. -/
theorem dotAt {sl sr so : Shape} {φ₁ φ₂ : FTy} (d : DotDims sl sr so) {a : Fin sl.rank} (hc : d.lhsContracting = [a]) {K : ℕ} (hK : sl.size a = K)
    {prec : Option ContractPrecision} {x : FVec Ideal sl φ₁} {y : FVec Ideal sr φ₂} {f g : (ℕ → ℕ) → ℝ}
    (hx : At x fun c => ((f c : ℝ) : EReal)) (hy : At y fun c => ((g c : ℝ) : EReal)) {F G : (ℕ → ℕ) → ℕ → ℝ}
    (hF : ∀ j (k : Fin K), f (co (d.lhsIdx j (d.contrIdx₁ hc hK k))) = F (co j) k.val)
    (hG : ∀ j (k : Fin K), g (co (d.rhsIdx j (d.contrIdx₁ hc hK k))) = G (co j) k.val) :
    At (Host.dotGeneral d prec x y) fun c => ((∑ k ∈ Finset.range K, F c k * G c k : ℝ) : EReal) :=
  At.dot (acc := fun _ => 0) (l := fun j k => d.lhsIdx j (d.contrIdx₁ hc hK k)) (r := fun j k => d.rhsIdx j (d.contrIdx₁ hc hK k)) hx hy
    (fun j => ((Ideal.dotGeneral_apply d prec .single x y j).trans (d.sum_contr₁ hc hK _)).trans (zero_add _).symm) (fun _ => rfl) hF hG

/-- A sum over the last places of a window of 64. -/
theorem sum_window (t : ℕ) (ht : t < 64) (g : ℕ → ℝ) :
    ∑ n ∈ Finset.range 64, (if 63 ≤ t + n then g (t + n - 63) else 0) = ∑ s ∈ Finset.range (t + 1), g s := by
  rw [show (64 : ℕ) = (63 - t) + (t + 1) by omega, Finset.sum_range_add]
  rw [Finset.sum_eq_zero (s := Finset.range (63 - t)) fun n hn => if_neg (by have := Finset.mem_range.1 hn; omega), zero_add]
  exact Finset.sum_congr rfl fun n _ => by rw [if_pos (by omega)]; congr 1; omega

theorem foldl_sum {n : ℕ} (f : Fin n → EReal) : (List.finRange n).foldl (fun r k => r + f k) 0 = ∑ k, f k := by
  have : ∀ (l : List (Fin n)) (a : EReal), l.foldl (fun r k => r + f k) a = a + (l.map f).sum := by
    intro l
    induction l with
    | nil => intro a; simp
    | cons k l ih => intro a; simp only [List.foldl_cons, List.map_cons, List.sum_cons]; rw [ih, add_assoc]
  rw [this, zero_add]
  exact (Fin.sum_univ_def f).symm

/-- The running sums along the rows of a chunk. -/
theorem cumAt {b n h k : ℕ} {x : FVec Ideal ⟨5, ![b, n, 64, h, k]⟩ .f32} {init : (⟨0, ![]⟩ : Shape).Idx → EReal} {f : ℕ → ℕ → ℕ → ℕ → ℕ → ℝ}
    {hw : (⟨5, ![b, n, 64, h, k]⟩ : Shape).ReduceWindows ![1, 1, 64, 1, 1] ![1, 1, 1, 1, 1] ![0, 0, 63, 0, 0] ![0, 0, 0, 0, 0] ⟨5, ![b, n, 64, h, k]⟩}
    {hu : 0 < (⟨0, ![]⟩ : Shape).numel} (hx : At x (rd5 f)) (hi : ∀ i, init i = 0) :
    At (Host.reduceWindowAdd (F := Ideal) (φ := .f32) (t := ⟨5, ![b, n, 64, h, k]⟩) ![1, 1, 64, 1, 1] ![1, 1, 1, 1, 1] ![0, 0, 63, 0, 0] ![0, 0, 0, 0, 0] x init hw hu)
      (rd5 fun b n t h k => ∑ s ∈ Finset.range (t + 1), f b n s h k) := fun j => by
  have j2 : (j 2).val < 64 := (j 2).isLt
  have hN : (⟨5, ![1, 1, 64, 1, 1]⟩ : Shape).numel = 64 := by decide
  have key : ∀ q : Fin (⟨5, ![1, 1, 64, 1, 1]⟩ : Shape).numel, ∀ a : Fin 5,
      (((⟨5, ![1, 1, 64, 1, 1]⟩ : Shape).rowMajor.symm q) a).val = if a = 2 then q.val else 0 := by
    intro q
    have e := Shape.rowMajor_val_five ((⟨5, ![1, 1, 64, 1, 1]⟩ : Shape).rowMajor.symm q)
    rw [Equiv.apply_symm_apply] at e
    generalize (⟨5, ![1, 1, 64, 1, 1]⟩ : Shape).rowMajor.symm q = y at e ⊢
    have y0 : (y 0).val < 1 := (y 0).isLt
    have y1 : (y 1).val < 1 := (y 1).isLt
    have y2 : (y 2).val < 64 := (y 2).isLt
    have y3 : (y 3).val < 1 := (y 3).isLt
    have y4 : (y 4).val < 1 := (y 4).isLt
    change q.val = ((((y 0).val * 1 + (y 1).val) * 64 + (y 2).val) * 1 + (y 3).val) * 1 + (y 4).val at e
    intro a
    fin_cases a
    · show (y 0).val = 0; omega
    · show (y 1).val = 0; omega
    · show (y 2).val = q.val; omega
    · show (y 3).val = 0; omega
    · show (y 4).val = 0; omega
  have term : ∀ q : Fin (⟨5, ![1, 1, 64, 1, 1]⟩ : Shape).numel,
      (if hin : ∀ a : Fin 5, (![0, 0, 63, 0, 0] : Fin 5 → ℕ) a ≤ (j a).val * (![1, 1, 1, 1, 1] : Fin 5 → ℕ) a + (((⟨5, ![1, 1, 64, 1, 1]⟩ : Shape).rowMajor.symm q) a).val ∧ (j a).val * (![1, 1, 1, 1, 1] : Fin 5 → ℕ) a + (((⟨5, ![1, 1, 64, 1, 1]⟩ : Shape).rowMajor.symm q) a).val - (![0, 0, 63, 0, 0] : Fin 5 → ℕ) a < (![b, n, 64, h, k] : Fin 5 → ℕ) a
        then x (fun a => ⟨(j a).val * (![1, 1, 1, 1, 1] : Fin 5 → ℕ) a + (((⟨5, ![1, 1, 64, 1, 1]⟩ : Shape).rowMajor.symm q) a).val - (![0, 0, 63, 0, 0] : Fin 5 → ℕ) a, (hin a).2⟩) else (0 : EReal))
      = (((if 63 ≤ (j 2).val + q.val then f (j 0).val (j 1).val ((j 2).val + q.val - 63) (j 3).val (j 4).val else 0) : ℝ) : EReal) := by
    intro q
    have hq : q.val < 64 := lt_of_lt_of_eq q.isLt hN
    by_cases c : 63 ≤ (j 2).val + q.val
    · have hin : ∀ a : Fin 5, (![0, 0, 63, 0, 0] : Fin 5 → ℕ) a ≤ (j a).val * (![1, 1, 1, 1, 1] : Fin 5 → ℕ) a + (((⟨5, ![1, 1, 64, 1, 1]⟩ : Shape).rowMajor.symm q) a).val ∧ (j a).val * (![1, 1, 1, 1, 1] : Fin 5 → ℕ) a + (((⟨5, ![1, 1, 64, 1, 1]⟩ : Shape).rowMajor.symm q) a).val - (![0, 0, 63, 0, 0] : Fin 5 → ℕ) a < (![b, n, 64, h, k] : Fin 5 → ℕ) a := by
        intro a
        rw [key q a]
        have ja := (j a).isLt
        fin_cases a
        · change (j 0).val < b at ja; show 0 ≤ _ ∧ (j 0).val * 1 + 0 - 0 < b; omega
        · change (j 1).val < n at ja; show 0 ≤ _ ∧ (j 1).val * 1 + 0 - 0 < n; omega
        · show 63 ≤ (j 2).val * 1 + q.val ∧ (j 2).val * 1 + q.val - 63 < 64; omega
        · change (j 3).val < h at ja; show 0 ≤ _ ∧ (j 3).val * 1 + 0 - 0 < h; omega
        · change (j 4).val < k at ja; show 0 ≤ _ ∧ (j 4).val * 1 + 0 - 0 < k; omega
      rw [dif_pos hin, if_pos c, hx]
      show ((f _ _ _ _ _ : ℝ) : EReal) = _
      have v0 : (j 0).val * 1 + (((⟨5, ![1, 1, 64, 1, 1]⟩ : Shape).rowMajor.symm q) 0).val - 0 = (j 0).val := by rw [key q 0]; show (j 0).val * 1 + 0 - 0 = _; omega
      have v1 : (j 1).val * 1 + (((⟨5, ![1, 1, 64, 1, 1]⟩ : Shape).rowMajor.symm q) 1).val - 0 = (j 1).val := by rw [key q 1]; show (j 1).val * 1 + 0 - 0 = _; omega
      have v2 : (j 2).val * 1 + (((⟨5, ![1, 1, 64, 1, 1]⟩ : Shape).rowMajor.symm q) 2).val - 63 = (j 2).val + q.val - 63 := by rw [key q 2]; show (j 2).val * 1 + q.val - 63 = _; omega
      have v3 : (j 3).val * 1 + (((⟨5, ![1, 1, 64, 1, 1]⟩ : Shape).rowMajor.symm q) 3).val - 0 = (j 3).val := by rw [key q 3]; show (j 3).val * 1 + 0 - 0 = _; omega
      have v4 : (j 4).val * 1 + (((⟨5, ![1, 1, 64, 1, 1]⟩ : Shape).rowMajor.symm q) 4).val - 0 = (j 4).val := by rw [key q 4]; show (j 4).val * 1 + 0 - 0 = _; omega
      rw [← v0, ← v1, ← v2, ← v3, ← v4]
      rfl
    · rw [dif_neg (fun hin => c (by have := (hin 2).1; rw [key q 2] at this; change 63 ≤ (j 2).val * 1 + q.val at this; omega)), if_neg c, EReal.coe_zero]
  show Ideal.hostReduceWindowAdd _ _ _ _ hw x (init (Shape.Idx.first hu)) j = _
  rw [hi]
  unfold Ideal.hostReduceWindowAdd Host.reduceWindow
  refine (foldl_sum _).trans ((Finset.sum_congr rfl fun q _ => Eq.trans (dite_congr rfl (fun _ => rfl) (fun _ => rfl)) (term q)).trans ?_)
  rw [← coe_sum]
  show _ = ((∑ s ∈ Finset.range ((j 2).val + 1), f (j 0).val (j 1).val s (j 3).val (j 4).val : ℝ) : EReal)
  rw [← sum_window _ j2 (fun s => f (j 0).val (j 1).val s (j 3).val (j 4).val), Finset.sum_range]
  rfl

end Cert.Lift

end
-- ==== Proof.Math.lean ====
/-
The inverse of a unit lower triangular matrix of 64 rows as a product over the squares of its strictly lower part.
-/
module

public import proofs.«01_k».proof.Proof.Solve
public import Mathlib.LinearAlgebra.Matrix.Notation
public import Mathlib.Tactic.NoncommRing

@[expose] public section

noncomputable section

namespace Cert.Lift

def mm (X Y : ℕ → ℕ → ℝ) (t s : ℕ) : ℝ := ∑ j ∈ Finset.range 64, X t j * Y j s
def eye (t s : ℕ) : ℝ := if t = s then 1 else 0

def N0 (A : ℕ → ℕ → ℝ) (t s : ℕ) : ℝ := eye t s - A t s
/-- One more factor: `T + T P`. -/
def N1 (T P : ℕ → ℕ → ℝ) (t s : ℕ) : ℝ := T t s + mm T P t s

def pw (A : ℕ → ℕ → ℝ) : ℕ → ℕ → ℕ → ℝ
  | 0 => A
  | n + 1 => mm (pw A n) (pw A n)
def inv (A : ℕ → ℕ → ℝ) : ℕ → ℕ → ℕ → ℝ
  | 0 => N0 A
  | n + 1 => N1 (inv A n) (pw A (n + 1))

/-- The matrix of a function of two numbers. -/
def mat (X : ℕ → ℕ → ℝ) : Matrix (Fin 64) (Fin 64) ℝ := fun i j => X i.val j.val

theorem mat_mm (X Y : ℕ → ℕ → ℝ) : mat (mm X Y) = mat X * mat Y := by
  funext i j
  rw [Matrix.mul_apply]
  exact Finset.sum_range _

theorem mat_N0 (A : ℕ → ℕ → ℝ) : mat (N0 A) = 1 - mat A := by
  funext i j
  rw [Matrix.sub_apply, Matrix.one_apply]
  show eye i.val j.val - A i.val j.val = _ - A i.val j.val
  congr 1
  unfold eye
  simp only [Fin.ext_iff]

theorem mat_N1 (T P : ℕ → ℕ → ℝ) : mat (N1 T P) = mat T + mat T * mat P := by
  rw [← mat_mm]; rfl

/-- The product telescopes. -/
theorem inv_tele (A : ℕ → ℕ → ℝ) (n : ℕ) : (1 + mat A) * mat (inv A n) = 1 - mat (pw A (n + 1)) := by
  induction n with
  | zero =>
    show (1 + mat A) * mat (N0 A) = 1 - mat (mm A A)
    rw [mat_N0, mat_mm]; noncomm_ring
  | succ n ih =>
    show (1 + mat A) * mat (N1 (inv A n) (pw A (n + 1))) = 1 - mat (mm (pw A (n + 1)) (pw A (n + 1)))
    rw [mat_N1, mat_mm, show (1 + mat A) * (mat (inv A n) + mat (inv A n) * mat (pw A (n + 1)))
      = (1 + mat A) * mat (inv A n) + (1 + mat A) * mat (inv A n) * mat (pw A (n + 1)) by noncomm_ring, ih]
    noncomm_ring

theorem pw_low {A : ℕ → ℕ → ℝ} (hA : ∀ t s, t ≤ s → A t s = 0) (n : ℕ) : ∀ t s, t < s + 2 ^ n → pw A n t s = 0 := by
  induction n with
  | zero => intro t s h; exact hA t s (by omega)
  | succ n ih =>
    intro t s h
    have h2 : (2 : ℕ) ^ (n + 1) = 2 ^ n + 2 ^ n := by rw [pow_succ]; omega
    show ∑ j ∈ Finset.range 64, pw A n t j * pw A n j s = 0
    refine Finset.sum_eq_zero fun j _ => ?_
    by_cases c : t < j + 2 ^ n
    · rw [ih t j c, zero_mul]
    · rw [ih j s (by omega), mul_zero]

theorem inv_right {A : ℕ → ℕ → ℝ} (hA : ∀ t s, t ≤ s → A t s = 0) : (1 + mat A) * mat (inv A 5) = 1 := by
  rw [inv_tele]
  have : mat (pw A 6) = 0 := by
    funext i j
    exact pw_low hA 6 _ _ (by have := i.isLt; show i.val < j.val + 64; omega)
  rw [this, sub_zero]

/-- The inverse times a right side solves the system. -/
theorem inv_sol {A B : ℕ → ℕ → ℝ} (hA : ∀ t s, t ≤ s → A t s = 0) (hB : ∀ t s, t < 64 → s < t → A t s = B t s) (R : ℕ → ℝ) (t : ℕ) (ht : t < 64) :
    ∑ j ∈ Finset.range 64, inv A 5 t j * R j = sol B R t := by
  refine sol_unique (n := 64) (U := fun t => ∑ j ∈ Finset.range 64, inv A 5 t j * R j) (fun t ht => ?_) t ht
  have e := congrArg (fun M : Matrix (Fin 64) (Fin 64) ℝ => M.mulVec (fun j => R j.val) ⟨t, ht⟩) (inv_right hA)
  rw [← Matrix.mulVec_mulVec, Matrix.add_mulVec, Matrix.one_mulVec, Matrix.one_mulVec] at e
  have hv : ∀ i : Fin 64, (mat (inv A 5)).mulVec (fun j => R j.val) i = ∑ j ∈ Finset.range 64, inv A 5 i.val j * R j := fun i => by
    rw [Finset.sum_range]; simp only [Matrix.mulVec, dotProduct]; rfl
  have hw : (mat A).mulVec ((mat (inv A 5)).mulVec fun j => R j.val) ⟨t, ht⟩ = ∑ s ∈ Finset.range t, B t s * ∑ j ∈ Finset.range 64, inv A 5 s j * R j := by
    have : (mat A).mulVec ((mat (inv A 5)).mulVec fun j => R j.val) ⟨t, ht⟩ = ∑ s ∈ Finset.range 64, A t s * ∑ j ∈ Finset.range 64, inv A 5 s j * R j := by
      rw [Finset.sum_range, Matrix.mulVec, dotProduct]
      exact Finset.sum_congr rfl fun i _ => by rw [hv i]; rfl
    rw [this]
    have sub : ∑ s ∈ Finset.range t, A t s * ∑ j ∈ Finset.range 64, inv A 5 s j * R j = ∑ s ∈ Finset.range 64, A t s * ∑ j ∈ Finset.range 64, inv A 5 s j * R j :=
      Finset.sum_subset (Finset.range_subset_range.2 (by omega)) fun i _ hn => by
        rw [hA t i (by by_contra q; exact hn (Finset.mem_range.2 (by omega))), zero_mul]
    rw [← sub]
    exact Finset.sum_congr rfl fun s hs => by rw [hB t s ht (Finset.mem_range.1 hs)]
  rw [Pi.add_apply, hv, hw] at e
  linarith

end Cert.Lift

end
-- ==== Proof.Ref.lean ====
/-
The reference's intermediate arrays, read at their coordinates.
-/
module

public import proofs.«01_k».proof.Proof.RefOps
public import proofs.«01_k».proof.Proof.Math
public import proofs.«01_k».proof.Proof.KI.Data
public import proofs.«01_k».proof.Proof.Gen.ReferenceIdeal.Run

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.StableHlo
open Cert.ReferenceIdeal.Value Cert.Lift
open Cert.KernelIdeal.Hand (In)

variable (I : In) (cs : ℝ)

/-- The running sums of the gates in a chunk, by sequence, chunk, row, head and lane. -/
def rG (b n t h k : ℕ) : ℝ := ∑ s ∈ Finset.range (t + 1), I.g b (64 * n + s) h k
def rqp (b n t h k : ℕ) : ℝ := I.q b (64 * n + t) h k * Real.exp (rG I b n t h k)
def rkp (b n t h k : ℕ) : ℝ := I.k b (64 * n + t) h k * Real.exp (rG I b n t h k)
def rkn (b n t h k : ℕ) : ℝ := I.k b (64 * n + t) h k * Real.exp (-rG I b n t h k)
/-- The chunk's coefficients below the diagonal, by chunk, sequence, head, row and column. -/
def rA (n b h t s : ℕ) : ℝ := if s < t then I.be b (64 * n + t) h * I.ks b n h * I.ks b n h * ∑ k ∈ Finset.range 96, rkp I b n t h k * rkn I b n s h k else 0
def rN (n b h t s : ℕ) : ℝ := if s ≤ t then cs * I.qs b n h * I.ks b n h * ∑ k ∈ Finset.range 96, rqp I b n t h k * rkn I b n s h k else 0
def rT (n b h : ℕ) : ℕ → ℕ → ℝ := inv (rA I n b h) 5
def rW (n b h t k : ℕ) : ℝ := I.ks b n h * ∑ j ∈ Finset.range 64, rT I n b h t j * (I.be b (64 * n + j) h * rkp I b n j h k)
def rUt (n b h t l : ℕ) : ℝ := ∑ j ∈ Finset.range 64, rT I n b h t j * (I.be b (64 * n + j) h * I.v b (64 * n + j) h l)
def rqq (n b t h k : ℕ) : ℝ := cs * I.qs b n h * rqp I b n t h k
def rkd (n b t h k : ℕ) : ℝ := I.ks b n h * (I.k b (64 * n + t) h k * Real.exp (rG I b n 63 h k - rG I b n t h k))
def rU (n : ℕ) (S : ℕ → ℕ → ℕ → ℕ → ℝ) (b h t l : ℕ) : ℝ := rUt I n b h t l - ∑ k ∈ Finset.range 96, rW I n b h t k * S b h k l
def rS (n : ℕ) (S : ℕ → ℕ → ℕ → ℕ → ℝ) (b h k l : ℕ) : ℝ :=
  Real.exp (rG I b n 63 h k) * S b h k l + ∑ t ∈ Finset.range 64, rkd I n b t h k * rU I n S b h t l
def ro (n : ℕ) (S : ℕ → ℕ → ℕ → ℕ → ℝ) (b t h l : ℕ) : ℝ :=
  (∑ k ∈ Finset.range 96, S b h k l * rqq I cs n b t h k) + ∑ s ∈ Finset.range 64, rU I n S b h s l * rN I cs n b h t s
/-- The states between the chunks. -/
def rst : ℕ → ℕ → ℕ → ℕ → ℕ → ℝ
  | 0 => I.h0
  | n + 1 => rS I n (rst n)

variable (V0 : Valuation τ sig (Elt Ideal))

/-- The reference's arguments hold the numbers. -/
structure Args : Prop where
  a0 : At (s := S8x256x28x96) (α := EReal) (V0 (Proc.devRef .tc main_arg0)) (rd4 I.q)
  a1 : At (s := S8x4x28) (α := EReal) (V0 (Proc.devRef .tc main_arg1)) (rd3 I.qs)
  a2 : At (s := S8x256x28x96) (α := EReal) (V0 (Proc.devRef .tc main_arg2)) (rd4 I.k)
  a3 : At (s := S8x4x28) (α := EReal) (V0 (Proc.devRef .tc main_arg3)) (rd3 I.ks)
  a4 : At (s := S8x256x28x128) (α := EReal) (V0 (Proc.devRef .tc main_arg4)) (rd4 I.v)
  a5 : At (s := S8x256x28x96) (α := EReal) (V0 (Proc.devRef .tc main_arg5)) (rd4 I.g)
  a6 : At (s := S8x256x28) (α := EReal) (V0 (Proc.devRef .tc main_arg6)) (rd3 I.be)
  a7 : At (s := S8x28x96x128) (α := EReal) (V0 (Proc.devRef .tc main_arg7)) (rd4 I.h0)

/-- Rows cut into chunks. -/
theorem chunk4 {φ : FTy} {k : ℕ} {x : FVec Ideal ⟨4, ![8, 256, 28, k]⟩ φ} {f : ℕ → ℕ → ℕ → ℕ → ℝ} {h : (⟨4, ![8, 256, 28, k]⟩ : Shape).ShapeCasts ⟨5, ![8, 4, 64, 28, k]⟩}
    (hk : k = 96 ∨ k = 128) (hx : At x (rd4 f)) : At (shapeCast ⟨5, ![8, 4, 64, 28, k]⟩ x h : FVec Ideal ⟨5, ![8, 4, 64, 28, k]⟩ φ) (rd5 fun b n t h k => f b (64 * n + t) h k) :=
  hx.shapeCast fun i j e => by
    rw [Shape.rowMajor_val_four, Shape.rowMajor_val_five] at e
    have i0 := (i 0).isLt; have i1 := (i 1).isLt; have i2 := (i 2).isLt; have i3 := (i 3).isLt
    have j0 := (j 0).isLt; have j1 := (j 1).isLt; have j2 := (j 2).isLt; have j3 := (j 3).isLt; have j4 := (j 4).isLt
    change (i 0).val < 8 at i0; change (i 1).val < 256 at i1; change (i 2).val < 28 at i2; change (i 3).val < k at i3
    change (j 0).val < 8 at j0; change (j 1).val < 4 at j1; change (j 2).val < 64 at j2; change (j 3).val < 28 at j3; change (j 4).val < k at j4
    change (((i 0).val * 256 + (i 1).val) * 28 + (i 2).val) * k + (i 3).val = ((((j 0).val * 4 + (j 1).val) * 64 + (j 2).val) * 28 + (j 3).val) * k + (j 4).val at e
    show ((f (i 0).val (i 1).val (i 2).val (i 3).val : ℝ) : EReal) = ((f (j 0).val (64 * (j 1).val + (j 2).val) (j 3).val (j 4).val : ℝ) : EReal)
    have : (i 0).val = (j 0).val ∧ (i 1).val = 64 * (j 1).val + (j 2).val ∧ (i 2).val = (j 3).val ∧ (i 3).val = (j 4).val := by
      rcases hk with rfl | rfl <;> omega
    obtain ⟨e0, e1, e2, e3⟩ := this
    rw [e0, e1, e2, e3]

theorem chunk3 {φ : FTy} {x : FVec Ideal S8x256x28 φ} {f : ℕ → ℕ → ℕ → ℝ} {h : S8x256x28.ShapeCasts S8x4x64x28} (hx : At x (rd3 f)) :
    At (shapeCast S8x4x64x28 x h : FVec Ideal S8x4x64x28 φ) (rd4 fun b n t h => f b (64 * n + t) h) :=
  hx.shapeCast fun i j e => by
    rw [Shape.rowMajor_val_three, Shape.rowMajor_val_four] at e
    have i0 := (i 0).isLt; have i1 := (i 1).isLt; have i2 := (i 2).isLt
    have j0 := (j 0).isLt; have j1 := (j 1).isLt; have j2 := (j 2).isLt; have j3 := (j 3).isLt
    change (i 0).val < 8 at i0; change (i 1).val < 256 at i1; change (i 2).val < 28 at i2
    change (j 0).val < 8 at j0; change (j 1).val < 4 at j1; change (j 2).val < 64 at j2; change (j 3).val < 28 at j3
    change (((i 0).val * 256 + (i 1).val) * 28 + (i 2).val) = ((((j 0).val * 4 + (j 1).val) * 64 + (j 2).val) * 28 + (j 3).val) at e
    show ((f (i 0).val (i 1).val (i 2).val : ℝ) : EReal) = ((f (j 0).val (64 * (j 1).val + (j 2).val) (j 3).val : ℝ) : EReal)
    have e0 : (i 0).val = (j 0).val := by omega
    have e1 : (i 1).val = 64 * (j 1).val + (j 2).val := by omega
    have e2 : (i 2).val = (j 3).val := by omega
    rw [e0, e1, e2]

/-- A leading axis of size one dropped. -/
theorem drop5 {φ : FTy} {a b c d : ℕ} {x : FVec Ideal ⟨5, ![1, a, b, c, d]⟩ φ} {f : ℕ → ℕ → ℕ → ℕ → ℕ → ℝ} {h : (⟨5, ![1, a, b, c, d]⟩ : Shape).ShapeCasts ⟨4, ![a, b, c, d]⟩}
    (hx : At x (rd5 f)) : At (shapeCast ⟨4, ![a, b, c, d]⟩ x h : FVec Ideal ⟨4, ![a, b, c, d]⟩ φ) (rd4 (f 0)) :=
  hx.shapeCast fun i j e => by
    have i0 : (i 0).val < 1 := (i 0).isLt
    obtain ⟨i1, hi⟩ : ∃ i1 : (⟨4, ![a, b, c, d]⟩ : Shape).Idx, (i1 0).val = (i 1).val ∧ (i1 1).val = (i 2).val ∧ (i1 2).val = (i 3).val ∧ (i1 3).val = (i 4).val := ⟨fun k => i k.succ, rfl, rfl, rfl, rfl⟩
    obtain ⟨h0, h1, h2, h3⟩ := hi
    have z : (⟨4, ![a, b, c, d]⟩ : Shape).rowMajor i1 = (⟨4, ![a, b, c, d]⟩ : Shape).rowMajor j := Fin.ext (by
      rw [← e, Shape.rowMajor_val_four, Shape.rowMajor_val_five]
      show (((i1 0).val * b + (i1 1).val) * c + (i1 2).val) * d + (i1 3).val = ((((i 0).val * a + (i 1).val) * b + (i 2).val) * c + (i 3).val) * d + (i 4).val
      rw [h0, h1, h2, h3, show (i 0).val = 0 by omega, Nat.zero_mul, Nat.zero_add])
    have z := (⟨4, ![a, b, c, d]⟩ : Shape).rowMajor.injective z
    subst z
    show ((f (i 0).val (i 1).val (i 2).val (i 3).val (i 4).val : ℝ) : EReal) = ((f 0 (i1 0).val (i1 1).val (i1 2).val (i1 3).val : ℝ) : EReal)
    rw [h0, h1, h2, h3, show (i 0).val = 0 by omega]
theorem drop4 {φ : FTy} {a b c : ℕ} {x : FVec Ideal ⟨4, ![1, a, b, c]⟩ φ} {f : ℕ → ℕ → ℕ → ℕ → ℝ} {h : (⟨4, ![1, a, b, c]⟩ : Shape).ShapeCasts ⟨3, ![a, b, c]⟩}
    (hx : At x (rd4 f)) : At (shapeCast ⟨3, ![a, b, c]⟩ x h : FVec Ideal ⟨3, ![a, b, c]⟩ φ) (rd3 (f 0)) :=
  hx.shapeCast fun i j e => by
    have i0 : (i 0).val < 1 := (i 0).isLt
    obtain ⟨i1, hi⟩ : ∃ i1 : (⟨3, ![a, b, c]⟩ : Shape).Idx, (i1 0).val = (i 1).val ∧ (i1 1).val = (i 2).val ∧ (i1 2).val = (i 3).val := ⟨fun k => i k.succ, rfl, rfl, rfl⟩
    obtain ⟨h0, h1, h2⟩ := hi
    have z : (⟨3, ![a, b, c]⟩ : Shape).rowMajor i1 = (⟨3, ![a, b, c]⟩ : Shape).rowMajor j := Fin.ext (by
      rw [← e, Shape.rowMajor_val_three, Shape.rowMajor_val_four]
      show ((i1 0).val * b + (i1 1).val) * c + (i1 2).val = (((i 0).val * a + (i 1).val) * b + (i 2).val) * c + (i 3).val
      rw [h0, h1, h2, show (i 0).val = 0 by omega, Nat.zero_mul, Nat.zero_add])
    have z := (⟨3, ![a, b, c]⟩ : Shape).rowMajor.injective z
    subst z
    show ((f (i 0).val (i 1).val (i 2).val (i 3).val : ℝ) : EReal) = ((f 0 (i1 0).val (i1 1).val (i1 2).val : ℝ) : EReal)
    rw [h0, h1, h2, show (i 0).val = 0 by omega]

variable {I cs V0}
variable (hA : Args I V0)
include hA

theorem at_v1 : At (s := S8x4x64x28x96) (α := EReal) (res_main_v1 V0) (rd5 (rG I)) :=
  cumAt (chunk4 (.inl rfl) hA.a5) fun _ => Ideal.ofBits_zero_f32

theorem at_v3 : At (s := S8x4x28x96) (α := EReal) (res_main_v3 V0) (rd4 fun b n h k => rG I b n 63 h k) := by
  have h1 : At (s := S8x4x1x28x96) (α := EReal) (extractStridedSlice S8x4x1x28x96 ![0, 0, 63, 0, 0] (res_main_v1 V0) slices_S8x4x64x28x96_S8x4x1x28x96_0_0_63_0_0)
      (rd5 fun b n _ h k => rG I b n 63 h k) := fun j => by
    refine (at_v1 hA _).trans ?_
    have j2 : (j 2).val < 1 := (j 2).isLt
    show ((rG I (0 + (j 0).val) (0 + (j 1).val) (63 + (j 2).val) (0 + (j 3).val) (0 + (j 4).val) : ℝ) : EReal) = ((rG I (j 0).val (j 1).val 63 (j 3).val (j 4).val : ℝ) : EReal)
    rw [show (j 2).val = 0 by omega]; simp only [Nat.zero_add, Nat.add_zero]
  refine h1.shapeCast fun i j e => ?_
  rw [Shape.rowMajor_val_five, Shape.rowMajor_val_four] at e
  have i0 := (i 0).isLt; have i1 := (i 1).isLt; have i2 := (i 2).isLt; have i3 := (i 3).isLt; have i4 := (i 4).isLt
  have j0 := (j 0).isLt; have j1 := (j 1).isLt; have j2 := (j 2).isLt; have j3 := (j 3).isLt
  change (i 0).val < 8 at i0; change (i 1).val < 4 at i1; change (i 2).val < 1 at i2; change (i 3).val < 28 at i3; change (i 4).val < 96 at i4
  change (j 0).val < 8 at j0; change (j 1).val < 4 at j1; change (j 2).val < 28 at j2; change (j 3).val < 96 at j3
  change (((((i 0).val * 4 + (i 1).val) * 1 + (i 2).val) * 28 + (i 3).val) * 96 + (i 4).val) = ((((j 0).val * 4 + (j 1).val) * 28 + (j 2).val) * 96 + (j 3).val) at e
  show ((rG I (i 0).val (i 1).val 63 (i 3).val (i 4).val : ℝ) : EReal) = ((rG I (j 0).val (j 1).val 63 (j 2).val (j 3).val : ℝ) : EReal)
  have e0 : (i 0).val = (j 0).val := by omega
  have e1 : (i 1).val = (j 1).val := by omega
  have e3 : (i 3).val = (j 2).val := by omega
  have e4 : (i 4).val = (j 3).val := by omega
  rw [e0, e1, e3, e4]

theorem at_v7 : At (s := S8x4x64x28x96) (α := EReal) (res_main_v7 V0) (rd5 fun b n t h k => I.k b (64 * n + t) h k) := (chunk4 (φ := .f32) (.inl rfl) hA.a2).truncf (φ := .f32) (ψ := .bf16) _
theorem at_v9 : At (s := S8x4x64x28x96) (α := EReal) (res_main_v9 V0) (rd5 fun b n t h k => Real.exp (rG I b n t h k)) :=
  (At.hexp (φ := .f32) (at_v1 hA)).truncf (φ := .f32) (ψ := .bf16) _
theorem at_v10 : At (s := S8x4x64x28x96) (α := EReal) (res_main_v10 V0) (rd5 (rqp I)) :=
  At.mulf (φ := .bf16) ((chunk4 (φ := .f32) (.inl rfl) hA.a0).truncf (φ := .f32) (ψ := .bf16) bitsLt_bf16_f32) (at_v9 hA)
theorem at_v11 : At (s := S8x4x64x28x96) (α := EReal) (res_main_v11 V0) (rd5 (rkp I)) := At.mulf (φ := .bf16) (at_v7 hA) (at_v9 hA)
theorem at_v15 : At (s := S8x4x64x28x96) (α := EReal) (res_main_v15 V0) (rd5 (rkn I)) :=
  At.mulf (φ := .bf16) (at_v7 hA) ((At.hexp (φ := .f32) (At.hnegf (φ := .f32) (at_v1 hA))).truncf (φ := .f32) (ψ := .bf16) bitsLt_bf16_f32)
theorem at_v22 : At (s := S8x4x64x28) (α := EReal) (res_main_v22 V0) (rd4 fun b n t h => I.be b (64 * n + t) h) := chunk3 (φ := .f32) hA.a6
theorem at_v28 : At (s := S4x8x28x1x1) (α := EReal) (res_main_v28 V0) (rd5 fun n b h _ _ => I.ks b n h) := fun j => (hA.a3 _).trans rfl

omit hA in
theorem mask_gt : ∀ t < 64, ∀ s < 64, IntOp.cmpi .sgt (BitVec.ofNat 32 t) (BitVec.ofNat 32 s) = if s < t then 1#1 else 0#1 := by decide +kernel
omit hA in
theorem mask_ge : ∀ t < 64, ∀ s < 64, IntOp.cmpi .sge (BitVec.ofNat 32 t) (BitVec.ofNat 32 s) = if s ≤ t then 1#1 else 0#1 := by decide +kernel
omit hA in
theorem mask_eq : ∀ t < 64, ∀ s < 64, (IntOp.cmpi .eq (BitVec.ofNat 32 t + 0#32) (BitVec.ofNat 32 s)).toNat = if t = s then 1 else 0 := by decide +kernel

theorem at_v47 : At (s := S4x8x28x64x64) (α := EReal) (res_main_v47 V0) (rd5 (rA I)) := by
  refine At.selectP (p := fun c => c 4 < c 3) (f := fun c => I.be (c 1) (64 * c 0 + c 3) (c 2) * I.ks (c 1) (c 0) (c 2) * I.ks (c 1) (c 0) (c 2) * ∑ k ∈ Finset.range 96, rkp I (c 1) (c 0) (c 3) (c 2) k * rkn I (c 1) (c 0) (c 4) (c 2) k) (g := fun _ => 0) (fun j => ?_) ?_ (fun j => ?_)
  · exact mask_gt (j 3).val (j 3).isLt (j 4).val (j 4).isLt
  · refine At.mulf (φ := .f32) (f := fun c => I.be (c 1) (64 * c 0 + c 3) (c 2) * I.ks (c 1) (c 0) (c 2) * I.ks (c 1) (c 0) (c 2)) ?_ (dotAt (φ₁ := .bf16) (φ₂ := .bf16) dot_S8x4x64x28x96_S8x4x64x28x96_S4x8x28x64x64_4_4_2_2_103_103 rfl rfl (F := fun c k => rkp I (c 1) (c 0) (c 3) (c 2) k) (G := fun c k => rkn I (c 1) (c 0) (c 4) (c 2) k) (at_v11 hA) (at_v15 hA) (fun j k => show rkp I (j 1).val (j 0).val (j 3).val (j 2).val k.val = _ from rfl) (fun j k => show rkn I (j 1).val (j 0).val (j 4).val (j 2).val k.val = _ from rfl))
    have h3 : At (s := S4x8x28x64x1) (α := EReal) (mulf (mulf (broadcastInDim S4x8x28x64x1 ![0, 1, 2, 3] bcast_S4x8x28x64_S4x8x28x64x1_0_1_2_3 (transpose S4x8x28x64 [1, 0, 3, 2] (res_main_v22 V0) transposes_S8x4x64x28_S4x8x28x64_1_0_3_2)) (broadcastInDim S4x8x28x64x1 ![0, 1, 2, 3, 4] bcast_S4x8x28x1x1_S4x8x28x64x1_0_1_2_3_4 (res_main_v28 V0))) (broadcastInDim S4x8x28x64x1 ![0, 1, 2, 3, 4] bcast_S4x8x28x1x1_S4x8x28x64x1_0_1_2_3_4 (res_main_v28 V0)) : FVec Ideal S4x8x28x64x1 .f32)
        (rd5 fun n b h t _ => I.be b (64 * n + t) h * I.ks b n h * I.ks b n h) :=
      At.mulf (φ := .f32) (At.mulf (φ := .f32) (fun j => (at_v22 hA _).trans rfl) (fun j => (at_v28 hA _).trans rfl)) (fun j => (at_v28 hA _).trans rfl)
    exact fun j => (h3 _).trans rfl
  · exact zero_f32

theorem at_v54 (hcs : Ideal.ofBits .f32 0x3DD105EC#32 = ((cs : ℝ) : EReal)) : At (s := S4x8x28x64x64) (α := EReal) (res_main_v54 V0) (rd5 (rN I cs)) := by
  refine At.selectP (p := fun c => c 4 ≤ c 3) (f := fun c => cs * I.qs (c 1) (c 0) (c 2) * I.ks (c 1) (c 0) (c 2) * ∑ k ∈ Finset.range 96, rqp I (c 1) (c 0) (c 3) (c 2) k * rkn I (c 1) (c 0) (c 4) (c 2) k) (g := fun _ => 0) (fun j => ?_) ?_ (fun j => ?_)
  · exact mask_ge (j 3).val (j 3).isLt (j 4).val (j 4).isLt
  · refine At.mulf (φ := .f32) (f := fun c => cs * I.qs (c 1) (c 0) (c 2) * I.ks (c 1) (c 0) (c 2)) ?_ (dotAt (φ₁ := .bf16) (φ₂ := .bf16) dot_S8x4x64x28x96_S8x4x64x28x96_S4x8x28x64x64_4_4_2_2_103_103 rfl rfl (F := fun c k => rqp I (c 1) (c 0) (c 3) (c 2) k) (G := fun c k => rkn I (c 1) (c 0) (c 4) (c 2) k) (at_v10 hA) (at_v15 hA) (fun j k => show rqp I (j 1).val (j 0).val (j 3).val (j 2).val k.val = _ from rfl) (fun j k => show rkn I (j 1).val (j 0).val (j 4).val (j 2).val k.val = _ from rfl))
    have h3 : At (s := S4x8x28x1x1) (α := EReal) (mulf (mulf (broadcastInDim S4x8x28x1x1 ![] bcast_S_S4x8x28x1x1 (constant S_ .f32 0x3DD105EC#32)) (broadcastInDim S4x8x28x1x1 ![0, 1, 2] bcast_S4x8x28_S4x8x28x1x1_0_1_2 (transpose S4x8x28 [1, 0, 2] (V0 (Proc.devRef .tc main_arg1)) transposes_S8x4x28_S4x8x28_1_0_2))) (res_main_v28 V0) : FVec Ideal S4x8x28x1x1 .f32)
        (rd5 fun n b h _ _ => cs * I.qs b n h * I.ks b n h) :=
      At.mulf (φ := .f32) (At.mulf (φ := .f32) (f := fun _ => cs) (g := fun c => I.qs (c 1) (c 0) (c 2)) (fun j => hcs) (fun j => (hA.a1 _).trans rfl)) (at_v28 hA)
    exact fun j => (h3 _).trans rfl
  · exact zero_f32

theorem at_v63 : At (s := S4x8x28x64x64) (α := EReal) (res_main_v63 V0) (rd5 fun n b h => N0 (rA I n b h)) := by
  refine At.subf (φ := .f32) (f := fun c => eye (c 3) (c 4)) (fun j => ?_) (at_v47 hA)
  refine Eq.trans (b := (((IntOp.cmpi .eq (BitVec.ofNat 32 (j 3).val + 0#32) (BitVec.ofNat 32 (j 4).val)).toNat : ℝ) : EReal)) rfl ?_
  rw [mask_eq _ (j 3).isLt _ (j 4).isLt]
  show _ = ((eye (j 3).val (j 4).val : ℝ) : EReal)
  unfold eye
  split_ifs <;> simp

omit hA in
theorem mmAt {x y : FVec Ideal S4x8x28x64x64 .f32} {X Y : ℕ → ℕ → ℕ → ℕ → ℕ → ℝ} (hx : At x (rd5 X)) (hy : At y (rd5 Y)) :
    At (Host.dotGeneral dot_S4x8x28x64x64_S4x8x28x64x64_S4x8x28x64x64_4_3_3_4_012_012 (some .fp32) x y : FVec Ideal S4x8x28x64x64 .f32) (rd5 fun n b h => mm (X n b h) (Y n b h)) :=
  dotAt (φ₁ := .f32) (φ₂ := .f32) dot_S4x8x28x64x64_S4x8x28x64x64_S4x8x28x64x64_4_3_3_4_012_012 rfl rfl (F := fun c k => X (c 0) (c 1) (c 2) (c 3) k) (G := fun c k => Y (c 0) (c 1) (c 2) k (c 4)) hx hy (fun j k => show X (j 0).val (j 1).val (j 2).val (j 3).val k.val = _ from rfl) (fun j k => show Y (j 0).val (j 1).val (j 2).val k.val (j 4).val = _ from rfl)

theorem at_v64 : At (s := S4x8x28x64x64) (α := EReal) (res_main_v64 V0) (rd5 fun n b h => pw (rA I n b h) 1) := mmAt (at_v47 hA) (at_v47 hA)
theorem at_v67 : At (s := S4x8x28x64x64) (α := EReal) (res_main_v67 V0) (rd5 fun n b h => pw (rA I n b h) 2) := mmAt (at_v64 hA) (at_v64 hA)
theorem at_v70 : At (s := S4x8x28x64x64) (α := EReal) (res_main_v70 V0) (rd5 fun n b h => pw (rA I n b h) 3) := mmAt (at_v67 hA) (at_v67 hA)
theorem at_v73 : At (s := S4x8x28x64x64) (α := EReal) (res_main_v73 V0) (rd5 fun n b h => pw (rA I n b h) 4) := mmAt (at_v70 hA) (at_v70 hA)
theorem at_v66 : At (s := S4x8x28x64x64) (α := EReal) (res_main_v66 V0) (rd5 fun n b h => inv (rA I n b h) 1) := At.addf (φ := .f32) (at_v63 hA) (mmAt (at_v63 hA) (at_v64 hA))
theorem at_v69 : At (s := S4x8x28x64x64) (α := EReal) (res_main_v69 V0) (rd5 fun n b h => inv (rA I n b h) 2) := At.addf (φ := .f32) (at_v66 hA) (mmAt (at_v66 hA) (at_v67 hA))
theorem at_v72 : At (s := S4x8x28x64x64) (α := EReal) (res_main_v72 V0) (rd5 fun n b h => inv (rA I n b h) 3) := At.addf (φ := .f32) (at_v69 hA) (mmAt (at_v69 hA) (at_v70 hA))
theorem at_v75 : At (s := S4x8x28x64x64) (α := EReal) (res_main_v75 V0) (rd5 fun n b h => inv (rA I n b h) 4) := At.addf (φ := .f32) (at_v72 hA) (mmAt (at_v72 hA) (at_v73 hA))
theorem at_v78 : At (s := S4x8x28x64x64) (α := EReal) (res_main_v78 V0) (rd5 fun n b h => inv (rA I n b h) 5) := At.addf (φ := .f32) (at_v75 hA) (mmAt (at_v75 hA) (mmAt (at_v73 hA) (at_v73 hA)))

theorem at_be (m : ℕ) {hb : S8x4x64x28x1.BroadcastsInDim ⟨5, ![8, 4, 64, 28, m]⟩ ![0, 1, 2, 3, 4]} (hm : m = 96 ∨ m = 128) :
    At (broadcastInDim ⟨5, ![8, 4, 64, 28, m]⟩ ![0, 1, 2, 3, 4] hb (broadcastInDim S8x4x64x28x1 ![0, 1, 2, 3] bcast_S8x4x64x28_S8x4x64x28x1_0_1_2_3 (res_main_v22 V0)) : FVec Ideal ⟨5, ![8, 4, 64, 28, m]⟩ .f32)
      (rd5 fun b n t h _ => I.be b (64 * n + t) h) := by
  rcases hm with rfl | rfl <;> exact fun j => (at_v22 hA _).trans rfl

theorem at_v85 : At (s := S4x8x28x64x96) (α := EReal) (res_main_v85 V0) (rd5 (rW I)) := by
  refine At.mulf (φ := .f32) (f := fun c => I.ks (c 1) (c 0) (c 2)) (fun j => (at_v28 hA _).trans rfl) ?_
  exact dotAt (φ₁ := .f32) (φ₂ := .f32) dot_S4x8x28x64x64_S8x4x64x28x96_S4x8x28x64x96_4_2_3_4_012_103 rfl rfl (F := fun c k => rT I (c 0) (c 1) (c 2) (c 3) k) (G := fun c k => I.be (c 1) (64 * c 0 + k) (c 2) * rkp I (c 1) (c 0) k (c 2) (c 4)) (at_v78 hA)
    (At.mulf (φ := .f32) (at_be hA 96 (.inl rfl)) ((at_v11 hA).extf (φ := .bf16) (ψ := .f32) bitsLt_bf16_f32)) (fun j k => show rT I (j 0).val (j 1).val (j 2).val (j 3).val k.val = _ from rfl) (fun j k => show I.be (j 1).val (64 * (j 0).val + k.val) (j 2).val * rkp I (j 1).val (j 0).val k.val (j 2).val (j 4).val = _ from rfl)
theorem at_v91 : At (s := S4x8x28x64x128) (α := EReal) (res_main_v91 V0) (rd5 (rUt I)) := by
  exact dotAt (φ₁ := .f32) (φ₂ := .f32) dot_S4x8x28x64x64_S8x4x64x28x128_S4x8x28x64x128_4_2_3_4_012_103 rfl rfl (F := fun c k => rT I (c 0) (c 1) (c 2) (c 3) k) (G := fun c k => I.be (c 1) (64 * c 0 + k) (c 2) * I.v (c 1) (64 * c 0 + k) (c 2) (c 4)) (at_v78 hA)
    (At.mulf (φ := .f32) (at_be hA 128 (.inr rfl)) ((chunk4 (φ := .bf16) (.inr rfl) hA.a4).extf (φ := .bf16) (ψ := .f32) bitsLt_bf16_f32)) (fun j k => show rT I (j 0).val (j 1).val (j 2).val (j 3).val k.val = _ from rfl) (fun j k => show I.be (j 1).val (64 * (j 0).val + k.val) (j 2).val * I.v (j 1).val (64 * (j 0).val + k.val) (j 2).val (j 4).val = _ from rfl)
theorem at_v98 (hcs : Ideal.ofBits .f32 0x3DD105EC#32 = ((cs : ℝ) : EReal)) : At (s := S4x8x64x28x96) (α := EReal) (res_main_v98 V0) (rd5 (rqq I cs)) := by
  have h1 : At (s := S8x4x28) (α := EReal) (mulf (broadcastInDim S8x4x28 ![] bcast_S_S8x4x28 (constant S_ .f32 0x3DD105EC#32)) (V0 (Proc.devRef .tc main_arg1)) : FVec Ideal S8x4x28 .f32) (rd3 fun b n h => cs * I.qs b n h) :=
    At.mulf (φ := .f32) (f := fun _ => cs) (fun j => hcs) hA.a1
  have h2 : At (s := S8x4x64x28x96) (α := EReal) (mulf (broadcastInDim S8x4x64x28x96 ![0, 1, 2, 3, 4] bcast_S8x4x1x28x1_S8x4x64x28x96_0_1_2_3_4 (broadcastInDim S8x4x1x28x1 ![0, 1, 3] bcast_S8x4x28_S8x4x1x28x1_0_1_3 (mulf (broadcastInDim S8x4x28 ![] bcast_S_S8x4x28 (constant S_ .f32 0x3DD105EC#32)) (V0 (Proc.devRef .tc main_arg1))))) (extf .f32 (res_main_v10 V0) bitsLt_bf16_f32) : FVec Ideal S8x4x64x28x96 .f32)
      (rd5 fun b n t h k => rqq I cs n b t h k) :=
    At.mulf (φ := .f32) (f := fun c => cs * I.qs (c 0) (c 1) (c 3)) (fun j => (h1 _).trans rfl) ((at_v10 hA).extf (φ := .bf16) (ψ := .f32) bitsLt_bf16_f32)
  exact fun j => (h2 _).trans rfl
theorem at_v103 : At (s := S4x8x64x28x96) (α := EReal) (res_main_v103 V0) (rd5 (rkd I)) := by
  have h1 : At (s := S8x4x64x28x96) (α := EReal) (subf (broadcastInDim S8x4x64x28x96 ![0, 1, 2, 3, 4] bcast_S8x4x1x28x96_S8x4x64x28x96_0_1_2_3_4 (broadcastInDim S8x4x1x28x96 ![0, 1, 3, 4] bcast_S8x4x28x96_S8x4x1x28x96_0_1_3_4 (res_main_v3 V0))) (res_main_v1 V0) : FVec Ideal S8x4x64x28x96 .f32)
      (rd5 fun b n t h k => rG I b n 63 h k - rG I b n t h k) :=
    At.subf (φ := .f32) (f := fun c => rG I (c 0) (c 1) 63 (c 3) (c 4)) (fun j => (at_v3 hA _).trans rfl) (at_v1 hA)
  have h2 : At (s := S8x4x64x28x96) (α := EReal) (mulf (broadcastInDim S8x4x64x28x96 ![0, 1, 2, 3, 4] bcast_S8x4x1x28x1_S8x4x64x28x96_0_1_2_3_4 (broadcastInDim S8x4x1x28x1 ![0, 1, 3] bcast_S8x4x28_S8x4x1x28x1_0_1_3 (V0 (Proc.devRef .tc main_arg3)))) (extf .f32 (mulf (res_main_v7 V0) (truncf .bf16 (Host.exp (subf (broadcastInDim S8x4x64x28x96 ![0, 1, 2, 3, 4] bcast_S8x4x1x28x96_S8x4x64x28x96_0_1_2_3_4 (broadcastInDim S8x4x1x28x96 ![0, 1, 3, 4] bcast_S8x4x28x96_S8x4x1x28x96_0_1_3_4 (res_main_v3 V0))) (res_main_v1 V0))) bitsLt_bf16_f32)) bitsLt_bf16_f32) : FVec Ideal S8x4x64x28x96 .f32)
      (rd5 fun b n t h k => rkd I n b t h k) :=
    At.mulf (φ := .f32) (f := fun c => I.ks (c 0) (c 1) (c 3)) (fun j => (hA.a3 _).trans rfl)
      ((At.mulf (φ := .bf16) (at_v7 hA) ((At.hexp (φ := .f32) h1).truncf (φ := .f32) (ψ := .bf16) bitsLt_bf16_f32)).extf (φ := .bf16) (ψ := .f32) bitsLt_bf16_f32)
  exact fun j => (h2 _).trans rfl
theorem at_v105 : At (s := S4x8x28x96) (α := EReal) (res_main_v105 V0) (rd4 fun n b h k => Real.exp (rG I b n 63 h k)) := by
  have h1 := At.hexp (φ := .f32) (at_v3 hA)
  exact fun j => (h1 _).trans rfl

omit hA in
/-- The member `n` of a stack. -/
theorem member5 {φ : FTy} {a b c d n : ℕ} {x : FVec Ideal ⟨5, ![4, a, b, c, d]⟩ φ} {f : ℕ → ℕ → ℕ → ℕ → ℕ → ℝ} {h : (⟨5, ![4, a, b, c, d]⟩ : Shape).Slices ![n, 0, 0, 0, 0] ⟨5, ![1, a, b, c, d]⟩}
    {h' : (⟨5, ![1, a, b, c, d]⟩ : Shape).ShapeCasts ⟨4, ![a, b, c, d]⟩} (hx : At x (rd5 f)) :
    At (shapeCast ⟨4, ![a, b, c, d]⟩ (extractStridedSlice ⟨5, ![1, a, b, c, d]⟩ ![n, 0, 0, 0, 0] x h) h' : FVec Ideal ⟨4, ![a, b, c, d]⟩ φ) (rd4 (f n)) :=
  drop5 (f := fun u => f (n + u)) (fun j => (hx _).trans (by
    show ((f (n + (j 0).val) (0 + (j 1).val) (0 + (j 2).val) (0 + (j 3).val) (0 + (j 4).val) : ℝ) : EReal) = ((f (n + (j 0).val) (j 1).val (j 2).val (j 3).val (j 4).val : ℝ) : EReal)
    simp only [Nat.zero_add]))
omit hA in
theorem member4 {φ : FTy} {a b c n : ℕ} {x : FVec Ideal ⟨4, ![4, a, b, c]⟩ φ} {f : ℕ → ℕ → ℕ → ℕ → ℝ} {h : (⟨4, ![4, a, b, c]⟩ : Shape).Slices ![n, 0, 0, 0] ⟨4, ![1, a, b, c]⟩}
    {h' : (⟨4, ![1, a, b, c]⟩ : Shape).ShapeCasts ⟨3, ![a, b, c]⟩} (hx : At x (rd4 f)) :
    At (shapeCast ⟨3, ![a, b, c]⟩ (extractStridedSlice ⟨4, ![1, a, b, c]⟩ ![n, 0, 0, 0] x h) h' : FVec Ideal ⟨3, ![a, b, c]⟩ φ) (rd3 (f n)) :=
  drop4 (f := fun u => f (n + u)) (fun j => (hx _).trans (by
    show ((f (n + (j 0).val) (0 + (j 1).val) (0 + (j 2).val) (0 + (j 3).val) : ℝ) : EReal) = ((f (n + (j 0).val) (j 1).val (j 2).val (j 3).val : ℝ) : EReal)
    simp only [Nat.zero_add]))

theorem at_v119 : At (s := S8x28x64x128) (α := EReal) (res_main_v119 V0) (rd4 (rU I 0 (rst I 0))) :=
  At.subf (φ := .f32) (member5 (φ := .f32) (n := 0) (at_v91 hA)) (dotAt (φ₁ := .f32) (φ₂ := .f32) dot_S8x28x64x96_S8x28x96x128_S8x28x64x128_3_2_2_3_01_01 rfl rfl (F := fun c k => rW I 0 (c 0) (c 1) (c 2) k) (G := fun c k => rst I 0 (c 0) (c 1) k (c 3)) (member5 (φ := .f32) (n := 0) (at_v85 hA)) hA.a7 (fun j k => show rW I 0 (j 0).val (j 1).val (j 2).val k.val = _ from rfl) (fun j k => show rst I 0 (j 0).val (j 1).val k.val (j 3).val = _ from rfl))
theorem at_v129 : At (s := S8x28x96x128) (α := EReal) (res_main_v129 V0) (rd4 (rst I 1)) := by
  have hd := member4 (φ := .f32) (n := 0) (h := slices_S4x8x28x96_S1x8x28x96_0_0_0_0) (h' := shapeCasts_S1x8x28x96_S8x28x96) (at_v105 hA)
  exact At.addf (φ := .f32) (At.mulf (φ := .f32) (f := fun c => Real.exp (rG I (c 0) 0 63 (c 1) (c 2))) (fun j => (hd _).trans rfl) hA.a7)
    (dotAt (φ₁ := .f32) (φ₂ := .f32) dot_S8x64x28x96_S8x28x64x128_S8x28x96x128_1_2_3_3_02_01 rfl rfl (F := fun c k => rkd I 0 (c 0) k (c 1) (c 2)) (G := fun c k => rU I 0 (rst I 0) (c 0) (c 1) k (c 3)) (member5 (φ := .f32) (n := 0) (at_v103 hA)) (at_v119 hA) (fun j k => show rkd I 0 (j 0).val k.val (j 1).val (j 2).val = _ from rfl) (fun j k => show rU I 0 (rst I 0) (j 0).val (j 1).val k.val (j 3).val = _ from rfl))
theorem at_v143 : At (s := S8x28x64x128) (α := EReal) (res_main_v143 V0) (rd4 (rU I 1 (rst I 1))) :=
  At.subf (φ := .f32) (member5 (φ := .f32) (n := 1) (at_v91 hA)) (dotAt (φ₁ := .f32) (φ₂ := .f32) dot_S8x28x64x96_S8x28x96x128_S8x28x64x128_3_2_2_3_01_01 rfl rfl (F := fun c k => rW I 1 (c 0) (c 1) (c 2) k) (G := fun c k => rst I 1 (c 0) (c 1) k (c 3)) (member5 (φ := .f32) (n := 1) (at_v85 hA)) (at_v129 hA) (fun j k => show rW I 1 (j 0).val (j 1).val (j 2).val k.val = _ from rfl) (fun j k => show rst I 1 (j 0).val (j 1).val k.val (j 3).val = _ from rfl))
theorem at_v153 : At (s := S8x28x96x128) (α := EReal) (res_main_v153 V0) (rd4 (rst I 2)) := by
  have hd := member4 (φ := .f32) (n := 1) (h := slices_S4x8x28x96_S1x8x28x96_1_0_0_0) (h' := shapeCasts_S1x8x28x96_S8x28x96) (at_v105 hA)
  exact At.addf (φ := .f32) (At.mulf (φ := .f32) (f := fun c => Real.exp (rG I (c 0) 1 63 (c 1) (c 2))) (fun j => (hd _).trans rfl) (at_v129 hA))
    (dotAt (φ₁ := .f32) (φ₂ := .f32) dot_S8x64x28x96_S8x28x64x128_S8x28x96x128_1_2_3_3_02_01 rfl rfl (F := fun c k => rkd I 1 (c 0) k (c 1) (c 2)) (G := fun c k => rU I 1 (rst I 1) (c 0) (c 1) k (c 3)) (member5 (φ := .f32) (n := 1) (at_v103 hA)) (at_v143 hA) (fun j k => show rkd I 1 (j 0).val k.val (j 1).val (j 2).val = _ from rfl) (fun j k => show rU I 1 (rst I 1) (j 0).val (j 1).val k.val (j 3).val = _ from rfl))
theorem at_v167 : At (s := S8x28x64x128) (α := EReal) (res_main_v167 V0) (rd4 (rU I 2 (rst I 2))) :=
  At.subf (φ := .f32) (member5 (φ := .f32) (n := 2) (at_v91 hA)) (dotAt (φ₁ := .f32) (φ₂ := .f32) dot_S8x28x64x96_S8x28x96x128_S8x28x64x128_3_2_2_3_01_01 rfl rfl (F := fun c k => rW I 2 (c 0) (c 1) (c 2) k) (G := fun c k => rst I 2 (c 0) (c 1) k (c 3)) (member5 (φ := .f32) (n := 2) (at_v85 hA)) (at_v153 hA) (fun j k => show rW I 2 (j 0).val (j 1).val (j 2).val k.val = _ from rfl) (fun j k => show rst I 2 (j 0).val (j 1).val k.val (j 3).val = _ from rfl))
theorem at_v177 : At (s := S8x28x96x128) (α := EReal) (res_main_v177 V0) (rd4 (rst I 3)) := by
  have hd := member4 (φ := .f32) (n := 2) (h := slices_S4x8x28x96_S1x8x28x96_2_0_0_0) (h' := shapeCasts_S1x8x28x96_S8x28x96) (at_v105 hA)
  exact At.addf (φ := .f32) (At.mulf (φ := .f32) (f := fun c => Real.exp (rG I (c 0) 2 63 (c 1) (c 2))) (fun j => (hd _).trans rfl) (at_v153 hA))
    (dotAt (φ₁ := .f32) (φ₂ := .f32) dot_S8x64x28x96_S8x28x64x128_S8x28x96x128_1_2_3_3_02_01 rfl rfl (F := fun c k => rkd I 2 (c 0) k (c 1) (c 2)) (G := fun c k => rU I 2 (rst I 2) (c 0) (c 1) k (c 3)) (member5 (φ := .f32) (n := 2) (at_v103 hA)) (at_v167 hA) (fun j k => show rkd I 2 (j 0).val k.val (j 1).val (j 2).val = _ from rfl) (fun j k => show rU I 2 (rst I 2) (j 0).val (j 1).val k.val (j 3).val = _ from rfl))
theorem at_v191 : At (s := S8x28x64x128) (α := EReal) (res_main_v191 V0) (rd4 (rU I 3 (rst I 3))) :=
  At.subf (φ := .f32) (member5 (φ := .f32) (n := 3) (at_v91 hA)) (dotAt (φ₁ := .f32) (φ₂ := .f32) dot_S8x28x64x96_S8x28x96x128_S8x28x64x128_3_2_2_3_01_01 rfl rfl (F := fun c k => rW I 3 (c 0) (c 1) (c 2) k) (G := fun c k => rst I 3 (c 0) (c 1) k (c 3)) (member5 (φ := .f32) (n := 3) (at_v85 hA)) (at_v177 hA) (fun j k => show rW I 3 (j 0).val (j 1).val (j 2).val k.val = _ from rfl) (fun j k => show rst I 3 (j 0).val (j 1).val k.val (j 3).val = _ from rfl))
theorem at_v201 : At (s := S8x28x96x128) (α := EReal) (addf (mulf (broadcastInDim (α := Ideal .f32) S8x28x96x128 ![0, 1, 2, 3] bcast_S8x28x96x1_S8x28x96x128_0_1_2_3 (broadcastInDim (α := Ideal .f32) S8x28x96x1 ![0, 1, 2] bcast_S8x28x96_S8x28x96x1_0_1_2 (shapeCast (α := Ideal .f32) _ (extractStridedSlice (α := Ideal .f32) S1x8x28x96 ![3, 0, 0, 0] (res_main_v105 V0) slices_S4x8x28x96_S1x8x28x96_3_0_0_0) shapeCasts_S1x8x28x96_S8x28x96))) (res_main_v177 V0)) (Host.dotGeneral (F := Ideal) (φ₁ := .f32) (φ₂ := .f32) dot_S8x64x28x96_S8x28x64x128_S8x28x96x128_1_2_3_3_02_01 (some .fp32) (shapeCast (α := Ideal .f32) _ (extractStridedSlice (α := Ideal .f32) S1x8x64x28x96 ![3, 0, 0, 0, 0] (res_main_v103 V0) slices_S4x8x64x28x96_S1x8x64x28x96_3_0_0_0_0) shapeCasts_S1x8x64x28x96_S8x64x28x96) (res_main_v191 V0)) : FVec Ideal S8x28x96x128 .f32) (rd4 (rst I 4)) := by
  have hd := member4 (φ := .f32) (n := 3) (h := slices_S4x8x28x96_S1x8x28x96_3_0_0_0) (h' := shapeCasts_S1x8x28x96_S8x28x96) (at_v105 hA)
  exact At.addf (φ := .f32) (At.mulf (φ := .f32) (f := fun c => Real.exp (rG I (c 0) 3 63 (c 1) (c 2))) (fun j => (hd _).trans rfl) (at_v177 hA))
    (dotAt (φ₁ := .f32) (φ₂ := .f32) dot_S8x64x28x96_S8x28x64x128_S8x28x96x128_1_2_3_3_02_01 rfl rfl (F := fun c k => rkd I 3 (c 0) k (c 1) (c 2)) (G := fun c k => rU I 3 (rst I 3) (c 0) (c 1) k (c 3)) (member5 (φ := .f32) (n := 3) (at_v103 hA)) (at_v191 hA) (fun j k => show rkd I 3 (j 0).val k.val (j 1).val (j 2).val = _ from rfl) (fun j k => show rU I 3 (rst I 3) (j 0).val (j 1).val k.val (j 3).val = _ from rfl))
theorem at_o0 (hcs : Ideal.ofBits .f32 0x3DD105EC#32 = ((cs : ℝ) : EReal)) : At (s := S1x8x64x28x128) (α := EReal) (broadcastInDim (α := Ideal .f32) S1x8x64x28x128 ![1, 2, 3, 4] bcast_S8x64x28x128_S1x8x64x28x128_1_2_3_4 (addf (transpose (α := Ideal .f32) S8x64x28x128 [0, 3, 1, 2] (Host.dotGeneral (F := Ideal) (φ₁ := .f32) (φ₂ := .f32) dot_S8x28x96x128_S8x64x28x96_S8x28x128x64_2_3_3_1_01_02 (some .fp32) (V0 (Proc.devRef .tc main_arg7)) (shapeCast (α := Ideal .f32) _ (extractStridedSlice (α := Ideal .f32) S1x8x64x28x96 ![0, 0, 0, 0, 0] (res_main_v98 V0) slices_S4x8x64x28x96_S1x8x64x28x96_0_0_0_0_0) shapeCasts_S1x8x64x28x96_S8x64x28x96)) transposes_S8x28x128x64_S8x64x28x128_0_3_1_2) (transpose (α := Ideal .f32) S8x64x28x128 [0, 3, 1, 2] (Host.dotGeneral (F := Ideal) (φ₁ := .f32) (φ₂ := .f32) dot_S8x28x64x128_S8x28x64x64_S8x28x128x64_2_3_3_2_01_01 (some .fp32) (res_main_v119 V0) (shapeCast (α := Ideal .f32) _ (extractStridedSlice (α := Ideal .f32) S1x8x28x64x64 ![0, 0, 0, 0, 0] (res_main_v54 V0) slices_S4x8x28x64x64_S1x8x28x64x64_0_0_0_0_0) shapeCasts_S1x8x28x64x64_S8x28x64x64)) transposes_S8x28x128x64_S8x64x28x128_0_3_1_2)) : FVec Ideal S1x8x64x28x128 .f32) (rd5 fun _ b t h l => ro I cs 0 (rst I 0) b t h l) := by
  have h1 := dotAt (φ₁ := .f32) (φ₂ := .f32) (prec := some .fp32) dot_S8x28x96x128_S8x64x28x96_S8x28x128x64_2_3_3_1_01_02 rfl rfl (F := fun c k => rst I 0 (c 0) (c 1) k (c 2)) (G := fun c k => rqq I cs 0 (c 0) (c 3) (c 1) k) hA.a7 (member5 (φ := .f32) (n := 0) (h := slices_S4x8x64x28x96_S1x8x64x28x96_0_0_0_0_0) (h' := shapeCasts_S1x8x64x28x96_S8x64x28x96) (at_v98 hA hcs)) (fun j k => show rst I 0 (j 0).val (j 1).val k.val (j 2).val = _ from rfl) (fun j k => show rqq I cs 0 (j 0).val (j 3).val (j 1).val k.val = _ from rfl)
  have h2 := dotAt (φ₁ := .f32) (φ₂ := .f32) (prec := some .fp32) dot_S8x28x64x128_S8x28x64x64_S8x28x128x64_2_3_3_2_01_01 rfl rfl (F := fun c k => rU I 0 (rst I 0) (c 0) (c 1) k (c 2)) (G := fun c k => rN I cs 0 (c 0) (c 1) (c 3) k) (at_v119 hA) (member5 (φ := .f32) (n := 0) (h := slices_S4x8x28x64x64_S1x8x28x64x64_0_0_0_0_0) (h' := shapeCasts_S1x8x28x64x64_S8x28x64x64) (at_v54 hA hcs)) (fun j k => show rU I 0 (rst I 0) (j 0).val (j 1).val k.val (j 2).val = _ from rfl) (fun j k => show rN I cs 0 (j 0).val (j 1).val (j 3).val k.val = _ from rfl)
  have h3 : At (s := S8x64x28x128) (α := EReal) _ (rd4 (ro I cs 0 (rst I 0))) := At.addf (s := S8x64x28x128) (φ := .f32) (f := fun c => ∑ k ∈ Finset.range 96, rst I 0 (c 0) (c 2) k (c 3) * rqq I cs 0 (c 0) (c 1) (c 2) k) (g := fun c => ∑ k ∈ Finset.range 64, rU I 0 (rst I 0) (c 0) (c 2) k (c 3) * rN I cs 0 (c 0) (c 2) (c 1) k)
    (x := transpose S8x64x28x128 [0, 3, 1, 2] _ transposes_S8x28x128x64_S8x64x28x128_0_3_1_2) (y := transpose S8x64x28x128 [0, 3, 1, 2] _ transposes_S8x28x128x64_S8x64x28x128_0_3_1_2) (fun j => (h1 _).trans rfl) (fun j => (h2 _).trans rfl)
  exact fun j => (h3 _).trans rfl
theorem at_o1 (hcs : Ideal.ofBits .f32 0x3DD105EC#32 = ((cs : ℝ) : EReal)) : At (s := S1x8x64x28x128) (α := EReal) (broadcastInDim (α := Ideal .f32) S1x8x64x28x128 ![1, 2, 3, 4] bcast_S8x64x28x128_S1x8x64x28x128_1_2_3_4 (addf (transpose (α := Ideal .f32) S8x64x28x128 [0, 3, 1, 2] (Host.dotGeneral (F := Ideal) (φ₁ := .f32) (φ₂ := .f32) dot_S8x28x96x128_S8x64x28x96_S8x28x128x64_2_3_3_1_01_02 (some .fp32) (res_main_v129 V0) (shapeCast (α := Ideal .f32) _ (extractStridedSlice (α := Ideal .f32) S1x8x64x28x96 ![1, 0, 0, 0, 0] (res_main_v98 V0) slices_S4x8x64x28x96_S1x8x64x28x96_1_0_0_0_0) shapeCasts_S1x8x64x28x96_S8x64x28x96)) transposes_S8x28x128x64_S8x64x28x128_0_3_1_2) (transpose (α := Ideal .f32) S8x64x28x128 [0, 3, 1, 2] (Host.dotGeneral (F := Ideal) (φ₁ := .f32) (φ₂ := .f32) dot_S8x28x64x128_S8x28x64x64_S8x28x128x64_2_3_3_2_01_01 (some .fp32) (res_main_v143 V0) (shapeCast (α := Ideal .f32) _ (extractStridedSlice (α := Ideal .f32) S1x8x28x64x64 ![1, 0, 0, 0, 0] (res_main_v54 V0) slices_S4x8x28x64x64_S1x8x28x64x64_1_0_0_0_0) shapeCasts_S1x8x28x64x64_S8x28x64x64)) transposes_S8x28x128x64_S8x64x28x128_0_3_1_2)) : FVec Ideal S1x8x64x28x128 .f32) (rd5 fun _ b t h l => ro I cs 1 (rst I 1) b t h l) := by
  have h1 := dotAt (φ₁ := .f32) (φ₂ := .f32) (prec := some .fp32) dot_S8x28x96x128_S8x64x28x96_S8x28x128x64_2_3_3_1_01_02 rfl rfl (F := fun c k => rst I 1 (c 0) (c 1) k (c 2)) (G := fun c k => rqq I cs 1 (c 0) (c 3) (c 1) k) (at_v129 hA) (member5 (φ := .f32) (n := 1) (h := slices_S4x8x64x28x96_S1x8x64x28x96_1_0_0_0_0) (h' := shapeCasts_S1x8x64x28x96_S8x64x28x96) (at_v98 hA hcs)) (fun j k => show rst I 1 (j 0).val (j 1).val k.val (j 2).val = _ from rfl) (fun j k => show rqq I cs 1 (j 0).val (j 3).val (j 1).val k.val = _ from rfl)
  have h2 := dotAt (φ₁ := .f32) (φ₂ := .f32) (prec := some .fp32) dot_S8x28x64x128_S8x28x64x64_S8x28x128x64_2_3_3_2_01_01 rfl rfl (F := fun c k => rU I 1 (rst I 1) (c 0) (c 1) k (c 2)) (G := fun c k => rN I cs 1 (c 0) (c 1) (c 3) k) (at_v143 hA) (member5 (φ := .f32) (n := 1) (h := slices_S4x8x28x64x64_S1x8x28x64x64_1_0_0_0_0) (h' := shapeCasts_S1x8x28x64x64_S8x28x64x64) (at_v54 hA hcs)) (fun j k => show rU I 1 (rst I 1) (j 0).val (j 1).val k.val (j 2).val = _ from rfl) (fun j k => show rN I cs 1 (j 0).val (j 1).val (j 3).val k.val = _ from rfl)
  have h3 : At (s := S8x64x28x128) (α := EReal) _ (rd4 (ro I cs 1 (rst I 1))) := At.addf (s := S8x64x28x128) (φ := .f32) (f := fun c => ∑ k ∈ Finset.range 96, rst I 1 (c 0) (c 2) k (c 3) * rqq I cs 1 (c 0) (c 1) (c 2) k) (g := fun c => ∑ k ∈ Finset.range 64, rU I 1 (rst I 1) (c 0) (c 2) k (c 3) * rN I cs 1 (c 0) (c 2) (c 1) k)
    (x := transpose S8x64x28x128 [0, 3, 1, 2] _ transposes_S8x28x128x64_S8x64x28x128_0_3_1_2) (y := transpose S8x64x28x128 [0, 3, 1, 2] _ transposes_S8x28x128x64_S8x64x28x128_0_3_1_2) (fun j => (h1 _).trans rfl) (fun j => (h2 _).trans rfl)
  exact fun j => (h3 _).trans rfl
theorem at_o2 (hcs : Ideal.ofBits .f32 0x3DD105EC#32 = ((cs : ℝ) : EReal)) : At (s := S1x8x64x28x128) (α := EReal) (broadcastInDim (α := Ideal .f32) S1x8x64x28x128 ![1, 2, 3, 4] bcast_S8x64x28x128_S1x8x64x28x128_1_2_3_4 (addf (transpose (α := Ideal .f32) S8x64x28x128 [0, 3, 1, 2] (Host.dotGeneral (F := Ideal) (φ₁ := .f32) (φ₂ := .f32) dot_S8x28x96x128_S8x64x28x96_S8x28x128x64_2_3_3_1_01_02 (some .fp32) (res_main_v153 V0) (shapeCast (α := Ideal .f32) _ (extractStridedSlice (α := Ideal .f32) S1x8x64x28x96 ![2, 0, 0, 0, 0] (res_main_v98 V0) slices_S4x8x64x28x96_S1x8x64x28x96_2_0_0_0_0) shapeCasts_S1x8x64x28x96_S8x64x28x96)) transposes_S8x28x128x64_S8x64x28x128_0_3_1_2) (transpose (α := Ideal .f32) S8x64x28x128 [0, 3, 1, 2] (Host.dotGeneral (F := Ideal) (φ₁ := .f32) (φ₂ := .f32) dot_S8x28x64x128_S8x28x64x64_S8x28x128x64_2_3_3_2_01_01 (some .fp32) (res_main_v167 V0) (shapeCast (α := Ideal .f32) _ (extractStridedSlice (α := Ideal .f32) S1x8x28x64x64 ![2, 0, 0, 0, 0] (res_main_v54 V0) slices_S4x8x28x64x64_S1x8x28x64x64_2_0_0_0_0) shapeCasts_S1x8x28x64x64_S8x28x64x64)) transposes_S8x28x128x64_S8x64x28x128_0_3_1_2)) : FVec Ideal S1x8x64x28x128 .f32) (rd5 fun _ b t h l => ro I cs 2 (rst I 2) b t h l) := by
  have h1 := dotAt (φ₁ := .f32) (φ₂ := .f32) (prec := some .fp32) dot_S8x28x96x128_S8x64x28x96_S8x28x128x64_2_3_3_1_01_02 rfl rfl (F := fun c k => rst I 2 (c 0) (c 1) k (c 2)) (G := fun c k => rqq I cs 2 (c 0) (c 3) (c 1) k) (at_v153 hA) (member5 (φ := .f32) (n := 2) (h := slices_S4x8x64x28x96_S1x8x64x28x96_2_0_0_0_0) (h' := shapeCasts_S1x8x64x28x96_S8x64x28x96) (at_v98 hA hcs)) (fun j k => show rst I 2 (j 0).val (j 1).val k.val (j 2).val = _ from rfl) (fun j k => show rqq I cs 2 (j 0).val (j 3).val (j 1).val k.val = _ from rfl)
  have h2 := dotAt (φ₁ := .f32) (φ₂ := .f32) (prec := some .fp32) dot_S8x28x64x128_S8x28x64x64_S8x28x128x64_2_3_3_2_01_01 rfl rfl (F := fun c k => rU I 2 (rst I 2) (c 0) (c 1) k (c 2)) (G := fun c k => rN I cs 2 (c 0) (c 1) (c 3) k) (at_v167 hA) (member5 (φ := .f32) (n := 2) (h := slices_S4x8x28x64x64_S1x8x28x64x64_2_0_0_0_0) (h' := shapeCasts_S1x8x28x64x64_S8x28x64x64) (at_v54 hA hcs)) (fun j k => show rU I 2 (rst I 2) (j 0).val (j 1).val k.val (j 2).val = _ from rfl) (fun j k => show rN I cs 2 (j 0).val (j 1).val (j 3).val k.val = _ from rfl)
  have h3 : At (s := S8x64x28x128) (α := EReal) _ (rd4 (ro I cs 2 (rst I 2))) := At.addf (s := S8x64x28x128) (φ := .f32) (f := fun c => ∑ k ∈ Finset.range 96, rst I 2 (c 0) (c 2) k (c 3) * rqq I cs 2 (c 0) (c 1) (c 2) k) (g := fun c => ∑ k ∈ Finset.range 64, rU I 2 (rst I 2) (c 0) (c 2) k (c 3) * rN I cs 2 (c 0) (c 2) (c 1) k)
    (x := transpose S8x64x28x128 [0, 3, 1, 2] _ transposes_S8x28x128x64_S8x64x28x128_0_3_1_2) (y := transpose S8x64x28x128 [0, 3, 1, 2] _ transposes_S8x28x128x64_S8x64x28x128_0_3_1_2) (fun j => (h1 _).trans rfl) (fun j => (h2 _).trans rfl)
  exact fun j => (h3 _).trans rfl
theorem at_o3 (hcs : Ideal.ofBits .f32 0x3DD105EC#32 = ((cs : ℝ) : EReal)) : At (s := S1x8x64x28x128) (α := EReal) (broadcastInDim (α := Ideal .f32) S1x8x64x28x128 ![1, 2, 3, 4] bcast_S8x64x28x128_S1x8x64x28x128_1_2_3_4 (addf (transpose (α := Ideal .f32) S8x64x28x128 [0, 3, 1, 2] (Host.dotGeneral (F := Ideal) (φ₁ := .f32) (φ₂ := .f32) dot_S8x28x96x128_S8x64x28x96_S8x28x128x64_2_3_3_1_01_02 (some .fp32) (res_main_v177 V0) (shapeCast (α := Ideal .f32) _ (extractStridedSlice (α := Ideal .f32) S1x8x64x28x96 ![3, 0, 0, 0, 0] (res_main_v98 V0) slices_S4x8x64x28x96_S1x8x64x28x96_3_0_0_0_0) shapeCasts_S1x8x64x28x96_S8x64x28x96)) transposes_S8x28x128x64_S8x64x28x128_0_3_1_2) (transpose (α := Ideal .f32) S8x64x28x128 [0, 3, 1, 2] (Host.dotGeneral (F := Ideal) (φ₁ := .f32) (φ₂ := .f32) dot_S8x28x64x128_S8x28x64x64_S8x28x128x64_2_3_3_2_01_01 (some .fp32) (res_main_v191 V0) (shapeCast (α := Ideal .f32) _ (extractStridedSlice (α := Ideal .f32) S1x8x28x64x64 ![3, 0, 0, 0, 0] (res_main_v54 V0) slices_S4x8x28x64x64_S1x8x28x64x64_3_0_0_0_0) shapeCasts_S1x8x28x64x64_S8x28x64x64)) transposes_S8x28x128x64_S8x64x28x128_0_3_1_2)) : FVec Ideal S1x8x64x28x128 .f32) (rd5 fun _ b t h l => ro I cs 3 (rst I 3) b t h l) := by
  have h1 := dotAt (φ₁ := .f32) (φ₂ := .f32) (prec := some .fp32) dot_S8x28x96x128_S8x64x28x96_S8x28x128x64_2_3_3_1_01_02 rfl rfl (F := fun c k => rst I 3 (c 0) (c 1) k (c 2)) (G := fun c k => rqq I cs 3 (c 0) (c 3) (c 1) k) (at_v177 hA) (member5 (φ := .f32) (n := 3) (h := slices_S4x8x64x28x96_S1x8x64x28x96_3_0_0_0_0) (h' := shapeCasts_S1x8x64x28x96_S8x64x28x96) (at_v98 hA hcs)) (fun j k => show rst I 3 (j 0).val (j 1).val k.val (j 2).val = _ from rfl) (fun j k => show rqq I cs 3 (j 0).val (j 3).val (j 1).val k.val = _ from rfl)
  have h2 := dotAt (φ₁ := .f32) (φ₂ := .f32) (prec := some .fp32) dot_S8x28x64x128_S8x28x64x64_S8x28x128x64_2_3_3_2_01_01 rfl rfl (F := fun c k => rU I 3 (rst I 3) (c 0) (c 1) k (c 2)) (G := fun c k => rN I cs 3 (c 0) (c 1) (c 3) k) (at_v191 hA) (member5 (φ := .f32) (n := 3) (h := slices_S4x8x28x64x64_S1x8x28x64x64_3_0_0_0_0) (h' := shapeCasts_S1x8x28x64x64_S8x28x64x64) (at_v54 hA hcs)) (fun j k => show rU I 3 (rst I 3) (j 0).val (j 1).val k.val (j 2).val = _ from rfl) (fun j k => show rN I cs 3 (j 0).val (j 1).val (j 3).val k.val = _ from rfl)
  have h3 : At (s := S8x64x28x128) (α := EReal) _ (rd4 (ro I cs 3 (rst I 3))) := At.addf (s := S8x64x28x128) (φ := .f32) (f := fun c => ∑ k ∈ Finset.range 96, rst I 3 (c 0) (c 2) k (c 3) * rqq I cs 3 (c 0) (c 1) (c 2) k) (g := fun c => ∑ k ∈ Finset.range 64, rU I 3 (rst I 3) (c 0) (c 2) k (c 3) * rN I cs 3 (c 0) (c 2) (c 1) k)
    (x := transpose S8x64x28x128 [0, 3, 1, 2] _ transposes_S8x28x128x64_S8x64x28x128_0_3_1_2) (y := transpose S8x64x28x128 [0, 3, 1, 2] _ transposes_S8x28x128x64_S8x64x28x128_0_3_1_2) (fun j => (h1 _).trans rfl) (fun j => (h2 _).trans rfl)
  exact fun j => (h3 _).trans rfl

end Cert.ReferenceIdeal.Hand

end
-- ==== Proof.Match.lean ====
/-
The numbers that the kernel's points compute are the numbers of the reference.
-/
module

public import proofs.«01_k».proof.Proof.Ref

@[expose] public section

noncomputable section

namespace Cert.ReferenceIdeal.Hand

open Cert.Lift
open Cert.KernelIdeal.Hand (In)

variable (I : In) (cs : ℝ) {b n h : ℕ}

theorem point_b (b : ℕ) {n : ℕ} (hn : n < 4) : (4 * b + n) / 4 = b := by omega
theorem point_n (b : ℕ) {n : ℕ} (hn : n < 4) : (4 * b + n) % 4 = n := by omega

theorem pt_G (hn : n < 4) {l : ℕ} (hl : l < 96) (a h : ℕ) : (I.pt (4 * b + n)).G a h l = rG I b n a h l := by
  show (if l < 96 then ∑ s ∈ Finset.range (a + 1), I.g ((4 * b + n) / 4) (64 * ((4 * b + n) % 4) + s) h l else 0) = _
  rw [if_pos hl, point_b b hn, point_n b hn]; rfl
theorem pt_Q (hn : n < 4) {l : ℕ} (hl : l < 96) (a h : ℕ) : (I.pt (4 * b + n)).Q a h l = I.q b (64 * n + a) h l := by
  show (if l < 96 then I.q ((4 * b + n) / 4) (64 * ((4 * b + n) % 4) + a) h l else 0) = _
  rw [if_pos hl, point_b b hn, point_n b hn]
theorem pt_K (hn : n < 4) {l : ℕ} (hl : l < 96) (a h : ℕ) : (I.pt (4 * b + n)).K a h l = I.k b (64 * n + a) h l := by
  show (if l < 96 then I.k ((4 * b + n) / 4) (64 * ((4 * b + n) % 4) + a) h l else 0) = _
  rw [if_pos hl, point_b b hn, point_n b hn]
theorem pt_V (hn : n < 4) (a h l : ℕ) : (I.pt (4 * b + n)).V a h l = I.v b (64 * n + a) h l := by
  show I.v ((4 * b + n) / 4) (64 * ((4 * b + n) % 4) + a) h l = _
  rw [point_b b hn, point_n b hn]
theorem pt_B (hn : n < 4) (hh : h < 28) (a : ℕ) : (I.pt (4 * b + n)).B a h = I.be b (64 * n + a) h := by
  show (if h < 28 then I.be ((4 * b + n) / 4) (64 * ((4 * b + n) % 4) + a) h else 0) = _
  rw [if_pos hh, point_b b hn, point_n b hn]
theorem pt_ks (hn : n < 4) (hh : h < 28) : (I.pt (4 * b + n)).ks h = I.ks b n h := by
  show I.ks ((28 * (4 * b + n) + h) / 112) ((28 * (4 * b + n) + h) / 28 % 4) ((28 * (4 * b + n) + h) % 28) = _
  rw [show (28 * (4 * b + n) + h) / 112 = b by omega, show (28 * (4 * b + n) + h) / 28 % 4 = n by omega, show (28 * (4 * b + n) + h) % 28 = h by omega]
theorem pt_qs (hn : n < 4) (hh : h < 28) : (I.pt (4 * b + n)).qs h = I.qs b n h := by
  show I.qs ((28 * (4 * b + n) + h) / 112) ((28 * (4 * b + n) + h) / 28 % 4) ((28 * (4 * b + n) + h) % 28) = _
  rw [show (28 * (4 * b + n) + h) / 112 = b by omega, show (28 * (4 * b + n) + h) / 28 % 4 = n by omega, show (28 * (4 * b + n) + h) % 28 = h by omega]

theorem pt_qp (hn : n < 4) {l : ℕ} (hl : l < 96) (a : ℕ) : (I.pt (4 * b + n)).qp h a l = rqp I b n a h l := by
  unfold Blk.qp; rw [pt_Q I hn hl, pt_G I hn hl]; rfl
theorem pt_kp (hn : n < 4) {l : ℕ} (hl : l < 96) (a : ℕ) : (I.pt (4 * b + n)).kp h a l = rkp I b n a h l := by
  unfold Blk.kp; rw [pt_K I hn hl, pt_G I hn hl]; rfl
theorem pt_kn (hn : n < 4) {l : ℕ} (hl : l < 96) (a : ℕ) : (I.pt (4 * b + n)).kn h a l = rkn I b n a h l := by
  unfold Blk.kn; rw [pt_K I hn hl, pt_G I hn hl, zero_sub]; rfl
theorem pt_kd (hn : n < 4) (hh : h < 28) {l : ℕ} (hl : l < 96) (a : ℕ) : (I.pt (4 * b + n)).ks h * (I.pt (4 * b + n)).kd h a l = rkd I n b a h l := by
  unfold Blk.kd; rw [pt_ks I hn hh, pt_K I hn hl, pt_G I hn hl, pt_G I hn hl]; rfl

/-- The lanes past the last are zero. -/
theorem sum_lanes {f g : ℕ → ℝ} (h0 : ∀ k, k < 96 → f k = g k) (h1 : ∀ k, 96 ≤ k → f k = 0) : ∑ k ∈ Finset.range 128, f k = ∑ k ∈ Finset.range 96, g k := by
  rw [show (128 : ℕ) = 96 + 32 from rfl, Finset.sum_range_add, Finset.sum_eq_zero (s := Finset.range 32) fun k _ => h1 _ (by omega), add_zero]
  exact Finset.sum_congr rfl fun k hk => h0 k (Finset.mem_range.1 hk)

theorem kp_zero (t a : ℕ) {l : ℕ} (hl : 96 ≤ l) : (I.pt t).kp h a l = 0 := by
  unfold Blk.kp
  rw [show (I.pt t).K a h l = 0 from if_neg (by omega), zero_mul]
theorem qp_zero (t a : ℕ) {l : ℕ} (hl : 96 ≤ l) : (I.pt t).qp h a l = 0 := by
  unfold Blk.qp
  rw [show (I.pt t).Q a h l = 0 from if_neg (by omega), zero_mul]

theorem pt_A (hn : n < 4) (hh : h < 28) {t s : ℕ} (hs : s < t) : rA I n b h t s = (I.pt (4 * b + n)).A h t s := by
  unfold rA Blk.A
  rw [if_pos hs, pt_B I hn hh, pt_ks I hn hh, sum_lanes (fun k hk => by rw [pt_kp I hn hk, pt_kn I hn hk]) (fun k hk => by rw [kp_zero I _ _ hk, zero_mul])]
theorem pt_N (hn : n < 4) (t s : ℕ) : (I.pt (4 * b + n)).N h t s = if s ≤ t then ∑ k ∈ Finset.range 96, rqp I b n t h k * rkn I b n s h k else 0 := by
  unfold Blk.N
  rw [sum_lanes (fun k hk => by rw [pt_qp I hn hk, pt_kn I hn hk]) (fun k hk => by rw [qp_zero I _ _ hk, zero_mul])]

/-- Both sides are linear in the state. -/
theorem lin (T be v S : ℕ → ℝ) (kp : ℕ → ℕ → ℝ) (c : ℝ) :
    ∑ j ∈ Finset.range 64, T j * (be j * c * (v j - c * ∑ k ∈ Finset.range 96, kp j k * S k))
      = c * (∑ j ∈ Finset.range 64, T j * (be j * v j) - ∑ k ∈ Finset.range 96, (c * ∑ j ∈ Finset.range 64, T j * (be j * kp j k)) * S k) := by
  have e : ∑ k ∈ Finset.range 96, (c * ∑ j ∈ Finset.range 64, T j * (be j * kp j k)) * S k
      = ∑ j ∈ Finset.range 64, T j * be j * (c * ∑ k ∈ Finset.range 96, kp j k * S k) := by
    simp only [Finset.mul_sum, Finset.sum_mul]
    rw [Finset.sum_comm]
    exact Finset.sum_congr rfl fun j _ => Finset.sum_congr rfl fun k _ => by ring
  rw [e, ← Finset.sum_sub_distrib, Finset.mul_sum]
  exact Finset.sum_congr rfl fun j _ => by ring

variable {I cs}

/-- The kernel's solution is the reference's, times the scale of the keys. -/
theorem pt_U (hn : n < 4) (hh : h < 28) {S : ℕ → ℕ → ℕ → ℕ → ℝ} (hS : ∀ k l, k < 96 → (I.pt (4 * b + n)).S h k l = S b h k l) (l : ℕ) {t : ℕ} (ht : t < 64) :
    (I.pt (4 * b + n)).U h l t = (I.pt (4 * b + n)).ks h * rU I n S b h t l := by
  unfold Blk.U
  rw [← inv_sol (A := rA I n b h) (fun t s q => if_neg (by omega)) (fun t s _ q => pt_A I hn hh q) _ t ht]
  unfold rU rUt rW rT
  rw [pt_ks I hn hh, ← lin]
  refine Finset.sum_congr rfl fun j _ => ?_
  unfold Blk.R
  rw [pt_B I hn hh, pt_ks I hn hh, pt_V I hn, Finset.sum_congr rfl fun k hk => by rw [pt_kp I hn (Finset.mem_range.1 hk), hS k l (Finset.mem_range.1 hk)]]

theorem pt_s (hn : n < 4) (hh : h < 28) {S : ℕ → ℕ → ℕ → ℕ → ℝ} (hS : ∀ k l, k < 96 → (I.pt (4 * b + n)).S h k l = S b h k l) {r : ℕ} (hr : r < 96) (l : ℕ) :
    (I.pt (4 * b + n)).s h r l = rS I n S b h r l := by
  unfold Blk.s rS
  rw [pt_G I hn hr, hS r l hr]
  congr 1
  refine Finset.sum_congr rfl fun t ht => ?_
  rw [pt_U hn hh hS l (Finset.mem_range.1 ht), ← pt_kd I hn hh hr]
  ring

theorem pt_o (hn : n < 4) (hh : h < 28) {S : ℕ → ℕ → ℕ → ℕ → ℝ} (hS : ∀ k l, k < 96 → (I.pt (4 * b + n)).S h k l = S b h k l) (t l : ℕ) :
    (I.pt (4 * b + n)).o h cs t l = ro I cs n S b t h l := by
  unfold Blk.o ro
  rw [mul_add, Finset.mul_sum, Finset.mul_sum]
  congr 1
  · refine Finset.sum_congr rfl fun k hk => ?_
    have hk := Finset.mem_range.1 hk
    unfold rqq
    rw [pt_qs I hn hh, pt_qp I hn hk, hS k l hk]
    ring
  · refine Finset.sum_congr rfl fun s hs => ?_
    rw [pt_U hn hh hS l (Finset.mem_range.1 hs), pt_N I hn, pt_ks I hn hh, pt_qs I hn hh]
    unfold rN
    split_ifs <;> ring

/-- The state that a point starts from. -/
theorem pt_S (hh : h < 28) : ∀ n, n < 4 → ∀ k l, k < 96 → (I.pt (4 * b + n)).S h k l = rst I n b h k l
  | 0, _, k, l, _ => (I.st_first (by omega) h k l).trans (by rw [point_b b (by omega)]; rfl)
  | n + 1, hn, k, l, hk => by
    rw [I.st_next (t := 4 * b + (n + 1)) (by omega), show 4 * b + (n + 1) - 1 = 4 * b + n by omega]
    exact pt_s (by omega) hh (pt_S hh n (by omega)) hk l

end Cert.ReferenceIdeal.Hand

end
-- ==== Proof.RefOut.lean ====
/-
The reference's rows: its chunks joined, heads side by side.
-/
module

public import proofs.«01_k».proof.Proof.Ref

@[expose] public section

set_option maxRecDepth 16384

noncomputable section

namespace Cert.ReferenceIdeal.Hand

open Cert.ReferenceIdeal Cert.ReferenceIdeal.Gen Idealize.ShloMosaic Idealize.ShloMosaic.TcCoe
open Cert.Lift

theorem join4 {x0 x1 x2 x3 : FVec Ideal S1x8x64x28x128 .f32} {f : ℕ → ℕ → ℕ → ℕ → ℕ → ℝ}
    {hc : Shape.Concatenates (([⟨S1x8x64x28x128, x0⟩, ⟨S1x8x64x28x128, x1⟩, ⟨S1x8x64x28x128, x2⟩, ⟨S1x8x64x28x128, x3⟩] : List ((s : Shape) × (s.Idx → Ideal .f32))).map (·.1)) S4x8x64x28x128 0}
    (h0 : At x0 (rd5 fun _ => f 0)) (h1 : At x1 (rd5 fun _ => f 1)) (h2 : At x2 (rd5 fun _ => f 2)) (h3 : At x3 (rd5 fun _ => f 3)) :
    At (concatenate (α := Ideal .f32) S4x8x64x28x128 0 [⟨S1x8x64x28x128, x0⟩, ⟨S1x8x64x28x128, x1⟩, ⟨S1x8x64x28x128, x2⟩, ⟨S1x8x64x28x128, x3⟩] hc) (rd5 f) := fun j => by
  have hj : (j 0).val < 4 := (j 0).isLt
  rw [At.concat4 (n₁ := 1) (n₂ := 1) (n₃ := 1) h0 h1 h2 h3 (fun _ => rfl) (fun _ => rfl) (fun _ => rfl) j]
  have e0 : co j (0 : Fin S4x8x64x28x128.rank).val = (j 0).val := rfl
  show _ = ((f (j 0).val (j 1).val (j 2).val (j 3).val (j 4).val : ℝ) : EReal)
  dsimp only
  rw [e0]
  by_cases q0 : (j 0).val < 1
  · rw [if_pos q0, show (j 0).val = 0 by omega]; rfl
  rw [if_neg q0]
  by_cases q1 : (j 0).val - 1 < 1
  · rw [if_pos q1, show (j 0).val = 1 by omega]; rfl
  rw [if_neg q1]
  by_cases q2 : (j 0).val - 1 - 1 < 1
  · rw [if_pos q2, show (j 0).val = 2 by omega]; rfl
  rw [if_neg q2, show (j 0).val = 3 by omega]; rfl

theorem rows {x : FVec Ideal S8x4x64x28x128 .f32} {f : ℕ → ℕ → ℕ → ℕ → ℕ → ℝ} {h : S8x4x64x28x128.ShapeCasts S8x256x3584}
    (hx : At x (rd5 fun b n => f n b)) : At (shapeCast S8x256x3584 x h : FVec Ideal S8x256x3584 .f32) (rd3 fun b s l => f (s / 64) b (s % 64) (l / 128) (l % 128)) :=
  hx.shapeCast fun i j e => by
    rw [Shape.rowMajor_val_five, Shape.rowMajor_val_three] at e
    have i0 := (i 0).isLt; have i1 := (i 1).isLt; have i2 := (i 2).isLt; have i3 := (i 3).isLt; have i4 := (i 4).isLt
    have j0 := (j 0).isLt; have j1 := (j 1).isLt; have j2 := (j 2).isLt
    change (i 0).val < 8 at i0; change (i 1).val < 4 at i1; change (i 2).val < 64 at i2; change (i 3).val < 28 at i3; change (i 4).val < 128 at i4
    change (j 0).val < 8 at j0; change (j 1).val < 256 at j1; change (j 2).val < 3584 at j2
    change ((((i 0).val * 4 + (i 1).val) * 64 + (i 2).val) * 28 + (i 3).val) * 128 + (i 4).val = ((j 0).val * 256 + (j 1).val) * 3584 + (j 2).val at e
    show ((f (i 1).val (i 0).val (i 2).val (i 3).val (i 4).val : ℝ) : EReal) = ((f ((j 1).val / 64) (j 0).val ((j 1).val % 64) ((j 2).val / 128) ((j 2).val % 128) : ℝ) : EReal)
    have e0 : (i 0).val = (j 0).val := by omega
    have e1 : (i 1).val = (j 1).val / 64 := by omega
    have e2 : (i 2).val = (j 1).val % 64 := by omega
    have e3 : (i 3).val = (j 2).val / 128 := by omega
    have e4 : (i 4).val = (j 2).val % 128 := by omega
    rw [e0, e1, e2, e3, e4]

theorem outAt {x0 x1 x2 x3 : FVec Ideal S1x8x64x28x128 .f32} {f : ℕ → ℕ → ℕ → ℕ → ℕ → ℝ}
    {hc : Shape.Concatenates (([⟨S1x8x64x28x128, x0⟩, ⟨S1x8x64x28x128, x1⟩, ⟨S1x8x64x28x128, x2⟩, ⟨S1x8x64x28x128, x3⟩] : List ((s : Shape) × (s.Idx → Ideal .f32))).map (·.1)) S4x8x64x28x128 0}
    {ht : S4x8x64x28x128.Transposes [1, 0, 2, 3, 4] S8x4x64x28x128} {hs : S8x4x64x28x128.ShapeCasts S8x256x3584} {hb : FTy.bits .bf16 < FTy.bits .f32}
    (h0 : At x0 (rd5 fun _ => f 0)) (h1 : At x1 (rd5 fun _ => f 1)) (h2 : At x2 (rd5 fun _ => f 2)) (h3 : At x3 (rd5 fun _ => f 3)) :
    At (truncf .bf16 (shapeCast S8x256x3584 (transpose S8x4x64x28x128 [1, 0, 2, 3, 4]
        (concatenate (α := Ideal .f32) S4x8x64x28x128 0 [⟨S1x8x64x28x128, x0⟩, ⟨S1x8x64x28x128, x1⟩, ⟨S1x8x64x28x128, x2⟩, ⟨S1x8x64x28x128, x3⟩] hc) ht) hs : FVec Ideal S8x256x3584 .f32) hb : FVec Ideal S8x256x3584 .bf16)
      (rd3 fun b s l => f (s / 64) b (s % 64) (l / 128) (l % 128)) := by
  have h4 := join4 (hc := hc) h0 h1 h2 h3
  have h5 : At (transpose S8x4x64x28x128 [1, 0, 2, 3, 4]
        (concatenate (α := Ideal .f32) S4x8x64x28x128 0 [⟨S1x8x64x28x128, x0⟩, ⟨S1x8x64x28x128, x1⟩, ⟨S1x8x64x28x128, x2⟩, ⟨S1x8x64x28x128, x3⟩] hc) ht) (rd5 fun b n => f n b) := fun j => (h4 _).trans rfl
  exact fun j => rows (h := hs) h5 j

end Cert.ReferenceIdeal.Hand

end
-- ==== Proof.lean ====
module

public import proofs.«01_k».proof.Defs
public import proofs.«01_k».proof.Proof.K.Frame
public import proofs.«01_k».proof.Proof.Gen.ReferenceIdeal.Run
public import proofs.«01_k».proof.Proof.Gen.ReferenceIdeal
public import proofs.«01_k».proof.Proof.Gen.Pre_finite
public import proofs.«01_k».proof.Proof.KI.Frame
public import proofs.«01_k».proof.Proof.KI.Val
public import proofs.«01_k».proof.Proof.KI.Nums
public import proofs.«01_k».proof.Proof.Match
public import proofs.«01_k».proof.Proof.RefOut
public import Idealize.ShloMosaic.Lib.Quiescent
public import Idealize.ShloMosaic.Lib.Bf16PairInverse
public import Idealize.ShloMosaic.Adequacy
public import Idealize.ShloMosaic.Init

@[expose] public section

set_option maxRecDepth 16384

noncomputable section

namespace Cert.Proof

open Idealize.ShloMosaic Idealize.SL.Sem

theorem frame_p : Cert.quiescent_Kernel := fun m ρ _ => Cert.Kernel.Hand.frame m ρ
theorem frame_pi : Cert.quiescent_KernelIdeal := fun m ρ _ => Cert.KernelIdeal.Hand.frame m ρ

/-- The nine distinct statements of the ledger: the three re-typed buffers, their rows and zero fill, and the words read as
    rows at each shape. -/
theorem preserves : Cert.preserves_Kernel_KernelIdeal :=
  open Cert.KernelIdeal IdealRules.bf16_pair in
  ⟨bufferStatement S1280x2x128 S1280x1x128, statement S1280x2x128 S1280x1x128, selectZeroStatement S1280x128,
    statement S28x96 S14x96, statement S14x2x96 S14x1x96, statement S28x128 S14x128, statement S14x2x128 S14x1x128,
    statement S64x2x128 S64x1x128, statement S128x128 S64x128⟩

theorem frame_ri : Cert.quiescent_ReferenceIdeal := fun m ρ _ =>
  (θ_run _ _ _).mono (fun r h => ⟨fun c => (h c).2.2, sem_eq_zero_of_no_sems rfl r.2⟩) (Cert.ReferenceIdeal.Value.run m ρ)

section Value

open Cert.Lift Cert.KernelIdeal.Hand Cert.ReferenceIdeal.Hand

/-- The kernel's rows are the reference's. -/
theorem resO_eq (I : In) (cs : ℝ) (j : Cert.KernelIdeal.S8x256x3584.Idx) :
    rd3 (fun b s l => ro I cs (s / 64) (rst I (s / 64)) b (s % 64) (l / 128) (l % 128)) (co j) = resO I cs j := by
  have h1 : (j 1).val < 256 := (j 1).isLt
  have h2 : (j 2).val < 3584 := (j 2).isLt
  show ((ro I cs ((j 1).val / 64) (rst I ((j 1).val / 64)) (j 0).val ((j 1).val % 64) ((j 2).val / 128) ((j 2).val % 128) : ℝ) : EReal)
    = (((I.pt (4 * (j 0).val + (j 1).val / 64)).o ((j 2).val / 128) cs ((j 1).val % 64) ((j 2).val % 128) : ℝ) : EReal)
  rw [pt_o (by omega) (by omega) (pt_S (by omega) _ (by omega))]

/-- The kernel's states are the reference's. -/
theorem resS_eq (I : In) (j : Cert.KernelIdeal.S8x28x96x128.Idx) : rd4 (rst I 4) (co j) = resS I j := by
  have h1 : (j 1).val < 28 := (j 1).isLt
  have h2 : (j 2).val < 96 := (j 2).isLt
  show ((rst I 4 (j 0).val (j 1).val (j 2).val (j 3).val : ℝ) : EReal) = (((I.pt (4 * (j 0).val + 3)).s (j 1).val (j 2).val (j 3).val : ℝ) : EReal)
  rw [pt_s (n := 3) (by omega) h1 (pt_S h1 3 (by omega)) h2]
  rfl

theorem algebraic : Cert.algebraic_KernelIdeal_ReferenceIdeal_pre_finite (hPre_finite := Cert.Pre_finite.Gen.facts) := fun m g m' g' hp he => by
  obtain ⟨cs, hcs⟩ := scale_real
  have hn : ∀ c, Num m c := fun c => by
    obtain ⟨r0, r1, r2, r3, r4, r5, r6, r7⟩ := reals_of_pre (hp c)
    exact ⟨r0, r1, r2, r3, r4, r5, r6, r7⟩
  have hI : ∀ c, Arr (inp m 0) m c := fun c => by
    obtain rfl : c = 0 := Subsingleton.elim _ _
    exact arr_of_num (hn 0)
  have hA : ∀ c, Args (inp m 0) (StableHlo.launchContents m' c) := fun c => by
    obtain rfl : c = 0 := Subsingleton.elim _ _
    obtain ⟨e0, e1, e2, e3, e4, e5, e6, e7⟩ := he 0
    have h := hn 0
    exact { a0 := fun i => (congrFun e0 i).trans (at4 h.r0 i), a1 := fun i => (congrFun e1 i).trans (at3 h.r1 i),
            a2 := fun i => (congrFun e2 i).trans (at4 h.r2 i), a3 := fun i => (congrFun e3 i).trans (at3 h.r3 i),
            a4 := fun i => (congrFun e4 i).trans (at4 h.r4 i), a5 := fun i => (congrFun e5 i).trans (at4 h.r5 i),
            a6 := fun i => (congrFun e6 i).trans (at3 h.r6 i), a7 := fun i => (congrFun e7 i).trans (at4 h.r7 i) }
  refine ⟨fun _ => resO (inp m 0) cs, fun _ => resS (inp m 0), ?_, ?_⟩
  · refine (θ_run _ _ _).mono (fun r h c => ?_) (run_valV (I := inp m 0) (cs := cs) (m := m) (ρ := g) hcs hI)
    exact ⟨((h c).1 8).trans (arrO c), ((h c).1 9).trans (arrS c),
      ((h c).2 Cert.KernelIdeal.main_arg0 (Pipeline.mem_restRefs_of Cert.KernelIdeal.main_arg0 (by decide) (by decide))).trans (Cert.KernelIdeal.Gen.V_main_arg0 m c),
      ((h c).2 Cert.KernelIdeal.main_arg1 (Pipeline.mem_restRefs_of Cert.KernelIdeal.main_arg1 (by decide) (by decide))).trans (Cert.KernelIdeal.Gen.V_main_arg1 m c),
      ((h c).2 Cert.KernelIdeal.main_arg2 (Pipeline.mem_restRefs_of Cert.KernelIdeal.main_arg2 (by decide) (by decide))).trans (Cert.KernelIdeal.Gen.V_main_arg2 m c),
      ((h c).2 Cert.KernelIdeal.main_arg3 (Pipeline.mem_restRefs_of Cert.KernelIdeal.main_arg3 (by decide) (by decide))).trans (Cert.KernelIdeal.Gen.V_main_arg3 m c),
      ((h c).1 4).trans ((Pipeline.Dat.arrAt_in _ _ rfl _).trans (Cert.KernelIdeal.Gen.V_main_arg4 m c)),
      ((h c).1 5).trans ((Pipeline.Dat.arrAt_in _ _ rfl _).trans (Cert.KernelIdeal.Gen.V_main_arg5 m c)),
      ((h c).1 6).trans ((Pipeline.Dat.arrAt_in _ _ rfl _).trans (Cert.KernelIdeal.Gen.V_main_arg6 m c)),
      ((h c).1 7).trans ((Pipeline.Dat.arrAt_in _ _ rfl _).trans (Cert.KernelIdeal.Gen.V_main_arg7 m c))⟩
  · refine (θ_run _ _ _).mono (fun r h c => ?_) (Cert.ReferenceIdeal.Value.run m' g')
    refine ⟨(h c).1.trans (funext fun j => ?_), (h c).2.1.trans (funext fun j => ?_), (h c).2.2⟩
    · exact (outAt (f := fun n b t h l => ro (inp m 0) cs n (rst (inp m 0) n) b t h l) (at_o0 (hA c) hcs) (at_o1 (hA c) hcs) (at_o2 (hA c) hcs) (at_o3 (hA c) hcs) j).trans (resO_eq _ _ j)
    · exact (at_v201 (hA c) j).trans (resS_eq _ j)

end Value

theorem claim : Cert.Claim :=
  ⟨Cert.Kernel.Gen.facts, Cert.KernelIdeal.Gen.facts, Cert.ReferenceIdeal.Gen.facts, Cert.Pre_finite.Gen.facts,
    frame_p, frame_pi, fun m ρ _ => frame_pi m ρ trivial, frame_ri, fun m ρ _ => frame_ri m ρ trivial, preserves, algebraic⟩

end Cert.Proof

end
